-- ==== Defs.lean ====
def Pre_Kernel [hPre_pos_in_rows : Cert.Pre_pos_in_rows.Facts] (m : (ℓ : Loc Cert.Kernel.nD Cert.Kernel.τ Cert.Kernel.sig) → Buf (Elt Bits) ℓ) : Prop :=
  ∀ c : Dev Cert.Kernel.nD,
    (Cert.Pre_pos_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pos_in_rows : Cert.Pre_pos_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_pos_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_pos_in_rows : Cert.Pre_pos_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pos_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_pos_in_rows : Cert.Pre_pos_in_rows.Facts] (m : (ℓ : Loc Cert.Reference.nD Cert.Reference.τ Cert.Reference.sig) → Buf (Elt Bits) ℓ) : Prop :=
  ∀ c : Dev Cert.Reference.nD,
    (Cert.Pre_pos_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Experts [hPre_blocks_ok : Cert.Pre_blocks_ok.Facts] (m : (ℓ : Loc Cert.Experts.nD Cert.Experts.τ Cert.Experts.sig) → Buf (Elt Bits) ℓ) : Prop :=
  ∀ c : Dev Cert.Experts.nD,
    (Cert.Pre_blocks_ok.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_blocks_ok : Cert.Pre_blocks_ok.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_blocks_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal [hPre_blocks_ok : Cert.Pre_blocks_ok.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_blocks_ok.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaRefIdeal (m : (ℓ : Loc Cert.SwaRefIdeal.nD Cert.SwaRefIdeal.τ Cert.SwaRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Half (m : (ℓ : Loc Cert.Half.nD Cert.Half.τ Cert.Half.sig) → Buf (Elt Bits) ℓ) : Prop :=
  True

def Pre_HalfIdeal (m : (ℓ : Loc Cert.HalfIdeal.nD Cert.HalfIdeal.τ Cert.HalfIdeal.sig) → Buf (Elt Ideal) ℓ) : Prop :=
  True

def Pre_HalfRefIdeal (m : (ℓ : Loc Cert.HalfRefIdeal.nD Cert.HalfRefIdeal.τ Cert.HalfRefIdeal.sig) → Buf (Elt Ideal) ℓ) : Prop :=
  True

def Pre_Lead (m : (ℓ : Loc Cert.Lead.nD Cert.Lead.τ Cert.Lead.sig) → Buf (Elt Bits) ℓ) : Prop :=
  True

def Pre_LeadIdeal (m : (ℓ : Loc Cert.LeadIdeal.nD Cert.LeadIdeal.τ Cert.LeadIdeal.sig) → Buf (Elt Ideal) ℓ) : Prop :=
  True

def Pre_LeadRefIdeal (m : (ℓ : Loc Cert.LeadRefIdeal.nD Cert.LeadRefIdeal.τ Cert.LeadRefIdeal.sig) → Buf (Elt Ideal) ℓ) : Prop :=
  True

def quiescent_Kernel [hKernel : Cert.Kernel.Facts] [hPre_pos_in_rows : Cert.Pre_pos_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_pos_in_rows : Cert.Pre_pos_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_pos_in_rows : Cert.Pre_pos_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Experts [hExperts : Cert.Experts.Facts] [hPre_blocks_ok : Cert.Pre_blocks_ok.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_blocks_ok : Cert.Pre_blocks_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] [hPre_blocks_ok : Cert.Pre_blocks_ok.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9)
      ∧ r.2.mem ((c.tc : Thread Cert.Outproj.nD Cert.Outproj.τ).loc Cert.Outproj.main_arg10) = m ((c.tc : Thread Cert.Outproj.nD Cert.Outproj.τ).loc Cert.Outproj.main_arg10))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
      ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8)
      ∧ r.2.mem ((c.tc : Thread Cert.OutprojRefIdeal.nD Cert.OutprojRefIdeal.τ).loc Cert.OutprojRefIdeal.main_arg9) = m ((c.tc : Thread Cert.OutprojRefIdeal.nD Cert.OutprojRefIdeal.τ).loc Cert.OutprojRefIdeal.main_arg9)
      ∧ r.2.mem ((c.tc : Thread Cert.OutprojRefIdeal.nD Cert.OutprojRefIdeal.τ).loc Cert.OutprojRefIdeal.main_arg10) = m ((c.tc : Thread Cert.OutprojRefIdeal.nD Cert.OutprojRefIdeal.τ).loc Cert.OutprojRefIdeal.main_arg10))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4)
      ∧ r.2.mem ((c.tc : Thread Cert.Swa.nD Cert.Swa.τ).loc Cert.Swa.main_arg5) = m ((c.tc : Thread Cert.Swa.nD Cert.Swa.τ).loc Cert.Swa.main_arg5)
      ∧ r.2.mem ((c.tc : Thread Cert.Swa.nD Cert.Swa.τ).loc Cert.Swa.main_arg6) = m ((c.tc : Thread Cert.Swa.nD Cert.Swa.τ).loc Cert.Swa.main_arg6))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
      ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5)
      ∧ r.2.mem ((c.tc : Thread Cert.SwaIdeal.nD Cert.SwaIdeal.τ).loc Cert.SwaIdeal.main_arg6) = m ((c.tc : Thread Cert.SwaIdeal.nD Cert.SwaIdeal.τ).loc Cert.SwaIdeal.main_arg6))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4)
      ∧ r.2.mem ((c.tc : Thread Cert.SwaRefIdeal.nD Cert.SwaRefIdeal.τ).loc Cert.SwaRefIdeal.main_arg5) = m ((c.tc : Thread Cert.SwaRefIdeal.nD Cert.SwaRefIdeal.τ).loc Cert.SwaRefIdeal.main_arg5)
      ∧ r.2.mem ((c.tc : Thread Cert.SwaRefIdeal.nD Cert.SwaRefIdeal.τ).loc Cert.SwaRefIdeal.main_arg6) = m ((c.tc : Thread Cert.SwaRefIdeal.nD Cert.SwaRefIdeal.τ).loc Cert.SwaRefIdeal.main_arg6))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def quiescent_Half [hHalf : Cert.Half.Facts] : Prop :=
  ∀ (m : (ℓ : Loc Cert.Half.nD Cert.Half.τ Cert.Half.sig) → Buf (Elt Bits) ℓ) (g : Dev Cert.Half.nD → PrngReg), Pre_Half m →
    θ_run (Cert.Half.defs (F := Bits)) (onTc (τ := Cert.Half.τ) (Cert.Half.main (F := Bits))) ⟨m, fun _ => 0, g⟩ (fun r => (∀ c : Dev Cert.Half.nD,
      r.2.mem ((c.tc : Thread Cert.Half.nD Cert.Half.τ).loc Cert.Half.main_arg0) = m ((c.tc : Thread Cert.Half.nD Cert.Half.τ).loc Cert.Half.main_arg0)
      ∧ r.2.mem ((c.tc : Thread Cert.Half.nD Cert.Half.τ).loc Cert.Half.main_arg1) = m ((c.tc : Thread Cert.Half.nD Cert.Half.τ).loc Cert.Half.main_arg1)
      ∧ r.2.mem ((c.tc : Thread Cert.Half.nD Cert.Half.τ).loc Cert.Half.main_arg2) = m ((c.tc : Thread Cert.Half.nD Cert.Half.τ).loc Cert.Half.main_arg2)
      ∧ r.2.mem ((c.tc : Thread Cert.Half.nD Cert.Half.τ).loc Cert.Half.main_arg3) = m ((c.tc : Thread Cert.Half.nD Cert.Half.τ).loc Cert.Half.main_arg3)
      ∧ r.2.mem ((c.tc : Thread Cert.Half.nD Cert.Half.τ).loc Cert.Half.main_arg4) = m ((c.tc : Thread Cert.Half.nD Cert.Half.τ).loc Cert.Half.main_arg4)
      ∧ r.2.mem ((c.tc : Thread Cert.Half.nD Cert.Half.τ).loc Cert.Half.main_arg5) = m ((c.tc : Thread Cert.Half.nD Cert.Half.τ).loc Cert.Half.main_arg5))
      ∧ r.2.sem = fun _ => 0)

def quiescent_HalfIdeal [hHalfIdeal : Cert.HalfIdeal.Facts] : Prop :=
  ∀ (m : (ℓ : Loc Cert.HalfIdeal.nD Cert.HalfIdeal.τ Cert.HalfIdeal.sig) → Buf (Elt Ideal) ℓ) (g : Dev Cert.HalfIdeal.nD → PrngReg), Pre_HalfIdeal m →
    θ_run (Cert.HalfIdeal.defs (F := Ideal)) (onTc (τ := Cert.HalfIdeal.τ) (Cert.HalfIdeal.main (F := Ideal))) ⟨m, fun _ => 0, g⟩ (fun r => (∀ c : Dev Cert.HalfIdeal.nD,
      r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
      ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
      ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
      ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
      ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4)
      ∧ r.2.mem ((c.tc : Thread Cert.HalfIdeal.nD Cert.HalfIdeal.τ).loc Cert.HalfIdeal.main_arg5) = m ((c.tc : Thread Cert.HalfIdeal.nD Cert.HalfIdeal.τ).loc Cert.HalfIdeal.main_arg5))
      ∧ r.2.sem = fun _ => 0)

def quiescent_HalfRefIdeal [hHalfRefIdeal : Cert.HalfRefIdeal.Facts] : Prop :=
  ∀ (m : (ℓ : Loc Cert.HalfRefIdeal.nD Cert.HalfRefIdeal.τ Cert.HalfRefIdeal.sig) → Buf (Elt Ideal) ℓ) (g : Dev Cert.HalfRefIdeal.nD → PrngReg), Pre_HalfRefIdeal m →
    θ_run (Cert.HalfRefIdeal.defs (F := Ideal)) (onTc (τ := Cert.HalfRefIdeal.τ) (Cert.HalfRefIdeal.main (F := Ideal))) ⟨m, fun _ => 0, g⟩ (fun r => (∀ c : Dev Cert.HalfRefIdeal.nD,
      r.2.mem ((c.tc : Thread Cert.HalfRefIdeal.nD Cert.HalfRefIdeal.τ).loc Cert.HalfRefIdeal.main_arg0) = m ((c.tc : Thread Cert.HalfRefIdeal.nD Cert.HalfRefIdeal.τ).loc Cert.HalfRefIdeal.main_arg0)
      ∧ r.2.mem ((c.tc : Thread Cert.HalfRefIdeal.nD Cert.HalfRefIdeal.τ).loc Cert.HalfRefIdeal.main_arg1) = m ((c.tc : Thread Cert.HalfRefIdeal.nD Cert.HalfRefIdeal.τ).loc Cert.HalfRefIdeal.main_arg1)
      ∧ r.2.mem ((c.tc : Thread Cert.HalfRefIdeal.nD Cert.HalfRefIdeal.τ).loc Cert.HalfRefIdeal.main_arg2) = m ((c.tc : Thread Cert.HalfRefIdeal.nD Cert.HalfRefIdeal.τ).loc Cert.HalfRefIdeal.main_arg2)
      ∧ r.2.mem ((c.tc : Thread Cert.HalfRefIdeal.nD Cert.HalfRefIdeal.τ).loc Cert.HalfRefIdeal.main_arg3) = m ((c.tc : Thread Cert.HalfRefIdeal.nD Cert.HalfRefIdeal.τ).loc Cert.HalfRefIdeal.main_arg3)
      ∧ r.2.mem ((c.tc : Thread Cert.HalfRefIdeal.nD Cert.HalfRefIdeal.τ).loc Cert.HalfRefIdeal.main_arg4) = m ((c.tc : Thread Cert.HalfRefIdeal.nD Cert.HalfRefIdeal.τ).loc Cert.HalfRefIdeal.main_arg4)
      ∧ r.2.mem ((c.tc : Thread Cert.HalfRefIdeal.nD Cert.HalfRefIdeal.τ).loc Cert.HalfRefIdeal.main_arg5) = m ((c.tc : Thread Cert.HalfRefIdeal.nD Cert.HalfRefIdeal.τ).loc Cert.HalfRefIdeal.main_arg5))
      ∧ r.2.sem = fun _ => 0)

def quiescent_Lead [hLead : Cert.Lead.Facts] : Prop :=
  ∀ (m : (ℓ : Loc Cert.Lead.nD Cert.Lead.τ Cert.Lead.sig) → Buf (Elt Bits) ℓ) (g : Dev Cert.Lead.nD → PrngReg), Pre_Lead m →
    θ_run (Cert.Lead.defs (F := Bits)) (onTc (τ := Cert.Lead.τ) (Cert.Lead.main (F := Bits))) ⟨m, fun _ => 0, g⟩ (fun r => (∀ c : Dev Cert.Lead.nD,
      r.2.mem ((c.tc : Thread Cert.Lead.nD Cert.Lead.τ).loc Cert.Lead.main_arg0) = m ((c.tc : Thread Cert.Lead.nD Cert.Lead.τ).loc Cert.Lead.main_arg0)
      ∧ r.2.mem ((c.tc : Thread Cert.Lead.nD Cert.Lead.τ).loc Cert.Lead.main_arg1) = m ((c.tc : Thread Cert.Lead.nD Cert.Lead.τ).loc Cert.Lead.main_arg1)
      ∧ r.2.mem ((c.tc : Thread Cert.Lead.nD Cert.Lead.τ).loc Cert.Lead.main_arg2) = m ((c.tc : Thread Cert.Lead.nD Cert.Lead.τ).loc Cert.Lead.main_arg2)
      ∧ r.2.mem ((c.tc : Thread Cert.Lead.nD Cert.Lead.τ).loc Cert.Lead.main_arg3) = m ((c.tc : Thread Cert.Lead.nD Cert.Lead.τ).loc Cert.Lead.main_arg3)
      ∧ r.2.mem ((c.tc : Thread Cert.Lead.nD Cert.Lead.τ).loc Cert.Lead.main_arg4) = m ((c.tc : Thread Cert.Lead.nD Cert.Lead.τ).loc Cert.Lead.main_arg4))
      ∧ r.2.sem = fun _ => 0)

def quiescent_LeadIdeal [hLeadIdeal : Cert.LeadIdeal.Facts] : Prop :=
  ∀ (m : (ℓ : Loc Cert.LeadIdeal.nD Cert.LeadIdeal.τ Cert.LeadIdeal.sig) → Buf (Elt Ideal) ℓ) (g : Dev Cert.LeadIdeal.nD → PrngReg), Pre_LeadIdeal m →
    θ_run (Cert.LeadIdeal.defs (F := Ideal)) (onTc (τ := Cert.LeadIdeal.τ) (Cert.LeadIdeal.main (F := Ideal))) ⟨m, fun _ => 0, g⟩ (fun r => (∀ c : Dev Cert.LeadIdeal.nD,
      r.2.mem ((c.tc : Thread Cert.LeadIdeal.nD Cert.LeadIdeal.τ).loc Cert.LeadIdeal.main_arg0) = m ((c.tc : Thread Cert.LeadIdeal.nD Cert.LeadIdeal.τ).loc Cert.LeadIdeal.main_arg0)
      ∧ r.2.mem ((c.tc : Thread Cert.LeadIdeal.nD Cert.LeadIdeal.τ).loc Cert.LeadIdeal.main_arg1) = m ((c.tc : Thread Cert.LeadIdeal.nD Cert.LeadIdeal.τ).loc Cert.LeadIdeal.main_arg1)
      ∧ r.2.mem ((c.tc : Thread Cert.LeadIdeal.nD Cert.LeadIdeal.τ).loc Cert.LeadIdeal.main_arg2) = m ((c.tc : Thread Cert.LeadIdeal.nD Cert.LeadIdeal.τ).loc Cert.LeadIdeal.main_arg2)
      ∧ r.2.mem ((c.tc : Thread Cert.LeadIdeal.nD Cert.LeadIdeal.τ).loc Cert.LeadIdeal.main_arg3) = m ((c.tc : Thread Cert.LeadIdeal.nD Cert.LeadIdeal.τ).loc Cert.LeadIdeal.main_arg3)
      ∧ r.2.mem ((c.tc : Thread Cert.LeadIdeal.nD Cert.LeadIdeal.τ).loc Cert.LeadIdeal.main_arg4) = m ((c.tc : Thread Cert.LeadIdeal.nD Cert.LeadIdeal.τ).loc Cert.LeadIdeal.main_arg4))
      ∧ r.2.sem = fun _ => 0)

def quiescent_LeadRefIdeal [hLeadRefIdeal : Cert.LeadRefIdeal.Facts] : Prop :=
  ∀ (m : (ℓ : Loc Cert.LeadRefIdeal.nD Cert.LeadRefIdeal.τ Cert.LeadRefIdeal.sig) → Buf (Elt Ideal) ℓ) (g : Dev Cert.LeadRefIdeal.nD → PrngReg), Pre_LeadRefIdeal m →
    θ_run (Cert.LeadRefIdeal.defs (F := Ideal)) (onTc (τ := Cert.LeadRefIdeal.τ) (Cert.LeadRefIdeal.main (F := Ideal))) ⟨m, fun _ => 0, g⟩ (fun r => (∀ c : Dev Cert.LeadRefIdeal.nD,
      r.2.mem ((c.tc : Thread Cert.LeadRefIdeal.nD Cert.LeadRefIdeal.τ).loc Cert.LeadRefIdeal.main_arg0) = m ((c.tc : Thread Cert.LeadRefIdeal.nD Cert.LeadRefIdeal.τ).loc Cert.LeadRefIdeal.main_arg0)
      ∧ r.2.mem ((c.tc : Thread Cert.LeadRefIdeal.nD Cert.LeadRefIdeal.τ).loc Cert.LeadRefIdeal.main_arg1) = m ((c.tc : Thread Cert.LeadRefIdeal.nD Cert.LeadRefIdeal.τ).loc Cert.LeadRefIdeal.main_arg1)
      ∧ r.2.mem ((c.tc : Thread Cert.LeadRefIdeal.nD Cert.LeadRefIdeal.τ).loc Cert.LeadRefIdeal.main_arg2) = m ((c.tc : Thread Cert.LeadRefIdeal.nD Cert.LeadRefIdeal.τ).loc Cert.LeadRefIdeal.main_arg2)
      ∧ r.2.mem ((c.tc : Thread Cert.LeadRefIdeal.nD Cert.LeadRefIdeal.τ).loc Cert.LeadRefIdeal.main_arg3) = m ((c.tc : Thread Cert.LeadRefIdeal.nD Cert.LeadRefIdeal.τ).loc Cert.LeadRefIdeal.main_arg3)
      ∧ r.2.mem ((c.tc : Thread Cert.LeadRefIdeal.nD Cert.LeadRefIdeal.τ).loc Cert.LeadRefIdeal.main_arg4) = m ((c.tc : Thread Cert.LeadRefIdeal.nD Cert.LeadRefIdeal.τ).loc Cert.LeadRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_pos_in_rows : Cert.Pre_pos_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Experts_ExpertsIdeal : Prop :=
  True

def algebraic_ExpertsIdeal_ExpertsRefIdeal_on_assigned [hExpertsIdeal : Cert.ExpertsIdeal.Facts] [hExpertsRefIdeal : Cert.ExpertsRefIdeal.Facts] [hPre_blocks_ok : Cert.Pre_blocks_ok.Facts] [hOn_assigned : Cert.On_assigned.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![172032, 1024]⟩ : Shape).Idx, (Cert.On_assigned.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) i = 1#1 → r.2.mem ((c.tc : Thread Cert.ExpertsIdeal.nD Cert.ExpertsIdeal.τ).loc Cert.ExpertsIdeal.main_v2) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          (∀ i : (⟨2, ![172032, 1024]⟩ : Shape).Idx, (Cert.On_assigned.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) i = 1#1 → r.2.mem ((c.tc : Thread Cert.ExpertsRefIdeal.nD Cert.ExpertsRefIdeal.τ).loc Cert.ExpertsRefIdeal.main_v62) i = v0 c i)
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)) →
    ∃ (v0 : (c : Dev Cert.InprojIdeal.nD) → Buf (Elt Ideal) ((c.tc : Thread Cert.InprojIdeal.nD Cert.InprojIdeal.τ).loc Cert.InprojIdeal.main_v17_0)) (v1 : (c : Dev Cert.InprojIdeal.nD) → Buf (Elt Ideal) ((c.tc : Thread Cert.InprojIdeal.nD Cert.InprojIdeal.τ).loc Cert.InprojIdeal.main_v17_1)) (v2 : (c : Dev Cert.InprojIdeal.nD) → Buf (Elt Ideal) ((c.tc : Thread Cert.InprojIdeal.nD Cert.InprojIdeal.τ).loc Cert.InprojIdeal.main_v17_2)) (v3 : (c : Dev Cert.InprojIdeal.nD) → Buf (Elt Ideal) ((c.tc : Thread Cert.InprojIdeal.nD Cert.InprojIdeal.τ).loc Cert.InprojIdeal.main_v17_3)) (v4 : (c : Dev Cert.InprojIdeal.nD) → Buf (Elt Ideal) ((c.tc : Thread Cert.InprojIdeal.nD Cert.InprojIdeal.τ).loc Cert.InprojIdeal.main_v17_4)) (v5 : (c : Dev Cert.InprojIdeal.nD) → Buf (Elt Ideal) ((c.tc : Thread Cert.InprojIdeal.nD Cert.InprojIdeal.τ).loc Cert.InprojIdeal.main_v17_5)) (v6 : (c : Dev Cert.InprojIdeal.nD) → Buf (Elt Ideal) ((c.tc : Thread Cert.InprojIdeal.nD Cert.InprojIdeal.τ).loc Cert.InprojIdeal.main_v17_6)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v17_0) = v0 c
          ∧ r.2.mem ((c.tc : Thread Cert.InprojIdeal.nD Cert.InprojIdeal.τ).loc Cert.InprojIdeal.main_v17_1) = v1 c
          ∧ r.2.mem ((c.tc : Thread Cert.InprojIdeal.nD Cert.InprojIdeal.τ).loc Cert.InprojIdeal.main_v17_2) = v2 c
          ∧ r.2.mem ((c.tc : Thread Cert.InprojIdeal.nD Cert.InprojIdeal.τ).loc Cert.InprojIdeal.main_v17_3) = v3 c
          ∧ r.2.mem ((c.tc : Thread Cert.InprojIdeal.nD Cert.InprojIdeal.τ).loc Cert.InprojIdeal.main_v17_4) = v4 c
          ∧ r.2.mem ((c.tc : Thread Cert.InprojIdeal.nD Cert.InprojIdeal.τ).loc Cert.InprojIdeal.main_v17_5) = v5 c
          ∧ r.2.mem ((c.tc : Thread Cert.InprojIdeal.nD Cert.InprojIdeal.τ).loc Cert.InprojIdeal.main_v17_6) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v85) = v0 c
          ∧ r.2.mem ((c.tc : Thread Cert.InprojRefIdeal.nD Cert.InprojRefIdeal.τ).loc Cert.InprojRefIdeal.main_v26) = v1 c
          ∧ r.2.mem ((c.tc : Thread Cert.InprojRefIdeal.nD Cert.InprojRefIdeal.τ).loc Cert.InprojRefIdeal.main_v87) = v2 c
          ∧ r.2.mem ((c.tc : Thread Cert.InprojRefIdeal.nD Cert.InprojRefIdeal.τ).loc Cert.InprojRefIdeal.main_v29) = v3 c
          ∧ r.2.mem ((c.tc : Thread Cert.InprojRefIdeal.nD Cert.InprojRefIdeal.τ).loc Cert.InprojRefIdeal.main_v30) = v4 c
          ∧ r.2.mem ((c.tc : Thread Cert.InprojRefIdeal.nD Cert.InprojRefIdeal.τ).loc Cert.InprojRefIdeal.main_v86) = v5 c
          ∧ r.2.mem ((c.tc : Thread Cert.InprojRefIdeal.nD Cert.InprojRefIdeal.τ).loc Cert.InprojRefIdeal.main_v88) = v6 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)
      ∧ m' ((c.tc : Thread Cert.OutprojRefIdeal.nD Cert.OutprojRefIdeal.τ).loc Cert.OutprojRefIdeal.main_arg9) = m ((c.tc : Thread Cert.OutprojIdeal.nD Cert.OutprojIdeal.τ).loc Cert.OutprojIdeal.main_arg9)
      ∧ m' ((c.tc : Thread Cert.OutprojRefIdeal.nD Cert.OutprojRefIdeal.τ).loc Cert.OutprojRefIdeal.main_arg10) = m ((c.tc : Thread Cert.OutprojIdeal.nD Cert.OutprojIdeal.τ).loc Cert.OutprojIdeal.main_arg10)) →
    ∃ (v0 : (c : Dev Cert.OutprojIdeal.nD) → Buf (Elt Ideal) ((c.tc : Thread Cert.OutprojIdeal.nD Cert.OutprojIdeal.τ).loc Cert.OutprojIdeal.main_v15_0)) (v1 : (c : Dev Cert.OutprojIdeal.nD) → Buf (Elt Ideal) ((c.tc : Thread Cert.OutprojIdeal.nD Cert.OutprojIdeal.τ).loc Cert.OutprojIdeal.main_v15_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v15_0) = v0 c
          ∧ r.2.mem ((c.tc : Thread Cert.OutprojIdeal.nD Cert.OutprojIdeal.τ).loc Cert.OutprojIdeal.main_v15_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
          ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v10) = v0 c
          ∧ r.2.mem ((c.tc : Thread Cert.OutprojRefIdeal.nD Cert.OutprojRefIdeal.τ).loc Cert.OutprojRefIdeal.main_v35) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8)
          ∧ r.2.mem ((c.tc : Thread Cert.OutprojRefIdeal.nD Cert.OutprojRefIdeal.τ).loc Cert.OutprojRefIdeal.main_arg9) = m' ((c.tc : Thread Cert.OutprojRefIdeal.nD Cert.OutprojRefIdeal.τ).loc Cert.OutprojRefIdeal.main_arg9)
          ∧ r.2.mem ((c.tc : Thread Cert.OutprojRefIdeal.nD Cert.OutprojRefIdeal.τ).loc Cert.OutprojRefIdeal.main_arg10) = m' ((c.tc : Thread Cert.OutprojRefIdeal.nD Cert.OutprojRefIdeal.τ).loc Cert.OutprojRefIdeal.main_arg10))

def preserves_Swa_SwaIdeal : Prop :=
  True

def algebraic_SwaIdeal_SwaRefIdeal [hSwaIdeal : Cert.SwaIdeal.Facts] [hSwaRefIdeal : Cert.SwaRefIdeal.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)
      ∧ m' ((c.tc : Thread Cert.SwaRefIdeal.nD Cert.SwaRefIdeal.τ).loc Cert.SwaRefIdeal.main_arg4) = m ((c.tc : Thread Cert.SwaIdeal.nD Cert.SwaIdeal.τ).loc Cert.SwaIdeal.main_arg4)
      ∧ m' ((c.tc : Thread Cert.SwaRefIdeal.nD Cert.SwaRefIdeal.τ).loc Cert.SwaRefIdeal.main_arg5) = m ((c.tc : Thread Cert.SwaIdeal.nD Cert.SwaIdeal.τ).loc Cert.SwaIdeal.main_arg5)
      ∧ m' ((c.tc : Thread Cert.SwaRefIdeal.nD Cert.SwaRefIdeal.τ).loc Cert.SwaRefIdeal.main_arg6) = m ((c.tc : Thread Cert.SwaIdeal.nD Cert.SwaIdeal.τ).loc Cert.SwaIdeal.main_arg6)) →
    ∃ (v0 : (c : Dev Cert.SwaIdeal.nD) → Buf (Elt Ideal) ((c.tc : Thread Cert.SwaIdeal.nD Cert.SwaIdeal.τ).loc Cert.SwaIdeal.main_v14)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v14) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
          ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
          ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5)
          ∧ r.2.mem ((c.tc : Thread Cert.SwaIdeal.nD Cert.SwaIdeal.τ).loc Cert.SwaIdeal.main_arg6) = m ((c.tc : Thread Cert.SwaIdeal.nD Cert.SwaIdeal.τ).loc Cert.SwaIdeal.main_arg6))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v298) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3)
          ∧ r.2.mem ((c.tc : Thread Cert.SwaRefIdeal.nD Cert.SwaRefIdeal.τ).loc Cert.SwaRefIdeal.main_arg4) = m' ((c.tc : Thread Cert.SwaRefIdeal.nD Cert.SwaRefIdeal.τ).loc Cert.SwaRefIdeal.main_arg4)
          ∧ r.2.mem ((c.tc : Thread Cert.SwaRefIdeal.nD Cert.SwaRefIdeal.τ).loc Cert.SwaRefIdeal.main_arg5) = m' ((c.tc : Thread Cert.SwaRefIdeal.nD Cert.SwaRefIdeal.τ).loc Cert.SwaRefIdeal.main_arg5)
          ∧ r.2.mem ((c.tc : Thread Cert.SwaRefIdeal.nD Cert.SwaRefIdeal.τ).loc Cert.SwaRefIdeal.main_arg6) = m' ((c.tc : Thread Cert.SwaRefIdeal.nD Cert.SwaRefIdeal.τ).loc Cert.SwaRefIdeal.main_arg6))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v31) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4))

def preserves_Half_HalfIdeal : Prop :=
  True

def algebraic_HalfIdeal_HalfRefIdeal [hHalfIdeal : Cert.HalfIdeal.Facts] [hHalfRefIdeal : Cert.HalfRefIdeal.Facts] : Prop :=
  ∀ (m : (ℓ : Loc Cert.HalfIdeal.nD Cert.HalfIdeal.τ Cert.HalfIdeal.sig) → Buf (Elt Ideal) ℓ) (g : Dev Cert.HalfIdeal.nD → PrngReg)
    (m' : (ℓ : Loc Cert.HalfRefIdeal.nD Cert.HalfRefIdeal.τ Cert.HalfRefIdeal.sig) → Buf (Elt Ideal) ℓ) (g' : Dev Cert.HalfRefIdeal.nD → PrngReg), Pre_HalfIdeal m →
    (∀ c : Dev Cert.HalfIdeal.nD,
      m' ((c.tc : Thread Cert.HalfRefIdeal.nD Cert.HalfRefIdeal.τ).loc Cert.HalfRefIdeal.main_arg0) = m ((c.tc : Thread Cert.HalfIdeal.nD Cert.HalfIdeal.τ).loc Cert.HalfIdeal.main_arg0)
      ∧ m' ((c.tc : Thread Cert.HalfRefIdeal.nD Cert.HalfRefIdeal.τ).loc Cert.HalfRefIdeal.main_arg1) = m ((c.tc : Thread Cert.HalfIdeal.nD Cert.HalfIdeal.τ).loc Cert.HalfIdeal.main_arg1)
      ∧ m' ((c.tc : Thread Cert.HalfRefIdeal.nD Cert.HalfRefIdeal.τ).loc Cert.HalfRefIdeal.main_arg2) = m ((c.tc : Thread Cert.HalfIdeal.nD Cert.HalfIdeal.τ).loc Cert.HalfIdeal.main_arg2)
      ∧ m' ((c.tc : Thread Cert.HalfRefIdeal.nD Cert.HalfRefIdeal.τ).loc Cert.HalfRefIdeal.main_arg3) = m ((c.tc : Thread Cert.HalfIdeal.nD Cert.HalfIdeal.τ).loc Cert.HalfIdeal.main_arg3)
      ∧ m' ((c.tc : Thread Cert.HalfRefIdeal.nD Cert.HalfRefIdeal.τ).loc Cert.HalfRefIdeal.main_arg4) = m ((c.tc : Thread Cert.HalfIdeal.nD Cert.HalfIdeal.τ).loc Cert.HalfIdeal.main_arg4)
      ∧ m' ((c.tc : Thread Cert.HalfRefIdeal.nD Cert.HalfRefIdeal.τ).loc Cert.HalfRefIdeal.main_arg5) = m ((c.tc : Thread Cert.HalfIdeal.nD Cert.HalfIdeal.τ).loc Cert.HalfIdeal.main_arg5)) →
    ∃ (v0 : (c : Dev Cert.HalfIdeal.nD) → Buf (Elt Ideal) ((c.tc : Thread Cert.HalfIdeal.nD Cert.HalfIdeal.τ).loc Cert.HalfIdeal.main_v2)),
      θ_run (Cert.HalfIdeal.defs (F := Ideal)) (onTc (τ := Cert.HalfIdeal.τ) (Cert.HalfIdeal.main (F := Ideal))) ⟨m, fun _ => 0, g⟩ (fun r => ∀ c : Dev Cert.HalfIdeal.nD,
          r.2.mem ((c.tc : Thread Cert.HalfIdeal.nD Cert.HalfIdeal.τ).loc Cert.HalfIdeal.main_v2) = v0 c
          ∧ r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
          ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
          ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
          ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
          ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4)
          ∧ r.2.mem ((c.tc : Thread Cert.HalfIdeal.nD Cert.HalfIdeal.τ).loc Cert.HalfIdeal.main_arg5) = m ((c.tc : Thread Cert.HalfIdeal.nD Cert.HalfIdeal.τ).loc Cert.HalfIdeal.main_arg5))
      ∧ θ_run (Cert.HalfRefIdeal.defs (F := Ideal)) (onTc (τ := Cert.HalfRefIdeal.τ) (Cert.HalfRefIdeal.main (F := Ideal))) ⟨m', fun _ => 0, g'⟩ (fun r => ∀ c : Dev Cert.HalfRefIdeal.nD,
          r.2.mem ((c.tc : Thread Cert.HalfRefIdeal.nD Cert.HalfRefIdeal.τ).loc Cert.HalfRefIdeal.main_v33) = v0 c
          ∧ r.2.mem ((c.tc : Thread Cert.HalfRefIdeal.nD Cert.HalfRefIdeal.τ).loc Cert.HalfRefIdeal.main_arg0) = m' ((c.tc : Thread Cert.HalfRefIdeal.nD Cert.HalfRefIdeal.τ).loc Cert.HalfRefIdeal.main_arg0)
          ∧ r.2.mem ((c.tc : Thread Cert.HalfRefIdeal.nD Cert.HalfRefIdeal.τ).loc Cert.HalfRefIdeal.main_arg1) = m' ((c.tc : Thread Cert.HalfRefIdeal.nD Cert.HalfRefIdeal.τ).loc Cert.HalfRefIdeal.main_arg1)
          ∧ r.2.mem ((c.tc : Thread Cert.HalfRefIdeal.nD Cert.HalfRefIdeal.τ).loc Cert.HalfRefIdeal.main_arg2) = m' ((c.tc : Thread Cert.HalfRefIdeal.nD Cert.HalfRefIdeal.τ).loc Cert.HalfRefIdeal.main_arg2)
          ∧ r.2.mem ((c.tc : Thread Cert.HalfRefIdeal.nD Cert.HalfRefIdeal.τ).loc Cert.HalfRefIdeal.main_arg3) = m' ((c.tc : Thread Cert.HalfRefIdeal.nD Cert.HalfRefIdeal.τ).loc Cert.HalfRefIdeal.main_arg3)
          ∧ r.2.mem ((c.tc : Thread Cert.HalfRefIdeal.nD Cert.HalfRefIdeal.τ).loc Cert.HalfRefIdeal.main_arg4) = m' ((c.tc : Thread Cert.HalfRefIdeal.nD Cert.HalfRefIdeal.τ).loc Cert.HalfRefIdeal.main_arg4)
          ∧ r.2.mem ((c.tc : Thread Cert.HalfRefIdeal.nD Cert.HalfRefIdeal.τ).loc Cert.HalfRefIdeal.main_arg5) = m' ((c.tc : Thread Cert.HalfRefIdeal.nD Cert.HalfRefIdeal.τ).loc Cert.HalfRefIdeal.main_arg5))

def preserves_Lead_LeadIdeal : Prop :=
  True

def algebraic_LeadIdeal_LeadRefIdeal_on_first_half [hLeadIdeal : Cert.LeadIdeal.Facts] [hLeadRefIdeal : Cert.LeadRefIdeal.Facts] [hOn_first_half : Cert.On_first_half.Facts] : Prop :=
  ∀ (m : (ℓ : Loc Cert.LeadIdeal.nD Cert.LeadIdeal.τ Cert.LeadIdeal.sig) → Buf (Elt Ideal) ℓ) (g : Dev Cert.LeadIdeal.nD → PrngReg)
    (m' : (ℓ : Loc Cert.LeadRefIdeal.nD Cert.LeadRefIdeal.τ Cert.LeadRefIdeal.sig) → Buf (Elt Ideal) ℓ) (g' : Dev Cert.LeadRefIdeal.nD → PrngReg), Pre_LeadIdeal m →
    (∀ c : Dev Cert.LeadIdeal.nD,
      m' ((c.tc : Thread Cert.LeadRefIdeal.nD Cert.LeadRefIdeal.τ).loc Cert.LeadRefIdeal.main_arg0) = m ((c.tc : Thread Cert.LeadIdeal.nD Cert.LeadIdeal.τ).loc Cert.LeadIdeal.main_arg0)
      ∧ m' ((c.tc : Thread Cert.LeadRefIdeal.nD Cert.LeadRefIdeal.τ).loc Cert.LeadRefIdeal.main_arg1) = m ((c.tc : Thread Cert.LeadIdeal.nD Cert.LeadIdeal.τ).loc Cert.LeadIdeal.main_arg1)
      ∧ m' ((c.tc : Thread Cert.LeadRefIdeal.nD Cert.LeadRefIdeal.τ).loc Cert.LeadRefIdeal.main_arg2) = m ((c.tc : Thread Cert.LeadIdeal.nD Cert.LeadIdeal.τ).loc Cert.LeadIdeal.main_arg2)
      ∧ m' ((c.tc : Thread Cert.LeadRefIdeal.nD Cert.LeadRefIdeal.τ).loc Cert.LeadRefIdeal.main_arg3) = m ((c.tc : Thread Cert.LeadIdeal.nD Cert.LeadIdeal.τ).loc Cert.LeadIdeal.main_arg3)
      ∧ m' ((c.tc : Thread Cert.LeadRefIdeal.nD Cert.LeadRefIdeal.τ).loc Cert.LeadRefIdeal.main_arg4) = m ((c.tc : Thread Cert.LeadIdeal.nD Cert.LeadIdeal.τ).loc Cert.LeadIdeal.main_arg4)) →
    ∃ (v0 : (c : Dev Cert.LeadIdeal.nD) → Buf (Elt Ideal) ((c.tc : Thread Cert.LeadIdeal.nD Cert.LeadIdeal.τ).loc Cert.LeadIdeal.main_v2)),
      θ_run (Cert.LeadIdeal.defs (F := Ideal)) (onTc (τ := Cert.LeadIdeal.τ) (Cert.LeadIdeal.main (F := Ideal))) ⟨m, fun _ => 0, g⟩ (fun r => ∀ c : Dev Cert.LeadIdeal.nD,
          (∀ i : (⟨3, ![32, 2048, 1024]⟩ : Shape).Idx, (Cert.On_first_half.fn (F := Ideal) (m ((c.tc : Thread Cert.LeadIdeal.nD Cert.LeadIdeal.τ).loc Cert.LeadIdeal.main_arg0)) (m ((c.tc : Thread Cert.LeadIdeal.nD Cert.LeadIdeal.τ).loc Cert.LeadIdeal.main_arg1)) (m ((c.tc : Thread Cert.LeadIdeal.nD Cert.LeadIdeal.τ).loc Cert.LeadIdeal.main_arg2)) (m ((c.tc : Thread Cert.LeadIdeal.nD Cert.LeadIdeal.τ).loc Cert.LeadIdeal.main_arg3)) (m ((c.tc : Thread Cert.LeadIdeal.nD Cert.LeadIdeal.τ).loc Cert.LeadIdeal.main_arg4))) i = 1#1 → r.2.mem ((c.tc : Thread Cert.LeadIdeal.nD Cert.LeadIdeal.τ).loc Cert.LeadIdeal.main_v2) i = v0 c i)
          ∧ r.2.mem ((c.tc : Thread Cert.LeadIdeal.nD Cert.LeadIdeal.τ).loc Cert.LeadIdeal.main_arg0) = m ((c.tc : Thread Cert.LeadIdeal.nD Cert.LeadIdeal.τ).loc Cert.LeadIdeal.main_arg0)
          ∧ r.2.mem ((c.tc : Thread Cert.LeadIdeal.nD Cert.LeadIdeal.τ).loc Cert.LeadIdeal.main_arg1) = m ((c.tc : Thread Cert.LeadIdeal.nD Cert.LeadIdeal.τ).loc Cert.LeadIdeal.main_arg1)
          ∧ r.2.mem ((c.tc : Thread Cert.LeadIdeal.nD Cert.LeadIdeal.τ).loc Cert.LeadIdeal.main_arg2) = m ((c.tc : Thread Cert.LeadIdeal.nD Cert.LeadIdeal.τ).loc Cert.LeadIdeal.main_arg2)
          ∧ r.2.mem ((c.tc : Thread Cert.LeadIdeal.nD Cert.LeadIdeal.τ).loc Cert.LeadIdeal.main_arg3) = m ((c.tc : Thread Cert.LeadIdeal.nD Cert.LeadIdeal.τ).loc Cert.LeadIdeal.main_arg3)
          ∧ r.2.mem ((c.tc : Thread Cert.LeadIdeal.nD Cert.LeadIdeal.τ).loc Cert.LeadIdeal.main_arg4) = m ((c.tc : Thread Cert.LeadIdeal.nD Cert.LeadIdeal.τ).loc Cert.LeadIdeal.main_arg4))
      ∧ θ_run (Cert.LeadRefIdeal.defs (F := Ideal)) (onTc (τ := Cert.LeadRefIdeal.τ) (Cert.LeadRefIdeal.main (F := Ideal))) ⟨m', fun _ => 0, g'⟩ (fun r => ∀ c : Dev Cert.LeadRefIdeal.nD,
          (∀ i : (⟨3, ![32, 2048, 1024]⟩ : Shape).Idx, (Cert.On_first_half.fn (F := Ideal) (m ((c.tc : Thread Cert.LeadIdeal.nD Cert.LeadIdeal.τ).loc Cert.LeadIdeal.main_arg0)) (m ((c.tc : Thread Cert.LeadIdeal.nD Cert.LeadIdeal.τ).loc Cert.LeadIdeal.main_arg1)) (m ((c.tc : Thread Cert.LeadIdeal.nD Cert.LeadIdeal.τ).loc Cert.LeadIdeal.main_arg2)) (m ((c.tc : Thread Cert.LeadIdeal.nD Cert.LeadIdeal.τ).loc Cert.LeadIdeal.main_arg3)) (m ((c.tc : Thread Cert.LeadIdeal.nD Cert.LeadIdeal.τ).loc Cert.LeadIdeal.main_arg4))) i = 1#1 → r.2.mem ((c.tc : Thread Cert.LeadRefIdeal.nD Cert.LeadRefIdeal.τ).loc Cert.LeadRefIdeal.main_v34) i = v0 c i)
          ∧ r.2.mem ((c.tc : Thread Cert.LeadRefIdeal.nD Cert.LeadRefIdeal.τ).loc Cert.LeadRefIdeal.main_arg0) = m' ((c.tc : Thread Cert.LeadRefIdeal.nD Cert.LeadRefIdeal.τ).loc Cert.LeadRefIdeal.main_arg0)
          ∧ r.2.mem ((c.tc : Thread Cert.LeadRefIdeal.nD Cert.LeadRefIdeal.τ).loc Cert.LeadRefIdeal.main_arg1) = m' ((c.tc : Thread Cert.LeadRefIdeal.nD Cert.LeadRefIdeal.τ).loc Cert.LeadRefIdeal.main_arg1)
          ∧ r.2.mem ((c.tc : Thread Cert.LeadRefIdeal.nD Cert.LeadRefIdeal.τ).loc Cert.LeadRefIdeal.main_arg2) = m' ((c.tc : Thread Cert.LeadRefIdeal.nD Cert.LeadRefIdeal.τ).loc Cert.LeadRefIdeal.main_arg2)
          ∧ r.2.mem ((c.tc : Thread Cert.LeadRefIdeal.nD Cert.LeadRefIdeal.τ).loc Cert.LeadRefIdeal.main_arg3) = m' ((c.tc : Thread Cert.LeadRefIdeal.nD Cert.LeadRefIdeal.τ).loc Cert.LeadRefIdeal.main_arg3)
          ∧ r.2.mem ((c.tc : Thread Cert.LeadRefIdeal.nD Cert.LeadRefIdeal.τ).loc Cert.LeadRefIdeal.main_arg4) = m' ((c.tc : Thread Cert.LeadRefIdeal.nD Cert.LeadRefIdeal.τ).loc Cert.LeadRefIdeal.main_arg4))

def Claim : Prop :=
  ∃ (hKernel : Cert.Kernel.Facts) (hKernelIdeal : Cert.KernelIdeal.Facts) (hReferenceIdeal : Cert.ReferenceIdeal.Facts) (hReference : Cert.Reference.Facts) (hExperts : Cert.Experts.Facts) (hExpertsIdeal : Cert.ExpertsIdeal.Facts) (hExpertsRefIdeal : Cert.ExpertsRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hSwa : Cert.Swa.Facts) (hSwaIdeal : Cert.SwaIdeal.Facts) (hSwaRefIdeal : Cert.SwaRefIdeal.Facts) (hFinal : Cert.Final.Facts) (hFinalIdeal : Cert.FinalIdeal.Facts) (hFinalRefIdeal : Cert.FinalRefIdeal.Facts) (hHalf : Cert.Half.Facts) (hHalfIdeal : Cert.HalfIdeal.Facts) (hHalfRefIdeal : Cert.HalfRefIdeal.Facts) (hLead : Cert.Lead.Facts) (hLeadIdeal : Cert.LeadIdeal.Facts) (hLeadRefIdeal : Cert.LeadRefIdeal.Facts) (hPre_pos_in_rows : Cert.Pre_pos_in_rows.Facts) (hPre_blocks_ok : Cert.Pre_blocks_ok.Facts) (hOn_assigned : Cert.On_assigned.Facts) (hOn_first_half : Cert.On_first_half.Facts),
    quiescent_Kernel (hKernel := hKernel) (hPre_pos_in_rows := hPre_pos_in_rows)
    ∧ quiescent_KernelIdeal (hKernelIdeal := hKernelIdeal) (hPre_pos_in_rows := hPre_pos_in_rows)
    ∧ quiescent_ReferenceIdeal (hReferenceIdeal := hReferenceIdeal) (hPre_pos_in_rows := hPre_pos_in_rows)
    ∧ quiescent_Reference (hReference := hReference) (hPre_pos_in_rows := hPre_pos_in_rows)
    ∧ quiescent_Experts (hExperts := hExperts) (hPre_blocks_ok := hPre_blocks_ok)
    ∧ quiescent_ExpertsIdeal (hExpertsIdeal := hExpertsIdeal) (hPre_blocks_ok := hPre_blocks_ok)
    ∧ quiescent_ExpertsRefIdeal (hExpertsRefIdeal := hExpertsRefIdeal) (hPre_blocks_ok := hPre_blocks_ok)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Swa (hSwa := hSwa)
    ∧ quiescent_SwaIdeal (hSwaIdeal := hSwaIdeal)
    ∧ quiescent_SwaRefIdeal (hSwaRefIdeal := hSwaRefIdeal)
    ∧ quiescent_Final (hFinal := hFinal)
    ∧ quiescent_FinalIdeal (hFinalIdeal := hFinalIdeal)
    ∧ quiescent_FinalRefIdeal (hFinalRefIdeal := hFinalRefIdeal)
    ∧ quiescent_Half (hHalf := hHalf)
    ∧ quiescent_HalfIdeal (hHalfIdeal := hHalfIdeal)
    ∧ quiescent_HalfRefIdeal (hHalfRefIdeal := hHalfRefIdeal)
    ∧ quiescent_Lead (hLead := hLead)
    ∧ quiescent_LeadIdeal (hLeadIdeal := hLeadIdeal)
    ∧ quiescent_LeadRefIdeal (hLeadRefIdeal := hLeadRefIdeal)
    ∧ preserves_Kernel_KernelIdeal
    ∧ algebraic_KernelIdeal_ReferenceIdeal (hKernelIdeal := hKernelIdeal) (hReferenceIdeal := hReferenceIdeal) (hPre_pos_in_rows := hPre_pos_in_rows)
    ∧ bitexact_Kernel_Reference (hKernel := hKernel) (hReference := hReference) (hPre_pos_in_rows := hPre_pos_in_rows)
    ∧ preserves_Experts_ExpertsIdeal
    ∧ algebraic_ExpertsIdeal_ExpertsRefIdeal_on_assigned (hExpertsIdeal := hExpertsIdeal) (hExpertsRefIdeal := hExpertsRefIdeal) (hPre_blocks_ok := hPre_blocks_ok) (hOn_assigned := hOn_assigned)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Swa_SwaIdeal
    ∧ algebraic_SwaIdeal_SwaRefIdeal (hSwaIdeal := hSwaIdeal) (hSwaRefIdeal := hSwaRefIdeal)
    ∧ preserves_Final_FinalIdeal
    ∧ algebraic_FinalIdeal_FinalRefIdeal (hFinalIdeal := hFinalIdeal) (hFinalRefIdeal := hFinalRefIdeal)
    ∧ preserves_Half_HalfIdeal
    ∧ algebraic_HalfIdeal_HalfRefIdeal (hHalfIdeal := hHalfIdeal) (hHalfRefIdeal := hHalfRefIdeal)
    ∧ preserves_Lead_LeadIdeal
    ∧ algebraic_LeadIdeal_LeadRefIdeal_on_first_half (hLeadIdeal := hLeadIdeal) (hLeadRefIdeal := hLeadRefIdeal) (hOn_first_half := hOn_first_half)
-- ==== On_assigned.lean ====
abbrev S168 : Shape := ⟨1, ![168]⟩
abbrev S172032x512 : Shape := ⟨2, ![172032, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S168x1024x1024 : Shape := ⟨3, ![168, 1024, 1024]⟩
abbrev S168x1x1 : Shape := ⟨3, ![168, 1, 1]⟩
abbrev S172032x1024 : Shape := ⟨2, ![172032, 1024]⟩

class Facts : Prop where
  bcast_S168_S168x1x1_0 : S168.BroadcastsInDim S168x1x1 (![0] : Fin 1 → Fin S168x1x1.rank)
  bcast_S168x1x1_S168x1024x1024_0_1_2 : S168x1x1.BroadcastsInDim S168x1024x1024 (![0, 1, 2] : Fin 3 → Fin S168x1024x1024.rank)
  shapeCasts_S168x1024x1024_S172032x1024 : S168x1024x1024.ShapeCasts S172032x1024

variable [Facts]

def fn {F : FTy → Type} [FloatOps F] (main_arg0 : IVec S168 32) (main_arg1 : IVec S168 32) (main_arg2 : IVec S172032x512 32) (main_arg3 : FVec F S32x1024x2048 .f32) (main_arg4 : FVec F S32x2048 .f32) (main_arg5 : FVec F S32x1024x1024 .f32) (main_arg6 : FVec F S32x1024 .f32) : IVec S172032x1024 1 :=
  let main_v0 : IVec S168x1024x1024 32 := iotaInDim S168x1024x1024 32 1
  let main_v1 : IVec S168x1x1 32 := broadcastInDim S168x1x1 ![0] bcast_S168_S168x1x1_0 main_arg1
  let main_v2 : IVec S168x1024x1024 32 := broadcastInDim S168x1024x1024 ![0, 1, 2] bcast_S168x1x1_S168x1024x1024_0_1_2 main_v1
  let main_v3 : IVec S168x1024x1024 1 := cmpi .slt main_v0 main_v2
  let main_v4 : IVec S172032x1024 1 := shapeCast S172032x1024 main_v3 shapeCasts_S168x1024x1024_S172032x1024
  main_v4
-- ==== On_first_half.lean ====
abbrev S16x2048x1024 : Shape := ⟨3, ![16, 2048, 1024]⟩
abbrev S4x34816x512 : Shape := ⟨3, ![4, 34816, 512]⟩
abbrev S16x2048x128 : Shape := ⟨3, ![16, 2048, 128]⟩
abbrev S32x1024 : Shape := ⟨2, ![32, 1024]⟩
abbrev S1024 : Shape := ⟨1, ![1024]⟩
abbrev S32x2048x1024 : Shape := ⟨3, ![32, 2048, 1024]⟩
abbrev S_ : Shape := ⟨0, ![]⟩

class Facts : Prop where
  bcast_S_S32x2048x1024 : S_.BroadcastsInDim S32x2048x1024 (![] : Fin 0 → Fin S32x2048x1024.rank)

variable [Facts]

def fn {F : FTy → Type} [FloatOps F] (main_arg0 : FVec F S16x2048x1024 .f32) (main_arg1 : IVec S4x34816x512 32) (main_arg2 : FVec F S16x2048x128 .f32) (main_arg3 : FVec F S32x1024 .f32) (main_arg4 : FVec F S1024 .f32) : IVec S32x2048x1024 1 :=
  let main_v0 : IVec S32x2048x1024 32 := iotaInDim S32x2048x1024 32 0
  let main_c : IVec S_ 32 := constantI S_ 32 16#32
  let main_v1 : IVec S32x2048x1024 32 := broadcastInDim S32x2048x1024 ![] bcast_S_S32x2048x1024 main_c
  let main_v2 : IVec S32x2048x1024 1 := cmpi .slt main_v0 main_v1
  main_v2
-- ==== Pre_blocks_ok.lean ====
abbrev S168 : Shape := ⟨1, ![168]⟩
abbrev S172032x512 : Shape := ⟨2, ![172032, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S168 : S_.BroadcastsInDim S168 (![] : Fin 0 → Fin S168.rank)

variable [Facts]

def fn {F : FTy → Type} [FloatOps F] (main_arg0 : IVec S168 32) (main_arg1 : IVec S168 32) (main_arg2 : IVec S172032x512 32) (main_arg3 : FVec F S32x1024x2048 .f32) (main_arg4 : FVec F S32x2048 .f32) (main_arg5 : FVec F S32x1024x1024 .f32) (main_arg6 : FVec F S32x1024 .f32) : IVec S168 1 :=
  let main_c : IVec S_ 32 := constantI S_ 32 0#32
  let main_v0 : IVec S168 32 := broadcastInDim S168 ![] bcast_S_S168 main_c
  let main_v1 : IVec S168 1 := cmpi .sge main_arg0 main_v0
  let main_c_0 : IVec S_ 32 := constantI S_ 32 32#32
  let main_v2 : IVec S168 32 := broadcastInDim S168 ![] bcast_S_S168 main_c_0
  let main_v3 : IVec S168 1 := cmpi .slt main_arg0 main_v2
  let main_v4 : IVec S168 1 := andi main_v1 main_v3
  let main_c_1 : IVec S_ 32 := constantI S_ 32 0#32
  let main_v5 : IVec S168 32 := broadcastInDim S168 ![] bcast_S_S168 main_c_1
  let main_v6 : IVec S168 1 := cmpi .sge main_arg1 main_v5
  let main_v7 : IVec S168 1 := andi main_v4 main_v6
  let main_c_2 : IVec S_ 32 := constantI S_ 32 1024#32
  let main_v8 : IVec S168 32 := broadcastInDim S168 ![] bcast_S_S168 main_c_2
  let main_v9 : IVec S168 1 := cmpi .sle main_arg1 main_v8
  let main_v10 : IVec S168 1 := andi main_v7 main_v9
  main_v10
-- ==== Pre_pos_in_rows.lean ====
abbrev S172032x512 : Shape := ⟨2, ![172032, 512]⟩
abbrev S4x34816 : Shape := ⟨2, ![4, 34816]⟩
abbrev S_ : Shape := ⟨0, ![]⟩

class Facts : Prop where
  bcast_S_S4x34816 : S_.BroadcastsInDim S4x34816 (![] : Fin 0 → Fin S4x34816.rank)

variable [Facts]

def fn {F : FTy → Type} [FloatOps F] (main_arg0 : IVec S172032x512 32) (main_arg1 : IVec S4x34816 32) : IVec S4x34816 1 :=
  let main_c : IVec S_ 32 := constantI S_ 32 0#32
  let main_v0 : IVec S4x34816 32 := broadcastInDim S4x34816 ![] bcast_S_S4x34816 main_c
  let main_v1 : IVec S4x34816 1 := cmpi .sge main_arg1 main_v0
  let main_c_0 : IVec S_ 32 := constantI S_ 32 172032#32
  let main_v2 : IVec S4x34816 32 := broadcastInDim S4x34816 ![] bcast_S_S4x34816 main_c_0
  let main_v3 : IVec S4x34816 1 := cmpi .slt main_arg1 main_v2
  let main_v4 : IVec S4x34816 1 := andi main_v1 main_v3
  main_v4
-- ==== Kernel.lean ====
abbrev S172032x512 : Shape := ⟨2, ![172032, 512]⟩
abbrev S4x34816 : Shape := ⟨2, ![4, 34816]⟩
abbrev S139264 : Shape := ⟨1, ![139264]⟩
abbrev S2176x64 : Shape := ⟨2, ![2176, 64]⟩
abbrev S139264x512 : Shape := ⟨2, ![139264, 512]⟩
abbrev S2x1x64 : Shape := ⟨3, ![2, 1, 64]⟩
abbrev S2 : Shape := ⟨1, ![2]⟩
abbrev S2x64x512 : Shape := ⟨3, ![2, 64, 512]⟩
abbrev S1x1x64 : Shape := ⟨3, ![1, 1, 64]⟩
abbrev S1x64 : Shape := ⟨2, ![1, 64]⟩
abbrev S1 : Shape := ⟨1, ![1]⟩
abbrev S_ : Shape := ⟨0, ![]⟩
abbrev S1x64x512 : Shape := ⟨3, ![1, 64, 512]⟩
abbrev S64x512 : Shape := ⟨2, ![64, 512]⟩
abbrev S64x128 : Shape := ⟨2, ![64, 128]⟩
abbrev S64 : Shape := ⟨1, ![64]⟩
abbrev S172032x128 : Shape := ⟨2, ![172032, 128]⟩
abbrev S4x34816x512 : Shape := ⟨3, ![4, 34816, 512]⟩

abbrev nBuf : Table → Nat
  | .hbm => 6
  | .local .scVector .vmem => 2
  | _ => 0

abbrev bufTy : (tb : Table) → Fin (nBuf tb) → BufTy
  | .hbm, ⟨0, _⟩ => ⟨S172032x512, .i32⟩
  | .hbm, ⟨1, _⟩ => ⟨S4x34816, .i32⟩
  | .hbm, ⟨2, _⟩ => ⟨S139264, .i32⟩
  | .hbm, ⟨3, _⟩ => ⟨S2176x64, .i32⟩
  | .hbm, ⟨4, _⟩ => ⟨S139264x512, .i32⟩
  | .hbm, ⟨5, _⟩ => ⟨S4x34816x512, .i32⟩
  | .local .scVector .vmem, ⟨0, _⟩ => ⟨S2x1x64, .i32⟩
  | .local .scVector .vmem, ⟨1, _⟩ => ⟨S2x64x512, .i32⟩
  | _, _ => ⟨S172032x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_15_r0 : BitVec 32 := 0#32
  let c0_i32_16_r0 : BitVec 32 := 0#32
  ![v21_r0.toNat, 0, 0]
def k0_off2 (i : grid0.Coords) : Fin 2 → Nat :=
  let c1_i32_14_r0 : BitVec 32 := 1#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v7_r0 : BitVec 32 := Scalar.addi c0_i32_1_r0 v4
  let v22_r0 : BitVec 32 := Scalar.muli c1_i32_14_r0 v7_r0
  let c0_i32_17_r0 : BitVec 32 := 0#32
  ![v22_r0.toNat, 0]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_27_r0 : BitVec 32 := 0#32
  let c68_i32_28_r0 : BitVec 32 := 68#32
  let v32_r0 : BitVec 32 := Scalar.addi c0_i32_27_r0 c68_i32_28_r0
  let c1_i32_29_r0 : BitVec 32 := 1#32
  ⟨c0_i32_27_r0, v32_r0, c1_i32_29_r0⟩
def k0_off4 (arg6_r0 : BitVec 32) : Fin 3 → Nat :=
  let c2_i32_102_r0 : BitVec 32 := 2#32
  let v144_r0 : BitVec 32 := Scalar.remui arg6_r0 c2_i32_102_r0
  let c0_i32_104_r0 : BitVec 32 := 0#32
  let c0_i32_105_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c68_i32_62_r0 : BitVec 32 := 68#32
  let v74_r0 : BitVec 1 := Scalar.cmpi .eq v73_r0 c68_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c67_i32_68_r0 : BitVec 32 := 67#32
  let v83_r0 : BitVec 1 := Scalar.cmpi .sge arg5_r0 c67_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c1_i32_103_r0 : BitVec 32 := 1#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c68_i32_62_r0 : BitVec 32 := 68#32
  let v74_r0 : BitVec 1 := Scalar.cmpi .eq v73_r0 c68_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v76_r0 : BitVec 32 := Scalar.addi v75_r0 v4
  let v145_r0 : BitVec 32 := Scalar.muli c1_i32_103_r0 v76_r0
  let c0_i32_106_r0 : BitVec 32 := 0#32
  ![v145_r0.toNat, 0]
def k0_off6 (arg6_r0 : BitVec 32) : Fin 1 → Nat :=
  let c2_i32_102_r0 : BitVec 32 := 2#32
  let v144_r0 : BitVec 32 := Scalar.remui arg6_r0 c2_i32_102_r0
  ![v144_r0.toNat]
def k0_off7 (arg7_r0 : BitVec 32) : Fin 3 → Nat :=
  let c2_i32_103_r0 : BitVec 32 := 2#32
  let v145_r0 : BitVec 32 := Scalar.remui arg7_r0 c2_i32_103_r0
  let c0_i32_104_r0 : BitVec 32 := 0#32
  let c0_i32_105_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c67_i32_59_r0 : BitVec 32 := 67#32
  let v70_r0 : BitVec 32 := Scalar.select v69_r0 c67_i32_59_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c1_i32_102_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v66_r0 : BitVec 32 := Scalar.addi arg10_r0 v4
  let v144_r0 : BitVec 32 := Scalar.muli c1_i32_102_r0 v66_r0
  let c0_i32_106_r0 : BitVec 32 := 0#32
  ![v144_r0.toNat, 0]
def k0_off9 (arg7_r0 : BitVec 32) : Fin 1 → Nat :=
  let c2_i32_103_r0 : BitVec 32 := 2#32
  let v145_r0 : BitVec 32 := Scalar.remui arg7_r0 c2_i32_103_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_102_r1 : BitVec 32 := 0#32
  let c0_i32_103_r1 : BitVec 32 := 0#32
  ![v109_r0.toNat, 0, 0]

def k0_chk2 (arg8_r0 : BitVec 32) : Prop :=
  (∀ a, (k0_off10 arg8_r0) a + S1x64x512.size a ≤ S2x64x512.size a)
theorem k0_off10_inb : ∀ (arg8_r0 : BitVec 32) (k0_hw2 : k0_chk2 arg8_r0), ∀ a, (k0_off10 arg8_r0) a + S1x64x512.size a ≤ S2x64x512.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_106_r1 : BitVec 32 := 0#32
  let c0_i32_107_r1 : BitVec 32 := 0#32
  ![v108_r0.toNat, 0, 0]

def k0_chk3 (arg7_r0 : BitVec 32) : Prop :=
  (∀ a, (k0_off11 arg7_r0) a + S1x1x64.size a ≤ S2x1x64.size a)
theorem k0_off11_inb : ∀ (arg7_r0 : BitVec 32) (k0_hw3 : k0_chk3 arg7_r0), ∀ a, (k0_off11 arg7_r0) a + S1x1x64.size a ≤ S2x1x64.size a := fun arg7_r0 k0_hw3 => k0_hw3

def k0_off12 (arg8_r0 : BitVec 32) : Fin 3 → Nat :=
  let c2_i32_102_r0 : BitVec 32 := 2#32
  let v144_r0 : BitVec 32 := Scalar.remui arg8_r0 c2_i32_102_r0
  let c0_i32_104_r0 : BitVec 32 := 0#32
  let c0_i32_105_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c68_i32_62_r0 : BitVec 32 := 68#32
  let v74_r0 : BitVec 1 := Scalar.cmpi .eq v73_r0 c68_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c67_i32_55_r0 : BitVec 32 := 67#32
  let v65_r0 : BitVec 1 := Scalar.cmpi .eq arg5_r0 c67_i32_55_r0
  let v116_r0 : BitVec 1 := Scalar.ori v115_r0 v65_r0
  let v117_r0 : BitVec 32 := Scalar.extui v116_r0
  let c0_i32_87_r0 : BitVec 32 := 0#32
  let v118_r0 : BitVec 1 := Scalar.cmpi .ne v117_r0 c0_i32_87_r0
  v118_r0

def k0_off13 (i : grid0.Coords) (arg10_r0 : BitVec 32) : Fin 2 → Nat :=
  let c64_i32_103_r0 : BitVec 32 := 64#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v66_r0 : BitVec 32 := Scalar.addi arg10_r0 v4
  let v145_r0 : BitVec 32 := Scalar.muli c64_i32_103_r0 v66_r0
  let c0_i32_106_r0 : BitVec 32 := 0#32
  ![v145_r0.toNat, 0]
def k0_off14 (arg8_r0 : BitVec 32) : Fin 1 → Nat :=
  let c2_i32_102_r0 : BitVec 32 := 2#32
  let v144_r0 : BitVec 32 := Scalar.remui arg8_r0 c2_i32_102_r0
  ![v144_r0.toNat]
def k0_off15 (arg9_r0 : BitVec 32) : Fin 3 → Nat :=
  let c2_i32_102_r0 : BitVec 32 := 2#32
  let v144_r0 : BitVec 32 := Scalar.remui arg9_r0 c2_i32_102_r0
  let c0_i32_104_r0 : BitVec 32 := 0#32
  let c0_i32_105_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c67_i32_59_r0 : BitVec 32 := 67#32
  let v70_r0 : BitVec 32 := Scalar.select v69_r0 c67_i32_59_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_54_r0 : BitVec 32 := 0#32
  let v64_r0 : BitVec 1 := Scalar.cmpi .eq arg5_r0 c0_i32_54_r0
  let true_93_r0 : BitVec 1 := 1#1
  let v129_r0 : BitVec 1 := Scalar.xori v64_r0 true_93_r0
  let v130_r0 : BitVec 1 := Scalar.andi v128_r0 v129_r0
  let v131_r0 : BitVec 32 := Scalar.extui v130_r0
  let c0_i32_94_r0 : BitVec 32 := 0#32
  let v132_r0 : BitVec 1 := Scalar.cmpi .ne v131_r0 c0_i32_94_r0
  v132_r0

def k0_off16 (i : grid0.Coords) (arg10_r0 : BitVec 32) : Fin 2 → Nat :=
  let c64_i32_103_r0 : BitVec 32 := 64#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c67_i32_59_r0 : BitVec 32 := 67#32
  let v70_r0 : BitVec 32 := Scalar.select v69_r0 c67_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v71_r0 : BitVec 32 := Scalar.addi v70_r0 v4
  let v145_r0 : BitVec 32 := Scalar.muli c64_i32_103_r0 v71_r0
  let c0_i32_106_r0 : BitVec 32 := 0#32
  ![v145_r0.toNat, 0]
def k0_off17 (arg9_r0 : BitVec 32) : Fin 1 → Nat :=
  let c2_i32_102_r0 : BitVec 32 := 2#32
  let v144_r0 : BitVec 32 := Scalar.remui arg9_r0 c2_i32_102_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x64.size a ≤ S2x1x64.size a) ∧
  (∀ (k0_h1 : k0_cond1 i k0_t1 arg10_r0 = 1#1), ∀ a, (k0_off5 i arg10_r0) a + S1x64.size a ≤ S2176x64.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x64.size a ≤ S2x1x64.size a) ∧
  (∀ (k0_h2 : k0_cond2 i k0_t1 arg10_r0 = 1#1), ∀ a, (k0_off8 i arg10_r0) a + S1x64.size a ≤ S2176x64.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x64x512.size a ≤ S2x64x512.size a) ∧
  (∀ (k0_h5 : k0_cond5 i k0_t1 arg10_r0 = 1#1), ∀ a, (k0_off13 i arg10_r0) a + S64x512.size a ≤ S139264x512.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x64x512.size a ≤ S2x64x512.size a) ∧
  (∀ (k0_h7 : k0_cond7 i k0_t1 arg10_r0 = 1#1), ∀ a, (k0_off16 i arg10_r0) a + S64x512.size a ≤ S139264x512.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x64.size a ≤ S2x1x64.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x64.size a ≤ S2176x64.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x64.size a ≤ S2x1x64.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x64.size a ≤ S2176x64.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x64x512.size a ≤ S2x64x512.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S64x512.size a ≤ S139264x512.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x64x512.size a ≤ S2x64x512.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S64x512.size a ≤ S139264x512.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_47_r0 : BitVec 32 := 2#32
  let v54_r0 : BitVec 32 := Scalar.remui v33_3_r0 c2_i32_47_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c64_i32_r0 : BitVec 32 := 64#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c67_i32_34_r0 : BitVec 32 := 67#32
  let v37_r0 : BitVec 32 := Scalar.select v36_r0 c67_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c68_i32 : BitVec 32 := 68#32
  let v4 : BitVec 32 := Scalar.muli v3 c68_i32
  let v38_r0 : BitVec 32 := Scalar.addi v37_r0 v4
  let v55_r0 : BitVec 32 := Scalar.muli c64_i32_r0 v38_r0
  let c0_i32_50_r0 : BitVec 32 := 0#32
  ![v55_r0.toNat, 0]

def k0_chk5 (i : grid0.Coords) (v33_4_r0 : BitVec 32) : Prop :=
  (∀ a, (k0_off19 i v33_4_r0) a + S64x512.size a ≤ S139264x512.size a)
theorem k0_off19_inb : ∀ (i : grid0.Coords) (v33_4_r0 : BitVec 32) (k0_hw5 : k0_chk5 i v33_4_r0), ∀ a, (k0_off19 i v33_4_r0) a + S64x512.size a ≤ S139264x512.size a := fun i v33_4_r0 k0_hw5 => k0_hw5

def k0_off20 (v33_3_r0 : BitVec 32) : Fin 1 → Nat :=
  let c2_i32_47_r0 : BitVec 32 := 2#32
  let v54_r0 : BitVec 32 := Scalar.remui v33_3_r0 c2_i32_47_r0
  ![v54_r0.toNat]
def k0_off21 (v33_3_r0 : BitVec 32) : Fin 3 → Nat :=
  let c2_i32_47_r0 : BitVec 32 := 2#32
  let v54_r0 : BitVec 32 := Scalar.remui v33_3_r0 c2_i32_47_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x64x512.size a ≤ S2x64x512.size a) ∧
  (∀ a, (k0_off20 v33_3_r0) a + S1.size a ≤ S2.size a) ∧
  (∀ a, (k0_off21 v33_3_r0) a + S1x64x512.size a ≤ S2x64x512.size a)
theorem k0_off18_inb : ∀ (v33_3_r0 : BitVec 32) (k0_hw4 : k0_chk4 v33_3_r0), ∀ a, (k0_off18 v33_3_r0) a + S1x64x512.size a ≤ S2x64x512.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x64x512.size a ≤ S2x64x512.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S172032x512 : Shape := ⟨2, ![172032, 512]⟩
abbrev S4x34816 : Shape := ⟨2, ![4, 34816]⟩
abbrev S_ : Shape := ⟨0, ![]⟩
abbrev S4x34816x1 : Shape := ⟨3, ![4, 34816, 1]⟩
abbrev S4x34816x512 : Shape := ⟨3, ![4, 34816, 512]⟩

abbrev nBuf : Space → Nat
  | .hbm => 11
  | .vmem => 0
  | .smem => 0
  | _ => 0

abbrev bufTy : (tb : Table) → Fin (tcTables nBuf tb) → BufTy
  | .hbm, ⟨0, _⟩ => ⟨S172032x512, .i32⟩
  | .hbm, ⟨1, _⟩ => ⟨S4x34816, .i32⟩
  | .hbm, ⟨2, _⟩ => ⟨S_, .i32⟩
  | .hbm, ⟨3, _⟩ => ⟨S4x34816, .i32⟩
  | .hbm, ⟨4, _⟩ => ⟨S4x34816, .i1⟩
  | .hbm, ⟨5, _⟩ => ⟨S_, .i32⟩
  | .hbm, ⟨6, _⟩ => ⟨S4x34816, .i32⟩
  | .hbm, ⟨7, _⟩ => ⟨S4x34816, .i32⟩
  | .hbm, ⟨8, _⟩ => ⟨S4x34816, .i32⟩
  | .hbm, ⟨9, _⟩ => ⟨S4x34816x1, .i32⟩
  | .hbm, ⟨10, _⟩ => ⟨S4x34816x512, .i32⟩
  | _, _ => ⟨S172032x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Experts.lean ====
abbrev S168 : Shape := ⟨1, ![168]⟩
abbrev S172032x512 : Shape := ⟨2, ![172032, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S172032x1024 : Shape := ⟨2, ![172032, 1024]⟩
abbrev S1024x512 : Shape := ⟨2, ![1024, 512]⟩
abbrev S1x1024x2048 : Shape := ⟨3, ![1, 1024, 2048]⟩
abbrev S1 : Shape := ⟨1, ![1]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x1024 : Shape := ⟨2, ![1024, 1024]⟩
abbrev S512x1 : Shape := ⟨2, ![512, 1]⟩
abbrev S512x512 : Shape := ⟨2, ![512, 512]⟩
abbrev S512x1024 : Shape := ⟨2, ![512, 1024]⟩
abbrev S1x1024 : Shape := ⟨2, ![1, 1024]⟩
abbrev S1024x1 : Shape := ⟨2, ![1024, 1]⟩

abbrev nBuf : Space → Nat
  | .hbm => 8
  | .vmem => 12
  | .smem => 2
  | _ => 0

abbrev bufTy : (tb : Table) → Fin (tcTables nBuf tb) → BufTy
  | .hbm, ⟨0, _⟩ => ⟨S172032x512, .i32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S172032x1024, .bf16⟩
  | .local _ .vmem, ⟨0, _⟩ => ⟨S1024x512, .i32⟩
  | .local _ .vmem, ⟨1, _⟩ => ⟨S1024x512, .i32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .bf16⟩
  | .local _ .vmem, ⟨11, _⟩ => ⟨S1024x1024, .bf16⟩
  | .local _ .smem, ⟨0, _⟩ => ⟨S168, .i32⟩
  | .local _ .smem, ⟨1, _⟩ => ⟨S168, .i32⟩
  | _, _ => ⟨S172032x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![168], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .sgt v1 c0_i32_1
  let c512_i32 : BitVec 32 := 512#32
  let v6 : BitVec 1 := Scalar.cmpi .sle v1 c512_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (v1 : BitVec 32) : BitVec 1 :=
  let c512_i32_3 : BitVec 32 := 512#32
  let v10 : BitVec 1 := Scalar.cmpi .sgt v1 c512_i32_3
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsRefIdeal.lean ====
abbrev S168 : Shape := ⟨1, ![168]⟩
abbrev S172032x512 : Shape := ⟨2, ![172032, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S172032x1024 : Shape := ⟨2, ![172032, 1024]⟩
abbrev S168x1024x1024 : Shape := ⟨3, ![168, 1024, 1024]⟩
abbrev S168x1 : Shape := ⟨2, ![168, 1]⟩
abbrev S168x1024x2048 : Shape := ⟨3, ![168, 1024, 2048]⟩
abbrev S168x2048 : Shape := ⟨2, ![168, 2048]⟩
abbrev S168x1x2048 : Shape := ⟨3, ![168, 1, 2048]⟩
abbrev S168x1024 : Shape := ⟨2, ![168, 1024]⟩
abbrev S168x1x1024 : Shape := ⟨3, ![168, 1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S168, .i32⟩
  | .hbm, ⟨1, _⟩ => ⟨S168, .i32⟩
  | .hbm, ⟨2, _⟩ => ⟨S172032x512, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S_, .i32⟩
  | .hbm, ⟨8, _⟩ => ⟨S172032x512, .i32⟩
  | .hbm, ⟨9, _⟩ => ⟨S172032x512, .i32⟩
  | .hbm, ⟨10, _⟩ => ⟨S172032x512, .f32⟩
  | .hbm, ⟨11, _⟩ => ⟨S_, .i32⟩
  | .hbm, ⟨12, _⟩ => ⟨S172032x512, .i32⟩
  | .hbm, ⟨13, _⟩ => ⟨S172032x512, .i32⟩
  | .hbm, ⟨14, _⟩ => ⟨S172032x512, .f32⟩
  | .hbm, ⟨15, _⟩ => ⟨S172032x1024, .f32⟩
  | .hbm, ⟨16, _⟩ => ⟨S168x1024x1024, .f32⟩
  | .hbm, ⟨17, _⟩ => ⟨S_, .i32⟩
  | .hbm, ⟨18, _⟩ => ⟨S168, .i32⟩
  | .hbm, ⟨19, _⟩ => ⟨S168, .i1⟩
  | .hbm, ⟨20, _⟩ => ⟨S_, .i32⟩
  | .hbm, ⟨21, _⟩ => ⟨S168, .i32⟩
  | .hbm, ⟨22, _⟩ => ⟨S168, .i32⟩
  | .hbm, ⟨23, _⟩ => ⟨S168, .i32⟩
  | .hbm, ⟨24, _⟩ => ⟨S168x1, .i32⟩
  | .hbm, ⟨25, _⟩ => ⟨S168x1024x2048, .f32⟩
  | .hbm, ⟨26, _⟩ => ⟨S168x1024x2048, .f32⟩
  | .hbm, ⟨27, _⟩ => ⟨S_, .i32⟩
  | .hbm, ⟨28, _⟩ => ⟨S168, .i32⟩
  | .hbm, ⟨29, _⟩ => ⟨S168, .i1⟩
  | .hbm, ⟨30, _⟩ => ⟨S_, .i32⟩
  | .hbm, ⟨31, _⟩ => ⟨S168, .i32⟩
  | .hbm, ⟨32, _⟩ => ⟨S168, .i32⟩
  | .hbm, ⟨33, _⟩ => ⟨S168, .i32⟩
  | .hbm, ⟨34, _⟩ => ⟨S168x1, .i32⟩
  | .hbm, ⟨35, _⟩ => ⟨S168x2048, .f32⟩
  | .hbm, ⟨36, _⟩ => ⟨S168x1x2048, .f32⟩
  | .hbm, ⟨37, _⟩ => ⟨S168x1024x2048, .f32⟩
  | .hbm, ⟨38, _⟩ => ⟨S168x1024x2048, .f32⟩
  | .hbm, ⟨39, _⟩ => ⟨S168x1024x1024, .f32⟩
  | .hbm, ⟨40, _⟩ => ⟨S168x1024x1024, .f32⟩
  | .hbm, ⟨41, _⟩ => ⟨S_, .f32⟩
  | .hbm, ⟨42, _⟩ => ⟨S168x1024x1024, .f32⟩
  | .hbm, ⟨43, _⟩ => ⟨S168x1024x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S168x1024x1024, .f32⟩
  | .hbm, ⟨48, _⟩ => ⟨S168x1024x1024, .f32⟩
  | .hbm, ⟨49, _⟩ => ⟨S_, .f32⟩
  | .hbm, ⟨50, _⟩ => ⟨S168x1024x1024, .f32⟩
  | .hbm, ⟨51, _⟩ => ⟨S168x1024x1024, .f32⟩
  | .hbm, ⟨52, _⟩ => ⟨S_, .f32⟩
  | .hbm, ⟨53, _⟩ => ⟨S168x1024x1024, .f32⟩
  | .hbm, ⟨54, _⟩ => ⟨S168x1024x1024, .f32⟩
  | .hbm, ⟨55, _⟩ => ⟨S168x1024x1024, .f32⟩
  | .hbm, ⟨56, _⟩ => ⟨S168x1024x1024, .f32⟩
  | .hbm, ⟨57, _⟩ => ⟨S_, .f32⟩
  | .hbm, ⟨58, _⟩ => ⟨S168x1024x1024, .f32⟩
  | .hbm, ⟨59, _⟩ => ⟨S168x1024x1024, .f32⟩
  | .hbm, ⟨60, _⟩ => ⟨S_, .f32⟩
  | .hbm, ⟨61, _⟩ => ⟨S168x1024x1024, .f32⟩
  | .hbm, ⟨62, _⟩ => ⟨S168x1024x1024, .f32⟩
  | .hbm, ⟨63, _⟩ => ⟨S168x1024x1024, .f32⟩
  | .hbm, ⟨64, _⟩ => ⟨S_, .f32⟩
  | .hbm, ⟨65, _⟩ => ⟨S168x1024x1024, .f32⟩
  | .hbm, ⟨66, _⟩ => ⟨S168x1024x1024, .f32⟩
  | .hbm, ⟨67, _⟩ => ⟨S168x1024x1024, .f32⟩
  | .hbm, ⟨68, _⟩ => ⟨S_, .i32⟩
  | .hbm, ⟨69, _⟩ => ⟨S168, .i32⟩
  | .hbm, ⟨70, _⟩ => ⟨S168, .i1⟩
  | .hbm, ⟨71, _⟩ => ⟨S_, .i32⟩
  | .hbm, ⟨72, _⟩ => ⟨S168, .i32⟩
  | .hbm, ⟨73, _⟩ => ⟨S168, .i32⟩
  | .hbm, ⟨74, _⟩ => ⟨S168, .i32⟩
  | .hbm, ⟨75, _⟩ => ⟨S168x1, .i32⟩
  | .hbm, ⟨76, _⟩ => ⟨S168x1024x1024, .f32⟩
  | .hbm, ⟨77, _⟩ => ⟨S168x1024x1024, .f32⟩
  | .hbm, ⟨78, _⟩ => ⟨S_, .i32⟩
  | .hbm, ⟨79, _⟩ => ⟨S168, .i32⟩
  | .hbm, ⟨80, _⟩ => ⟨S168, .i1⟩
  | .hbm, ⟨81, _⟩ => ⟨S_, .i32⟩
  | .hbm, ⟨82, _⟩ => ⟨S168, .i32⟩
  | .hbm, ⟨83, _⟩ => ⟨S168, .i32⟩
  | .hbm, ⟨84, _⟩ => ⟨S168, .i32⟩
  | .hbm, ⟨85, _⟩ => ⟨S168x1, .i32⟩
  | .hbm, ⟨86, _⟩ => ⟨S168x1024, .f32⟩
  | .hbm, ⟨87, _⟩ => ⟨S168x1x1024, .f32⟩
  | .hbm, ⟨88, _⟩ => ⟨S168x1024x1024, .f32⟩
  | .hbm, ⟨89, _⟩ => ⟨S168x1024x1024, .f32⟩
  | .hbm, ⟨90, _⟩ => ⟨S172032x1024, .f32⟩
  | .hbm, ⟨91, _⟩ => ⟨S172032x1024, .bf16⟩
  | _, _ => ⟨S168, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_cst_6 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_13 : Ref sig .tc := ⟨.hbm, 78, rfl⟩
abbrev main_v51 : Ref sig .tc := ⟨.hbm, 79, rfl⟩
abbrev main_v52 : Ref sig .tc := ⟨.hbm, 80, rfl⟩
abbrev main_c_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩

abbrev nD : Nat := 1
abbrev τ : Topo := Topo.v7x

variable {F : FTy → Type} [FloatOps F]
-- ==== Inproj.lean ====
abbrev S32x2048x1024 : Shape := ⟨3, ![32, 2048, 1024]⟩
abbrev S32x1024 : Shape := ⟨2, ![32, 1024]⟩
abbrev S1024 : Shape := ⟨1, ![1024]⟩
abbrev S1024x2320 : Shape := ⟨2, ![1024, 2320]⟩
abbrev S2320 : Shape := ⟨1, ![2320]⟩
abbrev S32x3x1024 : Shape := ⟨3, ![32, 3, 1024]⟩
abbrev S4x1024 : Shape := ⟨2, ![4, 1024]⟩
abbrev S1024x1536 : Shape := ⟨2, ![1024, 1536]⟩
abbrev S1024x768 : Shape := ⟨2, ![1024, 768]⟩
abbrev S1024x16 : Shape := ⟨2, ![1024, 16]⟩
abbrev S_ : Shape := ⟨0, ![]⟩
abbrev S1024x112 : Shape := ⟨2, ![1024, 112]⟩
abbrev S1024x2432 : Shape := ⟨2, ![1024, 2432]⟩
abbrev S1536 : Shape := ⟨1, ![1536]⟩
abbrev S768 : Shape := ⟨1, ![768]⟩
abbrev S16 : Shape := ⟨1, ![16]⟩
abbrev S112 : Shape := ⟨1, ![112]⟩
abbrev S2432 : Shape := ⟨1, ![2432]⟩
abbrev S1x2432 : Shape := ⟨2, ![1, 2432]⟩
abbrev S32x5x1024 : Shape := ⟨3, ![32, 5, 1024]⟩
abbrev S32x8x1024 : Shape := ⟨3, ![32, 8, 1024]⟩
abbrev S32x1x1024 : Shape := ⟨3, ![32, 1, 1024]⟩
abbrev S1x1024 : Shape := ⟨2, ![1, 1024]⟩
abbrev S32x2048x512 : Shape := ⟨3, ![32, 2048, 512]⟩
abbrev S32x2048x128 : Shape := ⟨3, ![32, 2048, 128]⟩
abbrev S1x512x1024 : Shape := ⟨3, ![1, 512, 1024]⟩
abbrev S1x1x1024 : Shape := ⟨3, ![1, 1, 1024]⟩
abbrev S1x8x1024 : Shape := ⟨3, ![1, 8, 1024]⟩
abbrev S1x512x512 : Shape := ⟨3, ![1, 512, 512]⟩
abbrev S1x512x128 : Shape := ⟨3, ![1, 512, 128]⟩
abbrev S1x520x1024 : Shape := ⟨3, ![1, 520, 1024]⟩
abbrev S1x512 : Shape := ⟨2, ![1, 512]⟩
abbrev S1x512x1 : Shape := ⟨3, ![1, 512, 1]⟩
abbrev S512x1024 : Shape := ⟨2, ![512, 1024]⟩
abbrev S512x2432 : Shape := ⟨2, ![512, 2432]⟩
abbrev S512x512 : Shape := ⟨2, ![512, 512]⟩
abbrev S512x128 : Shape := ⟨2, ![512, 128]⟩

abbrev nBuf : Space → Nat
  | .hbm => 35
  | .vmem => 27
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S32x1024, .f32⟩
  | .hbm, ⟨3, _⟩ => ⟨S1024, .f32⟩
  | .hbm, ⟨4, _⟩ => ⟨S1024x2320, .f32⟩
  | .hbm, ⟨5, _⟩ => ⟨S2320, .f32⟩
  | .hbm, ⟨6, _⟩ => ⟨S32x3x1024, .f32⟩
  | .hbm, ⟨7, _⟩ => ⟨S4x1024, .f32⟩
  | .hbm, ⟨8, _⟩ => ⟨S1024x1536, .f32⟩
  | .hbm, ⟨9, _⟩ => ⟨S1024x768, .f32⟩
  | .hbm, ⟨10, _⟩ => ⟨S1024x16, .f32⟩
  | .hbm, ⟨11, _⟩ => ⟨S_, .f32⟩
  | .hbm, ⟨12, _⟩ => ⟨S1024x112, .f32⟩
  | .hbm, ⟨13, _⟩ => ⟨S1024x2432, .f32⟩
  | .hbm, ⟨14, _⟩ => ⟨S1024x2432, .bf16⟩
  | .hbm, ⟨15, _⟩ => ⟨S1536, .f32⟩
  | .hbm, ⟨16, _⟩ => ⟨S768, .f32⟩
  | .hbm, ⟨17, _⟩ => ⟨S16, .f32⟩
  | .hbm, ⟨18, _⟩ => ⟨S_, .f32⟩
  | .hbm, ⟨19, _⟩ => ⟨S112, .f32⟩
  | .hbm, ⟨20, _⟩ => ⟨S2432, .f32⟩
  | .hbm, ⟨21, _⟩ => ⟨S1x2432, .f32⟩
  | .hbm, ⟨22, _⟩ => ⟨S_, .f32⟩
  | .hbm, ⟨23, _⟩ => ⟨S32x5x1024, .f32⟩
  | .hbm, ⟨24, _⟩ => ⟨S32x8x1024, .f32⟩
  | .hbm, ⟨25, _⟩ => ⟨S32x1x1024, .f32⟩
  | .hbm, ⟨26, _⟩ => ⟨S32x1x1024, .f32⟩
  | .hbm, ⟨27, _⟩ => ⟨S1x1024, .f32⟩
  | .hbm, ⟨28, _⟩ => ⟨S32x2048x1024, .f32⟩
  | .hbm, ⟨29, _⟩ => ⟨S32x2048x512, .f32⟩
  | .hbm, ⟨30, _⟩ => ⟨S32x2048x512, .bf16⟩
  | .hbm, ⟨31, _⟩ => ⟨S32x2048x128, .f32⟩
  | .hbm, ⟨32, _⟩ => ⟨S32x2048x128, .f32⟩
  | .hbm, ⟨33, _⟩ => ⟨S32x2048x128, .f32⟩
  | .hbm, ⟨34, _⟩ => ⟨S32x8x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2432, .bf16⟩
  | .local _ .vmem, ⟨8, _⟩ => ⟨S1x2432, .f32⟩
  | .local _ .vmem, ⟨9, _⟩ => ⟨S1x8x1024, .f32⟩
  | .local _ .vmem, ⟨10, _⟩ => ⟨S1x8x1024, .f32⟩
  | .local _ .vmem, ⟨11, _⟩ => ⟨S4x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .bf16⟩
  | .local _ .vmem, ⟨17, _⟩ => ⟨S1x512x512, .bf16⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .vmem, ⟨21, _⟩ => ⟨S1x512x128, .f32⟩
  | .local _ .vmem, ⟨22, _⟩ => ⟨S1x512x128, .f32⟩
  | .local _ .vmem, ⟨23, _⟩ => ⟨S1x512x128, .f32⟩
  | .local _ .vmem, ⟨24, _⟩ => ⟨S1x8x1024, .f32⟩
  | .local _ .vmem, ⟨25, _⟩ => ⟨S1x8x1024, .f32⟩
  | .local _ .vmem, ⟨26, _⟩ => ⟨S1x520x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev main_v17_4 : Ref sig .tc := ⟨.hbm, 32, rfl⟩
abbrev main_v17_5 : Ref sig .tc := ⟨.hbm, 33, rfl⟩
abbrev main_v17_6 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== InprojRefIdeal.lean ====
abbrev S32x2048x1024 : Shape := ⟨3, ![32, 2048, 1024]⟩
abbrev S32x1024 : Shape := ⟨2, ![32, 1024]⟩
abbrev S1024 : Shape := ⟨1, ![1024]⟩
abbrev S1024x2320 : Shape := ⟨2, ![1024, 2320]⟩
abbrev S2320 : Shape := ⟨1, ![2320]⟩
abbrev S32x3x1024 : Shape := ⟨3, ![32, 3, 1024]⟩
abbrev S4x1024 : Shape := ⟨2, ![4, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x2048x2320 : Shape := ⟨3, ![32, 2048, 2320]⟩
abbrev S1x1x2320 : Shape := ⟨3, ![1, 1, 2320]⟩
abbrev S32x2048x512 : Shape := ⟨3, ![32, 2048, 512]⟩
abbrev S32x2048x16 : Shape := ⟨3, ![32, 2048, 16]⟩
abbrev S32x2048x128 : Shape := ⟨3, ![32, 2048, 128]⟩
abbrev S32x2051x1024 : Shape := ⟨3, ![32, 2051, 1024]⟩
abbrev S1x1024 : Shape := ⟨2, ![1, 1024]⟩
abbrev S32x2048x256 : Shape := ⟨3, ![32, 2048, 256]⟩
abbrev S32x2048x4x64 : Shape := ⟨4, ![32, 2048, 4, 64]⟩
abbrev S32x2048x4 : Shape := ⟨3, ![32, 2048, 4]⟩
abbrev S32x2048x4x1 : Shape := ⟨4, ![32, 2048, 4, 1]⟩
abbrev S32x8x1024 : Shape := ⟨3, ![32, 8, 1024]⟩

abbrev nBuf : Space → Nat
  | .hbm => 116
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1024, .f32⟩
  | .hbm, ⟨2, _⟩ => ⟨S32x1024, .f32⟩
  | .hbm, ⟨3, _⟩ => ⟨S1024, .f32⟩
  | .hbm, ⟨4, _⟩ => ⟨S1024x2320, .f32⟩
  | .hbm, ⟨5, _⟩ => ⟨S2320, .f32⟩
  | .hbm, ⟨6, _⟩ => ⟨S32x3x1024, .f32⟩
  | .hbm, ⟨7, _⟩ => ⟨S4x1024, .f32⟩
  | .hbm, ⟨8, _⟩ => ⟨S32x2048x1024, .f32⟩
  | .hbm, ⟨9, _⟩ => ⟨S_, .f32⟩
  | .hbm, ⟨10, _⟩ => ⟨S32x2048, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S32x2048x1, .f32⟩
  | .hbm, ⟨19, _⟩ => ⟨S32x2048x1024, .f32⟩
  | .hbm, ⟨20, _⟩ => ⟨S32x2048x1024, .f32⟩
  | .hbm, ⟨21, _⟩ => ⟨S1x1x1024, .f32⟩
  | .hbm, ⟨22, _⟩ => ⟨S32x2048x1024, .f32⟩
  | .hbm, ⟨23, _⟩ => ⟨S32x2048x1024, .f32⟩
  | .hbm, ⟨24, _⟩ => ⟨S32x1x1024, .f32⟩
  | .hbm, ⟨25, _⟩ => ⟨S_, .f32⟩
  | .hbm, ⟨26, _⟩ => ⟨S32x1x1024, .f32⟩
  | .hbm, ⟨27, _⟩ => ⟨S32x1x1024, .f32⟩
  | .hbm, ⟨28, _⟩ => ⟨S32x2048x1024, .f32⟩
  | .hbm, ⟨29, _⟩ => ⟨S32x2048x1024, .f32⟩
  | .hbm, ⟨30, _⟩ => ⟨S32x1x1024, .f32⟩
  | .hbm, ⟨31, _⟩ => ⟨S32x2048x1024, .f32⟩
  | .hbm, ⟨32, _⟩ => ⟨S32x2048x1024, .f32⟩
  | .hbm, ⟨33, _⟩ => ⟨S32x2048x2320, .f32⟩
  | .hbm, ⟨34, _⟩ => ⟨S1x1x2320, .f32⟩
  | .hbm, ⟨35, _⟩ => ⟨S32x2048x2320, .f32⟩
  | .hbm, ⟨36, _⟩ => ⟨S32x2048x2320, .f32⟩
  | .hbm, ⟨37, _⟩ => ⟨S32x2048x1024, .f32⟩
  | .hbm, ⟨38, _⟩ => ⟨S32x2048x512, .f32⟩
  | .hbm, ⟨39, _⟩ => ⟨S32x2048x16, .f32⟩
  | .hbm, ⟨40, _⟩ => ⟨S32x2048x512, .f32⟩
  | .hbm, ⟨41, _⟩ => ⟨S32x2048x128, .f32⟩
  | .hbm, ⟨42, _⟩ => ⟨S32x2048x128, .f32⟩
  | .hbm, ⟨43, _⟩ => ⟨S32x2051x1024, .f32⟩
  | .hbm, ⟨44, _⟩ => ⟨S32x2048x1024, .f32⟩
  | .hbm, ⟨45, _⟩ => ⟨S1x1024, .f32⟩
  | .hbm, ⟨46, _⟩ => ⟨S1024, .f32⟩
  | .hbm, ⟨47, _⟩ => ⟨S1x1x1024, .f32⟩
  | .hbm, ⟨48, _⟩ => ⟨S32x2048x1024, .f32⟩
  | .hbm, ⟨49, _⟩ => ⟨S32x2048x1024, .f32⟩
  | .hbm, ⟨50, _⟩ => ⟨S32x2048x1024, .f32⟩
  | .hbm, ⟨51, _⟩ => ⟨S1x1024, .f32⟩
  | .hbm, ⟨52, _⟩ => ⟨S1024, .f32⟩
  | .hbm, ⟨53, _⟩ => ⟨S1x1x1024, .f32⟩
  | .hbm, ⟨54, _⟩ => ⟨S32x2048x1024, .f32⟩
  | .hbm, ⟨55, _⟩ => ⟨S32x2048x1024, .f32⟩
  | .hbm, ⟨56, _⟩ => ⟨S32x2048x1024, .f32⟩
  | .hbm, ⟨57, _⟩ => ⟨S32x2048x1024, .f32⟩
  | .hbm, ⟨58, _⟩ => ⟨S1x1024, .f32⟩
  | .hbm, ⟨59, _⟩ => ⟨S1024, .f32⟩
  | .hbm, ⟨60, _⟩ => ⟨S1x1x1024, .f32⟩
  | .hbm, ⟨61, _⟩ => ⟨S32x2048x1024, .f32⟩
  | .hbm, ⟨62, _⟩ => ⟨S32x2048x1024, .f32⟩
  | .hbm, ⟨63, _⟩ => ⟨S32x2048x1024, .f32⟩
  | .hbm, ⟨64, _⟩ => ⟨S32x2048x1024, .f32⟩
  | .hbm, ⟨65, _⟩ => ⟨S1x1024, .f32⟩
  | .hbm, ⟨66, _⟩ => ⟨S1024, .f32⟩
  | .hbm, ⟨67, _⟩ => ⟨S1x1x1024, .f32⟩
  | .hbm, ⟨68, _⟩ => ⟨S32x2048x1024, .f32⟩
  | .hbm, ⟨69, _⟩ => ⟨S32x2048x1024, .f32⟩
  | .hbm, ⟨70, _⟩ => ⟨S32x2048x1024, .f32⟩
  | .hbm, ⟨71, _⟩ => ⟨S32x2048x1024, .f32⟩
  | .hbm, ⟨72, _⟩ => ⟨S32x2048x1024, .f32⟩
  | .hbm, ⟨73, _⟩ => ⟨S_, .f32⟩
  | .hbm, ⟨74, _⟩ => ⟨S32x2048x1024, .f32⟩
  | .hbm, ⟨75, _⟩ => ⟨S32x2048x1024, .f32⟩
  | .hbm, ⟨76, _⟩ => ⟨S_, .f32⟩
  | .hbm, ⟨77, _⟩ => ⟨S32x2048x1024, .f32⟩
  | .hbm, ⟨78, _⟩ => ⟨S32x2048x1024, .f32⟩
  | .hbm, ⟨79, _⟩ => ⟨S32x2048x1024, .f32⟩
  | .hbm, ⟨80, _⟩ => ⟨S32x2048x256, .f32⟩
  | .hbm, ⟨81, _⟩ => ⟨S32x2048x256, .f32⟩
  | .hbm, ⟨82, _⟩ => ⟨S32x2048x512, .f32⟩
  | .hbm, ⟨83, _⟩ => ⟨S32x2048x4x64, .f32⟩
  | .hbm, ⟨84, _⟩ => ⟨S32x2048x4x64, .f32⟩
  | .hbm, ⟨85, _⟩ => ⟨S32x2048x4x64, .f32⟩
  | .hbm, ⟨86, _⟩ => ⟨S_, .f32⟩
  | .hbm, ⟨87, _⟩ => ⟨S32x2048x4, .f32⟩
  | .hbm, ⟨88, _⟩ => ⟨S32x2048x4x1, .f32⟩
  | .hbm, ⟨89, _⟩ => ⟨S_, .f32⟩
  | .hbm, ⟨90, _⟩ => ⟨S32x2048x4x1, .f32⟩
  | .hbm, ⟨91, _⟩ => ⟨S32x2048x4x1, .f32⟩
  | .hbm, ⟨92, _⟩ => ⟨S32x2048x4x1, .f32⟩
  | .hbm, ⟨93, _⟩ => ⟨S32x2048x4x64, .f32⟩
  | .hbm, ⟨94, _⟩ => ⟨S32x2048x4x64, .f32⟩
  | .hbm, ⟨95, _⟩ => ⟨S_, .f32⟩
  | .hbm, ⟨96, _⟩ => ⟨S32x2048x4x64, .f32⟩
  | .hbm, ⟨97, _⟩ => ⟨S32x2048x4x64, .f32⟩
  | .hbm, ⟨98, _⟩ => ⟨S32x2048x4x64, .f32⟩
  | .hbm, ⟨99, _⟩ => ⟨S_, .f32⟩
  | .hbm, ⟨100, _⟩ => ⟨S32x2048x4, .f32⟩
  | .hbm, ⟨101, _⟩ => ⟨S32x2048x4x1, .f32⟩
  | .hbm, ⟨102, _⟩ => ⟨S_, .f32⟩
  | .hbm, ⟨103, _⟩ => ⟨S32x2048x4x1, .f32⟩
  | .hbm, ⟨104, _⟩ => ⟨S32x2048x4x1, .f32⟩
  | .hbm, ⟨105, _⟩ => ⟨S32x2048x4x1, .f32⟩
  | .hbm, ⟨106, _⟩ => ⟨S32x2048x4x64, .f32⟩
  | .hbm, ⟨107, _⟩ => ⟨S32x2048x4x64, .f32⟩
  | .hbm, ⟨108, _⟩ => ⟨S32x2048x256, .f32⟩
  | .hbm, ⟨109, _⟩ => ⟨S32x2048x256, .f32⟩
  | .hbm, ⟨110, _⟩ => ⟨S32x2048x1024, .f32⟩
  | .hbm, ⟨111, _⟩ => ⟨S_, .i32⟩
  | .hbm, ⟨112, _⟩ => ⟨S_, .f32⟩
  | .hbm, ⟨113, _⟩ => ⟨S32x2048x128, .f32⟩
  | .hbm, ⟨114, _⟩ => ⟨S32x2048x512, .bf16⟩
  | .hbm, ⟨115, _⟩ => ⟨S32x8x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_3 : Ref sig .tc := ⟨.hbm, 86, rfl⟩
abbrev main_v66 : Ref sig .tc := ⟨.hbm, 87, rfl⟩
abbrev main_v67 : Ref sig .tc := ⟨.hbm, 88, rfl⟩
abbrev main_cst_4 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_5 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_6 : Ref sig .tc := ⟨.hbm, 99, rfl⟩
abbrev main_v76 : Ref sig .tc := ⟨.hbm, 100, rfl⟩
abbrev main_v77 : Ref sig .tc := ⟨.hbm, 101, rfl⟩
abbrev main_cst_7 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_c : Ref sig .tc := ⟨.hbm, 111, rfl⟩
abbrev main_call1_v0 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩

abbrev nD : Nat := 1
abbrev τ : Topo := Topo.v7x

variable {F : FTy → Type} [FloatOps F]
-- ==== Outproj.lean ====
abbrev S32x2048x512 : Shape := ⟨3, ![32, 2048, 512]⟩
abbrev S32x2048x1024 : Shape := ⟨3, ![32, 2048, 1024]⟩
abbrev S32x1024 : Shape := ⟨2, ![32, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S512x1024 : Shape := ⟨2, ![512, 1024]⟩
abbrev S_ : Shape := ⟨0, ![]⟩
abbrev S1024x96 : Shape := ⟨2, ![1024, 96]⟩
abbrev S1024x128 : Shape := ⟨2, ![1024, 128]⟩
abbrev S96 : Shape := ⟨1, ![96]⟩
abbrev S128 : Shape := ⟨1, ![128]⟩
abbrev S1x128 : Shape := ⟨2, ![1, 128]⟩
abbrev S32x1x1024 : Shape := ⟨3, ![32, 1, 1024]⟩
abbrev S1x1024 : Shape := ⟨2, ![1, 1024]⟩
abbrev S16x2048x1024 : Shape := ⟨3, ![16, 2048, 1024]⟩
abbrev S32768x1024 : Shape := ⟨2, ![32768, 1024]⟩
abbrev S16x2048x128 : Shape := ⟨3, ![16, 2048, 128]⟩
abbrev S1x512x512 : Shape := ⟨3, ![1, 512, 512]⟩
abbrev S1x512x1024 : Shape := ⟨3, ![1, 512, 1024]⟩
abbrev S1x1x1024 : Shape := ⟨3, ![1, 1, 1024]⟩
abbrev S1x512x128 : Shape := ⟨3, ![1, 512, 128]⟩
abbrev S512x512 : Shape := ⟨2, ![512, 512]⟩
abbrev S1x512 : Shape := ⟨2, ![1, 512]⟩
abbrev S1x512x1 : Shape := ⟨3, ![1, 512, 1]⟩
abbrev S512x128 : Shape := ⟨2, ![512, 128]⟩
abbrev S512 : Shape := ⟨1, ![512]⟩
abbrev S512x1 : Shape := ⟨2, ![512, 1]⟩

abbrev nBuf : Space → Nat
  | .hbm => 33
  | .vmem => 28
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x1024, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S512x1024, .f32⟩
  | .hbm, ⟨12, _⟩ => ⟨S512x1024, .bf16⟩
  | .hbm, ⟨13, _⟩ => ⟨S512x1024, .f32⟩
  | .hbm, ⟨14, _⟩ => ⟨S512x1024, .bf16⟩
  | .hbm, ⟨15, _⟩ => ⟨S_, .f32⟩
  | .hbm, ⟨16, _⟩ => ⟨S1024x96, .f32⟩
  | .hbm, ⟨17, _⟩ => ⟨S1024x128, .f32⟩
  | .hbm, ⟨18, _⟩ => ⟨S_, .f32⟩
  | .hbm, ⟨19, _⟩ => ⟨S96, .f32⟩
  | .hbm, ⟨20, _⟩ => ⟨S128, .f32⟩
  | .hbm, ⟨21, _⟩ => ⟨S1x128, .f32⟩
  | .hbm, ⟨22, _⟩ => ⟨S32x1x1024, .f32⟩
  | .hbm, ⟨23, _⟩ => ⟨S32x1x1024, .f32⟩
  | .hbm, ⟨24, _⟩ => ⟨S32x1x1024, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x128, .f32⟩
  | .hbm, ⟨29, _⟩ => ⟨S16x2048x1024, .f32⟩
  | .hbm, ⟨30, _⟩ => ⟨S32768x1024, .bf16⟩
  | .hbm, ⟨31, _⟩ => ⟨S16x2048x128, .f32⟩
  | .hbm, ⟨32, _⟩ => ⟨S1x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | .local _ .vmem, ⟨16, _⟩ => ⟨S1024x128, .f32⟩
  | .local _ .vmem, ⟨17, _⟩ => ⟨S1x128, .f32⟩
  | .local _ .vmem, ⟨18, _⟩ => ⟨S1x128, .f32⟩
  | .local _ .vmem, ⟨19, _⟩ => ⟨S1x512x1024, .f32⟩
  | .local _ .vmem, ⟨20, _⟩ => ⟨S1x512x1024, .f32⟩
  | .local _ .vmem, ⟨21, _⟩ => ⟨S512x1024, .bf16⟩
  | .local _ .vmem, ⟨22, _⟩ => ⟨S512x1024, .bf16⟩
  | .local _ .vmem, ⟨23, _⟩ => ⟨S1x512x128, .f32⟩
  | .local _ .vmem, ⟨24, _⟩ => ⟨S1x512x128, .f32⟩
  | .local _ .vmem, ⟨25, _⟩ => ⟨S1x128, .f32⟩
  | .local _ .vmem, ⟨26, _⟩ => ⟨S1x128, .f32⟩
  | .local _ .vmem, ⟨27, _⟩ => ⟨S512x512, .bf16⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v15_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== OutprojRefIdeal.lean ====
abbrev S32x2048x512 : Shape := ⟨3, ![32, 2048, 512]⟩
abbrev S32x2048x1024 : Shape := ⟨3, ![32, 2048, 1024]⟩
abbrev S32x1024 : Shape := ⟨2, ![32, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1x1x1024 : Shape := ⟨3, ![1, 1, 1024]⟩
abbrev S32x1x1024 : Shape := ⟨3, ![32, 1, 1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S16x1024 : Shape := ⟨2, ![16, 1024]⟩
abbrev S16x1x1024 : Shape := ⟨3, ![16, 1, 1024]⟩
abbrev S32768x1024 : Shape := ⟨2, ![32768, 1024]⟩

abbrev nBuf : Space → Nat
  | .hbm => 51
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x1024, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S32x2048x1024, .bf16⟩
  | .hbm, ⟨12, _⟩ => ⟨S32x2048x1024, .f32⟩
  | .hbm, ⟨13, _⟩ => ⟨S32x2048x1024, .f32⟩
  | .hbm, ⟨14, _⟩ => ⟨S1x1x1024, .f32⟩
  | .hbm, ⟨15, _⟩ => ⟨S32x2048x1024, .f32⟩
  | .hbm, ⟨16, _⟩ => ⟨S32x2048x1024, .f32⟩
  | .hbm, ⟨17, _⟩ => ⟨S32x1x1024, .f32⟩
  | .hbm, ⟨18, _⟩ => ⟨S32x2048x1024, .f32⟩
  | .hbm, ⟨19, _⟩ => ⟨S32x2048x1024, .f32⟩
  | .hbm, ⟨20, _⟩ => ⟨S32x2048x1024, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x2048, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S_, .f32⟩
  | .hbm, ⟨30, _⟩ => ⟨S16x2048x1, .f32⟩
  | .hbm, ⟨31, _⟩ => ⟨S16x2048x1, .f32⟩
  | .hbm, ⟨32, _⟩ => ⟨S16x2048x1, .f32⟩
  | .hbm, ⟨33, _⟩ => ⟨S16x2048x1024, .f32⟩
  | .hbm, ⟨34, _⟩ => ⟨S16x2048x1024, .f32⟩
  | .hbm, ⟨35, _⟩ => ⟨S1x1x1024, .f32⟩
  | .hbm, ⟨36, _⟩ => ⟨S16x2048x1024, .f32⟩
  | .hbm, ⟨37, _⟩ => ⟨S16x2048x1024, .f32⟩
  | .hbm, ⟨38, _⟩ => ⟨S16x1024, .f32⟩
  | .hbm, ⟨39, _⟩ => ⟨S16x1x1024, .f32⟩
  | .hbm, ⟨40, _⟩ => ⟨S_, .f32⟩
  | .hbm, ⟨41, _⟩ => ⟨S16x1x1024, .f32⟩
  | .hbm, ⟨42, _⟩ => ⟨S16x1x1024, .f32⟩
  | .hbm, ⟨43, _⟩ => ⟨S16x2048x1024, .f32⟩
  | .hbm, ⟨44, _⟩ => ⟨S16x2048x1024, .f32⟩
  | .hbm, ⟨45, _⟩ => ⟨S16x1024, .f32⟩
  | .hbm, ⟨46, _⟩ => ⟨S16x1x1024, .f32⟩
  | .hbm, ⟨47, _⟩ => ⟨S16x2048x1024, .f32⟩
  | .hbm, ⟨48, _⟩ => ⟨S16x2048x1024, .f32⟩
  | .hbm, ⟨49, _⟩ => ⟨S32768x1024, .f32⟩
  | .hbm, ⟨50, _⟩ => ⟨S32768x1024, .bf16⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Swa.lean ====
abbrev S32x64x512 : Shape := ⟨3, ![32, 64, 512]⟩
abbrev S32x128x2x64 : Shape := ⟨4, ![32, 128, 2, 64]⟩
abbrev S32x64x128 : Shape := ⟨3, ![32, 64, 128]⟩
abbrev S8x64x192 : Shape := ⟨3, ![8, 64, 192]⟩
abbrev S8 : Shape := ⟨1, ![8]⟩
abbrev S32x128x128 : Shape := ⟨3, ![32, 128, 128]⟩
abbrev S32x192x128 : Shape := ⟨3, ![32, 192, 128]⟩
abbrev S8x64 : Shape := ⟨2, ![8, 64]⟩
abbrev S512 : Shape := ⟨1, ![512]⟩
abbrev S2x256x1 : Shape := ⟨3, ![2, 256, 1]⟩
abbrev S2x256x192 : Shape := ⟨3, ![2, 256, 192]⟩
abbrev S1x2x1x256x1x192 : Shape := ⟨6, ![1, 2, 1, 256, 1, 192]⟩
abbrev S1x2x1x256x1x1 : Shape := ⟨6, ![1, 2, 1, 256, 1, 1]⟩
abbrev S1x64x512 : Shape := ⟨3, ![1, 64, 512]⟩
abbrev S1x64x128 : Shape := ⟨3, ![1, 64, 128]⟩
abbrev S64x128 : Shape := ⟨2, ![64, 128]⟩
abbrev S192x128 : Shape := ⟨2, ![192, 128]⟩
abbrev S1x1x192 : Shape := ⟨3, ![1, 1, 192]⟩
abbrev S1x64x64 : Shape := ⟨3, ![1, 64, 64]⟩
abbrev S64x64 : Shape := ⟨2, ![64, 64]⟩
abbrev S256x64 : Shape := ⟨2, ![256, 64]⟩
abbrev S192x64 : Shape := ⟨2, ![192, 64]⟩
abbrev S1x256x64 : Shape := ⟨3, ![1, 256, 64]⟩
abbrev S2x256x64 : Shape := ⟨3, ![2, 256, 64]⟩
abbrev S1x192x64 : Shape := ⟨3, ![1, 192, 64]⟩
abbrev S2x192x64 : Shape := ⟨3, ![2, 192, 64]⟩
abbrev S2x1x192 : Shape := ⟨3, ![2, 1, 192]⟩
abbrev S2x256 : Shape := ⟨2, ![2, 256]⟩

abbrev nBuf : Space → Nat
  | .hbm => 22
  | .vmem => 18
  | .smem => 0
  | _ => 0

abbrev bufTy : (tb : Table) → Fin (tcTables nBuf tb) → BufTy
  | .hbm, ⟨0, _⟩ => ⟨S32x64x512, .bf16⟩
  | .hbm, ⟨1, _⟩ => ⟨S32x128x2x64, .f32⟩
  | .hbm, ⟨2, _⟩ => ⟨S32x128x2x64, .f32⟩
  | .hbm, ⟨3, _⟩ => ⟨S32x64x128, .f32⟩
  | .hbm, ⟨4, _⟩ => ⟨S32x64x128, .f32⟩
  | .hbm, ⟨5, _⟩ => ⟨S8x64x192, .f32⟩
  | .hbm, ⟨6, _⟩ => ⟨S8, .f32⟩
  | .hbm, ⟨7, _⟩ => ⟨S32x128x128, .f32⟩
  | .hbm, ⟨8, _⟩ => ⟨S32x192x128, .f32⟩
  | .hbm, ⟨9, _⟩ => ⟨S32x128x128, .f32⟩
  | .hbm, ⟨10, _⟩ => ⟨S32x192x128, .f32⟩
  | .hbm, ⟨11, _⟩ => ⟨S8x64, .f32⟩
  | .hbm, ⟨12, _⟩ => ⟨S512, .f32⟩
  | .hbm, ⟨13, _⟩ => ⟨S2x256x1, .f32⟩
  | .hbm, ⟨14, _⟩ => ⟨S2x256x192, .f32⟩
  | .hbm, ⟨15, _⟩ => ⟨S1x2x1x256x1x192, .f32⟩
  | .hbm, ⟨16, _⟩ => ⟨S1x2x1x256x1x192, .f32⟩
  | .hbm, ⟨17, _⟩ => ⟨S2x256x192, .f32⟩
  | .hbm, ⟨18, _⟩ => ⟨S1x2x1x256x1x1, .f32⟩
  | .hbm, ⟨19, _⟩ => ⟨S1x2x1x256x1x1, .f32⟩
  | .hbm, ⟨20, _⟩ => ⟨S2x256x1, .f32⟩
  | .hbm, ⟨21, _⟩ => ⟨S32x64x512, .bf16⟩
  | .local _ .vmem, ⟨0, _⟩ => ⟨S1x64x512, .bf16⟩
  | .local _ .vmem, ⟨1, _⟩ => ⟨S1x64x512, .bf16⟩
  | .local _ .vmem, ⟨2, _⟩ => ⟨S1x64x128, .f32⟩
  | .local _ .vmem, ⟨3, _⟩ => ⟨S1x64x128, .f32⟩
  | .local _ .vmem, ⟨4, _⟩ => ⟨S1x64x128, .f32⟩
  | .local _ .vmem, ⟨5, _⟩ => ⟨S1x64x128, .f32⟩
  | .local _ .vmem, ⟨6, _⟩ => ⟨S1x64x128, .f32⟩
  | .local _ .vmem, ⟨7, _⟩ => ⟨S1x64x128, .f32⟩
  | .local _ .vmem, ⟨8, _⟩ => ⟨S1x64x128, .f32⟩
  | .local _ .vmem, ⟨9, _⟩ => ⟨S1x64x128, .f32⟩
  | .local _ .vmem, ⟨10, _⟩ => ⟨S1x64x128, .f32⟩
  | .local _ .vmem, ⟨11, _⟩ => ⟨S1x64x128, .f32⟩
  | .local _ .vmem, ⟨12, _⟩ => ⟨S1x64x128, .f32⟩
  | .local _ .vmem, ⟨13, _⟩ => ⟨S1x64x128, .f32⟩
  | .local _ .vmem, ⟨14, _⟩ => ⟨S2x256x192, .f32⟩
  | .local _ .vmem, ⟨15, _⟩ => ⟨S2x256x1, .f32⟩
  | .local _ .vmem, ⟨16, _⟩ => ⟨S1x64x512, .bf16⟩
  | .local _ .vmem, ⟨17, _⟩ => ⟨S1x64x512, .bf16⟩
  | _, _ => ⟨S32x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  let v3 : BitVec 32 := Scalar.maxsi v2 c0_i32_1
  let c0_i32_2 : BitVec 32 := 0#32
  let c0_i32_3 : BitVec 32 := 0#32
  ![arg0.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c1_i32_0 : BitVec 32 := 1#32
  let v2 : BitVec 32 := Scalar.addi v1 c1_i32_0
  let c0_i32_1 : BitVec 32 := 0#32
  let v3 : BitVec 32 := Scalar.maxsi v2 c0_i32_1
  let c0_i32_2 : BitVec 32 := 0#32
  let c0_i32_3 : BitVec 32 := 0#32
  ![arg0.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c2_i32 : BitVec 32 := 2#32
  let v2 : BitVec 32 := Scalar.addi v1 c2_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  let v3 : BitVec 32 := Scalar.maxsi v2 c0_i32_1
  let c0_i32_2 : BitVec 32 := 0#32
  let c0_i32_3 : BitVec 32 := 0#32
  ![arg0.toNat, v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c1_i32_0 : BitVec 32 := 1#32
  let v2 : BitVec 32 := Scalar.addi v1 c1_i32_0
  let c0_i32_1 : BitVec 32 := 0#32
  let v3 : BitVec 32 := Scalar.maxsi v2 c0_i32_1
  let c0_i32_2 : BitVec 32 := 0#32
  let c0_i32_3 : BitVec 32 := 0#32
  ![arg0.toNat, v3.toNat, c0_i32_2.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c2_i32 : BitVec 32 := 2#32
  let v2 : BitVec 32 := Scalar.addi v1 c2_i32
  let c0_i32_0 : BitVec 32 := 0#32
  let v3 : BitVec 32 := Scalar.maxsi v2 c0_i32_0
  let c0_i32_1 : BitVec 32 := 0#32
  let c0_i32_2 : BitVec 32 := 0#32
  ![arg0.toNat, v3.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2x256x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SwaRefIdeal.lean ====
abbrev S32x64x512 : Shape := ⟨3, ![32, 64, 512]⟩
abbrev S32x128x2x64 : Shape := ⟨4, ![32, 128, 2, 64]⟩
abbrev S32x64x128 : Shape := ⟨3, ![32, 64, 128]⟩
abbrev S8x64x192 : Shape := ⟨3, ![8, 64, 192]⟩
abbrev S8 : Shape := ⟨1, ![8]⟩
abbrev S32x64x64 : Shape := ⟨3, ![32, 64, 64]⟩
abbrev S32x128x1x64 : Shape := ⟨4, ![32, 128, 1, 64]⟩
abbrev S32x128x64 : Shape := ⟨3, ![32, 128, 64]⟩
abbrev S32x192x64 : Shape := ⟨3, ![32, 192, 64]⟩
abbrev S32x64x192 : Shape := ⟨3, ![32, 64, 192]⟩
abbrev S_ : Shape := ⟨0, ![]⟩
abbrev S1x64x192 : Shape := ⟨3, ![1, 64, 192]⟩
abbrev S64x192 : Shape := ⟨2, ![64, 192]⟩
abbrev S32x64 : Shape := ⟨2, ![32, 64]⟩
abbrev S32x64x1 : Shape := ⟨3, ![32, 64, 1]⟩
abbrev S1 : Shape := ⟨1, ![1]⟩

abbrev nBuf : Space → Nat
  | .hbm => 330
  | .vmem => 0
  | .smem => 0
  | _ => 0

abbrev hbmTy0_0 (i : Nat) : BufTy := match i % 128 with
  | 0 => ⟨S32x64x512, .bf16⟩
  | 1 => ⟨S32x128x2x64, .f32⟩
  | 2 => ⟨S32x128x2x64, .f32⟩
  | 3 => ⟨S32x64x128, .f32⟩
  | 4 => ⟨S32x64x128, .f32⟩
  | 5 => ⟨S8x64x192, .f32⟩
  | 6 => ⟨S8, .f32⟩
  | 7 => ⟨S32x64x512, .f32⟩
  | 8 => ⟨S32x64x64, .f32⟩
  | 9 => ⟨S32x128x1x64, .f32⟩
  | 10 => ⟨S32x128x64, .f32⟩
  | 11 => ⟨S32x64x64, .f32⟩
  | 12 => ⟨S32x192x64, .f32⟩
  | 13 => ⟨S32x128x1x64, .f32⟩
  | 14 => ⟨S32x128x64, .f32⟩
  | 15 => ⟨S32x64x64, .f32⟩
  | 16 => ⟨S32x192x64, .f32⟩
  | 17 => ⟨S32x64x192, .f32⟩
  | 18 => ⟨S_, .f32⟩
  | 19 => ⟨S32x64x192, .f32⟩
  | 20 => ⟨S32x64x192, .f32⟩
  | 21 => ⟨S1x64x192, .f32⟩
  | 22 => ⟨S64x192, .f32⟩
  | 23 => ⟨S1x64x192, .f32⟩
  | 24 => ⟨S32x64x192, .f32⟩
  | 25 => ⟨S32x64x192, .f32⟩
  | 26 => ⟨S_, .f32⟩
  | 27 => ⟨S32x64, .f32⟩
  | 28 => ⟨S32x64x1, .f32⟩
  | 29 => ⟨S1, .f32⟩
  | 30 => ⟨S_, .f32⟩
  | 31 => ⟨S32x64x1, .f32⟩
  | 32 => ⟨S32x64x1, .f32⟩
  | 33 => ⟨S32x64x192, .f32⟩
  | 34 => ⟨S32x64x192, .f32⟩
  | 35 => ⟨S32x64x192, .f32⟩
  | 36 => ⟨S32x64x64, .f32⟩
  | 37 => ⟨S_, .f32⟩
  | 38 => ⟨S32x64, .f32⟩
  | 39 => ⟨S32x64x1, .f32⟩
  | 40 => ⟨S1, .f32⟩
  | 41 => ⟨S_, .f32⟩
  | 42 => ⟨S32x64x1, .f32⟩
  | 43 => ⟨S32x64x1, .f32⟩
  | 44 => ⟨S32x64x1, .f32⟩
  | 45 => ⟨S32x64x1, .f32⟩
  | 46 => ⟨S32x64x64, .f32⟩
  | 47 => ⟨S32x64x64, .f32⟩
  | 48 => ⟨S32x64x64, .f32⟩
  | 49 => ⟨S32x128x1x64, .f32⟩
  | 50 => ⟨S32x128x64, .f32⟩
  | 51 => ⟨S32x64x64, .f32⟩
  | 52 => ⟨S32x192x64, .f32⟩
  | 53 => ⟨S32x128x1x64, .f32⟩
  | 54 => ⟨S32x128x64, .f32⟩
  | 55 => ⟨S32x64x64, .f32⟩
  | 56 => ⟨S32x192x64, .f32⟩
  | 57 => ⟨S32x64x192, .f32⟩
  | 58 => ⟨S_, .f32⟩
  | 59 => ⟨S32x64x192, .f32⟩
  | 60 => ⟨S32x64x192, .f32⟩
  | 61 => ⟨S1x64x192, .f32⟩
  | 62 => ⟨S64x192, .f32⟩
  | 63 => ⟨S1x64x192, .f32⟩
  | 64 => ⟨S32x64x192, .f32⟩
  | 65 => ⟨S32x64x192, .f32⟩
  | 66 => ⟨S_, .f32⟩
  | 67 => ⟨S32x64, .f32⟩
  | 68 => ⟨S32x64x1, .f32⟩
  | 69 => ⟨S1, .f32⟩
  | 70 => ⟨S_, .f32⟩
  | 71 => ⟨S32x64x1, .f32⟩
  | 72 => ⟨S32x64x1, .f32⟩
  | 73 => ⟨S32x64x192, .f32⟩
  | 74 => ⟨S32x64x192, .f32⟩
  | 75 => ⟨S32x64x192, .f32⟩
  | 76 => ⟨S32x64x64, .f32⟩
  | 77 => ⟨S_, .f32⟩
  | 78 => ⟨S32x64, .f32⟩
  | 79 => ⟨S32x64x1, .f32⟩
  | 80 => ⟨S1, .f32⟩
  | 81 => ⟨S_, .f32⟩
  | 82 => ⟨S32x64x1, .f32⟩
  | 83 => ⟨S32x64x1, .f32⟩
  | 84 => ⟨S32x64x1, .f32⟩
  | 85 => ⟨S32x64x1, .f32⟩
  | 86 => ⟨S32x64x64, .f32⟩
  | 87 => ⟨S32x64x64, .f32⟩
  | 88 => ⟨S32x64x64, .f32⟩
  | 89 => ⟨S32x128x1x64, .f32⟩
  | 90 => ⟨S32x128x64, .f32⟩
  | 91 => ⟨S32x64x64, .f32⟩
  | 92 => ⟨S32x192x64, .f32⟩
  | 93 => ⟨S32x128x1x64, .f32⟩
  | 94 => ⟨S32x128x64, .f32⟩
  | 95 => ⟨S32x64x64, .f32⟩
  | 96 => ⟨S32x192x64, .f32⟩
  | 97 => ⟨S32x64x192, .f32⟩
  | 98 => ⟨S_, .f32⟩
  | 99 => ⟨S32x64x192, .f32⟩
  | 100 => ⟨S32x64x192, .f32⟩
  | 101 => ⟨S1x64x192, .f32⟩
  | 102 => ⟨S64x192, .f32⟩
  | 103 => ⟨S1x64x192, .f32⟩
  | 104 => ⟨S32x64x192, .f32⟩
  | 105 => ⟨S32x64x192, .f32⟩
  | 106 => ⟨S_, .f32⟩
  | 107 => ⟨S32x64, .f32⟩
  | 108 => ⟨S32x64x1, .f32⟩
  | 109 => ⟨S1, .f32⟩
  | 110 => ⟨S_, .f32⟩
  | 111 => ⟨S32x64x1, .f32⟩
  | 112 => ⟨S32x64x1, .f32⟩
  | 113 => ⟨S32x64x192, .f32⟩
  | 114 => ⟨S32x64x192, .f32⟩
  | 115 => ⟨S32x64x192, .f32⟩
  | 116 => ⟨S32x64x64, .f32⟩
  | 117 => ⟨S_, .f32⟩
  | 118 => ⟨S32x64, .f32⟩
  | 119 => ⟨S32x64x1, .f32⟩
  | 120 => ⟨S1, .f32⟩
  | 121 => ⟨S_, .f32⟩
  | 122 => ⟨S32x64x1, .f32⟩
  | 123 => ⟨S32x64x1, .f32⟩
  | 124 => ⟨S32x64x1, .f32⟩
  | 125 => ⟨S32x64x1, .f32⟩
  | 126 => ⟨S32x64x64, .f32⟩
  | 127 => ⟨S32x64x64, .f32⟩
  | _ => ⟨S32x64x512, .bf16⟩

abbrev hbmTy0_1 (i : Nat) : BufTy := match i % 128 with
  | 0 => ⟨S32x64x64, .f32⟩
  | 1 => ⟨S32x128x1x64, .f32⟩
  | 2 => ⟨S32x128x64, .f32⟩
  | 3 => ⟨S32x64x64, .f32⟩
  | 4 => ⟨S32x192x64, .f32⟩
  | 5 => ⟨S32x128x1x64, .f32⟩
  | 6 => ⟨S32x128x64, .f32⟩
  | 7 => ⟨S32x64x64, .f32⟩
  | 8 => ⟨S32x192x64, .f32⟩
  | 9 => ⟨S32x64x192, .f32⟩
  | 10 => ⟨S_, .f32⟩
  | 11 => ⟨S32x64x192, .f32⟩
  | 12 => ⟨S32x64x192, .f32⟩
  | 13 => ⟨S1x64x192, .f32⟩
  | 14 => ⟨S64x192, .f32⟩
  | 15 => ⟨S1x64x192, .f32⟩
  | 16 => ⟨S32x64x192, .f32⟩
  | 17 => ⟨S32x64x192, .f32⟩
  | 18 => ⟨S_, .f32⟩
  | 19 => ⟨S32x64, .f32⟩
  | 20 => ⟨S32x64x1, .f32⟩
  | 21 => ⟨S1, .f32⟩
  | 22 => ⟨S_, .f32⟩
  | 23 => ⟨S32x64x1, .f32⟩
  | 24 => ⟨S32x64x1, .f32⟩
  | 25 => ⟨S32x64x192, .f32⟩
  | 26 => ⟨S32x64x192, .f32⟩
  | 27 => ⟨S32x64x192, .f32⟩
  | 28 => ⟨S32x64x64, .f32⟩
  | 29 => ⟨S_, .f32⟩
  | 30 => ⟨S32x64, .f32⟩
  | 31 => ⟨S32x64x1, .f32⟩
  | 32 => ⟨S1, .f32⟩
  | 33 => ⟨S_, .f32⟩
  | 34 => ⟨S32x64x1, .f32⟩
  | 35 => ⟨S32x64x1, .f32⟩
  | 36 => ⟨S32x64x1, .f32⟩
  | 37 => ⟨S32x64x1, .f32⟩
  | 38 => ⟨S32x64x64, .f32⟩
  | 39 => ⟨S32x64x64, .f32⟩
  | 40 => ⟨S32x64x64, .f32⟩
  | 41 => ⟨S32x128x1x64, .f32⟩
  | 42 => ⟨S32x128x64, .f32⟩
  | 43 => ⟨S32x64x64, .f32⟩
  | 44 => ⟨S32x192x64, .f32⟩
  | 45 => ⟨S32x128x1x64, .f32⟩
  | 46 => ⟨S32x128x64, .f32⟩
  | 47 => ⟨S32x64x64, .f32⟩
  | 48 => ⟨S32x192x64, .f32⟩
  | 49 => ⟨S32x64x192, .f32⟩
  | 50 => ⟨S_, .f32⟩
  | 51 => ⟨S32x64x192, .f32⟩
  | 52 => ⟨S32x64x192, .f32⟩
  | 53 => ⟨S1x64x192, .f32⟩
  | 54 => ⟨S64x192, .f32⟩
  | 55 => ⟨S1x64x192, .f32⟩
  | 56 => ⟨S32x64x192, .f32⟩
  | 57 => ⟨S32x64x192, .f32⟩
  | 58 => ⟨S_, .f32⟩
  | 59 => ⟨S32x64, .f32⟩
  | 60 => ⟨S32x64x1, .f32⟩
  | 61 => ⟨S1, .f32⟩
  | 62 => ⟨S_, .f32⟩
  | 63 => ⟨S32x64x1, .f32⟩
  | 64 => ⟨S32x64x1, .f32⟩
  | 65 => ⟨S32x64x192, .f32⟩
  | 66 => ⟨S32x64x192, .f32⟩
  | 67 => ⟨S32x64x192, .f32⟩
  | 68 => ⟨S32x64x64, .f32⟩
  | 69 => ⟨S_, .f32⟩
  | 70 => ⟨S32x64, .f32⟩
  | 71 => ⟨S32x64x1, .f32⟩
  | 72 => ⟨S1, .f32⟩
  | 73 => ⟨S_, .f32⟩
  | 74 => ⟨S32x64x1, .f32⟩
  | 75 => ⟨S32x64x1, .f32⟩
  | 76 => ⟨S32x64x1, .f32⟩
  | 77 => ⟨S32x64x1, .f32⟩
  | 78 => ⟨S32x64x64, .f32⟩
  | 79 => ⟨S32x64x64, .f32⟩
  | 80 => ⟨S32x64x64, .f32⟩
  | 81 => ⟨S32x128x1x64, .f32⟩
  | 82 => ⟨S32x128x64, .f32⟩
  | 83 => ⟨S32x64x64, .f32⟩
  | 84 => ⟨S32x192x64, .f32⟩
  | 85 => ⟨S32x128x1x64, .f32⟩
  | 86 => ⟨S32x128x64, .f32⟩
  | 87 => ⟨S32x64x64, .f32⟩
  | 88 => ⟨S32x192x64, .f32⟩
  | 89 => ⟨S32x64x192, .f32⟩
  | 90 => ⟨S_, .f32⟩
  | 91 => ⟨S32x64x192, .f32⟩
  | 92 => ⟨S32x64x192, .f32⟩
  | 93 => ⟨S1x64x192, .f32⟩
  | 94 => ⟨S64x192, .f32⟩
  | 95 => ⟨S1x64x192, .f32⟩
  | 96 => ⟨S32x64x192, .f32⟩
  | 97 => ⟨S32x64x192, .f32⟩
  | 98 => ⟨S_, .f32⟩
  | 99 => ⟨S32x64, .f32⟩
  | 100 => ⟨S32x64x1, .f32⟩
  | 101 => ⟨S1, .f32⟩
  | 102 => ⟨S_, .f32⟩
  | 103 => ⟨S32x64x1, .f32⟩
  | 104 => ⟨S32x64x1, .f32⟩
  | 105 => ⟨S32x64x192, .f32⟩
  | 106 => ⟨S32x64x192, .f32⟩
  | 107 => ⟨S32x64x192, .f32⟩
  | 108 => ⟨S32x64x64, .f32⟩
  | 109 => ⟨S_, .f32⟩
  | 110 => ⟨S32x64, .f32⟩
  | 111 => ⟨S32x64x1, .f32⟩
  | 112 => ⟨S1, .f32⟩
  | 113 => ⟨S_, .f32⟩
  | 114 => ⟨S32x64x1, .f32⟩
  | 115 => ⟨S32x64x1, .f32⟩
  | 116 => ⟨S32x64x1, .f32⟩
  | 117 => ⟨S32x64x1, .f32⟩
  | 118 => ⟨S32x64x64, .f32⟩
  | 119 => ⟨S32x64x64, .f32⟩
  | 120 => ⟨S32x64x64, .f32⟩
  | 121 => ⟨S32x128x1x64, .f32⟩
  | 122 => ⟨S32x128x64, .f32⟩
  | 123 => ⟨S32x64x64, .f32⟩
  | 124 => ⟨S32x192x64, .f32⟩
  | 125 => ⟨S32x128x1x64, .f32⟩
  | 126 => ⟨S32x128x64, .f32⟩
  | 127 => ⟨S32x64x64, .f32⟩
  | _ => ⟨S32x64x512, .bf16⟩

abbrev hbmTy0_2 (i : Nat) : BufTy := match i % 128 with
  | 0 => ⟨S32x192x64, .f32⟩
  | 1 => ⟨S32x64x192, .f32⟩
  | 2 => ⟨S_, .f32⟩
  | 3 => ⟨S32x64x192, .f32⟩
  | 4 => ⟨S32x64x192, .f32⟩
  | 5 => ⟨S1x64x192, .f32⟩
  | 6 => ⟨S64x192, .f32⟩
  | 7 => ⟨S1x64x192, .f32⟩
  | 8 => ⟨S32x64x192, .f32⟩
  | 9 => ⟨S32x64x192, .f32⟩
  | 10 => ⟨S_, .f32⟩
  | 11 => ⟨S32x64, .f32⟩
  | 12 => ⟨S32x64x1, .f32⟩
  | 13 => ⟨S1, .f32⟩
  | 14 => ⟨S_, .f32⟩
  | 15 => ⟨S32x64x1, .f32⟩
  | 16 => ⟨S32x64x1, .f32⟩
  | 17 => ⟨S32x64x192, .f32⟩
  | 18 => ⟨S32x64x192, .f32⟩
  | 19 => ⟨S32x64x192, .f32⟩
  | 20 => ⟨S32x64x64, .f32⟩
  | 21 => ⟨S_, .f32⟩
  | 22 => ⟨S32x64, .f32⟩
  | 23 => ⟨S32x64x1, .f32⟩
  | 24 => ⟨S1, .f32⟩
  | 25 => ⟨S_, .f32⟩
  | 26 => ⟨S32x64x1, .f32⟩
  | 27 => ⟨S32x64x1, .f32⟩
  | 28 => ⟨S32x64x1, .f32⟩
  | 29 => ⟨S32x64x1, .f32⟩
  | 30 => ⟨S32x64x64, .f32⟩
  | 31 => ⟨S32x64x64, .f32⟩
  | 32 => ⟨S32x64x64, .f32⟩
  | 33 => ⟨S32x128x1x64, .f32⟩
  | 34 => ⟨S32x128x64, .f32⟩
  | 35 => ⟨S32x64x64, .f32⟩
  | 36 => ⟨S32x192x64, .f32⟩
  | 37 => ⟨S32x128x1x64, .f32⟩
  | 38 => ⟨S32x128x64, .f32⟩
  | 39 => ⟨S32x64x64, .f32⟩
  | 40 => ⟨S32x192x64, .f32⟩
  | 41 => ⟨S32x64x192, .f32⟩
  | 42 => ⟨S_, .f32⟩
  | 43 => ⟨S32x64x192, .f32⟩
  | 44 => ⟨S32x64x192, .f32⟩
  | 45 => ⟨S1x64x192, .f32⟩
  | 46 => ⟨S64x192, .f32⟩
  | 47 => ⟨S1x64x192, .f32⟩
  | 48 => ⟨S32x64x192, .f32⟩
  | 49 => ⟨S32x64x192, .f32⟩
  | 50 => ⟨S_, .f32⟩
  | 51 => ⟨S32x64, .f32⟩
  | 52 => ⟨S32x64x1, .f32⟩
  | 53 => ⟨S1, .f32⟩
  | 54 => ⟨S_, .f32⟩
  | 55 => ⟨S32x64x1, .f32⟩
  | 56 => ⟨S32x64x1, .f32⟩
  | 57 => ⟨S32x64x192, .f32⟩
  | 58 => ⟨S32x64x192, .f32⟩
  | 59 => ⟨S32x64x192, .f32⟩
  | 60 => ⟨S32x64x64, .f32⟩
  | 61 => ⟨S_, .f32⟩
  | 62 => ⟨S32x64, .f32⟩
  | 63 => ⟨S32x64x1, .f32⟩
  | 64 => ⟨S1, .f32⟩
  | 65 => ⟨S_, .f32⟩
  | 66 => ⟨S32x64x1, .f32⟩
  | 67 => ⟨S32x64x1, .f32⟩
  | 68 => ⟨S32x64x1, .f32⟩
  | 69 => ⟨S32x64x1, .f32⟩
  | 70 => ⟨S32x64x64, .f32⟩
  | 71 => ⟨S32x64x64, .f32⟩
  | 72 => ⟨S32x64x512, .f32⟩
  | 73 => ⟨S32x64x512, .bf16⟩
  | _ => ⟨S32x64x512, .bf16⟩

abbrev hbmTy (i : Nat) : BufTy := match i / 128 with
  | 0 => hbmTy0_0 i
  | 1 => hbmTy0_1 i
  | 2 => hbmTy0_2 i
  | _ => ⟨S32x64x512, .bf16⟩

abbrev bufTy : (tb : Table) → Fin (tcTables nBuf tb) → BufTy
  | .hbm, ⟨i, _⟩ => hbmTy i
  | _, _ => ⟨S32x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_2 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_3 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_4 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_cst_5 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_cst_6 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_cst_7 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_cst_8 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_cst_9 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_cst_10 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_cst_11 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_cst_12 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_cst_13 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_cst_14 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_cst_15 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_cst_16 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_cst_17 : Ref sig .tc := ⟨.hbm, 258, rfl⟩
abbrev main_v233 : Ref sig .tc := ⟨.hbm, 259, rfl⟩
abbrev main_v234 : Ref sig .tc := ⟨.hbm, 260, rfl⟩
abbrev main_v235 : Ref sig .tc := ⟨.hbm, 261, rfl⟩
abbrev main_v236 : Ref sig .tc := ⟨.hbm, 262, rfl⟩
abbrev main_v237 : Ref sig .tc := ⟨.hbm, 263, rfl⟩
abbrev main_v238 : Ref sig .tc := ⟨.hbm, 264, rfl⟩
abbrev main_v239 : Ref sig .tc := ⟨.hbm, 265, rfl⟩
abbrev main_cst_18 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_v248 : Ref sig .tc := ⟨.hbm, 275, rfl⟩
abbrev main_v249 : Ref sig .tc := ⟨.hbm, 276, rfl⟩
abbrev main_cst_19 : Ref sig .tc := ⟨.hbm, 277, rfl⟩
abbrev main_v250 : Ref sig .tc := ⟨.hbm, 278, rfl⟩
abbrev main_v251 : Ref sig .tc := ⟨.hbm, 279, rfl⟩
abbrev main_v252 : Ref sig .tc := ⟨.hbm, 280, rfl⟩
abbrev main_v253 : Ref sig .tc := ⟨.hbm, 281, rfl⟩
abbrev main_v254 : Ref sig .tc := ⟨.hbm, 282, rfl⟩
abbrev main_v255 : Ref sig .tc := ⟨.hbm, 283, rfl⟩
abbrev main_v256 : Ref sig .tc := ⟨.hbm, 284, rfl⟩
abbrev main_v257 : Ref sig .tc := ⟨.hbm, 285, rfl⟩
abbrev main_v258 : Ref sig .tc := ⟨.hbm, 286, rfl⟩
abbrev main_v259 : Ref sig .tc := ⟨.hbm, 287, rfl⟩
abbrev main_v260 : Ref sig .tc := ⟨.hbm, 288, rfl⟩
abbrev main_v261 : Ref sig .tc := ⟨.hbm, 289, rfl⟩
abbrev main_v262 : Ref sig .tc := ⟨.hbm, 290, rfl⟩
abbrev main_v263 : Ref sig .tc := ⟨.hbm, 291, rfl⟩
abbrev main_v264 : Ref sig .tc := ⟨.hbm, 292, rfl⟩
abbrev main_v265 : Ref sig .tc := ⟨.hbm, 293, rfl⟩
abbrev main_v266 : Ref sig .tc := ⟨.hbm, 294, rfl⟩
abbrev main_v267 : Ref sig .tc := ⟨.hbm, 295, rfl⟩
abbrev main_v268 : Ref sig .tc := ⟨.hbm, 296, rfl⟩
abbrev main_v269 : Ref sig .tc := ⟨.hbm, 297, rfl⟩
abbrev main_cst_20 : Ref sig .tc := ⟨.hbm, 298, rfl⟩
abbrev main_v270 : Ref sig .tc := ⟨.hbm, 299, rfl⟩
abbrev main_v271 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_cst_21 : Ref sig .tc := ⟨.hbm, 306, rfl⟩
abbrev main_v277 : Ref sig .tc := ⟨.hbm, 307, rfl⟩
abbrev main_v278 : Ref sig .tc := ⟨.hbm, 308, rfl⟩
abbrev main_v279 : Ref sig .tc := ⟨.hbm, 309, rfl⟩
abbrev main_v280 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩
abbrev main_v284 : Ref sig .tc := ⟨.hbm, 314, rfl⟩
abbrev main_v285 : Ref sig .tc := ⟨.hbm, 315, rfl⟩
abbrev main_v286 : Ref sig .tc := ⟨.hbm, 316, rfl⟩
abbrev main_cst_22 : Ref sig .tc := ⟨.hbm, 317, rfl⟩
abbrev main_v287 : Ref sig .tc := ⟨.hbm, 318, rfl⟩
abbrev main_v288 : Ref sig .tc := ⟨.hbm, 319, rfl⟩
abbrev main_v289 : Ref sig .tc := ⟨.hbm, 320, rfl⟩
abbrev main_v290 : Ref sig .tc := ⟨.hbm, 321, rfl⟩
abbrev main_v291 : Ref sig .tc := ⟨.hbm, 322, rfl⟩
abbrev main_v292 : Ref sig .tc := ⟨.hbm, 323, rfl⟩
abbrev main_v293 : Ref sig .tc := ⟨.hbm, 324, rfl⟩
abbrev main_v294 : Ref sig .tc := ⟨.hbm, 325, rfl⟩
abbrev main_v295 : Ref sig .tc := ⟨.hbm, 326, rfl⟩
abbrev main_v296 : Ref sig .tc := ⟨.hbm, 327, rfl⟩
abbrev main_v297 : Ref sig .tc := ⟨.hbm, 328, rfl⟩
abbrev main_v298 : Ref sig .tc := ⟨.hbm, 329, rfl⟩

abbrev nD : Nat := 1
abbrev τ : Topo := Topo.v7x

variable {F : FTy → Type} [FloatOps F]
-- ==== Final.lean ====
abbrev S32x64x1024 : Shape := ⟨3, ![32, 64, 1024]⟩
abbrev S4x34816x512 : Shape := ⟨3, ![4, 34816, 512]⟩
abbrev S32x64x128 : Shape := ⟨3, ![32, 64, 128]⟩
abbrev S32x1024 : Shape := ⟨2, ![32, 1024]⟩
abbrev S1024 : Shape := ⟨1, ![1024]⟩
abbrev S32x1x1024 : Shape := ⟨3, ![32, 1, 1024]⟩
abbrev S1x1024 : Shape := ⟨2, ![1, 1024]⟩
abbrev S8x64x1024 : Shape := ⟨3, ![8, 64, 1024]⟩
abbrev S4x512x512 : Shape := ⟨3, ![4, 512, 512]⟩
abbrev S8x64x128 : Shape := ⟨3, ![8, 64, 128]⟩
abbrev S8x1x1024 : Shape := ⟨3, ![8, 1, 1024]⟩
abbrev S512x128 : Shape := ⟨2, ![512, 128]⟩
abbrev S1x512x512 : Shape := ⟨3, ![1, 512, 512]⟩
abbrev S512x512 : Shape := ⟨2, ![512, 512]⟩
abbrev S512x1024 : Shape := ⟨2, ![512, 1024]⟩
abbrev S512x1 : Shape := ⟨2, ![512, 1]⟩
abbrev S8x64 : Shape := ⟨2, ![8, 64]⟩
abbrev S8x64x1 : Shape := ⟨3, ![8, 64, 1]⟩
abbrev S1x1x1024 : Shape := ⟨3, ![1, 1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S32x64x1024, .f32⟩
  | .hbm, ⟨1, _⟩ => ⟨S4x34816x512, .i32⟩
  | .hbm, ⟨2, _⟩ => ⟨S32x64x128, .f32⟩
  | .hbm, ⟨3, _⟩ => ⟨S32x1024, .f32⟩
  | .hbm, ⟨4, _⟩ => ⟨S1024, .f32⟩
  | .hbm, ⟨5, _⟩ => ⟨S32x1x1024, .f32⟩
  | .hbm, ⟨6, _⟩ => ⟨S1x1024, .f32⟩
  | .hbm, ⟨7, _⟩ => ⟨S32x64x1024, .f32⟩
  | .local _ .vmem, ⟨0, _⟩ => ⟨S8x64x1024, .f32⟩
  | .local _ .vmem, ⟨1, _⟩ => ⟨S8x64x1024, .f32⟩
  | .local _ .vmem, ⟨2, _⟩ => ⟨S4x512x512, .i32⟩
  | .local _ .vmem, ⟨3, _⟩ => ⟨S4x512x512, .i32⟩
  | .local _ .vmem, ⟨4, _⟩ => ⟨S8x64x128, .f32⟩
  | .local _ .vmem, ⟨5, _⟩ => ⟨S8x64x128, .f32⟩
  | .local _ .vmem, ⟨6, _⟩ => ⟨S8x1x1024, .f32⟩
  | .local _ .vmem, ⟨7, _⟩ => ⟨S8x1x1024, .f32⟩
  | .local _ .vmem, ⟨8, _⟩ => ⟨S1x1024, .f32⟩
  | .local _ .vmem, ⟨9, _⟩ => ⟨S8x64x1024, .f32⟩
  | .local _ .vmem, ⟨10, _⟩ => ⟨S8x64x1024, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FinalRefIdeal.lean ====
abbrev S32x64x1024 : Shape := ⟨3, ![32, 64, 1024]⟩
abbrev S4x34816x512 : Shape := ⟨3, ![4, 34816, 512]⟩
abbrev S32x64x128 : Shape := ⟨3, ![32, 64, 128]⟩
abbrev S32x1024 : Shape := ⟨2, ![32, 1024]⟩
abbrev S1024 : Shape := ⟨1, ![1024]⟩
abbrev S_ : Shape := ⟨0, ![]⟩
abbrev S4x34816x1024 : Shape := ⟨3, ![4, 34816, 1024]⟩
abbrev S4x2048x1024 : Shape := ⟨3, ![4, 2048, 1024]⟩
abbrev S4x32x64x1024 : Shape := ⟨4, ![4, 32, 64, 1024]⟩
abbrev S32x64x4 : Shape := ⟨3, ![32, 64, 4]⟩
abbrev S4x32x64 : Shape := ⟨3, ![4, 32, 64]⟩
abbrev S4x32x64x1 : Shape := ⟨4, ![4, 32, 64, 1]⟩
abbrev S32x1x1024 : Shape := ⟨3, ![32, 1, 1024]⟩
abbrev S32x64 : Shape := ⟨2, ![32, 64]⟩
abbrev S32x64x1 : Shape := ⟨3, ![32, 64, 1]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S4x34816x512, .i32⟩
  | .hbm, ⟨2, _⟩ => ⟨S32x64x128, .f32⟩
  | .hbm, ⟨3, _⟩ => ⟨S32x1024, .f32⟩
  | .hbm, ⟨4, _⟩ => ⟨S1024, .f32⟩
  | .hbm, ⟨5, _⟩ => ⟨S_, .i32⟩
  | .hbm, ⟨6, _⟩ => ⟨S4x34816x512, .i32⟩
  | .hbm, ⟨7, _⟩ => ⟨S4x34816x512, .i32⟩
  | .hbm, ⟨8, _⟩ => ⟨S4x34816x512, .f32⟩
  | .hbm, ⟨9, _⟩ => ⟨S_, .i32⟩
  | .hbm, ⟨10, _⟩ => ⟨S4x34816x512, .i32⟩
  | .hbm, ⟨11, _⟩ => ⟨S4x34816x512, .i32⟩
  | .hbm, ⟨12, _⟩ => ⟨S4x34816x512, .f32⟩
  | .hbm, ⟨13, _⟩ => ⟨S4x34816x1024, .f32⟩
  | .hbm, ⟨14, _⟩ => ⟨S4x2048x1024, .f32⟩
  | .hbm, ⟨15, _⟩ => ⟨S4x32x64x1024, .f32⟩
  | .hbm, ⟨16, _⟩ => ⟨S32x64x4, .f32⟩
  | .hbm, ⟨17, _⟩ => ⟨S4x32x64, .f32⟩
  | .hbm, ⟨18, _⟩ => ⟨S4x32x64x1, .f32⟩
  | .hbm, ⟨19, _⟩ => ⟨S4x32x64x1024, .f32⟩
  | .hbm, ⟨20, _⟩ => ⟨S4x32x64x1024, .f32⟩
  | .hbm, ⟨21, _⟩ => ⟨S_, .f32⟩
  | .hbm, ⟨22, _⟩ => ⟨S32x64x1024, .f32⟩
  | .hbm, ⟨23, _⟩ => ⟨S32x1x1024, .f32⟩
  | .hbm, ⟨24, _⟩ => ⟨S32x64x1024, .f32⟩
  | .hbm, ⟨25, _⟩ => ⟨S32x64x1024, .f32⟩
  | .hbm, ⟨26, _⟩ => ⟨S32x64x1024, .f32⟩
  | .hbm, ⟨27, _⟩ => ⟨S32x64x1024, .f32⟩
  | .hbm, ⟨28, _⟩ => ⟨S_, .f32⟩
  | .hbm, ⟨29, _⟩ => ⟨S32x64, .f32⟩
  | .hbm, ⟨30, _⟩ => ⟨S32x64x1, .f32⟩
  | .hbm, ⟨31, _⟩ => ⟨S_, .f32⟩
  | .hbm, ⟨32, _⟩ => ⟨S32x64x1, .f32⟩
  | .hbm, ⟨33, _⟩ => ⟨S32x64x1, .f32⟩
  | .hbm, ⟨34, _⟩ => ⟨S_, .f32⟩
  | .hbm, ⟨35, _⟩ => ⟨S32x64x1, .f32⟩
  | .hbm, ⟨36, _⟩ => ⟨S32x64x1, .f32⟩
  | .hbm, ⟨37, _⟩ => ⟨S32x64x1, .f32⟩
  | .hbm, ⟨38, _⟩ => ⟨S32x64x1024, .f32⟩
  | .hbm, ⟨39, _⟩ => ⟨S32x64x1024, .f32⟩
  | .hbm, ⟨40, _⟩ => ⟨S1x1x1024, .f32⟩
  | .hbm, ⟨41, _⟩ => ⟨S32x64x1024, .f32⟩
  | .hbm, ⟨42, _⟩ => ⟨S32x64x1024, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Half.lean ====
abbrev S16x2048x1024 : Shape := ⟨3, ![16, 2048, 1024]⟩
abbrev S4x32768x512 : Shape := ⟨3, ![4, 32768, 512]⟩
abbrev S16x2048x128 : Shape := ⟨3, ![16, 2048, 128]⟩
abbrev S32x1024 : Shape := ⟨2, ![32, 1024]⟩
abbrev S1024 : Shape := ⟨1, ![1024]⟩
abbrev S32x2048x1024 : Shape := ⟨3, ![32, 2048, 1024]⟩
abbrev S32x1x1024 : Shape := ⟨3, ![32, 1, 1024]⟩
abbrev S1x1024 : Shape := ⟨2, ![1, 1024]⟩
abbrev S1x1024x1024 : Shape := ⟨3, ![1, 1024, 1024]⟩
abbrev S4x1024x512 : Shape := ⟨3, ![4, 1024, 512]⟩
abbrev S1x1024x128 : Shape := ⟨3, ![1, 1024, 128]⟩
abbrev S1x1x1024 : Shape := ⟨3, ![1, 1, 1024]⟩
abbrev S1024x128 : Shape := ⟨2, ![1024, 128]⟩
abbrev S1x1024x512 : Shape := ⟨3, ![1, 1024, 512]⟩
abbrev S1024x512 : Shape := ⟨2, ![1024, 512]⟩
abbrev S1024x1024 : Shape := ⟨2, ![1024, 1024]⟩
abbrev S1024x1 : Shape := ⟨2, ![1024, 1]⟩
abbrev S1x1024x1 : Shape := ⟨3, ![1, 1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S4x32768x512, .i32⟩
  | .hbm, ⟨2, _⟩ => ⟨S16x2048x128, .f32⟩
  | .hbm, ⟨3, _⟩ => ⟨S32x1024, .f32⟩
  | .hbm, ⟨4, _⟩ => ⟨S1024, .f32⟩
  | .hbm, ⟨5, _⟩ => ⟨S32x2048x1024, .f32⟩
  | .hbm, ⟨6, _⟩ => ⟨S32x1x1024, .f32⟩
  | .hbm, ⟨7, _⟩ => ⟨S1x1024, .f32⟩
  | .hbm, ⟨8, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S4x1024x512, .i32⟩
  | .local _ .vmem, ⟨3, _⟩ => ⟨S4x1024x512, .i32⟩
  | .local _ .vmem, ⟨4, _⟩ => ⟨S1x1024x128, .f32⟩
  | .local _ .vmem, ⟨5, _⟩ => ⟨S1x1024x128, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== HalfRefIdeal.lean ====
abbrev S16x2048x1024 : Shape := ⟨3, ![16, 2048, 1024]⟩
abbrev S4x32768x512 : Shape := ⟨3, ![4, 32768, 512]⟩
abbrev S16x2048x128 : Shape := ⟨3, ![16, 2048, 128]⟩
abbrev S32x1024 : Shape := ⟨2, ![32, 1024]⟩
abbrev S1024 : Shape := ⟨1, ![1024]⟩
abbrev S32x2048x1024 : Shape := ⟨3, ![32, 2048, 1024]⟩
abbrev S_ : Shape := ⟨0, ![]⟩
abbrev S4x32768x1024 : Shape := ⟨3, ![4, 32768, 1024]⟩
abbrev S4x16x2048x1024 : Shape := ⟨4, ![4, 16, 2048, 1024]⟩
abbrev S16x2048x4 : Shape := ⟨3, ![16, 2048, 4]⟩
abbrev S4x16x2048 : Shape := ⟨3, ![4, 16, 2048]⟩
abbrev S4x16x2048x1 : Shape := ⟨4, ![4, 16, 2048, 1]⟩
abbrev S16x1024 : Shape := ⟨2, ![16, 1024]⟩
abbrev S16x1x1024 : Shape := ⟨3, ![16, 1, 1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4x32768x512, .i32⟩
  | .hbm, ⟨2, _⟩ => ⟨S16x2048x128, .f32⟩
  | .hbm, ⟨3, _⟩ => ⟨S32x1024, .f32⟩
  | .hbm, ⟨4, _⟩ => ⟨S1024, .f32⟩
  | .hbm, ⟨5, _⟩ => ⟨S32x2048x1024, .f32⟩
  | .hbm, ⟨6, _⟩ => ⟨S_, .i32⟩
  | .hbm, ⟨7, _⟩ => ⟨S4x32768x512, .i32⟩
  | .hbm, ⟨8, _⟩ => ⟨S4x32768x512, .i32⟩
  | .hbm, ⟨9, _⟩ => ⟨S4x32768x512, .f32⟩
  | .hbm, ⟨10, _⟩ => ⟨S_, .i32⟩
  | .hbm, ⟨11, _⟩ => ⟨S4x32768x512, .i32⟩
  | .hbm, ⟨12, _⟩ => ⟨S4x32768x512, .i32⟩
  | .hbm, ⟨13, _⟩ => ⟨S4x32768x512, .f32⟩
  | .hbm, ⟨14, _⟩ => ⟨S4x32768x1024, .f32⟩
  | .hbm, ⟨15, _⟩ => ⟨S4x16x2048x1024, .f32⟩
  | .hbm, ⟨16, _⟩ => ⟨S16x2048x4, .f32⟩
  | .hbm, ⟨17, _⟩ => ⟨S4x16x2048, .f32⟩
  | .hbm, ⟨18, _⟩ => ⟨S4x16x2048x1, .f32⟩
  | .hbm, ⟨19, _⟩ => ⟨S4x16x2048x1024, .f32⟩
  | .hbm, ⟨20, _⟩ => ⟨S4x16x2048x1024, .f32⟩
  | .hbm, ⟨21, _⟩ => ⟨S_, .f32⟩
  | .hbm, ⟨22, _⟩ => ⟨S16x2048x1024, .f32⟩
  | .hbm, ⟨23, _⟩ => ⟨S16x1024, .f32⟩
  | .hbm, ⟨24, _⟩ => ⟨S16x1x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1, .f32⟩
  | .hbm, ⟨39, _⟩ => ⟨S16x2048x1024, .f32⟩
  | .hbm, ⟨40, _⟩ => ⟨S16x2048x1024, .f32⟩
  | .hbm, ⟨41, _⟩ => ⟨S1x1x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S32x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Lead.lean ====
abbrev S16x2048x1024 : Shape := ⟨3, ![16, 2048, 1024]⟩
abbrev S4x34816x512 : Shape := ⟨3, ![4, 34816, 512]⟩
abbrev S16x2048x128 : Shape := ⟨3, ![16, 2048, 128]⟩
abbrev S32x1024 : Shape := ⟨2, ![32, 1024]⟩
abbrev S1024 : Shape := ⟨1, ![1024]⟩
abbrev S32x1x1024 : Shape := ⟨3, ![32, 1, 1024]⟩
abbrev S1x1024 : Shape := ⟨2, ![1, 1024]⟩
abbrev S32x2048x1024 : Shape := ⟨3, ![32, 2048, 1024]⟩
abbrev S1x1024x1024 : Shape := ⟨3, ![1, 1024, 1024]⟩
abbrev S4x1024x512 : Shape := ⟨3, ![4, 1024, 512]⟩
abbrev S1x1024x128 : Shape := ⟨3, ![1, 1024, 128]⟩
abbrev S1x1x1024 : Shape := ⟨3, ![1, 1, 1024]⟩
abbrev S1024x128 : Shape := ⟨2, ![1024, 128]⟩
abbrev S1x1024x512 : Shape := ⟨3, ![1, 1024, 512]⟩
abbrev S1024x512 : Shape := ⟨2, ![1024, 512]⟩
abbrev S1024x1024 : Shape := ⟨2, ![1024, 1024]⟩
abbrev S1024x1 : Shape := ⟨2, ![1024, 1]⟩
abbrev S1x1024x1 : Shape := ⟨3, ![1, 1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S4x34816x512, .i32⟩
  | .hbm, ⟨2, _⟩ => ⟨S16x2048x128, .f32⟩
  | .hbm, ⟨3, _⟩ => ⟨S32x1024, .f32⟩
  | .hbm, ⟨4, _⟩ => ⟨S1024, .f32⟩
  | .hbm, ⟨5, _⟩ => ⟨S32x1x1024, .f32⟩
  | .hbm, ⟨6, _⟩ => ⟨S1x1024, .f32⟩
  | .hbm, ⟨7, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S4x1024x512, .i32⟩
  | .local _ .vmem, ⟨3, _⟩ => ⟨S4x1024x512, .i32⟩
  | .local _ .vmem, ⟨4, _⟩ => ⟨S1x1024x128, .f32⟩
  | .local _ .vmem, ⟨5, _⟩ => ⟨S1x1024x128, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.addi c2_i32_0 v0
  let v2 : BitVec 32 := Scalar.addi v1 arg1
  let c0_i32 : BitVec 32 := 0#32
  let c0_i32_1 : BitVec 32 := 0#32
  let c0_i32_2 : BitVec 32 := 0#32
  ![c0_i32.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LeadRefIdeal.lean ====
abbrev S16x2048x1024 : Shape := ⟨3, ![16, 2048, 1024]⟩
abbrev S4x34816x512 : Shape := ⟨3, ![4, 34816, 512]⟩
abbrev S16x2048x128 : Shape := ⟨3, ![16, 2048, 128]⟩
abbrev S32x1024 : Shape := ⟨2, ![32, 1024]⟩
abbrev S1024 : Shape := ⟨1, ![1024]⟩
abbrev S_ : Shape := ⟨0, ![]⟩
abbrev S4x34816x1024 : Shape := ⟨3, ![4, 34816, 1024]⟩
abbrev S4x32768x1024 : Shape := ⟨3, ![4, 32768, 1024]⟩
abbrev S4x16x2048x1024 : Shape := ⟨4, ![4, 16, 2048, 1024]⟩
abbrev S16x2048x4 : Shape := ⟨3, ![16, 2048, 4]⟩
abbrev S4x16x2048 : Shape := ⟨3, ![4, 16, 2048]⟩
abbrev S4x16x2048x1 : Shape := ⟨4, ![4, 16, 2048, 1]⟩
abbrev S16x1024 : Shape := ⟨2, ![16, 1024]⟩
abbrev S16x1x1024 : Shape := ⟨3, ![16, 1, 1024]⟩
abbrev S16x2048 : Shape := ⟨2, ![16, 2048]⟩
abbrev S16x2048x1 : Shape := ⟨3, ![16, 2048, 1]⟩
abbrev S1x1x1024 : Shape := ⟨3, ![1, 1, 1024]⟩
abbrev S32x2048x1024 : Shape := ⟨3, ![32, 2048, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4x34816x512, .i32⟩
  | .hbm, ⟨2, _⟩ => ⟨S16x2048x128, .f32⟩
  | .hbm, ⟨3, _⟩ => ⟨S32x1024, .f32⟩
  | .hbm, ⟨4, _⟩ => ⟨S1024, .f32⟩
  | .hbm, ⟨5, _⟩ => ⟨S_, .i32⟩
  | .hbm, ⟨6, _⟩ => ⟨S4x34816x512, .i32⟩
  | .hbm, ⟨7, _⟩ => ⟨S4x34816x512, .i32⟩
  | .hbm, ⟨8, _⟩ => ⟨S4x34816x512, .f32⟩
  | .hbm, ⟨9, _⟩ => ⟨S_, .i32⟩
  | .hbm, ⟨10, _⟩ => ⟨S4x34816x512, .i32⟩
  | .hbm, ⟨11, _⟩ => ⟨S4x34816x512, .i32⟩
  | .hbm, ⟨12, _⟩ => ⟨S4x34816x512, .f32⟩
  | .hbm, ⟨13, _⟩ => ⟨S4x34816x1024, .f32⟩
  | .hbm, ⟨14, _⟩ => ⟨S4x32768x1024, .f32⟩
  | .hbm, ⟨15, _⟩ => ⟨S4x16x2048x1024, .f32⟩
  | .hbm, ⟨16, _⟩ => ⟨S16x2048x4, .f32⟩
  | .hbm, ⟨17, _⟩ => ⟨S4x16x2048, .f32⟩
  | .hbm, ⟨18, _⟩ => ⟨S4x16x2048x1, .f32⟩
  | .hbm, ⟨19, _⟩ => ⟨S4x16x2048x1024, .f32⟩
  | .hbm, ⟨20, _⟩ => ⟨S4x16x2048x1024, .f32⟩
  | .hbm, ⟨21, _⟩ => ⟨S_, .f32⟩
  | .hbm, ⟨22, _⟩ => ⟨S16x2048x1024, .f32⟩
  | .hbm, ⟨23, _⟩ => ⟨S16x1024, .f32⟩
  | .hbm, ⟨24, _⟩ => ⟨S16x1x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1, .f32⟩
  | .hbm, ⟨39, _⟩ => ⟨S16x2048x1024, .f32⟩
  | .hbm, ⟨40, _⟩ => ⟨S16x2048x1024, .f32⟩
  | .hbm, ⟨41, _⟩ => ⟨S1x1x1024, .f32⟩
  | .hbm, ⟨42, _⟩ => ⟨S16x2048x1024, .f32⟩
  | .hbm, ⟨43, _⟩ => ⟨S16x2048x1024, .f32⟩
  | .hbm, ⟨44, _⟩ => ⟨S_, .f32⟩
  | .hbm, ⟨45, _⟩ => ⟨S16x2048x1024, .f32⟩
  | .hbm, ⟨46, _⟩ => ⟨S32x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Words.lean ====
/-
  The words of the row gather's pipeline in closed form. A tile `i` works the 68 windows `base i + n`, in order; trip `n`
  of its loop carries five words: how many index windows were asked for, how many were waited for, how many output
  windows were begun, how many were finished, and the window's place in the tile's row of windows. Here: those five words
  at each trip (`accAt`), the branch each trip takes, and the rows and slots its transfers address.
-/
module

public import proofs.«01_k».proof.Proof.Gen.KernelIdeal.Skeleton

@[expose] public section

noncomputable section

namespace Cert.Proof.RowGather

open Cert.KernelIdeal Cert.KernelIdeal.Gen
open Idealize.ShloMosaic

/-- The first window of tile `i`. -/
abbrev base (i : grid0.Coords) : ℕ := 68 * (i 1).val + 1088 * (i 0).val

/-- The tile's first window as the kernel computes it, a word. -/
abbrev baseW (i : grid0.Coords) : BitVec 32 :=
  Scalar.muli (Scalar.addi (Scalar.addi 0#32 (Scalar.muli (BitVec.ofNat 32 (i 1).val) 1#32)) (Scalar.muli (BitVec.ofNat 32 (i 0).val) 16#32)) 68#32

/-- The slot window `n` uses: the two slots alternate. -/
abbrev par (n : ℕ) : Fin 2 := ⟨n % 2, Nat.mod_lt _ (by decide)⟩

/-- The five words the loop carries into trip `n`. -/
def accAt (n : ℕ) : BitVec 32 × BitVec 32 × BitVec 32 × BitVec 32 × BitVec 32 :=
  (BitVec.ofNat 32 (min (n + 1) 68), BitVec.ofNat 32 n, BitVec.ofNat 32 n, BitVec.ofNat 32 (n - 1), BitVec.ofNat 32 (n % 68))

abbrev w10 (n : ℕ) : BitVec 32 := BitVec.ofNat 32 (n % 68)

theorem trips_eq : k0_t1_loop.trips = 68 := by decide +kernel

theorem base_le (i : grid0.Coords) : base i + 68 ≤ 2176 := by
  have h1 : (i 1).val < 16 := (i 1).isLt
  have h0 : (i 0).val < 2 := (i 0).isLt
  unfold base; omega

/-! ## The branches -/

theorem cond1_eq : ∀ (i : grid0.Coords) (t : Fin k0_t1_loop.trips), (k0_cond1 i t (w10 t.val) = 1#1) = decide (t.val < 67) := by
  decide +kernel
theorem cond2_eq : ∀ (i : grid0.Coords) (t : Fin k0_t1_loop.trips), k0_cond2 i t (w10 t.val) = 1#1 := by decide +kernel
theorem cond5_eq : ∀ (i : grid0.Coords) (t : Fin k0_t1_loop.trips), k0_cond5 i t (w10 t.val) = 1#1 := by decide +kernel
theorem cond7_eq : ∀ (i : grid0.Coords) (t : Fin k0_t1_loop.trips), (k0_cond7 i t (w10 t.val) = 1#1) = decide (1 ≤ t.val) := by
  decide +kernel

/-! ## The rows -/

theorem off5_eq : ∀ (i : grid0.Coords) (t : Fin 67), k0_off5 i (w10 t.val) = ![base i + (t.val + 1), 0] := by decide +kernel
theorem off8_eq : ∀ (i : grid0.Coords) (t : Fin 68), k0_off8 i (w10 t.val) = ![base i + t.val, 0] := by decide +kernel
theorem off13_eq : ∀ (i : grid0.Coords) (t : Fin 68), k0_off13 i (w10 t.val) = ![64 * (base i + t.val), 0] := by decide +kernel
theorem off16_eq : ∀ (i : grid0.Coords) (t : Fin 67), k0_off16 i (w10 (t.val + 1)) = ![64 * (base i + t.val), 0] := by decide +kernel
theorem off19_eq : ∀ (i : grid0.Coords), k0_off19 i (w10 68) = ![64 * (base i + 67), 0] := by decide +kernel

/-! ## The slots -/

theorem slot_word : ∀ n : Fin 69, (Scalar.remui (BitVec.ofNat 32 n.val) 2#32).toNat = n.val % 2 := by decide +kernel

theorem slot3 {n : ℕ} (h : n < 69) : (![(Scalar.remui (BitVec.ofNat 32 n) 2#32).toNat, 0, 0] : Fin 3 → ℕ) = ![(par n).val, 0, 0] := by
  rw [slot_word ⟨n, h⟩]
theorem slot1 {n : ℕ} (h : n < 69) : (![(Scalar.remui (BitVec.ofNat 32 n) 2#32).toNat] : Fin 1 → ℕ) = ![(par n).val] := by
  rw [slot_word ⟨n, h⟩]

/-! ## The words of the next trip -/

theorem acc_zero : accAt 0 = (Scalar.addi 0#32 1#32, 0#32, 0#32, 0#32, 0#32) := by decide +kernel

/-- The words `n` carries out, as the trip computes them. -/
def nextAcc (i : grid0.Coords) (t : ℕ) (a : BitVec 32 × BitVec 32 × BitVec 32 × BitVec 32 × BitVec 32) :
    BitVec 32 × BitVec 32 × BitVec 32 × BitVec 32 × BitVec 32 :=
  let iv : BitVec 32 := Scf.iv 0#32 1#32 t
  let v64 : BitVec 1 := Scalar.cmpi .eq iv 0#32
  let v65 : BitVec 1 := Scalar.cmpi .eq iv 67#32
  let v66 : BitVec 32 := Scalar.addi a.2.2.2.2 (baseW i)
  let v68 : BitVec 32 := Scalar.select 1#1 (Scalar.subi a.2.2.2.2 1#32) a.2.2.2.2
  let v71 : BitVec 32 := Scalar.addi (Scalar.select (Scalar.cmpi .eq v68 4294967295#32) 67#32 v68) (baseW i)
  let v73 : BitVec 32 := Scalar.select 1#1 (Scalar.addi a.2.2.2.2 1#32) a.2.2.2.2
  let v76 : BitVec 32 := Scalar.addi (Scalar.select (Scalar.cmpi .eq v73 68#32) 0#32 v73) (baseW i)
  let v85 : BitVec 1 := Scalar.andi (Scalar.cmpi .ne v66 v76) (Scalar.xori (Scalar.cmpi .sge iv 67#32) 1#1)
  let v137 : BitVec 1 := Scalar.ori (Scalar.cmpi .ne v66 v76) v65
  let v130 : BitVec 1 := Scalar.andi (Scalar.cmpi .ne v66 v71) (Scalar.xori v64 1#1)
  (Scalar.select (Scalar.andi v85 1#1) (Scalar.addi a.1 1#32) a.1,
    Scalar.select v137 (Scalar.addi a.2.1 1#32) a.2.1,
    Scalar.select (Scalar.andi v137 1#1) (Scalar.addi a.2.2.1 1#32) a.2.2.1,
    Scalar.select (Scalar.andi v130 1#1) (Scalar.addi a.2.2.2.1 1#32) a.2.2.2.1,
    Scalar.select (Scalar.cmpi .eq v73 68#32) 0#32 v73)

theorem nextAcc_eq : ∀ (i : grid0.Coords) (t : Fin 68), nextAcc i t.val (accAt t.val) = accAt (t.val + 1) := by decide +kernel

end Cert.Proof.RowGather

end
-- ==== Proof.Views.lean ====
/-
  The pieces of memory the row gather's tiles move between, under one name each: window `w` of the row numbers (one row
  of 64) and of the output (64 rows), the two slots of a tile's index scratch and of its row scratch, their semaphores, the
  128-column slabs of a row slot and of the table; how the windows and the slots divide their buffers; and what a row slot
  reads after a slab's gather.
-/
module

public import proofs.«01_k».proof.Proof.Words
public import Idealize.ShloMosaic.Lib.ValueIdxCore
public import Idealize.ShloMosaic.Lib.ViewIndex
public import Idealize.ShloMosaic.Lib.SparseCore.Stream

@[expose] public section

noncomputable section

namespace Cert.Proof.RowGather

open Cert.KernelIdeal Cert.KernelIdeal.Gen
open Idealize.ShloMosaic
open Idealize.ShloMosaic.ValueIdx

/-! ## Names -/

local notation "xV" => (Memref.whole Cert.KernelIdeal.main_arg0_scv : Memref Cert.KernelIdeal.sig Kind.scVector Space.hbm Cert.KernelIdeal.S172032x512 EltTy.i32)
local notation "pV" => (Memref.whole Cert.KernelIdeal.main_v1_scv : Memref Cert.KernelIdeal.sig Kind.scVector Space.hbm Cert.KernelIdeal.S2176x64 EltTy.i32)
local notation "oV" => (Memref.whole Cert.KernelIdeal.main_v2_scv : Memref Cert.KernelIdeal.sig Kind.scVector Space.hbm Cert.KernelIdeal.S139264x512 EltTy.i32)
local notation "sV" => (Memref.whole Cert.KernelIdeal.cc0_scoped0 : Memref Cert.KernelIdeal.sig Kind.scVector Space.vmem Cert.KernelIdeal.S2x1x64 EltTy.i32)
local notation "rV" => (Memref.whole Cert.KernelIdeal.cc0_scoped2 : Memref Cert.KernelIdeal.sig Kind.scVector Space.vmem Cert.KernelIdeal.S2x64x512 EltTy.i32)

theorem pw_inb (w : Fin 2176) : ∀ a, (![w.val, 0] : Fin 2 → ℕ) a + S1x64.size a ≤ S2176x64.size a := by
  have := w.isLt; intro a; fin_cases a
  · show w.val + 1 ≤ 2176; omega
  · show 0 + 64 ≤ 64; omega
theorem ow_inb (w : Fin 2176) : ∀ a, (![64 * w.val, 0] : Fin 2 → ℕ) a + S64x512.size a ≤ S139264x512.size a := by
  have := w.isLt; intro a; fin_cases a
  · show 64 * w.val + 64 ≤ 139264; omega
  · show 0 + 512 ≤ 512; omega
theorem sl_inb (b : Fin 2) : ∀ a, (![b.val, 0, 0] : Fin 3 → ℕ) a + S1x1x64.size a ≤ S2x1x64.size a := by
  have := b.isLt; intro a; fin_cases a
  · show b.val + 1 ≤ 2; omega
  · show 0 + 1 ≤ 1; omega
  · show 0 + 64 ≤ 64; omega
theorem rl_inb (b : Fin 2) : ∀ a, (![b.val, 0, 0] : Fin 3 → ℕ) a + S1x64x512.size a ≤ S2x64x512.size a := by
  have := b.isLt; intro a; fin_cases a
  · show b.val + 1 ≤ 2; omega
  · show 0 + 64 ≤ 64; omega
  · show 0 + 512 ≤ 512; omega
theorem cl_inb (b : Fin 2) : ∀ a, (![b.val] : Fin 1 → ℕ) a + S1.size a ≤ S2.size a := by
  have := b.isLt; intro a; fin_cases a; show b.val + 1 ≤ 2; omega
theorem dl_inb (j : Fin 4) : ∀ a, (![0, 128 * j.val] : Fin 2 → ℕ) a + S64x128.size a ≤ S64x512.size a := by
  have := j.isLt; intro a; fin_cases a
  · show 0 + 64 ≤ 64; omega
  · show 128 * j.val + 128 ≤ 512; omega
theorem xl_inb (j : Fin 4) : ∀ a, (![0, 128 * j.val] : Fin 2 → ℕ) a + S172032x128.size a ≤ S172032x512.size a := by
  have := j.isLt; intro a; fin_cases a
  · show 0 + 172032 ≤ 172032; omega
  · show 128 * j.val + 128 ≤ 512; omega

abbrev pRect (w : Fin 2176) : Rect S2176x64 := Rect.unit (s := S2176x64) ![w.val, 0] S1x64.size (pw_inb w)
abbrev oRect (w : Fin 2176) : Rect S139264x512 := Rect.unit (s := S139264x512) ![64 * w.val, 0] S64x512.size (ow_inb w)
abbrev sRect (b : Fin 2) : Rect S2x1x64 := Rect.unit (s := S2x1x64) ![b.val, 0, 0] S1x1x64.size (sl_inb b)
abbrev rRect (b : Fin 2) : Rect S2x64x512 := Rect.unit (s := S2x64x512) ![b.val, 0, 0] S1x64x512.size (rl_inb b)
abbrev dRect (j : Fin 4) : Rect S64x512 := Rect.unit (s := S64x512) ![0, 128 * j.val] S64x128.size (dl_inb j)

/-- Window `w` of the row numbers. -/
def pWin (w : Fin 2176) : Memref sig .scVector .hbm S1x64 .i32 := (pV).slice (pRect w) (fun _ => rfl)
/-- Window `w` of the output. -/
def oWin (w : Fin 2176) : Memref sig .scVector .hbm S64x512 .i32 := (oV).slice (oRect w) (fun _ => rfl)
/-- Slot `b` of a tile's index scratch. -/
def sSlot (b : Fin 2) : Memref sig .scVector .vmem S1x64 .i32 := ((sV).slice (sRect b) (fun _ => rfl)).squeeze S1x64 squeezes_S1x1x64_S1x64
/-- Slot `b` of a tile's row scratch. -/
def rSlot (b : Fin 2) : Memref sig .scVector .vmem S64x512 .i32 := ((rV).slice (rRect b) (fun _ => rfl)).squeeze S64x512 squeezes_S1x64x512_S64x512
/-- The slot's index list, as a gather reads it. -/
def sList (b : Fin 2) : Memref sig .scVector .vmem S64 .i32 :=
  ((sSlot b).slice (Rect.unit (s := S1x64) ![0, 0] S1x64.size inb_S1x64_S1x64_0_0) (fun _ => rfl)).squeeze S64 squeezes_S1x64_S64
/-- Columns `128 j …` of row slot `b`. -/
def rSlab (b : Fin 2) (j : Fin 4) : Memref sig .scVector .vmem S64x128 .i32 := (rSlot b).slice (dRect j) (fun _ => rfl)
/-- Columns `128 j …` of the table. -/
def xSlab (j : Fin 4) : Memref sig .scVector .hbm S172032x128 .i32 :=
  (xV).slice (Rect.unit (s := S172032x512) ![0, 128 * j.val] S172032x128.size (xl_inb j)) (fun _ => rfl)
/-- The semaphore of index slot `b`, and of row slot `b`. -/
def sCell (b : Fin 2) : DmaSems sig S_ := (cc0_scoped1.slice (Rect.unit (s := S2) ![b.val] S1.size (cl_inb b))).squeeze S_ squeezes_S1_S_
def rCell (b : Fin 2) : DmaSems sig S_ := (cc0_scoped3.slice (Rect.unit (s := S2) ![b.val] S1.size (cl_inb b))).squeeze S_ squeezes_S1_S_

/-! ## A slice at offsets that are a name's offsets is that name -/

theorem pWin_of {off : Fin 2 → ℕ} {w : Fin 2176} (e : off = ![w.val, 0]) (hh) (hs) :
    (pV).slice (Rect.unit (s := S2176x64) off S1x64.size hh) hs = pWin w := by subst e; rfl
theorem oWin_of {off : Fin 2 → ℕ} {w : Fin 2176} (e : off = ![64 * w.val, 0]) (hh) (hs) :
    (oV).slice (Rect.unit (s := S139264x512) off S64x512.size hh) hs = oWin w := by subst e; rfl
theorem sSlot_of {off : Fin 3 → ℕ} {b : Fin 2} (e : off = ![b.val, 0, 0]) (hh) (hs) :
    ((sV).slice (Rect.unit (s := S2x1x64) off S1x1x64.size hh) hs).squeeze S1x64 squeezes_S1x1x64_S1x64 = sSlot b := by subst e; rfl
theorem rSlot_of {off : Fin 3 → ℕ} {b : Fin 2} (e : off = ![b.val, 0, 0]) (hh) (hs) :
    ((rV).slice (Rect.unit (s := S2x64x512) off S1x64x512.size hh) hs).squeeze S64x512 squeezes_S1x64x512_S64x512 = rSlot b := by subst e; rfl
theorem sCell_of {off : Fin 1 → ℕ} {b : Fin 2} (e : off = ![b.val]) (hh) :
    (cc0_scoped1.slice (Rect.unit (s := S2) off S1.size hh)).squeeze S_ squeezes_S1_S_ = sCell b := by subst e; rfl
theorem rCell_of {off : Fin 1 → ℕ} {b : Fin 2} (e : off = ![b.val]) (hh) :
    (cc0_scoped3.slice (Rect.unit (s := S2) off S1.size hh)).squeeze S_ squeezes_S1_S_ = rCell b := by subst e; rfl

/-! ## The windows and the slots divide their buffers -/

theorem pdiv : 2176 ∣ S2176x64.size 0 := ⟨1, rfl⟩
theorem odiv : 2176 ∣ S139264x512.size 0 := ⟨64, rfl⟩
theorem sdiv : 2 ∣ S2x1x64.size 0 := ⟨1, rfl⟩
theorem rdiv : 2 ∣ S2x64x512.size 0 := ⟨1, rfl⟩

theorem pRect_eq (w : Fin 2176) : pRect w = Rect.part (s := S2176x64) (a₀ := 0) pdiv w := by
  unfold pRect Rect.part Rect.block
  congr 1 <;> funext a <;> match a with
    | 0 => simp [Shape.partIx, Shape.partSize]
    | 1 => simp [Shape.partIx, Shape.partSize]
theorem oRect_eq (w : Fin 2176) : oRect w = Rect.part (s := S139264x512) (a₀ := 0) odiv w := by
  unfold oRect Rect.part Rect.block
  congr 1 <;> funext a <;> match a with
    | 0 => simp [Shape.partIx, Shape.partSize, Nat.mul_comm]
    | 1 => simp [Shape.partIx, Shape.partSize]
theorem sRect_eq (b : Fin 2) : sRect b = Rect.part (s := S2x1x64) (a₀ := 0) sdiv b := by
  unfold sRect Rect.part Rect.block
  congr 1 <;> funext a <;> match a with
    | 0 => simp [Shape.partIx, Shape.partSize]
    | 1 => simp [Shape.partIx, Shape.partSize]
    | 2 => simp [Shape.partIx, Shape.partSize]
theorem rRect_eq (b : Fin 2) : rRect b = Rect.part (s := S2x64x512) (a₀ := 0) rdiv b := by
  unfold rRect Rect.part Rect.block
  congr 1 <;> funext a <;> match a with
    | 0 => simp [Shape.partIx, Shape.partSize]
    | 1 => simp [Shape.partIx, Shape.partSize]
    | 2 => simp [Shape.partIx, Shape.partSize]

theorem pWin_set (w : Fin 2176) : (pWin w).view.set = (Rect.part (s := S2176x64) (a₀ := 0) pdiv w).set := by
  show ((View.whole (main_v1_scv : Ref sig .scVector)).slice (pRect w)).set = _
  rw [View.set_slice, pRect_eq]; exact Finset.map_refl
theorem oWin_set (w : Fin 2176) : (oWin w).view.set = (Rect.part (s := S139264x512) (a₀ := 0) odiv w).set := by
  show ((View.whole (main_v2_scv : Ref sig .scVector)).slice (oRect w)).set = _
  rw [View.set_slice, oRect_eq]; exact Finset.map_refl
theorem sSlot_set (b : Fin 2) : (sSlot b).view.set = (Rect.part (s := S2x1x64) (a₀ := 0) sdiv b).set := by
  show (((View.whole (cc0_scoped0 : Ref sig .scVector)).slice (sRect b)).reshape S1x64 _).set = _
  have e : (sRect b).set = (Rect.part (s := S2x1x64) (a₀ := 0) sdiv b).set := by rw [sRect_eq]
  rw [View.set_reshape, View.set_slice]; exact (congrArg (Finset.map _) e).trans Finset.map_refl
theorem rSlot_set (b : Fin 2) : (rSlot b).view.set = (Rect.part (s := S2x64x512) (a₀ := 0) rdiv b).set := by
  show (((View.whole (cc0_scoped2 : Ref sig .scVector)).slice (rRect b)).reshape S64x512 _).set = _
  have e : (rRect b).set = (Rect.part (s := S2x64x512) (a₀ := 0) rdiv b).set := by rw [rRect_eq]
  rw [View.set_reshape, View.set_slice]; exact (congrArg (Finset.map _) e).trans Finset.map_refl
theorem sList_set (b : Fin 2) : (sList b).view.set = (sSlot b).view.set := by
  show (((sSlot b).view.slice (Rect.unit (s := S1x64) ![0, 0] S1x64.size inb_S1x64_S1x64_0_0)).reshape S64 _).set = _
  rw [View.set_reshape, View.set_slice]
  have : (Rect.unit (s := S1x64) ![0, 0] S1x64.size inb_S1x64_S1x64_0_0).set = Finset.univ := by decide +kernel
  rw [this]; rfl
theorem rSlab_set (b : Fin 2) (j : Fin 4) : (rSlab b j).view.set ⊆ (rSlot b).view.set := (rSlot b).view.set_slice_subset (dRect j)

/-! ## Values -/

variable {α : Type}

/-- The gathered rows: row `r` of the output is the row of the table that word `r % 64` of window `r / 64` names. -/
def gathered (A : S2176x64.Idx → BitVec 32) (X : S172032x512.Idx → α) : S139264x512.Idx → α := fun r =>
  X (ix2 (Fin.ofNat 172032 (A (ix2 ⟨(r 0).val / 64, by have := idx2_lt0 r; omega⟩ ⟨(r 0).val % 64, by omega⟩)).toNat) (r 1))

variable {F : FTy → Type}

/-- The index list reads the slot. -/
theorem sList_read (b : Fin 2) (f : (sSlot b).view.ty.Contents (Elt F)) (k : Fin 64) :
    (sList b).view.read (Elt F) f (ix1 k) = (sSlot b).view.read (Elt F) f (ix2 0 k) := by
  show (((sSlot b).view.slice (Rect.unit (s := S1x64) ![0, 0] S1x64.size inb_S1x64_S1x64_0_0)).reshape S64 squeezes_S1x64_S64.numel_eq).read (Elt F) f (ix1 k) = _
  rw [View.read_apply, View.read_apply]
  have e : (((sSlot b).view.slice (Rect.unit (s := S1x64) ![0, 0] S1x64.size inb_S1x64_S1x64_0_0)).reshape S64 squeezes_S1x64_S64.numel_eq).emb (ix1 k)
      = (sSlot b).view.emb (ix2 0 k) := by
    show (sSlot b).view.emb ((Rect.unit (s := S1x64) ![0, 0] S1x64.size inb_S1x64_S1x64_0_0).emb (Shape.reshapeEquiv squeezes_S1x64_S64.numel_eq (ix1 k))) = _
    congr 1
    revert k; decide +kernel
  rw [e]

/-- A window of the row numbers reads its row; -/
theorem pWin_read (w : Fin 2176) (A : S2176x64.Idx → BitVec 32) (k : Fin 64) :
    (pWin w).view.read (Elt F) A (ix2 0 k) = A (ix2 w k) := by
  show ((View.whole (main_v1_scv : Ref sig .scVector)).slice (pRect w)).read (Elt F) A (ix2 0 k) = _
  rw [View.read_apply, cast_eq]
  refine congrArg A ?_
  funext a; match a with
    | 0 => exact Fin.ext (by show w.val + 1 * 0 = w.val; omega)
    | 1 => exact Fin.ext (by show 0 + 1 * k.val = k.val; omega)

/-- a window of the output its 64 rows. -/
theorem oWin_read (w : Fin 2176) (g : S139264x512.Idx → BitVec 32) (r : Fin 64) (c : Fin 512) :
    (oWin w).view.read (Elt F) g (ix2 r c) = g (ix2 ⟨64 * w.val + r.val, by have := w.isLt; omega⟩ c) := by
  show ((View.whole (main_v2_scv : Ref sig .scVector)).slice (oRect w)).read (Elt F) g (ix2 r c) = _
  rw [View.read_apply, cast_eq]
  refine congrArg g ?_
  funext a; match a with
    | 0 => exact Fin.ext (by show 64 * w.val + 1 * r.val = 64 * w.val + r.val; omega)
    | 1 => exact Fin.ext (by show 0 + 1 * c.val = c.val; omega)

theorem oWin_gathered (w : Fin 2176) (A : S2176x64.Idx → BitVec 32) (X : S172032x512.Idx → BitVec 32) (r : Fin 64) (c : Fin 512) :
    (oWin w).view.read (Elt F) (gathered A X) (ix2 r c) = X (ix2 (Fin.ofNat 172032 (A (ix2 w r)).toNat) c) := by
  refine (oWin_read w _ r c).trans ?_
  unfold gathered
  have e0 : (⟨(64 * w.val + r.val) / 64, by have := w.isLt; omega⟩ : Fin 2176) = w := Fin.ext (by show (64 * w.val + r.val) / 64 = w.val; omega)
  have e1 : (⟨(64 * w.val + r.val) % 64, by omega⟩ : Fin 64) = r := Fin.ext (by show (64 * w.val + r.val) % 64 = r.val; omega)
  show X (ix2 (Fin.ofNat 172032 (A (ix2 (⟨(64 * w.val + r.val) / 64, _⟩ : Fin 2176) (⟨(64 * w.val + r.val) % 64, _⟩ : Fin 64))).toNat) c) = _
  rw [e0, e1]

theorem xSlab_read (j : Fin 4) (X : S172032x512.Idx → BitVec 32) (y : S172032x128.Idx) :
    (xSlab j).view.read (Elt F) X y = X (ix2 (y 0) ⟨128 * j.val + (y 1).val, by have := j.isLt; have := idx2_lt1 y; omega⟩) := by
  show ((View.whole (main_arg0_scv : Ref sig .scVector)).slice (Rect.unit (s := S172032x512) ![0, 128 * j.val] S172032x128.size (xl_inb j))).read (Elt F) X y = _
  rw [View.read_apply, cast_eq]
  refine congrArg X ?_
  funext a; match a with
    | 0 => exact Fin.ext (by show 0 + 1 * (y 0).val = (y 0).val; omega)
    | 1 => exact Fin.ext (by show 128 * j.val + 1 * (y 1).val = 128 * j.val + (y 1).val; omega)

/-- Columns before `128 j` of row slot `b` hold window `w`'s gathered rows. -/
def Filled (A : S2176x64.Idx → BitVec 32) (X : S172032x512.Idx → BitVec 32) (b : Fin 2) (w : Fin 2176) (j : ℕ)
    (f : (rSlot b).view.ty.Contents (Elt F)) : Prop :=
  ∀ (r : Fin 64) (c : Fin 512), c.val < 128 * j → (rSlot b).view.read (Elt F) f (ix2 r c) = (oWin w).view.read (Elt F) (gathered A X) (ix2 r c)

/-- The list in slot `b` is window `w`'s row numbers. -/
def Listed (A : S2176x64.Idx → BitVec 32) (b : Fin 2) (w : Fin 2176) (f : (sSlot b).view.ty.Contents (Elt F)) : Prop :=
  (sSlot b).view.read (Elt F) f = (pWin w).view.read (Elt F) A

theorem listed_word {A : S2176x64.Idx → BitVec 32} {b : Fin 2} {w : Fin 2176} {f : (sSlot b).view.ty.Contents (Elt F)} (h : Listed A b w f) (k : Fin 64) :
    (sList b).view.read (Elt F) f (ix1 k) = A (ix2 w k) := by
  rw [sList_read, h, pWin_read]

theorem listed_inb {A : S2176x64.Idx → BitVec 32} (hA : ∀ y, (A y).toNat < 172032) {b : Fin 2} {w : Fin 2176} {f : (sSlot b).view.ty.Contents (Elt F)}
    (h : Listed A b w f) : ∀ x, ((sList b).view.read (Elt F) f x).toNat < S172032x128.size (gathers_S172032x128_S64x128).axis := by
  intro x
  rw [show x = ix1 (x 0) from eq_ix1 x]
  have e := listed_word h (x 0)
  exact (congrArg BitVec.toNat e).trans_lt (hA _)

theorem numel_list : S64.numel = S64x128.size (gathers_S172032x128_S64x128).axis' := by decide +kernel

theorem rowMajor_list (k : Fin 64) : S64.rowMajor.symm ((k : Fin 64).cast numel_list.symm) = ix1 k := by
  have h : ∀ k : Fin 64, Fin.cast numel_list.symm k = S64.rowMajor (ix1 k) := by
    intro k; apply Fin.ext; revert k; decide +kernel
  exact (Equiv.symm_apply_eq _).mpr (h k)

/-- One slab's gather fills 128 more columns. -/
theorem filled_succ {A : S2176x64.Idx → BitVec 32} (hA : ∀ y, (A y).toNat < 172032) (X : S172032x512.Idx → BitVec 32) {b b' : Fin 2} {w : Fin 2176} {j : Fin 4}
    {f : (rSlot b).view.ty.Contents (Elt F)} {fi : (sSlot b').view.ty.Contents (Elt F)} (hf : Filled A X b w j.val f) (h : Listed A b' w fi)
    (hin : ∀ x, ((sList b').view.read (Elt F) fi x).toNat < S172032x128.size (gathers_S172032x128_S64x128).axis) :
    Filled A X b w (j.val + 1) ((rSlab b j).view.write (Elt F) f
      (SparseCore.gatherPayload gathers_S172032x128_S64x128 ((xSlab j).view.read (Elt F) X) (SparseCore.rows ((sList b').view.read (Elt F) fi) numel_list hin)) Finset.univ) := by
  intro r c hc
  show (rSlot b).view.read (Elt F) (((rSlot b).view.slice (dRect j)).write (Elt F) f _ Finset.univ) (ix2 r c) = _
  by_cases hlt : c.val < 128 * j.val
  · rw [View.read_slice_write_of_not_mem _ _ _ _ _, hf r c hlt]
    intro hm
    obtain ⟨y, -, hy⟩ := Finset.mem_map.mp hm
    have := congrArg Fin.val (congrFun hy 1)
    change 128 * j.val + 1 * (y 1).val = c.val at this
    omega
  · have hc' : c.val - 128 * j.val < 128 := by omega
    have e : (ix2 r c : S64x512.Idx) = (dRect j).emb (ix2 r ⟨c.val - 128 * j.val, hc'⟩ : S64x128.Idx) := by
      funext a; match a with
        | 0 => exact Fin.ext (by show r.val = 0 + 1 * r.val; omega)
        | 1 => exact Fin.ext (by show c.val = 128 * j.val + 1 * (c.val - 128 * j.val); omega)
    rw [oWin_gathered]
    refine (congrArg _ e).trans ?_
    rw [View.read_slice_write_emb _ _ _ (Finset.mem_univ _)]
    unfold SparseCore.gatherPayload
    rw [xSlab_read]
    have hw := listed_word h r
    refine congrArg X ?_
    funext a; match a with
      | 0 =>
        refine Fin.ext ?_
        show ((sList b').view.read (Elt F) fi (S64.rowMajor.symm ((r : Fin 64).cast numel_list.symm))).toNat = _ % 172032
        rw [rowMajor_list, hw, Nat.mod_eq_of_lt (hA _)]
      | 1 =>
        refine Fin.ext ?_
        show 128 * j.val + (c.val - 128 * j.val) = c.val
        omega

theorem filled_all {A : S2176x64.Idx → BitVec 32} {X : S172032x512.Idx → BitVec 32} {b : Fin 2} {w : Fin 2176} {f : (rSlot b).view.ty.Contents (Elt F)}
    (hf : Filled A X b w 4 f) : (rSlot b).view.read (Elt F) f = (oWin w).view.read (Elt F) (gathered A X) := by
  funext y
  rw [show y = ix2 (y 0) (y 1) from eq_ix2 y]
  exact hf _ _ (idx2_lt1 y)

end Cert.Proof.RowGather

end
-- ==== Proof.Steps.lean ====
/-
  What a tile of the row gather holds and each transfer it makes: the slots, their semaphores and the windows as resources;
  the fetch of a window of row numbers into a slot and its wait; the gather of one 128-column slab and its wait; the
  write-out of a row slot to a window of the output and its wait. Each takes the memory it uses and says what comes back:
  after a fetch the slot's list is the window's, after the four gathers the row slot reads as the output's window should,
  after the write-out the window holds that.
-/
module

public import proofs.«01_k».proof.Defs
public import proofs.«01_k».proof.Proof.Views
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.RowGather

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The ghost state -/

abbrev UH : Type := URounds (GSem nD τ sig) ℕ
abbrev UU : Type := UH × Counters
local notation "𝕄" => MT nD τ sig (HIx 1) (Elt F) ℕ UU ℕ
abbrev 𝒱₀ : Variants := Variants.none

/-! ## The tile -/

abbrev cV (i : grid0.Coords) : Fin τ.nSC := (i 0).castLE hcore0
abbrev jV (i : grid0.Coords) : Fin τ.nSub := (i 1).castLE hsub0

abbrev xLoc (d : Dev nD) : Loc nD τ sig := (SparseCore.T d).loc main_arg0
abbrev pLoc (d : Dev nD) : Loc nD τ sig := (SparseCore.T d).loc main_v1
abbrev oLoc (d : Dev nD) : Loc nD τ sig := (SparseCore.T d).loc main_v2

variable (d : Dev nD) (i : grid0.Coords)
variable (A : S2176x64.Idx → BitVec 32) (X : S172032x512.Idx → BitVec 32) (Y : S139264x512.Idx → BitVec 32)

/-- Window `n` of the tile's. -/
def win (n : ℕ) : Fin 2176 := ⟨(base i + n) % 2176, Nat.mod_lt _ (by decide)⟩
theorem win_val {n : ℕ} (h : n < 68) : (win i n).val = base i + n := by
  have := base_le i; show (base i + n) % 2176 = _; exact Nat.mod_eq_of_lt (by omega)

/-! ## What it holds -/

/-- The tile's thread. -/
abbrev thr : Thread nD τ := V d (cV i) (jV i)

def sAt (b : Fin 2) (f : Buf (Elt F) ((sSlot b).view.loc (thr d i))) : sProp 𝕄 := (sSlot b).view.loc (thr d i) ↦[(sSlot b).view.set]{fullShare} f
def rAt (b : Fin 2) (f : Buf (Elt F) ((rSlot b).view.loc (thr d i))) : sProp 𝕄 := (rSlot b).view.loc (thr d i) ↦[(rSlot b).view.set]{fullShare} f
/-- An index slot, a row slot, at whatever they hold. -/
def sOwn (b : Fin 2) : sProp 𝕄 := iprop(∃ f, sAt (F := F) d i b f)
def rOwn (b : Fin 2) : sProp 𝕄 := iprop(∃ f, rAt (F := F) d i b f)
/-- An index slot holding window `w`'s row numbers; a row slot whose columns before `128 j` hold its rows. -/
def sGot (b : Fin 2) (w : Fin 2176) : sProp 𝕄 := iprop(∃ f, ⌜Listed (F := F) A b w f⌝ ∗ sAt (F := F) d i b f)
def rGot (b : Fin 2) (w : Fin 2176) (j : ℕ) : sProp 𝕄 := iprop(∃ f, ⌜Filled (F := F) A X b w j f⌝ ∗ rAt (F := F) d i b f)
/-- Window `w` of the row numbers, of the output. -/
def pAt (w : Fin 2176) : sProp 𝕄 := pLoc d ↦[(Rect.part (s := S2176x64) (a₀ := 0) pdiv w).set]{fullShare} (A : Buf (Elt F) (pLoc d))
def oAt (w : Fin 2176) (g : S139264x512.Idx → BitVec 32) : sProp 𝕄 := oLoc d ↦[(Rect.part (s := S139264x512) (a₀ := 0) odiv w).set]{fullShare} (g : Buf (Elt F) (oLoc d))
/-- A share of the table. -/
def xAt (q : PosShare TreeShare) : sProp 𝕄 := xLoc d ↦{q} (X : Buf (Elt F) (xLoc d))
/-- A semaphore at zero. -/
def zero (s : DmaSems sig S_) : sProp 𝕄 := semVal (thr d i, SemLoc.dma s.sem) 0
/-- The fetch of window `w` into slot `b` in flight; the write-out of slot `b` to window `w` in flight. -/
def fetching (b : Fin 2) (w : Fin 2176) : sProp 𝕄 :=
  Transfers.Flight countersEmb (thr d i) (.dma (sCell b).sem) (default : HIx 1) (sSlot b).view.dmaCredit iprop(sGot (F := F) d i A b w ∗ pAt (F := F) d A w)
def writing (b : Fin 2) (w : Fin 2176) : sProp 𝕄 :=
  Transfers.Flight countersEmb (thr d i) (.dma (rCell b).sem) (default : HIx 1) (oWin w).view.dmaCredit iprop(oAt (F := F) d w (gathered A X) ∗ rOwn (F := F) d i b)
/-- Nothing awaited but what the launch was: the waits so far, each at the least index or among those of the start. -/
def waits (O : CellTallies nD τ sig (HIx 1)) (W : Waits sig (HIx 1)) : sProp 𝕄 :=
  iprop(Transfers.MayWaits (thr d i) (default : HIx 1) O ∗ ∃ W', ⌜∀ p ∈ W', p ∈ W ∨ p.2 = none⌝ ∗ owes (thr d i) O W')

theorem pAt_eq (w : Fin 2176) : (pAt (F := F) d A w : sProp 𝕄) = (pWin w).view.loc (thr d i) ↦[(pWin w).view.set]{fullShare} (A : Buf (Elt F) (pLoc d)) := by
  unfold pAt; rw [pWin_set]; rfl
theorem oAt_eq (w : Fin 2176) (g : S139264x512.Idx → BitVec 32) :
    (oAt (F := F) d w g : sProp 𝕄) = (oWin w).view.loc (thr d i) ↦[(oWin w).view.set]{fullShare} (g : Buf (Elt F) (oLoc d)) := by
  unfold oAt; rw [oWin_set]; rfl

variable [FloatOps F]

/-! ## The fetch -/

theorem fetch (b : Fin 2) (w : Fin 2176) {src : Memref sig .scVector .hbm S1x64 .i32} {dst : Memref sig .scVector .vmem S1x64 .i32} {cell : DmaSems sig S_}
    (es : src = pWin w) (ed : dst = sSlot b) (ec : cell = sCell b) (h1) (h2) (h3)
    {Q : PUnit → sProp 𝕄} :
    iprop(sOwn (F := F) d i b ∗ pAt (F := F) d A w ∗ zero (F := F) d i (sCell b))
      ⊢ iprop((fetching (F := F) d i A b w -∗ Q ⟨⟩)
        -∗ wp frame (wpE (defs₀ (F := F)) 𝒱₀ (thr d i) none) Set.univ
            (Prog.lift (TpuEff.enqueueDma (nD := nD) (τ := τ) (Val := Elt F) (Λ := Λ₀) (p := .scVector (cV i) (jV i)) src (.here dst) (.dma cell.sem) h1 h2 h3)) Q) := by
  subst es ed ec
  unfold sOwn zero sAt
  rw [pAt_eq d i]
  iintro ⟨⟨%f, Hs⟩, Hp, Hz⟩ Hk
  iapply (Transfers.wp_dmaLocal countersEmb 𝒱₀ (thr d i) none (default : HIx 1) (sSlot b).view.dmaCredit rfl (View.dmaCredit_pos _ (by decide)) (Finset.Subset.refl _)) $$ [Hs Hp Hz]
  · isplitl [Hp]; · iexact Hp
    isplitl [Hs]; · iexact Hs
    iexact Hz
  iintro Hf
  rw [wp_ret]; imodintro
  iapply Hk
  unfold fetching
  iapply (Transfers.Flight_mono countersEmb (thr d i) ?_) $$ Hf
  unfold sGot sAt
  rw [pAt_eq d i]
  iintro ⟨Hs, Hp⟩
  isplitl [Hs]
  · iexists _
    isplitr
    swap; · iexact Hs
    ipureintro
    unfold Listed
    rw [ReadAs.apply_same]
    exact View.read_write_univ _ _
  · iexact Hp

theorem fetched (b : Fin 2) (w : Fin 2176) {src : Memref sig .scVector .hbm S1x64 .i32} {dst : Memref sig .scVector .vmem S1x64 .i32} {cell : DmaSems sig S_}
    (ed : dst = sSlot b) (ec : cell = sCell b) (h1) (h2) {O : CellTallies nD τ sig (HIx 1)} {W : Waits sig (HIx 1)}
    {Q : PUnit → sProp 𝕄} :
    iprop(fetching (F := F) d i A b w ∗ waits (F := F) d i O W)
      ⊢ iprop((iprop(sGot (F := F) d i A b w ∗ pAt (F := F) d A w ∗ zero (F := F) d i (sCell b) ∗ waits (F := F) d i O W) -∗ Q ⟨⟩)
        -∗ wp frame (wpE (defs₀ (F := F)) 𝒱₀ (thr d i) none) Set.univ
            (Prog.lift (TpuEff.waitDma2 (nD := nD) (τ := τ) (Val := Elt F) (Λ := Λ₀) (p := .scVector (cV i) (jV i)) cell.sem src dst h1 h2)) Q) := by
  subst ed ec
  unfold waits fetching zero
  iintro ⟨Hf, #Hmw, %W', %hW', HO⟩ Hk
  iapply (Transfers.wp_waitLocalO countersEmb 𝒱₀ (thr d i) none (default : HIx 1) rfl) $$ [Hf HO]
  · isplitl [Hf]; · iexact Hf
    isplitl [HO]; · iexact HO
    iapply (Transfers.MayWaits.elim (SemLoc.dma (sCell b).sem)) $$ Hmw
  iintro ⟨⟨Hs, Hp⟩, Hz, HO⟩
  rw [wp_ret]; imodintro
  iapply Hk
  isplitl [Hs]; · iexact Hs
  isplitl [Hp]; · iexact Hp
  isplitl [Hz]; · iexact Hz
  isplitr; · iexact Hmw
  iexists _; isplitr
  swap; · iexact HO
  ipureintro; intro p hp
  rcases Finset.mem_insert.mp hp with hp | hp
  · exact .inr (hp ▸ rfl)
  · exact hW' p hp

/-! ## The write-out -/

theorem write (b : Fin 2) (w : Fin 2176) {src : Memref sig .scVector .vmem S64x512 .i32} {dst : Memref sig .scVector .hbm S64x512 .i32} {cell : DmaSems sig S_}
    (es : src = rSlot b) (ed : dst = oWin w) (ec : cell = rCell b) (h1) (h2) (h3)
    {Q : PUnit → sProp 𝕄} :
    iprop(rGot (F := F) d i A X b w 4 ∗ oAt (F := F) d w Y ∗ zero (F := F) d i (rCell b))
      ⊢ iprop((writing (F := F) d i A X b w -∗ Q ⟨⟩)
        -∗ wp frame (wpE (defs₀ (F := F)) 𝒱₀ (thr d i) none) Set.univ
            (Prog.lift (TpuEff.enqueueDma (nD := nD) (τ := τ) (Val := Elt F) (Λ := Λ₀) (p := .scVector (cV i) (jV i)) src (.here dst) (.dma cell.sem) h1 h2 h3)) Q) := by
  subst es ed ec
  unfold rGot zero rAt
  rw [oAt_eq d i]
  iintro ⟨⟨%f, %hf, Hs⟩, Hp, Hz⟩ Hk
  iapply (Transfers.wp_dmaLocal countersEmb 𝒱₀ (thr d i) none (default : HIx 1) (oWin w).view.dmaCredit rfl (View.dmaCredit_pos _ (by decide)) (Finset.Subset.refl _)) $$ [Hs Hp Hz]
  · isplitl [Hs]; · iexact Hs
    isplitl [Hp]; · iexact Hp
    iexact Hz
  iintro Hf
  rw [wp_ret]; imodintro
  iapply Hk
  unfold writing
  iapply (Transfers.Flight_mono countersEmb (thr d i) ?_) $$ Hf
  unfold rOwn rAt
  rw [oAt_eq d i, ReadAs.apply_same]
  iintro ⟨Hp, Hs⟩
  isplitl [Hp]
  · iapply (Entails.of_eq (pointsTo_congr (fun y hy => ?_))) $$ Hp
    obtain ⟨x, -, rfl⟩ := Finset.mem_map.mp hy
    have e := congrFun (filled_all hf) x
    refine (View.write_emb_of_mem _ _ (Finset.mem_univ x)).trans ?_
    refine (congrArg (cast _) (e.trans (View.read_apply _ _))).trans ?_
    exact (cast_cast _ _ _).trans (cast_eq _ _)
  · iexists _; iexact Hs

theorem written (b : Fin 2) (w : Fin 2176) {src : Memref sig .scVector .vmem S64x512 .i32} {dst : Memref sig .scVector .hbm S64x512 .i32} {cell : DmaSems sig S_}
    (ed : dst = oWin w) (ec : cell = rCell b) (h1) (h2) {O : CellTallies nD τ sig (HIx 1)} {W : Waits sig (HIx 1)}
    {Q : PUnit → sProp 𝕄} :
    iprop(writing (F := F) d i A X b w ∗ waits (F := F) d i O W)
      ⊢ iprop((iprop(oAt (F := F) d w (gathered A X) ∗ rOwn (F := F) d i b ∗ zero (F := F) d i (rCell b) ∗ waits (F := F) d i O W) -∗ Q ⟨⟩)
        -∗ wp frame (wpE (defs₀ (F := F)) 𝒱₀ (thr d i) none) Set.univ
            (Prog.lift (TpuEff.waitDma2 (nD := nD) (τ := τ) (Val := Elt F) (Λ := Λ₀) (p := .scVector (cV i) (jV i)) cell.sem src dst h1 h2)) Q) := by
  subst ed ec
  unfold waits writing zero
  iintro ⟨Hf, #Hmw, %W', %hW', HO⟩ Hk
  iapply (Transfers.wp_waitLocalO countersEmb 𝒱₀ (thr d i) none (default : HIx 1) rfl) $$ [Hf HO]
  · isplitl [Hf]; · iexact Hf
    isplitl [HO]; · iexact HO
    iapply (Transfers.MayWaits.elim (SemLoc.dma (rCell b).sem)) $$ Hmw
  iintro ⟨⟨Hs, Hp⟩, Hz, HO⟩
  rw [wp_ret]; imodintro
  iapply Hk
  isplitl [Hs]; · iexact Hs
  isplitl [Hp]; · iexact Hp
  isplitl [Hz]; · iexact Hz
  isplitr; · iexact Hmw
  iexists _; isplitr
  swap; · iexact HO
  ipureintro; intro p hp
  rcases Finset.mem_insert.mp hp with hp | hp
  · exact .inr (hp ▸ rfl)
  · exact hW' p hp

/-! ## The gather of a slab -/

/-- Slab `j` of row slot `b'`, from the list in slot `b`, in flight on `s`: the stream, and what of the slot and of the
    table's share it does not hold. -/
def streaming (s : DmaSems sig S_) (b b' : Fin 2) (w : Fin 2176) (j : Fin 4) (q : PosShare TreeShare) : sProp 𝕄 :=
  iprop(∃ (f : Buf (Elt F) ((rSlot b').view.loc (thr d i))) (fi : Buf (Elt F) ((sSlot b).view.loc (thr d i)))
      (hin : ∀ x, ((sList b).view.read (Elt F) fi x).toNat < S172032x128.size (gathers_S172032x128_S64x128).axis),
    ⌜Filled (F := F) A X b' w j.val f ∧ Listed (F := F) A b w fi⌝
    ∗ Transfers.Flight countersEmb (thr d i) (.dma s.sem) (default : HIx 1) (rSlab b' j).view.dmaCredit
        iprop(((rSlot b').view.loc (thr d i) ↦[(rSlab b' j).view.set]{fullShare} (rSlab b' j).view.write (Elt F) f
            (SparseCore.gatherPayload gathers_S172032x128_S64x128 ((xSlab j).view.read (Elt F) X) (SparseCore.rows ((sList b).view.read (Elt F) fi) numel_list hin)) Finset.univ)
          ∗ (xLoc d ↦[(xSlab j).view.set]{q} (X : Buf (Elt F) (xLoc d))) ∗ ((sSlot b).view.loc (thr d i) ↦[(sList b).view.set]{fullShare} fi))
    ∗ ((rSlot b').view.loc (thr d i) ↦[(rSlot b').view.set \ (rSlab b' j).view.set]{fullShare} f)
    ∗ (xLoc d ↦[Finset.univ \ (xSlab j).view.set]{q} (X : Buf (Elt F) (xLoc d))))

/-- What was written over a part of a slot, beside the rest at what it held: the slot at what was written. -/
theorem rejoin (b : Fin 2) {I : Finset (Idx ((rSlot b).view.loc (thr d i)))} {f g : Buf (Elt F) ((rSlot b).view.loc (thr d i))} (hI : I ⊆ (rSlot b).view.set)
    (h : ∀ y, y ∉ I → g y = f y) :
    iprop(((rSlot b).view.loc (thr d i) ↦[I]{fullShare} g) ∗ ((rSlot b).view.loc (thr d i) ↦[(rSlot b).view.set \ I]{fullShare} f)) ⊢ (rAt (F := F) d i b g : sProp 𝕄) := by
  unfold rAt
  rw [pointsTo_congr (f := f) (g := g) (fun y hy => (h y (Finset.mem_sdiff.mp hy).2).symm)]
  exact (pointsTo_split_subset hI).2

theorem slab_credit : ∀ (b : Fin 2) (j : Fin 4) (h : S172032x128.Gathers 0 S64x128), ∑ k, ((rSlab b j).slice (S64x128.rowRect h.axis' k) (S64x128.stride_rowRect h.axis' k)).view.dmaCredit
      = (rSlab b j).view.dmaCredit := by decide +kernel

theorem stream (hA : ∀ y, (A y).toNat < 172032) (s : DmaSems sig S_) (b b' : Fin 2) (w : Fin 2176) (j : Fin 4) (q : PosShare TreeShare)
    {src : Memref sig .scVector .hbm S172032x128 .i32} {dst : Memref sig .scVector .vmem S64x128 .i32} {lst : Memref sig .scVector .vmem S64 .i32}
    (es : src = xSlab j) (ed : dst = rSlab b' j) (el : lst = sList b) (h0) (hn) (h1) (h2) (h3) (h4)
    {Q : PUnit → sProp 𝕄} :
    iprop(sGot (F := F) d i A b w ∗ rGot (F := F) d i A X b' w j.val ∗ xAt (F := F) d X q ∗ zero (F := F) d i s)
      ⊢ iprop((streaming (F := F) d i A X s b b' w j q -∗ Q ⟨⟩)
        -∗ wp frame (wpE (defs₀ (F := F)) 𝒱₀ (thr d i) none) Set.univ
            (SparseCore.enqueueIndirectGather (nD := nD) (τ := τ) (Λ := Λ₀) (p := .scVector (cV i) (jV i)) h0 src dst gathers_S172032x128_S64x128 lst hn s.sem h1 h2 h3 h4) Q) := by
  subst es ed el
  unfold sGot rGot xAt zero sAt rAt
  iintro ⟨⟨%fi, %hfi, Hs⟩, ⟨%f, %hf, Hr⟩, Hx, Hz⟩ Hk
  ihave Hr' := (pointsTo_split_subset (rSlab_set b' j)).1 $$ Hr
  icases Hr' with ⟨Hr, Hrr⟩
  ihave Hx' := (pointsTo_split_subset (Finset.subset_univ (xSlab j).view.set)).1 $$ Hx
  icases Hx' with ⟨Hx, Hxr⟩
  ihave Hs' := (Entails.of_eq (show ((sSlot b).view.loc (thr d i) ↦[(sSlot b).view.set]{fullShare} fi : sProp 𝕄)
      = (sSlot b).view.loc (thr d i) ↦[(sList b).view.set]{fullShare} fi by rw [sList_set])) $$ Hs
  rw [← bind_pure (SparseCore.enqueueIndirectGather _ _ _ _ _ _ _ _ _ _ _)]
  iapply (SparseCore.wp_indirectGatherLocal countersEmb 𝒱₀ (thr d i) none (hg := gathers_S172032x128_S64x128) (default : HIx 1)
      (rSlab b' j).view.dmaCredit (slab_credit b' j _) (by decide) (listed_inb hA hfi)) $$ [Hx Hr Hs' Hz]
  · isplitl [Hx]; · iexact Hx
    isplitl [Hr]; · iexact Hr
    isplitl [Hs']; · iexact Hs'
    iexact Hz
  iintro Hf
  rw [wp_pure]; imodintro
  iapply Hk
  unfold streaming
  iexists f, fi, (listed_inb hA hfi)
  isplitr; · ipureintro; exact ⟨hf, hfi⟩
  isplitl [Hf]; · iexact Hf
  isplitl [Hrr]; · iexact Hrr
  iexact Hxr

theorem streamed (hA : ∀ y, (A y).toNat < 172032) (s : DmaSems sig S_) (b b' : Fin 2) (w : Fin 2176) (j : Fin 4) (q : PosShare TreeShare)
    {src : Memref sig .scVector .hbm S172032x128 .i32} {dst : Memref sig .scVector .vmem S64x128 .i32}
    (ed : dst = rSlab b' j) (h1) (h2) {O : CellTallies nD τ sig (HIx 1)} {W : Waits sig (HIx 1)}
    {Q : PUnit → sProp 𝕄} :
    iprop(streaming (F := F) d i A X s b b' w j q ∗ waits (F := F) d i O W)
      ⊢ iprop((iprop(sGot (F := F) d i A b w ∗ rGot (F := F) d i A X b' w (j.val + 1) ∗ xAt (F := F) d X q ∗ zero (F := F) d i s ∗ waits (F := F) d i O W) -∗ Q ⟨⟩)
        -∗ wp frame (wpE (defs₀ (F := F)) 𝒱₀ (thr d i) none) Set.univ
            (SparseCore.waitIndirectGather (nD := nD) (τ := τ) (F := F) (Λ := Λ₀) (p := .scVector (cV i) (jV i)) s.sem src dst h1 h2) Q) := by
  subst ed
  unfold waits streaming zero
  iintro ⟨⟨%f, %fi, %hin, %hh, Hf, Hrr, Hxr⟩, #Hmw, %W', %hW', HO⟩ Hk
  iapply (Transfers.wp_waitLocalO countersEmb 𝒱₀ (thr d i) none (default : HIx 1) rfl) $$ [Hf HO]
  · isplitl [Hf]; · iexact Hf
    isplitl [HO]; · iexact HO
    iapply (Transfers.MayWaits.elim (SemLoc.dma s.sem)) $$ Hmw
  iintro ⟨⟨Hr, Hx, Hs⟩, Hz, HO⟩
  rw [wp_ret]; imodintro
  iapply Hk
  unfold sGot rGot xAt sAt
  isplitl [Hs]
  · iexists fi; isplitr; · ipureintro; exact hh.2
    iapply (Entails.of_eq (show ((sSlot b).view.loc (thr d i) ↦[(sList b).view.set]{fullShare} fi : sProp 𝕄)
      = (sSlot b).view.loc (thr d i) ↦[(sSlot b).view.set]{fullShare} fi by rw [sList_set])) $$ Hs
  isplitl [Hr Hrr]
  · iexists _
    isplitr
    · ipureintro; exact filled_succ hA X hh.1 hh.2 hin
    iapply (rejoin d i b' (rSlab_set b' j) (fun y hy => View.write_of_not_mem _ _ _ hy))
    isplitl [Hr]; · iexact Hr
    iexact Hrr
  isplitl [Hx Hxr]
  · iapply (pointsTo_split_subset (Finset.subset_univ (xSlab j).view.set)).2
    isplitl [Hx]; · iexact Hx
    iexact Hxr
  isplitl [Hz]; · iexact Hz
  isplitr; · iexact Hmw
  iexists _; isplitr
  swap; · iexact HO
  ipureintro; intro p hp
  rcases Finset.mem_insert.mp hp with hp | hp
  · exact .inr (hp ▸ rfl)
  · exact hW' p hp

end Cert.Proof.RowGather

end
-- ==== Proof.Tile.lean ====
/-
  A tile of the row gather: sixty-eight trips of two overlapped rings. Entering trip `n`, the fetch of its row numbers is in
  flight into slot `n % 2` and, after the first trip, the write-out of the last trip's rows from the other row slot; the trip
  starts the next fetch, waits for its own, gathers its rows slab by slab, starts their write-out and waits for the last
  trip's. After the loop one write-out is left, and its wait ends the task.
-/
module

public import proofs.«01_k».proof.Proof.Steps

@[expose] public section

noncomputable section

namespace Cert.Proof.RowGather

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_arg0_scv : Memref Cert.KernelIdeal.sig Kind.scVector Space.hbm Cert.KernelIdeal.S172032x512 EltTy.i32)
local notation "pV" => (Memref.whole Cert.KernelIdeal.main_v1_scv : Memref Cert.KernelIdeal.sig Kind.scVector Space.hbm Cert.KernelIdeal.S2176x64 EltTy.i32)
local notation "oV" => (Memref.whole Cert.KernelIdeal.main_v2_scv : Memref Cert.KernelIdeal.sig Kind.scVector Space.hbm Cert.KernelIdeal.S139264x512 EltTy.i32)
local notation "sV" => (Memref.whole Cert.KernelIdeal.cc0_scoped0 : Memref Cert.KernelIdeal.sig Kind.scVector Space.vmem Cert.KernelIdeal.S2x1x64 EltTy.i32)
local notation "rV" => (Memref.whole Cert.KernelIdeal.cc0_scoped2 : Memref Cert.KernelIdeal.sig Kind.scVector Space.vmem Cert.KernelIdeal.S2x64x512 EltTy.i32)

/-! ## The checks pass -/

theorem chk3_of {n : ℕ} (h : n < 69) : k0_chk3 (BitVec.ofNat 32 n) := by
  show ∀ a, (![(Scalar.remui (BitVec.ofNat 32 n) 2#32).toNat, 0, 0] : Fin 3 → ℕ) a + _ ≤ _
  rw [slot3 h]; exact sl_inb (par n)
theorem chk2_of {n : ℕ} (h : n < 69) : k0_chk2 (BitVec.ofNat 32 n) := by
  show ∀ a, (![(Scalar.remui (BitVec.ofNat 32 n) 2#32).toNat, 0, 0] : Fin 3 → ℕ) a + _ ≤ _
  rw [slot3 h]; exact rl_inb (par n)
theorem cell_of {n : ℕ} (h : n < 69) : ∀ a, (![(Scalar.remui (BitVec.ofNat 32 n) 2#32).toNat] : Fin 1 → ℕ) a + S1.size a ≤ S2.size a := by
  rw [slot1 h]; exact cl_inb (par n)

theorem slot3_next {t : ℕ} (h : t < 67) : (![(Scalar.remui (BitVec.ofNat 32 (min (t + 1) 68)) 2#32).toNat, 0, 0] : Fin 3 → ℕ) = ![(par (t + 1)).val, 0, 0] := by
  rw [Nat.min_eq_left (by omega)]; exact slot3 (by omega)
theorem slot1_next {t : ℕ} (h : t < 67) : (![(Scalar.remui (BitVec.ofNat 32 (min (t + 1) 68)) 2#32).toNat] : Fin 1 → ℕ) = ![(par (t + 1)).val] := by
  rw [Nat.min_eq_left (by omega)]; exact slot1 (by omega)

/-- The slab and the list, as a trip names them. -/
theorem rSlab_of {off : Fin 3 → ℕ} {b : Fin 2} (e : off = ![b.val, 0, 0]) (j : Fin 4) (hh) (hs) :
    (((rV).slice (Rect.unit (s := S2x64x512) off S1x64x512.size hh) hs).squeeze S64x512 squeezes_S1x64x512_S64x512).slice (dRect j) (fun _ => rfl) = rSlab b j := by
  subst e; rfl
theorem sList_of {off : Fin 3 → ℕ} {b : Fin 2} (e : off = ![b.val, 0, 0]) (hh) (hs) :
    ((((sV).slice (Rect.unit (s := S2x1x64) off S1x1x64.size hh) hs).squeeze S1x64 squeezes_S1x1x64_S1x64).slice
      (Rect.unit (s := S1x64) ![0, 0] S1x64.size inb_S1x64_S1x64_0_0) (fun _ => rfl)).squeeze S64 squeezes_S1x64_S64 = sList b := by
  subst e; rfl

variable (i : grid0.Coords)

theorem off5_win {t : ℕ} (h : t < 67) : k0_off5 i (w10 t) = ![(win i (t + 1)).val, 0] := by
  rw [win_val i (by omega)]; exact off5_eq i ⟨t, h⟩
theorem off8_win {t : ℕ} (h : t < 68) : k0_off8 i (w10 t) = ![(win i t).val, 0] := by
  rw [win_val i h]; exact off8_eq i ⟨t, h⟩
theorem off13_win {t : ℕ} (h : t < 68) : k0_off13 i (w10 t) = ![64 * (win i t).val, 0] := by
  rw [win_val i h]; exact off13_eq i ⟨t, h⟩
theorem off16_win {t : ℕ} (h : t < 68) (h1 : 1 ≤ t) : k0_off16 i (w10 t) = ![64 * (win i (t - 1)).val, 0] := by
  rw [win_val i (by omega)]
  obtain ⟨u, rfl⟩ : ∃ u, t = u + 1 := ⟨t - 1, by omega⟩
  exact off16_eq i ⟨u, by omega⟩
theorem off19_win : k0_off19 i (w10 68) = ![64 * (win i 67).val, 0] := by
  rw [win_val i (by omega)]; exact off19_eq i

theorem chk1_of (t : Fin k0_t1_loop.trips) :
    k0_chk1 i t (accAt t.val).1 (accAt t.val).2.1 (accAt t.val).2.2.1 (accAt t.val).2.2.2.1 (accAt t.val).2.2.2.2 := by
  have ht : t.val < 68 := trips_eq ▸ t.isLt
  have h67 : ∀ _ : k0_cond1 i t (w10 t.val) = 1#1, t.val < 67 := fun h => of_decide_eq_true ((cond1_eq i t) ▸ h)
  have h1 : ∀ _ : k0_cond7 i t (w10 t.val) = 1#1, 1 ≤ t.val := fun h => of_decide_eq_true ((cond7_eq i t) ▸ h)
  refine ⟨fun _ => chk3_of (n := min (t.val + 1) 68) (by omega), fun h => ?_, fun _ => cell_of (n := min (t.val + 1) 68) (by omega),
    fun _ => chk3_of (n := t.val) (by omega), fun h => ?_, fun _ => cell_of (n := t.val) (by omega),
    fun _ => chk2_of (n := t.val) (by omega), fun h => ?_, fun _ => cell_of (n := t.val) (by omega),
    fun _ => chk2_of (n := t.val - 1) (by omega), fun h => ?_, fun _ => cell_of (n := t.val - 1) (by omega)⟩
  · show ∀ a, k0_off5 i (w10 t.val) a + _ ≤ _
    rw [off5_win i (h67 h)]; exact pw_inb _
  · show ∀ a, k0_off8 i (w10 t.val) a + _ ≤ _
    rw [off8_win i ht]; exact pw_inb _
  · show ∀ a, k0_off13 i (w10 t.val) a + _ ≤ _
    rw [off13_win i ht]; exact ow_inb _
  · show ∀ a, k0_off16 i (w10 t.val) a + _ ≤ _
    rw [off16_win i ht (h1 h)]; exact ow_inb _

/-! ## What the tile holds entering trip `n` -/

variable (d : Dev nD)
variable (A : S2176x64.Idx → BitVec 32) (X : S172032x512.Idx → BitVec 32) (Y : S139264x512.Idx → BitVec 32) (q : PosShare TreeShare)

/-- Slot `n % 2` of the row numbers: trip `n`'s fetch in flight, if there is a trip `n`. -/
def fetchOf (n : ℕ) : sProp 𝕄 :=
  if n < 68 then fetching (F := F) d i A (par n) (win i n) else iprop(sOwn (F := F) d i (par n) ∗ zero (F := F) d i (sCell (par n)))
/-- The other row slot: the last trip's write-out in flight, if there was one. -/
def writeOf (n : ℕ) : sProp 𝕄 :=
  if 1 ≤ n then writing (F := F) d i A X (par (n + 1)) (win i (n - 1)) else iprop(rOwn (F := F) d i (par (n + 1)) ∗ zero (F := F) d i (rCell (par (n + 1))))
/-- The windows of row numbers at home. -/
def home (n : ℕ) : sProp 𝕄 := bigSep ((Finset.range 68).filter fun k => k ≠ n) fun k => pAt (F := F) d A (win i k)
def homeMid (n : ℕ) : sProp 𝕄 := bigSep ((Finset.range 68).filter fun k => k ≠ n ∧ k ≠ n + 1) fun k => pAt (F := F) d A (win i k)
/-- The output's windows written, and those to come. -/
def done (n : ℕ) : sProp 𝕄 := bigSep (Finset.range (n - 1)) fun k => oAt (F := F) d (win i k) (gathered A X)
def todo (n : ℕ) : sProp 𝕄 := bigSep (Finset.Ico n 68) fun k => oAt (F := F) d (win i k) Y
/-- The four streams' semaphores. -/
def cells : sProp 𝕄 := iprop(zero (F := F) d i cc0_scoped4 ∗ zero (F := F) d i cc0_scoped5 ∗ zero (F := F) d i cc0_scoped6 ∗ zero (F := F) d i cc0_scoped7)

def held (O : CellTallies nD τ sig (HIx 1)) (W : Waits sig (HIx 1)) (n : ℕ) : sProp 𝕄 :=
  iprop(fetchOf (F := F) i d A n ∗ (sOwn (F := F) d i (par (n + 1)) ∗ zero (F := F) d i (sCell (par (n + 1)))) ∗ home (F := F) i d A n
    ∗ (rOwn (F := F) d i (par n) ∗ zero (F := F) d i (rCell (par n))) ∗ writeOf (F := F) i d A X n ∗ done (F := F) i d A X n ∗ todo (F := F) i d Y n
    ∗ cells (F := F) i d ∗ xAt (F := F) d X q ∗ waits (F := F) d i O W)

theorem home_mid (n : ℕ) (h : n + 1 < 68) : (home (F := F) i d A n : sProp 𝕄) = iprop(pAt (F := F) d A (win i (n + 1)) ∗ homeMid (F := F) i d A n) := by
  unfold home homeMid
  rw [show (Finset.range 68).filter (fun k => k ≠ n) = insert (n + 1) ((Finset.range 68).filter fun k => k ≠ n ∧ k ≠ n + 1) by
    ext k; simp only [Finset.mem_filter, Finset.mem_range, Finset.mem_insert]; omega]
  exact SparseCore.bigSep_insert' (by simp)
theorem home_mid_last : (home (F := F) i d A 67 : sProp 𝕄) = homeMid (F := F) i d A 67 := by
  unfold home homeMid
  rw [show (Finset.range 68).filter (fun k => k ≠ 67) = ((Finset.range 68).filter fun k => k ≠ 67 ∧ k ≠ 67 + 1) by
    ext k; simp only [Finset.mem_filter, Finset.mem_range]; omega]
theorem home_next (n : ℕ) (h : n < 68) : (home (F := F) i d A (n + 1) : sProp 𝕄) = iprop(pAt (F := F) d A (win i n) ∗ homeMid (F := F) i d A n) := by
  unfold home homeMid
  rw [show (Finset.range 68).filter (fun k => k ≠ n + 1) = insert n ((Finset.range 68).filter fun k => k ≠ n ∧ k ≠ n + 1) by
    ext k; simp only [Finset.mem_filter, Finset.mem_range, Finset.mem_insert]; omega]
  exact SparseCore.bigSep_insert' (by simp)
theorem todo_step (n : ℕ) (h : n < 68) : (todo (F := F) i d Y n : sProp 𝕄) = iprop(oAt (F := F) d (win i n) Y ∗ todo (F := F) i d Y (n + 1)) := by
  unfold todo
  rw [show Finset.Ico n 68 = insert n (Finset.Ico (n + 1) 68) by ext k; simp only [Finset.mem_Ico, Finset.mem_insert]; omega]
  exact SparseCore.bigSep_insert' (by simp)
theorem done_step (n : ℕ) (h : 1 ≤ n) : (done (F := F) i d A X (n + 1) : sProp 𝕄) = iprop(oAt (F := F) d (win i (n - 1)) (gathered A X) ∗ done (F := F) i d A X n) := by
  unfold done
  obtain ⟨u, rfl⟩ : ∃ u, n = u + 1 := ⟨n - 1, by omega⟩
  rw [show Finset.range (u + 1 + 1 - 1) = insert u (Finset.range (u + 1 - 1)) by ext k; simp only [Finset.mem_range, Finset.mem_insert]; omega]
  exact SparseCore.bigSep_insert' (by simp)
theorem par_two (n : ℕ) : par (n + 1 + 1) = par n := Fin.ext (by show (n + 1 + 1) % 2 = n % 2; omega)

variable [FloatOps F]

/-- Before the first slab nothing is asked of a row slot. -/
theorem rGot_zero (b : Fin 2) (w : Fin 2176) : (rOwn (F := F) d i b : sProp 𝕄) ⊢ rGot (F := F) d i A X b w 0 := by
  unfold rOwn rGot
  iintro ⟨%f, H⟩
  iexists f
  isplitr; · ipureintro; exact fun _ _ h => absurd h (by omega)
  iexact H

/-- A check that holds is passed. -/
theorem assumed {R : Prop} (h : R) {dec : Decidable R} {Q : PLift R → sProp 𝕄} :
    Q ⟨h⟩ ⊢ wp frame (wpE (defs₀ (F := F)) 𝒱₀ (thr d i) none) Set.univ
      (Prog.lift (TpuEff.assume (nD := nD) (τ := τ) (sig := sig) (Val := Elt F) (Λ := Λ₀) (p := .scVector (cV i) (jV i)) R dec)) Q := by
  refine BI.Entails.trans ?_ (wp_assume 𝒱₀ (thr d i) none Set.univ h)
  rw [wp_ret]; exact Idealize.SL.BI.fupd_intro (Fr := frame) (E := Set.univ) (P := Q ⟨h⟩)

/-- The next fetch, where there is a next trip. -/
theorem phase1 (t : Fin k0_t1_loop.trips) {α : Type} (v : α) {K : α → sProp 𝕄}
    {src : k0_cond1 i t (w10 t.val) = 1#1 → Memref sig .scVector .hbm S1x64 .i32} {dst : k0_cond1 i t (w10 t.val) = 1#1 → Memref sig .scVector .vmem S1x64 .i32}
    {cell : k0_cond1 i t (w10 t.val) = 1#1 → DmaSems sig S_}
    (es : ∀ h, t.val < 67 → src h = pWin (win i (t.val + 1))) (ed : ∀ h, t.val < 67 → dst h = sSlot (par (t.val + 1))) (ec : ∀ h, t.val < 67 → cell h = sCell (par (t.val + 1)))
    (h1 : ∀ h, (src h).view.WordExact) (h2 : ∀ h, (dst h).view.WordExact) (h3 : ∀ h, DmaTarget.Typed (nD := nD) (τ := τ) (p := .scVector (cV i) (jV i)) .hbm (.dma (cell h).sem) (.here (dst h))) :
    iprop((sOwn (F := F) d i (par (t.val + 1)) ∗ zero (F := F) d i (sCell (par (t.val + 1)))) ∗ home (F := F) i d A t.val)
      ⊢ iprop((iprop(fetchOf (F := F) i d A (t.val + 1) ∗ homeMid (F := F) i d A t.val) -∗ K v)
        -∗ wp frame (wpE (defs₀ (F := F)) 𝒱₀ (thr d i) none) Set.univ
            (if h : k0_cond1 i t (w10 t.val) = 1#1 then
              (Prog.lift (TpuEff.enqueueDma (nD := nD) (τ := τ) (Val := Elt F) (Λ := Λ₀) (p := .scVector (cV i) (jV i)) (src h) (.here (dst h)) (.dma (cell h).sem) (h1 h) (h2 h) (h3 h))
                >>= fun _ => pure v)
            else pure v) K) := by
  have ht : t.val < 68 := trips_eq ▸ t.isLt
  unfold fetchOf
  by_cases h : t.val < 67
  · have hc : k0_cond1 i t (w10 t.val) = 1#1 := (cond1_eq i t) ▸ decide_eq_true h
    rw [dif_pos hc, if_pos (by omega), home_mid i d A t.val (by omega), wp_bind]
    iintro ⟨⟨Hs, Hz⟩, Hp, Hh⟩ Hk
    iapply (fetch d i A (par (t.val + 1)) (win i (t.val + 1)) (es hc h) (ed hc h) (ec hc h)) $$ [Hs Hp Hz]
    · isplitl [Hs]; · iexact Hs
      isplitl [Hp]; · iexact Hp
      iexact Hz
    iintro Hf
    rw [wp_pure]; imodintro
    iapply Hk
    isplitl [Hf]; · iexact Hf
    iexact Hh
  · have e : t.val = 67 := by omega
    have hc : ¬ k0_cond1 i t (w10 t.val) = 1#1 := fun hc => h (of_decide_eq_true ((cond1_eq i t) ▸ hc))
    rw [dif_neg hc, if_neg (by omega), e, home_mid_last i d A, wp_pure]
    iintro ⟨H, Hh⟩ Hk
    imodintro
    iapply Hk
    isplitl [H]; · iexact H
    iexact Hh

/-- The wait for the last trip's write-out, where there was one. -/
theorem phase7 (t : Fin k0_t1_loop.trips) {α : Type} (v : α) {K : α → sProp 𝕄} (O : CellTallies nD τ sig (HIx 1)) (W : Waits sig (HIx 1))
    {src : k0_cond7 i t (w10 t.val) = 1#1 → Memref sig .scVector .vmem S64x512 .i32} {dst : k0_cond7 i t (w10 t.val) = 1#1 → Memref sig .scVector .hbm S64x512 .i32}
    {cell : k0_cond7 i t (w10 t.val) = 1#1 → DmaSems sig S_}
    (ed : ∀ h, 1 ≤ t.val → dst h = oWin (win i (t.val - 1))) (ec : ∀ h, 1 ≤ t.val → cell h = rCell (par (t.val + 1)))
    (h1 : ∀ h, (src h).view.WordExact) (h2 : ∀ h, (dst h).view.WordExact) :
    iprop(writeOf (F := F) i d A X t.val ∗ done (F := F) i d A X t.val ∗ waits (F := F) d i O W)
      ⊢ iprop((iprop((rOwn (F := F) d i (par (t.val + 1)) ∗ zero (F := F) d i (rCell (par (t.val + 1)))) ∗ done (F := F) i d A X (t.val + 1) ∗ waits (F := F) d i O W) -∗ K v)
        -∗ wp frame (wpE (defs₀ (F := F)) 𝒱₀ (thr d i) none) Set.univ
            (if h : k0_cond7 i t (w10 t.val) = 1#1 then
              (Prog.lift (TpuEff.waitDma2 (nD := nD) (τ := τ) (Val := Elt F) (Λ := Λ₀) (p := .scVector (cV i) (jV i)) (cell h).sem (src h) (dst h) (h1 h) (h2 h)) >>= fun _ => pure v)
            else pure v) K) := by
  unfold writeOf
  by_cases h : 1 ≤ t.val
  · have hc : k0_cond7 i t (w10 t.val) = 1#1 := (cond7_eq i t) ▸ decide_eq_true h
    rw [dif_pos hc, if_pos h, done_step i d A X t.val h, wp_bind]
    iintro ⟨Hw, Hd, HO⟩ Hk
    iapply (written d i A X (par (t.val + 1)) (win i (t.val - 1)) (ed hc h) (ec hc h)) $$ [Hw HO]
    · isplitl [Hw]; · iexact Hw
      iexact HO
    iintro ⟨Ho, Hr, Hz, HO⟩
    rw [wp_pure]; imodintro
    iapply Hk
    isplitl [Hr Hz]
    · isplitl [Hr]; · iexact Hr
      iexact Hz
    isplitl [Ho Hd]
    · isplitl [Ho]; · iexact Ho
      iexact Hd
    iexact HO
  · have e : t.val = 0 := by omega
    have hc : ¬ k0_cond7 i t (w10 t.val) = 1#1 := fun hc => h (of_decide_eq_true ((cond7_eq i t) ▸ hc))
    rw [dif_neg hc, if_neg h, e, wp_pure]
    iintro ⟨H, Hd, HO⟩ Hk
    imodintro
    iapply Hk
    isplitl [H]; · iexact H
    isplitl [Hd]; · iexact Hd
    iexact HO

set_option maxHeartbeats 4000000 in
/-- One trip. -/
theorem trip (hA : ∀ y, (A y).toNat < 172032) (O : CellTallies nD τ sig (HIx 1)) (W : Waits sig (HIx 1)) (t : Fin k0_t1_loop.trips) :
    held (F := F) i d A X Y q O W t.val
      ⊢ wp frame (wpE (defs₀ (F := F)) 𝒱₀ (thr d i) none) Set.univ
          (k0_t1_body i xV (Memref.isWhole_whole _) pV (Memref.isWhole_whole _) oV (Memref.isWhole_whole _) sV (Memref.isWhole_whole _) cc0_scoped1
            rV (Memref.isWhole_whole _) cc0_scoped3 cc0_scoped4 cc0_scoped5 cc0_scoped6 cc0_scoped7 (baseW i) t (accAt t.val))
          fun a => iprop(⌜a = accAt (t.val + 1)⌝ ∗ held (F := F) i d A X Y q O W (t.val + 1)) := by
  have ht : t.val < 68 := trips_eq ▸ t.isLt
  unfold held cells
  rw [show fetchOf (F := F) i d A t.val = fetching (F := F) d i A (par t.val) (win i t.val) from if_pos ht]
  iintro ⟨Hf, ⟨Hs, Hsz⟩, Hh, ⟨Hr, Hrz⟩, Hw, Hd, Ht, ⟨Hz4, Hz5, Hz6, Hz7⟩, Hx, HO⟩
  unfold k0_t1_body accAt
  rw [wp_bind]
  simp only [k0_part1_eq_skeleton]; unfold k0_part1_skel
  rw [wp_bind]
  iapply (assumed i d (chk3_of (n := t.val) (by omega)))
  rw [wp_bind]
  iapply (assumed i d (chk2_of (n := t.val) (by omega)))
  rw [wp_bind]
  iapply (assumed i d (chk1_of i t))
  iapply (phase1 i d A t _ (fun _ h => pWin_of (off5_win i h) _ _) (fun _ h => sSlot_of (slot3_next h) _ _) (fun _ h => sCell_of (slot1_next h) _) _ _ _) $$ [Hs Hsz Hh]
  · isplitl [Hs Hsz]; · isplitl [Hs] <;> iassumption
    iexact Hh
  iintro ⟨Hfn, Hh⟩
  rw [wp_bind]
  simp only [k0_part2_eq_skeleton]; unfold k0_part2_skel
  rw [dif_pos (cond2_eq i t), wp_bind]
  iapply (fetched d i A (par t.val) (win i t.val) (sSlot_of (slot3 (by omega)) _ _) (sCell_of (slot1 (by omega)) _) _ _) $$ [Hf HO]
  · isplitl [Hf]; · iexact Hf
    iexact HO
  iintro ⟨Hs, Hp, Hsz, HO⟩
  rw [ite_self, wp_bind]
  ihave Hr := (rGot_zero i d A X (par t.val) (win i t.val)) $$ Hr
  iapply (stream d i A X hA cc0_scoped4 (par t.val) (par t.val) (win i t.val) 0 q rfl (rSlab_of (slot3 (by omega)) 0 _ _) (sList_of (slot3 (by omega)) _ _) _ _ _ _ _ _) $$ [Hs Hr Hx Hz4]
  · isplitl [Hs]; · iexact Hs
    isplitl [Hr]; · iexact Hr
    isplitl [Hx]; · iexact Hx
    iexact Hz4
  iintro Hst
  rw [wp_bind]
  iapply (streamed d i A X hA cc0_scoped4 (par t.val) (par t.val) (win i t.val) 0 q (rSlab_of (slot3 (by omega)) 0 _ _) _ _) $$ [Hst HO]
  · isplitl [Hst]; · iexact Hst
    iexact HO
  iintro ⟨Hs, Hr, Hx, Hz4, HO⟩
  rw [wp_pure]; imodintro
  rw [wp_bind]
  simp only [k0_part3_eq_skeleton]; unfold k0_part3_skel
  rw [wp_bind]
  iapply (stream d i A X hA cc0_scoped5 (par t.val) (par t.val) (win i t.val) 1 q rfl (rSlab_of (slot3 (by omega)) 1 _ _) (sList_of (slot3 (by omega)) _ _) _ _ _ _ _ _) $$ [Hs Hr Hx Hz5]
  · isplitl [Hs]; · iexact Hs
    isplitl [Hr]; · iexact Hr
    isplitl [Hx]; · iexact Hx
    iexact Hz5
  iintro Hst
  rw [wp_bind]
  iapply (streamed d i A X hA cc0_scoped5 (par t.val) (par t.val) (win i t.val) 1 q (rSlab_of (slot3 (by omega)) 1 _ _) _ _) $$ [Hst HO]
  · isplitl [Hst]; · iexact Hst
    iexact HO
  iintro ⟨Hs, Hr, Hx, Hz5, HO⟩
  rw [wp_bind]
  iapply (stream d i A X hA cc0_scoped6 (par t.val) (par t.val) (win i t.val) 2 q rfl (rSlab_of (slot3 (by omega)) 2 _ _) (sList_of (slot3 (by omega)) _ _) _ _ _ _ _ _) $$ [Hs Hr Hx Hz6]
  · isplitl [Hs]; · iexact Hs
    isplitl [Hr]; · iexact Hr
    isplitl [Hx]; · iexact Hx
    iexact Hz6
  iintro Hst
  rw [wp_pure]; imodintro
  rw [wp_bind]
  simp only [k0_part4_eq_skeleton]; unfold k0_part4_skel
  rw [wp_bind]
  iapply (streamed d i A X hA cc0_scoped6 (par t.val) (par t.val) (win i t.val) 2 q (rSlab_of (slot3 (by omega)) 2 _ _) _ _) $$ [Hst HO]
  · isplitl [Hst]; · iexact Hst
    iexact HO
  iintro ⟨Hs, Hr, Hx, Hz6, HO⟩
  rw [wp_bind]
  iapply (stream d i A X hA cc0_scoped7 (par t.val) (par t.val) (win i t.val) 3 q rfl (rSlab_of (slot3 (by omega)) 3 _ _) (sList_of (slot3 (by omega)) _ _) _ _ _ _ _ _) $$ [Hs Hr Hx Hz7]
  · isplitl [Hs]; · iexact Hs
    isplitl [Hr]; · iexact Hr
    isplitl [Hx]; · iexact Hx
    iexact Hz7
  iintro Hst
  rw [wp_bind]
  iapply (streamed d i A X hA cc0_scoped7 (par t.val) (par t.val) (win i t.val) 3 q (rSlab_of (slot3 (by omega)) 3 _ _) _ _) $$ [Hst HO]
  · isplitl [Hst]; · iexact Hst
    iexact HO
  iintro ⟨Hs, Hr, Hx, Hz7, HO⟩
  rw [ite_self, wp_pure]; imodintro
  dsimp only
  rw [dif_pos (cond5_eq i t), wp_bind]
  ihave Ht' := (Entails.of_eq (todo_step i d Y t.val ht)) $$ Ht
  icases Ht' with ⟨Ho, Ht⟩
  iapply (write d i A X Y (par t.val) (win i t.val) (rSlot_of (slot3 (by omega)) _ _) (oWin_of (off13_win i ht) _ _) (rCell_of (slot1 (by omega)) _) _ _ _) $$ [Hr Ho Hrz]
  · isplitl [Hr]; · iexact Hr
    isplitl [Ho]; · iexact Ho
    iexact Hrz
  iintro Hwn
  rw [ite_self]
  iapply (phase7 i d A X t _ O W (fun _ h => oWin_of (off16_win i ht h) _ _) (fun _ h => rCell_of ((slot1 (n := t.val - 1) (by omega)).trans (by rw [show par (t.val - 1) = par (t.val + 1) from Fin.ext (by show (t.val - 1) % 2 = (t.val + 1) % 2; omega)])) _) _ _) $$ [Hw Hd HO]
  · isplitl [Hw]; · iexact Hw
    isplitl [Hd]; · iexact Hd
    iexact HO
  iintro ⟨Hro, Hd, HO⟩
  isplitr; · ipureintro; exact nextAcc_eq i ⟨t.val, ht⟩
  rw [show writeOf (F := F) i d A X (t.val + 1) = writing (F := F) d i A X (par (t.val + 1 + 1)) (win i t.val) from if_pos (by omega), par_two, home_next i d A t.val ht]
  isplitl [Hfn]; · iexact Hfn
  isplitl [Hs Hsz]
  · isplitl [Hs]
    · unfold sGot sOwn
      icases Hs with ⟨%f, -, Hs⟩
      iexists f; iexact Hs
    iexact Hsz
  isplitl [Hp Hh]; · isplitl [Hp] <;> iassumption
  isplitl [Hro]; · iexact Hro
  isplitl [Hwn]; · iexact Hwn
  isplitl [Hd]; · iexact Hd
  isplitl [Ht]; · iexact Ht
  isplitl [Hz4 Hz5 Hz6 Hz7]
  · isplitl [Hz4]; · iexact Hz4
    isplitl [Hz5]; · iexact Hz5
    isplitl [Hz6]; · iexact Hz6
    iexact Hz7
  isplitl [Hx]; · iexact Hx
  iexact HO

end Cert.Proof.RowGather

end
-- ==== Proof.Task.lean ====
/-
  The whole task of a tile of the row gather: its scratch in slots, its eight semaphores, the first fetch, the
  sixty-eight trips, and the wait for the last write-out. It takes its windows of row numbers and of the output and a
  share of the table, and returns them, the output's windows holding the gathered rows.
-/
module

public import proofs.«01_k».proof.Proof.Tile

@[expose] public section

noncomputable section

namespace Cert.Proof.RowGather

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_arg0_scv : Memref Cert.KernelIdeal.sig Kind.scVector Space.hbm Cert.KernelIdeal.S172032x512 EltTy.i32)
local notation "pV" => (Memref.whole Cert.KernelIdeal.main_v1_scv : Memref Cert.KernelIdeal.sig Kind.scVector Space.hbm Cert.KernelIdeal.S2176x64 EltTy.i32)
local notation "oV" => (Memref.whole Cert.KernelIdeal.main_v2_scv : Memref Cert.KernelIdeal.sig Kind.scVector Space.hbm Cert.KernelIdeal.S139264x512 EltTy.i32)
local notation "sV" => (Memref.whole Cert.KernelIdeal.cc0_scoped0 : Memref Cert.KernelIdeal.sig Kind.scVector Space.vmem Cert.KernelIdeal.S2x1x64 EltTy.i32)
local notation "rV" => (Memref.whole Cert.KernelIdeal.cc0_scoped2 : Memref Cert.KernelIdeal.sig Kind.scVector Space.vmem Cert.KernelIdeal.S2x64x512 EltTy.i32)

/-! ## The launch, as its theorem reads the program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (d : Dev nD) (i : grid0.Coords)

/-! ## The eight semaphores -/

/-- The tile's semaphores in a row. -/
def semOf : Fin 8 → DmaSems sig S_ := ![sCell 0, sCell 1, rCell 0, rCell 1, cc0_scoped4, cc0_scoped5, cc0_scoped6, cc0_scoped7]
theorem semOf_inj : Function.Injective fun k => (semOf k).sem := by decide
theorem semOf_scoped : ∀ k, (SemLoc.dma (semOf k).sem : SemLoc sig).isScoped .scVector = true := by decide
def cellOf (k : Fin 8) : GSem nD τ sig := (thr d i, .dma (semOf k).sem)

/-- Its semaphores at zero are those eight and others it does not touch. -/
theorem sems_split : (ownSems0 (thr d i) : sProp 𝕄)
    = iprop((zero (F := F) d i (sCell 0) ∗ zero (F := F) d i (sCell 1) ∗ zero (F := F) d i (rCell 0) ∗ zero (F := F) d i (rCell 1)
        ∗ zero (F := F) d i cc0_scoped4 ∗ zero (F := F) d i cc0_scoped5 ∗ zero (F := F) d i cc0_scoped6 ∗ zero (F := F) d i cc0_scoped7)
      ∗ bigSep (ownCells (thr d i) \ Finset.univ.image (cellOf d i)) fun g => semVal g 0) := by
  have hsub : Finset.univ.image (cellOf d i) ⊆ ownCells (thr d i) := fun g hg => by
    obtain ⟨k, -, rfl⟩ := Finset.mem_image.mp hg
    exact mem_ownCells.mpr ⟨rfl, semOf_scoped k⟩
  have hinj : Set.InjOn (cellOf d i) (Finset.univ : Finset (Fin 8)) := fun a _ b _ e =>
    semOf_inj (SemLoc.dma.inj (Prod.ext_iff.mp e).2)
  unfold SparseCore.Cfg.ownSems0
  rw [SparseCore.bigSep_sdiff_split' hsub, SparseCore.bigSep_image_of_injOn hinj,
    show (Finset.univ : Finset (Fin 8)) = {0, 1, 2, 3, 4, 5, 6, 7} by decide]
  repeat rw [SparseCore.bigSep_insert' (by decide)]
  rw [bigSep_singleton]
  rfl

/-! ## The two scratch buffers in slots -/

/-- Its own buffers are its index scratch, its row scratch, at some contents, and others it does not touch. -/
theorem bufs_split : (ownBufs (thr d i) : sProp 𝕄)
    = iprop((∃ f, (thr d i).loc cc0_scoped0 ↦{fullShare} f) ∗ (∃ f, (thr d i).loc cc0_scoped2 ↦{fullShare} f)
        ∗ bigSep (((ownRefs (τ := τ) (.scVector (cV i) (jV i))).erase ((Proc.scVector (cV i) (jV i)).devRef cc0_scoped0)).erase ((Proc.scVector (cV i) (jV i)).devRef cc0_scoped2))
            fun b => iprop(∃ f, ((d, b) : Loc nD τ sig) ↦{fullShare} f)) := by
  have h0 := SparseCore.Cfg.mem_ownRefs_of_owner (p := Proc.scVector (cV i) (jV i)) (b := (Proc.scVector (cV i) (jV i)).devRef cc0_scoped0) rfl
  have h2 := SparseCore.Cfg.mem_ownRefs_of_owner (p := Proc.scVector (cV i) (jV i)) (b := (Proc.scVector (cV i) (jV i)).devRef cc0_scoped2) rfl
  have hne : (Proc.scVector (cV i) (jV i)).devRef cc0_scoped2 ≠ (Proc.scVector (cV i) (jV i)).devRef cc0_scoped0 :=
    fun e => absurd (Proc.devRef_injective _ e) (show (cc0_scoped2 : Ref sig .scVector) ≠ cc0_scoped0 by decide)
  unfold SparseCore.Cfg.ownBufs
  exact (SparseCore.bigSep_erase' h0).trans (congrArg (fun Z => iprop((∃ f, (thr d i).loc cc0_scoped0 ↦{fullShare} f) ∗ Z)) (SparseCore.bigSep_erase' (Finset.mem_erase.mpr ⟨hne, h2⟩)))

theorem slots_disjoint {s : Shape} {a₀ : Fin s.rank} (h : 2 ∣ s.size a₀) : Disjoint (Rect.part h (0 : Fin 2)).set (Rect.part h 1).set :=
  Rect.part_disjoint h (by decide)
theorem slots_cover {s : Shape} {a₀ : Fin s.rank} (h : 2 ∣ s.size a₀) : (Rect.part h (0 : Fin 2)).set ∪ (Rect.part h 1).set = Finset.univ := by
  rw [← Rect.biUnion_part h]
  ext x; simp only [Finset.mem_union, Finset.mem_biUnion, Finset.mem_univ, true_and, Fin.exists_fin_two]

theorem sSlots_join : iprop(sOwn (F := F) d i 0 ∗ sOwn (F := F) d i 1) ⊢ (iprop(∃ f, (thr d i).loc cc0_scoped0 ↦{fullShare} f) : sProp 𝕄) := by
  unfold sOwn sAt
  rw [sSlot_set, sSlot_set]
  iintro ⟨⟨%f, Hf⟩, %g, Hg⟩
  ihave H := (pointsTo_join (ℓ := (thr d i).loc cc0_scoped0) (slots_disjoint sdiv)) $$ [Hf Hg]
  · isplitl [Hf]; · iexact Hf
    iexact Hg
  iexists _
  iapply (Entails.of_eq (congrArg (fun I => (pointsTo ((thr d i).loc cc0_scoped0) I fullShare _ : sProp 𝕄)) (slots_cover sdiv))) $$ H

theorem rSlots_join : iprop(rOwn (F := F) d i 0 ∗ rOwn (F := F) d i 1) ⊢ (iprop(∃ f, (thr d i).loc cc0_scoped2 ↦{fullShare} f) : sProp 𝕄) := by
  unfold rOwn rAt
  rw [rSlot_set, rSlot_set]
  iintro ⟨⟨%f, Hf⟩, %g, Hg⟩
  ihave H := (pointsTo_join (ℓ := (thr d i).loc cc0_scoped2) (slots_disjoint rdiv)) $$ [Hf Hg]
  · isplitl [Hf]; · iexact Hf
    iexact Hg
  iexists _
  iapply (Entails.of_eq (congrArg (fun I => (pointsTo ((thr d i).loc cc0_scoped2) I fullShare _ : sProp 𝕄)) (slots_cover rdiv))) $$ H

theorem sSlots_split (f : Buf (Elt F) ((thr d i).loc cc0_scoped0)) :
    ((thr d i).loc cc0_scoped0 ↦{fullShare} f : sProp 𝕄) ⊢ iprop(sOwn (F := F) d i 0 ∗ sOwn (F := F) d i 1) := by
  unfold sOwn sAt
  rw [sSlot_set, sSlot_set]
  iintro H
  ihave H := (Entails.of_eq (congrArg (fun I => (pointsTo ((thr d i).loc cc0_scoped0) I fullShare f : sProp 𝕄)) (slots_cover sdiv).symm)) $$ H
  ihave H := (pointsTo_union (ℓ := (thr d i).loc cc0_scoped0) (slots_disjoint sdiv)).1 $$ H
  icases H with ⟨H0, H1⟩
  isplitl [H0]
  · iexists f; iexact H0
  · iexists f; iexact H1

theorem rSlots_split (f : Buf (Elt F) ((thr d i).loc cc0_scoped2)) :
    ((thr d i).loc cc0_scoped2 ↦{fullShare} f : sProp 𝕄) ⊢ iprop(rOwn (F := F) d i 0 ∗ rOwn (F := F) d i 1) := by
  unfold rOwn rAt
  rw [rSlot_set, rSlot_set]
  iintro H
  ihave H := (Entails.of_eq (congrArg (fun I => (pointsTo ((thr d i).loc cc0_scoped2) I fullShare f : sProp 𝕄)) (slots_cover rdiv).symm)) $$ H
  ihave H := (pointsTo_union (ℓ := (thr d i).loc cc0_scoped2) (slots_disjoint rdiv)).1 $$ H
  icases H with ⟨H0, H1⟩
  isplitl [H0]
  · iexists f; iexact H0
  · iexists f; iexact H1

/-! ## The start and the end -/

variable (A : S2176x64.Idx → BitVec 32) (X : S172032x512.Idx → BitVec 32) (Y : S139264x512.Idx → BitVec 32) (q : PosShare TreeShare)

/-- The tile's windows of row numbers, and of the output at `g`. -/
def pAll : sProp 𝕄 := bigSep (Finset.range 68) fun k => pAt (F := F) d A (win i k)
def oAll (g : S139264x512.Idx → BitVec 32) : sProp 𝕄 := bigSep (Finset.range 68) fun k => oAt (F := F) d (win i k) g

theorem pAll_start : (pAll (F := F) d i A : sProp 𝕄) = iprop(pAt (F := F) d A (win i 0) ∗ home (F := F) i d A 0) := by
  unfold pAll home
  rw [show Finset.range 68 = insert 0 ((Finset.range 68).filter fun k => k ≠ 0) by
    ext k; simp only [Finset.mem_filter, Finset.mem_range, Finset.mem_insert]; omega]
  refine (SparseCore.bigSep_insert' (by simp)).trans ?_
  congr 2
theorem pAll_end : (home (F := F) i d A 68 : sProp 𝕄) = pAll (F := F) d i A := by
  unfold pAll home
  rw [show (Finset.range 68).filter (fun k => k ≠ 68) = Finset.range 68 by
    ext k; simp only [Finset.mem_filter, Finset.mem_range]; omega]
theorem oAll_start (g : S139264x512.Idx → BitVec 32) : (todo (F := F) i d g 0 : sProp 𝕄) = oAll (F := F) d i g := by
  unfold oAll todo; rw [Finset.range_eq_Ico]
theorem oAll_end : (oAll (F := F) d i (gathered A X) : sProp 𝕄) = iprop(oAt (F := F) d (win i 67) (gathered A X) ∗ done (F := F) i d A X 68) := by
  unfold oAll done
  rw [show Finset.range 68 = insert 67 (Finset.range (68 - 1)) by ext k; simp only [Finset.mem_range, Finset.mem_insert]; omega]
  exact SparseCore.bigSep_insert' (by simp)
theorem done_zero : (done (F := F) i d A X 0 : sProp 𝕄) = iprop(emp) := by
  unfold done; exact bigSep_empty

/-- The last two checks pass. -/
theorem chk5_of : k0_chk5 i (w10 68) := by
  show ∀ a, k0_off19 i (w10 68) a + _ ≤ _
  rw [off19_win i]; exact ow_inb _
theorem chk4_of {n : ℕ} (h : n < 69) : k0_chk4 (BitVec.ofNat 32 n) := ⟨chk2_of h, cell_of h, chk2_of h⟩

variable [FloatOps F]

set_option maxHeartbeats 4000000 in
/-- The task on a tile. -/
theorem task (hA : ∀ y, (A y).toNat < 172032) (O : CellTallies nD τ sig (HIx 1)) (W : Waits sig (HIx 1)) (hO : ∀ g, O g none = 0) :
    iprop(levAts (K (F := F)).L (K (F := F)).lev ∗ emp
        ∗ (pAll (F := F) d i A ∗ xAt (F := F) d X q ∗ oAll (F := F) d i Y)
        ∗ scopedBufs (thr d i) ∗ scopedSems0 (thr d i) ∗ owes (thr d i) O W)
      ⊢ wp frame (wpE (defs₀ (F := F)) 𝒱₀ (thr d i) none) Set.univ
          (cc0_gather_kernel i xV (Memref.isWhole_whole _) pV (Memref.isWhole_whole _) oV (Memref.isWhole_whole _) sV (Memref.isWhole_whole _) cc0_scoped1
            rV (Memref.isWhole_whole _) cc0_scoped3 cc0_scoped4 cc0_scoped5 cc0_scoped6 cc0_scoped7)
          fun _ => iprop((pAll (F := F) d i A ∗ xAt (F := F) d X q ∗ oAll (F := F) d i (gathered A X))
            ∗ scopedBufs (thr d i) ∗ scopedSems0 (thr d i)
            ∗ ∃ W', ⌜∀ p ∈ W', p ∈ W ∨ p.2 = none⌝ ∗ owes (thr d i) O W') := by
  simp only [cc0_gather_kernel_eq_skeleton]; unfold cc0_gather_kernel_skel
  rw [(K (F := F)).scopedBufs_V facts d (cV i) (jV i), SparseCore.Cfg.scopedSems0_V (Val := Elt F) d (cV i) (jV i), sems_split, bufs_split, oAll_end, pAll_start]
  iintro ⟨#Hlv, -, ⟨⟨Hp0, Hh⟩, Hx, Ho⟩, ⟨⟨%fs, Hs⟩, ⟨%fr, Hr⟩, Hbufs⟩, ⟨⟨Hs0, Hs1, Hr0, Hr1, Hz4, Hz5, Hz6, Hz7⟩, Hsems⟩, HO⟩
  ihave Hmw := (show levAts (K (F := F)).L (K (F := F)).lev ⊢ Transfers.MayWaits (thr d i) (default : HIx 1) O from
    (K (F := F)).mayWaits_none (thr := thr d i) hO) $$ Hlv
  ihave Hs := (sSlots_split d i fs) $$ Hs
  ihave Hr := (rSlots_split d i fr) $$ Hr
  icases Hs with ⟨Hsa, Hsb⟩
  icases Hr with ⟨Hra, Hrb⟩
  rw [wp_bind]
  simp only [k0_part5_eq_skeleton]; unfold k0_part5_skel
  rw [wp_bind]
  iapply (fetch d i A 0 (win i 0) (pWin_of ((k0_off2_eq i).trans (by rw [win_val i (by omega)]; rfl)) _ _) (sSlot_of k0_off1_eq _ _) (sCell_of k0_off3_eq _) _ _ _) $$ [Hsa Hp0 Hs0]
  · isplitl [Hsa]; · iexact Hsa
    isplitl [Hp0]; · iexact Hp0
    iexact Hs0
  iintro Hf
  rw [wp_pure]; imodintro
  rw [wp_bind]
  simp only [k0_part6_eq_skeleton]; unfold k0_part6_skel
  rw [wp_bind]
  iapply (Scf.wp_for frame (wpE (defs₀ (F := F)) 𝒱₀ (thr d i) none) Set.univ _ _ _ k0_t1_ok _ _
    (fun n a => iprop(⌜a = accAt n⌝ ∗ held (F := F) i d A X Y q O W n)) ?_)
  · intro t acc
    iintro ⟨%e, H⟩
    subst e
    iapply (trip i d A X Y q hA O W t) $$ H
  isplitr [Hsems Hbufs]
  · isplitr; · ipureintro; exact acc_zero.symm
    unfold held cells
    rw [oAll_start, done_zero]
    unfold fetchOf writeOf
    rw [if_pos (by omega), if_neg (by omega)]
    isplitl [Hf]; · iexact Hf
    isplitl [Hsb Hs1]
    · isplitl [Hsb]; · iexact Hsb
      iexact Hs1
    isplitl [Hh]; · iexact Hh
    isplitl [Hra Hr0]
    · isplitl [Hra]; · iexact Hra
      iexact Hr0
    isplitl [Hrb Hr1]
    · isplitl [Hrb]; · iexact Hrb
      iexact Hr1
    isplitr; · iempintro
    isplitl [Ho]; · iexact Ho
    isplitl [Hz4 Hz5 Hz6 Hz7]
    · isplitl [Hz4]; · iexact Hz4
      isplitl [Hz5]; · iexact Hz5
      isplitl [Hz6]; · iexact Hz6
      iexact Hz7
    isplitl [Hx]; · iexact Hx
    unfold waits
    isplitr; · iexact Hmw
    iexists W; isplitr
    · ipureintro; exact fun p hp => .inl hp
    iexact HO
  iintro %acc ⟨%e, H⟩
  subst e
  rw [show Scf.trips k0_t1_loop.lb k0_t1_loop.ub k0_t1_loop.st = 68 from trips_eq]
  unfold held cells
  rw [show fetchOf (F := F) i d A 68 = iprop(sOwn (F := F) d i (par 68) ∗ zero (F := F) d i (sCell (par 68))) from if_neg (by omega),
    show writeOf (F := F) i d A X 68 = writing (F := F) d i A X (par 69) (win i 67) from if_pos (by omega), pAll_end, ← pAll_start]
  icases H with ⟨⟨Hsa, Hs0⟩, ⟨Hsb, Hs1⟩, Hp, ⟨Hra, Hr0⟩, Hw, Hd, -, ⟨Hz4, Hz5, Hz6, Hz7⟩, Hx, HO⟩
  rw [wp_bind]
  iapply (assumed i d (show k0_chk5 i (w10 68) from chk5_of i))
  rw [wp_bind]
  iapply (assumed i d (chk4_of (n := 67) (by omega)))
  rw [wp_pure]; imodintro
  dsimp only
  rw [wp_bind]
  iapply (written d i A X (par 69) (win i 67) (oWin_of (off19_win i) _ _) (rCell_of (slot1 (n := 67) (by omega)) _) _ _) $$ [Hw HO]
  · isplitl [Hw]; · iexact Hw
    iexact HO
  iintro ⟨Ho, Hrb, Hr1, HO⟩
  rw [wp_pure]; imodintro
  isplitl [Hp Hx Ho Hd]
  · isplitl [Hp]; · iexact Hp
    isplitl [Hx]; · iexact Hx
    isplitl [Ho]; · iexact Ho
    iexact Hd
  isplitl [Hsa Hsb Hra Hrb Hbufs]
  · isplitl [Hsa Hsb]
    · iapply (sSlots_join (F := F) d i)
      isplitl [Hsa]; · iexact Hsa
      iexact Hsb
    isplitl [Hra Hrb]
    · iapply (rSlots_join (F := F) d i)
      isplitl [Hra]; · iexact Hra
      iexact Hrb
    iexact Hbufs
  isplitl [Hs0 Hs1 Hr0 Hr1 Hz4 Hz5 Hz6 Hz7 Hsems]
  · isplitr [Hsems]
    · isplitl [Hs0]; · iexact Hs0
      isplitl [Hs1]; · iexact Hs1
      isplitl [Hr0]; · iexact Hr0
      isplitl [Hr1]; · iexact Hr1
      isplitl [Hz4]; · iexact Hz4
      isplitl [Hz5]; · iexact Hz5
      isplitl [Hz6]; · iexact Hz6
      iexact Hz7
    iexact Hsems
  unfold waits
  icases HO with ⟨-, HO⟩
  iexact HO

end Cert.Proof.RowGather

end
-- ==== Proof.Launch.lean ====
/-
  The row gather as a launch: the two SparseCores' thirty-two tiles, tile `(c, s)` on the sixty-eight windows from
  `68 (s + 16 c)` on, each reading the table at a thirty-second of its ownership. The host flattens the positions before
  the launch and folds the gathered rows after it. The run's end: the result holds, at `(k, t)`, the table's row `pos[k, t]`.
-/
module

public import proofs.«01_k».proof.Proof.Task
public import Idealize.ShloMosaic.Lib.ShareLeaves

@[expose] public section

noncomputable section

namespace Cert.Proof.RowGather

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_arg0_scv : Memref Cert.KernelIdeal.sig Kind.scVector Space.hbm Cert.KernelIdeal.S172032x512 EltTy.i32)
local notation "pV" => (Memref.whole Cert.KernelIdeal.main_v1_scv : Memref Cert.KernelIdeal.sig Kind.scVector Space.hbm Cert.KernelIdeal.S2176x64 EltTy.i32)
local notation "oV" => (Memref.whole Cert.KernelIdeal.main_v2_scv : Memref Cert.KernelIdeal.sig Kind.scVector Space.hbm Cert.KernelIdeal.S139264x512 EltTy.i32)
local notation "sV" => (Memref.whole Cert.KernelIdeal.cc0_scoped0 : Memref Cert.KernelIdeal.sig Kind.scVector Space.vmem Cert.KernelIdeal.S2x1x64 EltTy.i32)
local notation "rV" => (Memref.whole Cert.KernelIdeal.cc0_scoped2 : Memref Cert.KernelIdeal.sig Kind.scVector Space.vmem Cert.KernelIdeal.S2x64x512 EltTy.i32)

abbrev EH : Emb UH (MT nD τ sig (HIx 1) (Elt F) ℕ UU ℕ) := embL

/-! ## Tiles, windows, shares -/

/-- Tile `(c, s)`. -/
def tileOf (c : Fin (grid0.bound 0)) (s : Fin (grid0.bound 1)) : grid0.Coords :=
  fun | 0 => c | 1 => s | ⟨_ + 2, h⟩ => absurd h (Nat.not_lt.2 (Nat.le_add_left _ _))

/-- Windows by core, tile and trip. -/
def winEquiv : Fin 2 × Fin 16 × Fin 68 ≃ Fin 2176 :=
  ((Equiv.refl (Fin 2)).prodCongr (finProdFinEquiv (m := 16) (n := 68))).trans (finProdFinEquiv (m := 2) (n := 16 * 68))
theorem winEquiv_eq (c : Fin 2) (s : Fin 16) (k : Fin 68) : winEquiv (c, s, k) = win (tileOf c s) k.val := by
  refine Fin.ext ?_
  rw [win_val _ k.isLt]
  show (k.val + 68 * s.val) + 16 * 68 * c.val = 68 * s.val + 1088 * c.val + k.val
  omega

theorem over_windows (Φ : Fin 2176 → sProp 𝕄) :
    bigSep Finset.univ Φ = bigSep Finset.univ fun c : Fin 2 => bigSep Finset.univ fun s : Fin 16 => bigSep (Finset.range 68) fun k => Φ (win (tileOf c s) k) := by
  rw [bigSep_univ_equiv winEquiv, bigSep_univ_prod]
  refine bigSep_congr fun c _ => ?_
  rw [bigSep_univ_prod]
  refine bigSep_congr fun s _ => ?_
  rw [show Finset.range 68 = (Finset.univ : Finset (Fin 68)).map Fin.valEmbedding by rw [Fin.map_valEmbedding_univ, Nat.Iio_eq_range], Idealize.SL.BI.bigSep_map]
  exact bigSep_congr fun k _ => congrArg Φ (winEquiv_eq c s k)

/-- Tile `(c, s)`'s share of the table. -/
def tileEquiv : Fin 2 × Fin 16 ≃ Fin (2 ^ 5) := (finProdFinEquiv (m := 2) (n := 16)).trans (finCongr (by norm_num))
def share (c : Fin 2) (s : Fin 16) : PosShare TreeShare := ShareLeaves.leaf 5 fullShare (tileEquiv (c, s))

theorem over_shares (d : Dev nD) (X : S172032x512.Idx → BitVec 32) :
    (xAt (F := F) d X fullShare : sProp 𝕄) = bigSep Finset.univ fun c : Fin 2 => bigSep Finset.univ fun s : Fin 16 => xAt (F := F) d X (share c s) := by
  unfold xAt
  refine (ShareLeaves.pointsTo_leaves (Val := Elt F) (ℓ := xLoc d) Finset.univ (X : Buf (Elt F) (xLoc d)) 5 fullShare).trans ((bigSep_univ_equiv tileEquiv _).trans (bigSep_univ_prod _))

/-- The row numbers whole, window by window; -/
theorem p_windows (d : Dev nD) (A : S2176x64.Idx → BitVec 32) :
    (pLoc d ↦{fullShare} (A : Buf (Elt F) (pLoc d)) : sProp 𝕄) = bigSep Finset.univ fun c : Fin 2 => bigSep Finset.univ fun s : Fin 16 => pAll (F := F) d (tileOf c s) A := by
  unfold pAll
  rw [← over_windows (F := F) (fun w => pAt (F := F) d A w)]
  unfold pAt
  rw [← pointsTo_biUnion Finset.univ (ℓ := pLoc d) (fun w => (Rect.part (s := S2176x64) (a₀ := 0) pdiv w).set) (fun _ _ _ _ h => Rect.part_disjoint pdiv h), Rect.biUnion_part]
/-- the output likewise. -/
theorem o_windows (d : Dev nD) (g : S139264x512.Idx → BitVec 32) :
    (oLoc d ↦{fullShare} (g : Buf (Elt F) (oLoc d)) : sProp 𝕄) = bigSep Finset.univ fun c : Fin 2 => bigSep Finset.univ fun s : Fin 16 => oAll (F := F) d (tileOf c s) g := by
  unfold oAll
  rw [← over_windows (F := F) (fun w => oAt (F := F) d w g)]
  unfold oAt
  rw [← pointsTo_biUnion Finset.univ (ℓ := oLoc d) (fun w => (Rect.part (s := S139264x512) (a₀ := 0) odiv w).set) (fun _ _ _ _ h => Rect.part_disjoint odiv h), Rect.biUnion_part]

/-! ## What the launch carries -/

variable (m : (ℓ : Loc nD τ sig) → Buf (Elt F) ℓ) (ρ : Dev nD → PrngReg)

abbrev posLoc (d : Dev nD) : Loc nD τ sig := (SparseCore.T d).loc main_arg1
abbrev flatLoc (d : Dev nD) : Loc nD τ sig := (SparseCore.T d).loc main_v0
abbrev outLoc (d : Dev nD) : Loc nD τ sig := (SparseCore.T d).loc main_v3

/-- The launch's table; its positions flattened, and in windows of 64; the gathered rows, and folded. -/
def Xm (d : Dev nD) : S172032x512.Idx → BitVec 32 := m (xLoc d)
def Ym (d : Dev nD) : S139264x512.Idx → BitVec 32 := m (oLoc d)
def Pm (d : Dev nD) : S4x34816.Idx → BitVec 32 := m (posLoc d)
def Fm (d : Dev nD) : S139264.Idx → BitVec 32 := shapeCast S139264 (Pm m d) shapeCasts_S4x34816_S139264
def Am (d : Dev nD) : S2176x64.Idx → BitVec 32 := shapeCast S2176x64 (Fm m d) shapeCasts_S139264_S2176x64
def Gm (d : Dev nD) : S139264x512.Idx → BitVec 32 := gathered (Am m d) (Xm m d)
def Rm (d : Dev nD) : S4x34816x512.Idx → BitVec 32 := shapeCast S4x34816x512 (Gm m d) shapeCasts_S139264x512_S4x34816x512

/-- What a tile is handed, the output at `g`. -/
@[irreducible] def part (d : Dev nD) (g : S139264x512.Idx → BitVec 32) (c : Fin 2) (s : Fin 16) : sProp 𝕄 :=
  iprop(pAll (F := F) d (tileOf c s) (Am m d) ∗ xAt (F := F) d (Xm m d) (share c s) ∗ oAll (F := F) d (tileOf c s) g)
@[irreducible] def coreParts (d : Dev nD) (g : S139264x512.Idx → BitVec 32) (c : Fin 2) : sProp 𝕄 := bigSep Finset.univ fun s : Fin 16 => part m d g c s

instance part_storable (d : Dev nD) (g : S139264x512.Idx → BitVec 32) (c : Fin 2) (s : Fin 16) : BI.Storable (upEmb : UEmb _ 𝕄) (part m d g c s) := by
  unfold part pAll oAll pAt oAt xAt; infer_instance
instance coreParts_storable (d : Dev nD) (g : S139264x512.Idx → BitVec 32) (c : Fin 2) : BI.Storable (upEmb : UEmb _ 𝕄) (coreParts m d g c) := by
  unfold coreParts; infer_instance

/-- The three arrays of the call, whole, are what all the tiles are handed. -/
theorem deal (d : Dev nD) (g : S139264x512.Idx → BitVec 32) :
    iprop((pLoc d ↦{fullShare} (Am m d : Buf (Elt F) (pLoc d))) ∗ xAt (F := F) d (Xm m d) fullShare ∗ (oLoc d ↦{fullShare} (g : Buf (Elt F) (oLoc d))))
      = (bigSep Finset.univ fun c : Fin 2 => coreParts m d g c : sProp 𝕄) := by
  unfold coreParts part
  simp only [bigSep_sep']
  rw [p_windows, over_shares, o_windows]

theorem nCore_two : (K (F := F)).nCore 0 = 2 := rfl
theorem nSub_sixteen : (K (F := F)).nSub 0 = 16 := rfl

def P : (K (F := F)).Pay (nD := nD) (Val := Elt F) (Name := ℕ) (U := UU) where
  st := fun q d c => match q with | 0 => coreParts m d (Ym m d) (Fin.cast nCore_two c)
  dn := fun q d c => match q with | 0 => coreParts m d (Gm m d) (Fin.cast nCore_two c)
  go := fun q d c s => match q with | 0 => part m d (Ym m d) (Fin.cast nCore_two c) (Fin.cast nSub_sixteen s)
  td := fun q d c s => match q with | 0 => part m d (Gm m d) (Fin.cast nCore_two c) (Fin.cast nSub_sixteen s)
  x := fun _ _ => iprop(emp)

theorem P_st (d : Dev nD) (c) : (P m).st 0 d c = coreParts m d (Ym m d) (Fin.cast nCore_two c) := rfl
theorem P_dn (d : Dev nD) (c) : (P m).dn 0 d c = coreParts m d (Gm m d) (Fin.cast nCore_two c) := rfl
theorem P_go (d : Dev nD) (c s) : (P m).go 0 d c s = part m d (Ym m d) (Fin.cast nCore_two c) (Fin.cast nSub_sixteen s) := rfl
theorem P_td (d : Dev nD) (c s) : (P m).td 0 d c s = part m d (Gm m d) (Fin.cast nCore_two c) (Fin.cast nSub_sixteen s) := rfl

instance P_storable : (P (F := F) m).IsStorable where
  st q d c := match q with | 0 => by rw [P_st]; infer_instance
  dn q d c := match q with | 0 => by rw [P_dn]; infer_instance
  go q d c s := match q with | 0 => by rw [P_go]; infer_instance
  td q d c s := match q with | 0 => by rw [P_td]; infer_instance

theorem split : (K (F := F)).VecSplit' (P m) 0 := by
  intro d c
  show coreParts m d (Ym m d) (Fin.cast nCore_two c) ⊢ |={Set.univ}=> iprop(
      (bigSep Finset.univ fun s : Fin ((K (F := F)).nSub 0) => part m d (Ym m d) (Fin.cast nCore_two c) (Fin.cast nSub_sixteen s))
      ∗ ((bigSep Finset.univ fun s : Fin ((K (F := F)).nSub 0) => part m d (Gm m d) (Fin.cast nCore_two c) (Fin.cast nSub_sixteen s))
          -∗ coreParts m d (Gm m d) (Fin.cast nCore_two c)))
  unfold coreParts
  iintro H; imodintro
  isplitl [H]; · iexact H
  iintro H; iexact H

/-- Every word of the launch's positions is a row of the table. -/
def InRows : Prop := ∀ (d : Dev nD) (y : S4x34816.Idx), (Pm m d y).toNat < 172032

variable [FloatOps F]

theorem body_eq (c : Fin τ.nSC) (s : Fin τ.nSub) :
    defs₀ (F := F) (.scVector c s) 0 ()
      = SparseCore.onTile hcore0 hsub0 (fun c s => cc0_gather_kernel (tileOf c s) xV (Memref.isWhole_whole _) pV (Memref.isWhole_whole _) oV (Memref.isWhole_whole _)
          sV (Memref.isWhole_whole _) cc0_scoped1 rV (Memref.isWhole_whole _) cc0_scoped3 cc0_scoped4 cc0_scoped5 cc0_scoped6 cc0_scoped7) ⟨⟩ c s := rfl

theorem waits_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %h, HO⟩
  isplitl [HA]; · iexact HA
  isplitl [HB]; · iexact HB
  isplitl [HC]; · iexact HC
  iexists W'
  isplitr; · ipureintro; exact fun p hp => (h p hp).elim .inl fun e => .inr (.inl e)
  iexact HO

set_option maxRecDepth 16384 in
theorem obligation (hm : InRows m) : (K (F := F)).TileObl (D (F := F)) 𝒱 (P m) v₀ 0 := by
  intro d c s O W hO _ _
  simp only [show (P m).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [body_eq]; simp only [SparseCore.onTile, hcs, and_self, ↓reduceDIte]
  simp only [P_go, P_td]
  unfold part
  exact (task (F := F) d (tileOf ⟨_, hcs.1⟩ ⟨_, hcs.2⟩) (Am m d) (Xm m d) (Ym m d) (share (Fin.cast nCore_two c) (Fin.cast nSub_sixteen s)) (fun _ => hm d _) O W hO).trans
    (wp_mono frame _ _ fun _ => waits_weaken)

/-! ## The start -/

def u₀ : UU := (initOf (K (F := F)).hsCells (K (F := F)).hsToks, 1)

omit [FloatOps F] in
theorem nothing {I : Type} (s : Finset I) : (bigSep s fun _ => iprop(emp)) = (iprop(emp) : sProp 𝕄) := BI.bigSep_emp_const s

omit [FloatOps F] in
theorem start : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing]; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), nothing]
  iempintro

/-! ## The host -/

abbrev bx : DevRef τ sig := Proc.devRef .tc (main_arg0 : Ref sig .tc)
abbrev bpos : DevRef τ sig := Proc.devRef .tc (main_arg1 : Ref sig .tc)
abbrev bflat : DevRef τ sig := Proc.devRef .tc (main_v0 : Ref sig .tc)
abbrev bp : DevRef τ sig := Proc.devRef .tc (main_v1 : Ref sig .tc)
abbrev bo : DevRef τ sig := Proc.devRef .tc (main_v2 : Ref sig .tc)
abbrev bout : DevRef τ sig := Proc.devRef .tc (main_v3 : Ref sig .tc)
abbrev flatten : HloOp τ sig (Elt F) := StableHlo.reshape main_arg1 main_v0 (rfl : (.i32 : EltTy) = .i32) shapeCasts_S4x34816_S139264
abbrev toWindows : HloOp τ sig (Elt F) := StableHlo.reshape main_v0 main_v1 (rfl : (.i32 : EltTy) = .i32) shapeCasts_S139264_S2176x64
abbrev fold : HloOp τ sig (Elt F) := StableHlo.reshape main_v2 main_v3 (rfl : (.i32 : EltTy) = .i32) shapeCasts_S139264x512_S4x34816x512

/-- The host's arrays. -/
abbrev arrays : Finset (DevRef τ sig) := {bx, bpos, bflat, bp, bo, bout}

omit [FloatOps F] in
theorem held_arrays (d : Dev nD) (W : Valuation τ sig (Elt F)) :
    (StableHlo.held (SparseCore.T d) arrays W : sProp 𝕄)
      = iprop((xLoc d ↦{fullShare} W bx) ∗ (posLoc d ↦{fullShare} W bpos) ∗ (flatLoc d ↦{fullShare} W bflat)
          ∗ (pLoc d ↦{fullShare} W bp) ∗ (oLoc d ↦{fullShare} W bo) ∗ outLoc d ↦{fullShare} W bout) := by
  unfold StableHlo.held arrays
  repeat rw [SparseCore.bigSep_insert' (by decide)]
  rw [bigSep_singleton]

omit [FloatOps F] in
theorem unscoped_arrays (d : Dev nD) : (unscopedBufs d (fun b => m ((SparseCore.T d).loc b)) : sProp 𝕄) = StableHlo.held (SparseCore.T d) arrays (fun b => m (d, b)) := by
  rw [held_arrays]
  unfold unscopedBufs
  rw [show (Finset.univ.filter fun b : Ref sig .tc => ¬ b.isScoped) = {main_arg0, main_arg1, main_v0, main_v1, main_v2, main_v3} by decide]
  repeat rw [SparseCore.bigSep_insert' (by decide)]
  rw [bigSep_singleton]

/-- The arrays at the launch, before the call, after it. -/
def W0 (d : Dev nD) : Valuation τ sig (Elt F) := fun b => m (d, b)
def W1 (d : Dev nD) : Valuation τ sig (Elt F) := (toWindows (F := F)).result ((flatten (F := F)).result (W0 m d))
def W2 (d : Dev nD) : Valuation τ sig (Elt F) := Function.update (W1 m d) bo (Gm m d)

omit [FloatOps F] in
theorem W1_keep (d : Dev nD) {b : DevRef τ sig} (h1 : b ≠ bflat) (h2 : b ≠ bp) : W1 m d b = m (d, b) := by
  unfold W1
  rw [(toWindows (F := F)).result_of_not_mem _ (show b ∉ ({bp} : Finset (DevRef τ sig)) by simpa using h2),
    (flatten (F := F)).result_of_not_mem _ (show b ∉ ({bflat} : Finset (DevRef τ sig)) by simpa using h1)]
  rfl
omit [FloatOps F] in
theorem W1_p (d : Dev nD) : W1 m d bp = Am m d := by
  refine (StableHlo.reshape_result main_v0 main_v1 _ _ _ _ _).trans ?_
  rw [show (flatten (F := F)).result (W0 m d) bflat = Fm m d from StableHlo.reshape_result main_arg1 main_v0 _ _ _ _ _]
  rfl
omit [FloatOps F] in
theorem W2_keep (d : Dev nD) {b : DevRef τ sig} (h : b ≠ bo) : W2 m d b = W1 m d b := Function.update_of_ne h _ _
omit [FloatOps F] in
theorem W2_o (d : Dev nD) : W2 m d bo = Gm m d := Function.update_self _ _ _

omit [FloatOps F] in
theorem held_before (d : Dev nD) : (StableHlo.held (SparseCore.T d) arrays (W1 m d) : sProp 𝕄)
    = iprop((xLoc d ↦{fullShare} m (xLoc d)) ∗ (posLoc d ↦{fullShare} m (posLoc d)) ∗ (flatLoc d ↦{fullShare} W1 m d bflat)
        ∗ (pLoc d ↦{fullShare} (Am m d : Buf (Elt F) (pLoc d))) ∗ (oLoc d ↦{fullShare} m (oLoc d)) ∗ outLoc d ↦{fullShare} W1 m d bout) := by
  rw [held_arrays, W1_p, W1_keep m d (b := bx) (by decide) (by decide), W1_keep m d (b := bpos) (by decide) (by decide), W1_keep m d (b := bo) (by decide) (by decide)]

omit [FloatOps F] in
theorem held_between (d : Dev nD) : (StableHlo.held (SparseCore.T d) arrays (W2 m d) : sProp 𝕄)
    = iprop((xLoc d ↦{fullShare} m (xLoc d)) ∗ (posLoc d ↦{fullShare} m (posLoc d)) ∗ (flatLoc d ↦{fullShare} W1 m d bflat)
        ∗ (pLoc d ↦{fullShare} (Am m d : Buf (Elt F) (pLoc d))) ∗ (oLoc d ↦{fullShare} (Gm m d : Buf (Elt F) (oLoc d))) ∗ outLoc d ↦{fullShare} W1 m d bout) := by
  rw [held_arrays, W2_o, W2_keep m d (b := bx) (by decide), W2_keep m d (b := bpos) (by decide), W2_keep m d (b := bflat) (by decide),
    W2_keep m d (b := bp) (by decide), W2_keep m d (b := bout) (by decide), W1_p, W1_keep m d (b := bx) (by decide) (by decide), W1_keep m d (b := bpos) (by decide) (by decide)]

/-- What the run leaves the claims. -/
def left (d : Dev nD) : sProp 𝕄 :=
  iprop((xLoc d ↦{fullShare} m (xLoc d)) ∗ (posLoc d ↦{fullShare} m (posLoc d)) ∗ outLoc d ↦{fullShare} (Rm m d : Buf (Elt F) (outLoc d)))

omit [FloatOps F] in
theorem held_after (d : Dev nD) : (StableHlo.held (SparseCore.T d) arrays ((fold (F := F)).result (W2 m d)) : sProp 𝕄)
    ⊢ left m d := by
  unfold left
  rw [held_arrays, (fold (F := F)).result_of_not_mem _ (b := bx) (show bx ∉ ({bout} : Finset (DevRef τ sig)) by decide),
    (fold (F := F)).result_of_not_mem _ (b := bpos) (show bpos ∉ ({bout} : Finset (DevRef τ sig)) by decide),
    show (fold (F := F)).result (W2 m d) bout = Rm m d from (StableHlo.reshape_result main_v2 main_v3 _ _ _ _ _).trans (by rw [show W2 m d (Proc.tc.devRef main_v2) = Gm m d from W2_o m d]; rfl),
    W2_keep m d (b := bx) (by decide), W2_keep m d (b := bpos) (by decide), W1_keep m d (b := bx) (by decide) (by decide), W1_keep m d (b := bpos) (by decide) (by decide)]
  iintro ⟨Hx, Hp, -, -, -, Ho⟩
  isplitl [Hx]; · iexact Hx
  isplitl [Hp]; · iexact Hp
  iexact Ho

omit [FloatOps F] in
theorem handed (d : Dev nD) : (bigSep Finset.univ fun c : Fin ((K (F := F)).nCore 0) => (P m).st 0 d c)
    = iprop((pLoc d ↦{fullShare} (Am m d : Buf (Elt F) (pLoc d))) ∗ (xLoc d ↦{fullShare} m (xLoc d)) ∗ (oLoc d ↦{fullShare} (Ym m d : Buf (Elt F) (oLoc d)))) :=
  (deal m d (Ym m d)).symm
omit [FloatOps F] in
theorem returned (d : Dev nD) : (bigSep Finset.univ fun c : Fin ((K (F := F)).nCore 0) => (P m).dn 0 d c)
    = iprop((pLoc d ↦{fullShare} (Am m d : Buf (Elt F) (pLoc d))) ∗ (xLoc d ↦{fullShare} m (xLoc d)) ∗ (oLoc d ↦{fullShare} (Gm m d : Buf (Elt F) (oLoc d)))) :=
  (deal m d (Gm m d)).symm

theorem host (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ left m d ∗ (K (F := F)).tcEnd d) := by
  unfold SparseCore.Cfg.tcRes SparseCore.Cfg.tcEnd
  rw [unscoped_arrays]
  simp only [main, wp_bind, wp_pure]
  iintro ⟨#Hctx, Hst, ⟨Hb, Hheld, Hts, -⟩, -⟩
  iapply (wp_hlo_within 𝒱 (SparseCore.T d) none Set.univ (op := flatten) (S := arrays) (show ({bpos, bflat} : Finset (DevRef τ sig)) ⊆ arrays by decide) (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := toWindows) (S := arrays) (show ({bflat, bp} : Finset (DevRef τ sig)) ⊆ arrays by decide)
    (V := (flatten (F := F)).result (W0 m d))) $$ [Hb Hheld]
  · isplitl [Hb]; · iexact Hb
    iexact Hheld
  iintro ⟨Hb, Hheld⟩
  rw [wp_ret]; imodintro
  ihave Hh := (show (StableHlo.held (SparseCore.T d) arrays ((toWindows (F := F)).result ((flatten (F := F)).result (W0 m d))) : sProp 𝕄) ⊢ _ from Entails.of_eq (held_before (F := F) m d)) $$ Hheld
  icases Hh with ⟨Hx, Hpos, Hflat, Hp, Ho, Hout⟩
  iapply ((K (F := F)).wp_run (D (F := F)) 𝒱 (EH := EH) (P := P m) κ d 0) $$ [Hst Hx Hpos Hflat Hp Ho Hout Hb Hts]
  isplitr; · iexact Hctx
  isplitl [Hst]; · iexact Hst
  isplitl [Hx Hp Ho]
  · rw [handed]
    isplitl [Hp]; · iexact Hp
    isplitl [Hx]; · iexact Hx
    iexact Ho
  iintro ⟨Hst, Hdn⟩
  ihave Hdn := (Entails.of_eq (returned m d)) $$ Hdn
  icases Hdn with ⟨Hp, Hx, Ho⟩
  iapply (wp_hlo_within 𝒱 (SparseCore.T d) none Set.univ (op := fold) (S := arrays) (show ({bo, bout} : Finset (DevRef τ sig)) ⊆ arrays by decide) (V := W2 m d)) $$ [Hb Hx Hpos Hflat Hp Ho Hout]
  · isplitl [Hb]; · iexact Hb
    rw [held_between]
    isplitl [Hx]; · iexact Hx
    isplitl [Hpos]; · iexact Hpos
    isplitl [Hflat]; · iexact Hflat
    isplitl [Hp]; · iexact Hp
    isplitl [Ho]; · iexact Ho
    iexact Hout
  iintro ⟨Hb, Hheld⟩
  ihave Hh := (held_after (F := F) m d) $$ Hheld
  rw [wp_ret]; imodintro; imodintro
  isplitl [Hst]; · iexact Hst
  isplitl [Hh]; · iexact Hh
  isplitl [Hb] <;> iassumption

/-! ## The run -/

def ends (d : Dev nD) (s : Phys nD τ sig (Elt F)) : Prop :=
  s.mem.mem (outLoc d) = (Rm m d : Buf (Elt F) (outLoc d)) ∧ s.mem.mem (xLoc d) = m (xLoc d) ∧ s.mem.mem (posLoc d) = m (posLoc d)

omit [FloatOps F] in
theorem reads_all {s : Phys nD τ sig (Elt F)} {ℓ : Loc nD τ sig} {f : Buf (Elt F) ℓ} :
    iprop(SI s ∗ ℓ ↦{fullShare} f) ⊢ (iprop(⌜s.mem.mem ℓ = f⌝ ∗ SI s ∗ ℓ ↦{fullShare} f) : sProp 𝕄) := by
  refine (persistent_entails_right (SI_pointsTo_agree (st := s) (ℓ := ℓ) (I := Finset.univ) (q := fullShare) (f := f))).trans ?_
  iintro ⟨%h, H⟩
  isplitr; · ipureintro; exact funext fun y => h y (Finset.mem_univ y)
  iexact H

omit [FloatOps F] in
theorem finish (d : Dev nD) (s : Phys nD τ sig (Elt F)) : iprop(left m d ∗ SI s) ⊢ (⌜ends m d s⌝ : sProp 𝕄) := by
  unfold left
  iintro ⟨⟨Hx, Hp, Ho⟩, HS⟩
  ihave H := reads_all $$ [HS Hx]
  · isplitl [HS] <;> iassumption
  icases H with ⟨%h1, HS, -⟩
  ihave H := reads_all $$ [HS Hp]
  · isplitl [HS] <;> iassumption
  icases H with ⟨%h2, HS, -⟩
  ihave H := reads_all $$ [HS Ho]
  · isplitl [HS] <;> iassumption
  icases H with ⟨%h3, -, -⟩
  ipureintro; exact ⟨h3, h1, h2⟩

def QC : PUnit × MemSt nD τ sig (Elt F) → Prop := fun r =>
  (∀ c : Dev nD, r.2.mem (outLoc c) = (Rm m c : Buf (Elt F) (outLoc c)) ∧ r.2.mem (xLoc c) = m (xLoc c) ∧ r.2.mem (posLoc c) = m (posLoc c)) ∧ r.2.sem = fun _ => 0

theorem run_main [∀ e, Nonempty (Elt F e)] (hm : InRows m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => obligation m hm)
    (fun q _ => match q with | 0 => SparseCore.Cfg.VecSplit.of_plain (split m))
    m ρ main (fun _ => iprop(emp)) (left m) (u₀ (F := F)) (sep_elim_left.trans (start m)) (host m ρ) (ends m) (finish m) (QC m) (fun _ h hz => ⟨h, hz⟩)

end Cert.Proof.RowGather

end
-- ==== Proof.Rows.lean ====
/-
  The value both programs compute: at `(k, t)` the table's row `pos[k, t]`. The kernel's flattening of the positions,
  cutting into windows, gather and folding back is that (`folded_gathered`); so is the reference's `y[pos]`, whose
  wrapping of negative positions and clamping of large ones do nothing to a position between 0 and 172031 (`indexed`),
  which is what the precondition says of each (`small_of_pre`).
-/
module

public import proofs.«01_k».proof.Proof.Views
public import proofs.«01_k».proof.Proof.Gen.ReferenceIdeal
public import Idealize.ShloMosaic.Lib.Pipeline.Value

@[expose] public section

noncomputable section

namespace Cert.Proof.RowGather

open Cert.KernelIdeal Cert.KernelIdeal.Gen
open Idealize.ShloMosaic
open Idealize.ShloMosaic.ValueIdx

/-- The table's rows at the positions. -/
def rowsAt (x : S172032x512.Idx → BitVec 32) (p : S4x34816.Idx → BitVec 32) : S4x34816x512.Idx → BitVec 32 := fun y =>
  x (ix2 (Fin.ofNat 172032 (p (ix2 (y 0) (y 1))).toNat) (y 2))

/-- Word `n % 64` of window `n / 64` is the position `(k, t)` that comes `n`-th. -/
theorem window_word (p : S4x34816.Idx → BitVec 32) (k : Fin 4) (t : Fin 34816) (w : Fin 2176) (j : Fin 64)
    (h : 64 * w.val + j.val = 34816 * k.val + t.val) :
    shapeCast S2176x64 (shapeCast S139264 p shapeCasts_S4x34816_S139264) shapeCasts_S139264_S2176x64 (ix2 w j) = p (ix2 k t) := by
  have hn : 34816 * k.val + t.val < 139264 := by have := k.isLt; have := t.isLt; omega
  refine (shapeCast_apply _ _ _ (ix1 ⟨34816 * k.val + t.val, hn⟩) ?_).trans (shapeCast_apply _ _ _ (ix2 k t) ?_)
  · rw [Shape.rowMajor_val_one, Shape.rowMajor_val_two]
    show 34816 * k.val + t.val = w.val * 64 + j.val
    omega
  · rw [Shape.rowMajor_val_one, Shape.rowMajor_val_two]
    show k.val * 34816 + t.val = 34816 * k.val + t.val
    omega

/-- The kernel's value. -/
theorem folded_gathered (x : S172032x512.Idx → BitVec 32) (p : S4x34816.Idx → BitVec 32) :
    shapeCast S4x34816x512 (gathered (shapeCast S2176x64 (shapeCast S139264 p shapeCasts_S4x34816_S139264) shapeCasts_S139264_S2176x64) x)
      shapeCasts_S139264x512_S4x34816x512 = rowsAt x p := by
  funext y
  obtain ⟨k, t, c, rfl⟩ : ∃ (k : Fin 4) (t : Fin 34816) (c : Fin 512), y = ix3 k t c := ⟨y 0, y 1, y 2, eq_ix3 y⟩
  have hn : 34816 * k.val + t.val < 139264 := by have := k.isLt; have := t.isLt; omega
  refine (shapeCast_apply _ _ _ (ix2 (⟨34816 * k.val + t.val, hn⟩ : Fin 139264) c) ?_).trans ?_
  · rw [Shape.rowMajor_val_two, Shape.rowMajor_val_three]
    show (34816 * k.val + t.val) * 512 + c.val = (k.val * 34816 + t.val) * 512 + c.val
    omega
  · unfold gathered rowsAt
    have hw := window_word p k t ⟨(34816 * k.val + t.val) / 64, by omega⟩ ⟨(34816 * k.val + t.val) % 64, by omega⟩
      (by show 64 * ((34816 * k.val + t.val) / 64) + (34816 * k.val + t.val) % 64 = _; omega)
    exact congrArg (fun v : BitVec 32 => x (ix2 (Fin.ofNat 172032 v.toNat) c)) hw

/-! ## The reference -/

open Cert.ReferenceIdeal (gather_S172032x512_S4x34816x1_S4x34816x512_2_0_n_n_0_2_1512 S4x34816x1) in
/-- A row gather at start indices below the table's length reads the rows they name. -/
theorem gather_rows (x : S172032x512.Idx → BitVec 32) (q : IVec S4x34816x1 32) (p : S4x34816.Idx → BitVec 32)
    (hq : ∀ (k : Fin 4) (t : Fin 34816), q (ix3 k t (0 : Fin 1)) = p (ix2 k t)) (hp : ∀ y, (p y).toNat < 172032) :
    Host.gather gather_S172032x512_S4x34816x1_S4x34816x512_2_0_n_n_0_2_1512 x q = rowsAt x p := by
  funext y
  obtain ⟨k, t, c, rfl⟩ : ∃ (k : Fin 4) (t : Fin 34816) (c : Fin 512), y = ix3 k t c := ⟨y 0, y 1, y 2, eq_ix3 y⟩
  refine congrArg x (funext fun a => Fin.ext ?_)
  have hlt := hp (ix2 k t)
  generalize hD : gather_S172032x512_S4x34816x1_S4x34816x512_2_0_n_n_0_2_1512 = D
  match a with
  | ⟨0, _⟩ =>
    show D.start (ix3 k t c) q 0 + D.batchCoord (ix3 k t c) 0 + D.offCoord (ix3 k t c) 0 = (p (ix2 k t)).toNat % 172032
    subst hD
    rw [GatherDims.batchCoord_eq_zero _ _ _ List.not_mem_nil,
      GatherDims.offCoord_eq_zero _ _ _ fun h => ((GatherDims.mem_sKept _ _).mp h).1 (List.mem_singleton.mpr rfl)]
    unfold GatherDims.start
    rw [dif_pos (show (0 : Fin 2) ∈ (gather_S172032x512_S4x34816x1_S4x34816x512_2_0_n_n_0_2_1512).startIndexMap from List.mem_singleton.mpr rfl)]
    have hi : q (GatherDims.siIdx gather_S172032x512_S4x34816x1_S4x34816x512_2_0_n_n_0_2_1512 (ix3 k t c)
        ⟨List.idxOf (0 : Fin 2) [0], List.idxOf_lt_length_iff.2 (List.mem_singleton.mpr rfl)⟩) = p (ix2 k t) := by
      rw [← hq k t]
      exact congrArg q (funext fun b => match b with | ⟨0, _⟩ => rfl | ⟨1, _⟩ => rfl | ⟨2, _⟩ => rfl)
    have hm : ((p (ix2 k t)).toInt.toNat) = (p (ix2 k t)).toNat := by rw [BitVec.toInt_eq_toNat_cond]; split <;> omega
    refine (congrArg (fun v : BitVec 32 => min v.toInt.toNat (172032 - 1) + 0 + 0) hi).trans ?_
    show min (p (ix2 k t)).toInt.toNat (172032 - 1) + 0 + 0 = _
    rw [hm]; omega
  | ⟨1, _⟩ =>
    show D.start (ix3 k t c) q 1 + D.batchCoord (ix3 k t c) 1 + D.offCoord (ix3 k t c) 1 = c.val
    subst hD
    rw [GatherDims.batchCoord_eq_zero _ _ _ List.not_mem_nil]
    unfold GatherDims.start
    rw [dif_neg (show (1 : Fin 2) ∉ (gather_S172032x512_S4x34816x1_S4x34816x512_2_0_n_n_0_2_1512).startIndexMap from fun h => absurd (List.mem_singleton.mp h) (show ¬(1 : Fin 2) = 0 by decide))]
    unfold GatherDims.offCoord
    rw [dif_pos ((GatherDims.mem_sKept (gather_S172032x512_S4x34816x1_S4x34816x512_2_0_n_n_0_2_1512) (1 : Fin 2)).mpr ⟨fun h => absurd (List.mem_singleton.mp h) (show ¬(1 : Fin 2) = 0 by decide), List.not_mem_nil⟩)]
    show 0 + 0 + c.val = c.val
    omega

/-- A small word is not negative. -/
theorem slt_zero {v : BitVec 32} (h : v.toNat < 172032) : IntOp.cmpi .slt v 0#32 = 0#1 := by
  have : BitVec.slt v 0#32 = false := by
    rw [BitVec.slt_eq_decide, BitVec.toInt_eq_toNat_cond, decide_eq_false_iff_not]
    simp only [BitVec.toInt_zero]
    split <;> omega
  simp only [IntOp.cmpi, this]; rfl

open Cert.ReferenceIdeal.Gen Cert.ReferenceIdeal.Facts₀ in
/-- The reference's value. -/
theorem indexed (x : S172032x512.Idx → BitVec 32) (p : S4x34816.Idx → BitVec 32) (hp : ∀ y, (p y).toNat < 172032) :
    Host.gather Cert.ReferenceIdeal.gather_S172032x512_S4x34816x1_S4x34816x512_2_0_n_n_0_2_1512 x
      (broadcastInDim Cert.ReferenceIdeal.S4x34816x1 ![0, 1] Cert.ReferenceIdeal.Facts₀.bcast_S4x34816_S4x34816x1_0_1
        (select (cmpi .slt p (broadcastInDim S4x34816 ![] Cert.ReferenceIdeal.Facts₀.bcast_S_S4x34816 (constantI Cert.ReferenceIdeal.S_ 32 0#32)))
          (addi p (broadcastInDim S4x34816 ![] Cert.ReferenceIdeal.Facts₀.bcast_S_S4x34816 (constantI Cert.ReferenceIdeal.S_ 32 172032#32))) p))
      = rowsAt x p := by
  have kept : ∀ z : IVec S4x34816 32, select (cmpi .slt p (broadcastInDim S4x34816 ![] Cert.ReferenceIdeal.Facts₀.bcast_S_S4x34816 (constantI Cert.ReferenceIdeal.S_ 32 0#32))) z p = p := by
    intro z; funext y
    show Scalar.select (IntOp.cmpi .slt (p y) 0#32) (z y) (p y) = p y
    rw [slt_zero (hp y)]; rfl
  rw [kept]
  exact gather_rows x _ p (fun k t => congrArg p (funext fun a => match a with | ⟨0, _⟩ => rfl | ⟨1, _⟩ => rfl)) hp

/-! ## The precondition -/

theorem small_of_pre {v : BitVec 32} (h : IntOp.andi (IntOp.cmpi .sge v 0#32) (IntOp.cmpi .slt v 172032#32) = 1#1) : v.toNat < 172032 := by
  have both : ∀ a b : Bool, IntOp.andi (BitVec.ofBool a) (BitVec.ofBool b) = 1#1 → a = true ∧ b = true := by decide
  simp only [IntOp.cmpi] at h
  obtain ⟨h0, h1⟩ := both _ _ h
  rw [BitVec.sle_eq_decide, decide_eq_true_eq, BitVec.toInt_zero, BitVec.toInt_eq_toNat_cond] at h0
  rw [BitVec.slt_eq_decide, decide_eq_true_eq, BitVec.toInt_eq_toNat_cond, show (172032#32).toInt = 172032 by decide] at h1
  split at h0 <;> split at h1 <;> omega

end Cert.Proof.RowGather

end
-- ==== Proof.Blocks.lean ====
/-
  The experts' call, point by point. The grid has one point per block of 1024 rows; two tables are read ahead: which
  expert's weights a block takes, and how many of its rows are assignments. This module names the tables as the region
  finds them, the buffers the body is handed at a point, the block the body leaves in its output buffer
  (`leaves`: zeros, or the half block's rows above zeros, or the whole block's rows, as the count says), and runs the body
  once in each of the three cases.
-/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic

@[expose] public section

set_option maxRecDepth 16384

noncomputable section

namespace ExpertBlocks

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The tables, as the body is handed them -/

/-- The table of experts and the table of counts, whole buffers. -/
abbrev expertTable : Memref sig .tc .smem S168 .i32 := Memref.whole main_arg0
abbrev countTable : Memref sig .tc .smem S168 .i32 := Memref.whole main_arg1

/-- A table's contents on core `c`, and half of the table held there: the pipeline keeps the other half. -/
abbrev Words (c : Dev nD) {S : Shape} {e : EltTy} (M : Memref sig .tc .smem S e) : Type := Buf (Elt F) (M.view.loc (c : Thread nD τ))
abbrev half (c : Dev nD) {S : Shape} {e : EltTy} (M : Memref sig .tc .smem S e) (f : Words (F := F) c M) : sProp 𝕄 :=
  M.view.loc (c : Thread nD τ) ↦{fullShare.right} f

/-- The count of the block at grid point `i`, as the body loads it. -/
abbrev countAt {c : Dev nD} (i : grid0.Coords) (xt : Words (F := F) c countTable) : BitVec 32 :=
  countTable.view.readAt (Elt F) (Rect.unit (s := S168) (k0_off1 i) S1.size (k0_off1_inb i)).toLoadRect xt (Shape.Idx.first (numel1_S1.symm ▸ Nat.one_pos))

/-! ## The body's three cases -/

section Runs

variable (c : Dev nD) (i : grid0.Coords)
  (M0 : Memref sig .tc .vmem S1024x512 .i32) (h0 : M0.IsWhole) (M1 : Memref sig .tc .vmem S1x1024x2048 .f32) (h1 : M1.IsWhole)
  (M2 : Memref sig .tc .vmem S1x1x2048 .f32) (h2 : M2.IsWhole) (M3 : Memref sig .tc .vmem S1x1024x1024 .f32) (h3 : M3.IsWhole)
  (M4 : Memref sig .tc .vmem S1x1x1024 .f32) (h4 : M4.IsWhole) (M5 : Memref sig .tc .vmem S1024x1024 .bf16) (h5 : M5.IsWhole)
  (x0 : Vec F S1024x512 .i32) (x1 : Vec F S1x1024x2048 .f32) (x2 : Vec F S1x1x2048 .f32) (x3 : Vec F S1x1024x1024 .f32) (x4 : Vec F S1x1x1024 .f32)
  (be : Words (F := F) c expertTable) (nv : Words (F := F) c countTable)

/-- The five input buffers at their blocks, the two tables' halves. -/
abbrev inputs : sProp 𝕄 :=
  iprop(owns (c : Thread nD τ) M0 fullShare x0 ∗ owns (c : Thread nD τ) M1 fullShare x1 ∗ owns (c : Thread nD τ) M2 fullShare x2
    ∗ owns (c : Thread nD τ) M3 fullShare x3 ∗ owns (c : Thread nD τ) M4 fullShare x4 ∗ half c expertTable be ∗ half c countTable nv)

/-- The body's triple, the stores it makes into the output buffer being `L`. -/
abbrev Runs (L : List (View.Piece (Elt F) S1024x1024 .bf16)) : Prop :=
  ∀ (E : Set ℕ) (K : PUnit → sProp 𝕄),
    iprop(inputs c M0 M1 M2 M3 M4 x0 x1 x2 x3 x4 be nv ∗ (∃ d, owns (c : Thread nD τ) M5 fullShare d)
        ∗ (iprop(inputs c M0 M1 M2 M3 M4 x0 x1 x2 x3 x4 be nv
            ∗ (∃ f, M5.view.loc (c : Thread nD τ) ↦[M5.view.set]{fullShare} M5.view.writes (Elt F) f L)) -∗ K ⟨⟩))
      ⊢ wp frame (wpE (defs₀ (F := F)) Variants.none c none) E
          (cc0_moe_experts i expertTable (Memref.isWhole_whole _) countTable (Memref.isWhole_whole _) M0 h0 M1 h1 M2 h2 M3 h3 M4 h4 M5 h5) K

set_option maxHeartbeats 2000000 in
/-- No row of the block is an assignment: the body stores zeros. -/
def runEmpty (a1 : k0_cond1 (countAt i nv) = 1#1) (a2 : ¬ k0_cond2 (countAt i nv) = 1#1) (a3 : ¬ k0_cond3 (countAt i nv) = 1#1) :
    { L : List (View.Piece (Elt F) S1024x1024 .bf16) // Runs c i M0 h0 M1 h1 M2 h2 M3 h3 M4 h4 M5 h5 x0 x1 x2 x3 x4 be nv L } := by
  refine ⟨?_, fun E K => ?run⟩
  case run =>
    simp only [cc0_moe_experts_eq_skeleton]; unfold cc0_moe_experts_skel
    unfold inputs owns
    iintro ⟨⟨⟨%f0, %e0, H0⟩, ⟨%f1, %e1, H1⟩, ⟨%f2, %e2, H2⟩, ⟨%f3, %e3, H3⟩, ⟨%f4, %e4, H4⟩, HB, HN⟩, ⟨%d5, %f5, -, H5⟩, Hk⟩
    obtain rfl := h0.eq_unread e0; obtain rfl := h1.eq_unread e1; obtain rfl := h2.eq_unread e2; obtain rfl := h3.eq_unread e3; obtain rfl := h4.eq_unread e4
    sl_exec (disch := first | sl_exact a1 | sl_exact a2 | sl_exact a3)
    sl_step
    iapply Hk
    isplitr [H5]
    · isplitl [H0]
      · iexists _; isplitr; · ipureintro; exact h0.read_unread _
        iexact H0
      isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [HB]; · iexact HB
      iexact HN
    iexists _; iexact H5

set_option maxHeartbeats 2000000 in
/-- At most half of the rows are: the body computes the upper half of the block and stores zeros below it. -/
def runHalf (a1 : ¬ k0_cond1 (countAt i nv) = 1#1) (a2 : k0_cond2 (countAt i nv) = 1#1) (a3 : ¬ k0_cond3 (countAt i nv) = 1#1) :
    { L : List (View.Piece (Elt F) S1024x1024 .bf16) // Runs c i M0 h0 M1 h1 M2 h2 M3 h3 M4 h4 M5 h5 x0 x1 x2 x3 x4 be nv L } := by
  refine ⟨?_, fun E K => ?run⟩
  case run =>
    simp only [cc0_moe_experts_eq_skeleton]; unfold cc0_moe_experts_skel
    simp only [k0_part1_eq_skeleton]
    unfold inputs owns
    iintro ⟨⟨⟨%f0, %e0, H0⟩, ⟨%f1, %e1, H1⟩, ⟨%f2, %e2, H2⟩, ⟨%f3, %e3, H3⟩, ⟨%f4, %e4, H4⟩, HB, HN⟩, ⟨%d5, %f5, -, H5⟩, Hk⟩
    obtain rfl := h0.eq_unread e0; obtain rfl := h1.eq_unread e1; obtain rfl := h2.eq_unread e2; obtain rfl := h3.eq_unread e3; obtain rfl := h4.eq_unread e4
    sl_exec (disch := first | sl_exact a1 | sl_exact a2 | sl_exact a3)
    sl_step
    iapply Hk
    isplitr [H5]
    · isplitl [H0]
      · iexists _; isplitr; · ipureintro; exact h0.read_unread _
        iexact H0
      isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [HB]; · iexact HB
      iexact HN
    iexists _; iexact H5

set_option maxHeartbeats 2000000 in
/-- More than half are: the body computes the whole block. -/
def runWhole (a1 : ¬ k0_cond1 (countAt i nv) = 1#1) (a2 : ¬ k0_cond2 (countAt i nv) = 1#1) (a3 : k0_cond3 (countAt i nv) = 1#1) :
    { L : List (View.Piece (Elt F) S1024x1024 .bf16) // Runs c i M0 h0 M1 h1 M2 h2 M3 h3 M4 h4 M5 h5 x0 x1 x2 x3 x4 be nv L } := by
  refine ⟨?_, fun E K => ?run⟩
  case run =>
    simp only [cc0_moe_experts_eq_skeleton]; unfold cc0_moe_experts_skel
    simp only [k0_part2_eq_skeleton]
    unfold inputs owns
    iintro ⟨⟨⟨%f0, %e0, H0⟩, ⟨%f1, %e1, H1⟩, ⟨%f2, %e2, H2⟩, ⟨%f3, %e3, H3⟩, ⟨%f4, %e4, H4⟩, HB, HN⟩, ⟨%d5, %f5, -, H5⟩, Hk⟩
    obtain rfl := h0.eq_unread e0; obtain rfl := h1.eq_unread e1; obtain rfl := h2.eq_unread e2; obtain rfl := h3.eq_unread e3; obtain rfl := h4.eq_unread e4
    sl_exec (disch := first | sl_exact a1 | sl_exact a2 | sl_exact a3)
    sl_step
    iapply Hk
    isplitr [H5]
    · isplitl [H0]
      · iexists _; isplitr; · ipureintro; exact h0.read_unread _
        iexact H0
      isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [HB]; · iexact HB
      iexact HN
    iexists _; iexact H5

/-! ## The block the body leaves -/

/-- The three cases of a count, each excluding the others. -/
abbrev IsEmpty (v : BitVec 32) : Prop := k0_cond1 v = 1#1 ∧ ¬ k0_cond2 v = 1#1 ∧ ¬ k0_cond3 v = 1#1
abbrev IsHalf (v : BitVec 32) : Prop := ¬ k0_cond1 v = 1#1 ∧ k0_cond2 v = 1#1 ∧ ¬ k0_cond3 v = 1#1
abbrev IsWhole (v : BitVec 32) : Prop := ¬ k0_cond1 v = 1#1 ∧ ¬ k0_cond2 v = 1#1 ∧ k0_cond3 v = 1#1

/-- A buffer to read the stores back through: which one makes no difference once the stores cover the block. -/
abbrev through : View sig .tc .vmem S1024x1024 .bf16 := (Memref.whole cc0_stg5_0 : Memref sig .tc .vmem S1024x1024 .bf16).view

/-- What a list of stores leaves. -/
abbrev stored (L : List (View.Piece (Elt F) S1024x1024 .bf16)) : Vec F S1024x1024 .bf16 :=
  through.read (Elt F) (through.writes (Elt F) through.junk L)

/-- The block the body leaves: what its stores leave, in the case the count is of. -/
def leaves : Vec F S1024x1024 .bf16 :=
  if a : IsEmpty (countAt i nv) then
    stored (runEmpty c i M0 h0 M1 h1 M2 h2 M3 h3 M4 h4 M5 h5 x0 x1 x2 x3 x4 be nv a.1 a.2.1 a.2.2).1
  else if a : IsHalf (countAt i nv) then
    stored (runHalf c i M0 h0 M1 h1 M2 h2 M3 h3 M4 h4 M5 h5 x0 x1 x2 x3 x4 be nv a.1 a.2.1 a.2.2).1
  else if a : IsWhole (countAt i nv) then
    stored (runWhole c i M0 h0 M1 h1 M2 h2 M3 h3 M4 h4 M5 h5 x0 x1 x2 x3 x4 be nv a.1 a.2.1 a.2.2).1
  else stored []

theorem leaves_empty (a : IsEmpty (countAt i nv)) :
    leaves c i M0 h0 M1 h1 M2 h2 M3 h3 M4 h4 M5 h5 x0 x1 x2 x3 x4 be nv
      = stored (runEmpty c i M0 h0 M1 h1 M2 h2 M3 h3 M4 h4 M5 h5 x0 x1 x2 x3 x4 be nv a.1 a.2.1 a.2.2).1 := by
  unfold leaves; exact dif_pos a

theorem leaves_half (a : IsHalf (countAt i nv)) :
    leaves c i M0 h0 M1 h1 M2 h2 M3 h3 M4 h4 M5 h5 x0 x1 x2 x3 x4 be nv
      = stored (runHalf c i M0 h0 M1 h1 M2 h2 M3 h3 M4 h4 M5 h5 x0 x1 x2 x3 x4 be nv a.1 a.2.1 a.2.2).1 := by
  unfold leaves; exact (dif_neg fun h => a.1 h.1).trans (dif_pos a)

theorem leaves_whole (a : IsWhole (countAt i nv)) :
    leaves c i M0 h0 M1 h1 M2 h2 M3 h3 M4 h4 M5 h5 x0 x1 x2 x3 x4 be nv
      = stored (runWhole c i M0 h0 M1 h1 M2 h2 M3 h3 M4 h4 M5 h5 x0 x1 x2 x3 x4 be nv a.1 a.2.1 a.2.2).1 := by
  unfold leaves; exact (dif_neg fun h => a.1 h.1).trans ((dif_neg fun h => a.2.1 h.2.1).trans (dif_pos a))

/-- The stores of each case cover the block. -/
theorem cover_empty (a1 : k0_cond1 (countAt i nv) = 1#1) (a2 : ¬ k0_cond2 (countAt i nv) = 1#1) (a3 : ¬ k0_cond3 (countAt i nv) = 1#1) (y : S1024x1024.Idx) :
    ∃ pc ∈ (runEmpty c i M0 h0 M1 h1 M2 h2 M3 h3 M4 h4 M5 h5 x0 x1 x2 x3 x4 be nv a1 a2 a3).1, y ∈ pc.1.set :=
  View.cover_of_tiledL (runEmpty c i M0 h0 M1 h1 M2 h2 M3 h3 M4 h4 M5 h5 x0 x1 x2 x3 x4 be nv a1 a2 a3).1 S1024x1024.size (by sl_kernel_rfl) y

theorem cover_half (a1 : ¬ k0_cond1 (countAt i nv) = 1#1) (a2 : k0_cond2 (countAt i nv) = 1#1) (a3 : ¬ k0_cond3 (countAt i nv) = 1#1) (y : S1024x1024.Idx) :
    ∃ pc ∈ (runHalf c i M0 h0 M1 h1 M2 h2 M3 h3 M4 h4 M5 h5 x0 x1 x2 x3 x4 be nv a1 a2 a3).1, y ∈ pc.1.set :=
  View.cover_of_tiledL (runHalf c i M0 h0 M1 h1 M2 h2 M3 h3 M4 h4 M5 h5 x0 x1 x2 x3 x4 be nv a1 a2 a3).1 S512x1024.size (by sl_kernel_rfl) y

theorem cover_whole (a1 : ¬ k0_cond1 (countAt i nv) = 1#1) (a2 : ¬ k0_cond2 (countAt i nv) = 1#1) (a3 : k0_cond3 (countAt i nv) = 1#1) (y : S1024x1024.Idx) :
    ∃ pc ∈ (runWhole c i M0 h0 M1 h1 M2 h2 M3 h3 M4 h4 M5 h5 x0 x1 x2 x3 x4 be nv a1 a2 a3).1, y ∈ pc.1.set :=
  View.cover_of_tiledL (runWhole c i M0 h0 M1 h1 M2 h2 M3 h3 M4 h4 M5 h5 x0 x1 x2 x3 x4 be nv a1 a2 a3).1 S1024x1024.size (by sl_kernel_rfl) y

/-- The body's triple, once for the three cases: its inputs come back, and the output buffer holds the block it leaves. -/
theorem body_runs (hv : IsEmpty (countAt i nv) ∨ IsHalf (countAt i nv) ∨ IsWhole (countAt i nv)) (E : Set ℕ) (K : PUnit → sProp 𝕄) :
    iprop(inputs c M0 M1 M2 M3 M4 x0 x1 x2 x3 x4 be nv ∗ (∃ d, owns (c : Thread nD τ) M5 fullShare d)
        ∗ (iprop(inputs c M0 M1 M2 M3 M4 x0 x1 x2 x3 x4 be nv
            ∗ owns (c : Thread nD τ) M5 fullShare (leaves c i M0 h0 M1 h1 M2 h2 M3 h3 M4 h4 M5 h5 x0 x1 x2 x3 x4 be nv)) -∗ K ⟨⟩))
      ⊢ wp frame (wpE (defs₀ (F := F)) Variants.none c none) E
          (cc0_moe_experts i expertTable (Memref.isWhole_whole _) countTable (Memref.isWhole_whole _) M0 h0 M1 h1 M2 h2 M3 h3 M4 h4 M5 h5) K := by
  rcases hv with a | a | a
  · rw [leaves_empty c i M0 h0 M1 h1 M2 h2 M3 h3 M4 h4 M5 h5 x0 x1 x2 x3 x4 be nv a]
    iintro ⟨HI, HO, Hk⟩
    iapply ((runEmpty c i M0 h0 M1 h1 M2 h2 M3 h3 M4 h4 M5 h5 x0 x1 x2 x3 x4 be nv a.1 a.2.1 a.2.2).2 E K)
    isplitl [HI]; · iexact HI
    isplitl [HO]; · iexact HO
    iintro ⟨HI, ⟨%f, HO⟩⟩
    iapply Hk
    isplitl [HI]; · iexact HI
    unfold owns; iexists _; isplitr
    swap; · iexact HO
    ipureintro; exact View.read_writes_of_cover _ _ _ _ _ (cover_empty c i M0 h0 M1 h1 M2 h2 M3 h3 M4 h4 M5 h5 x0 x1 x2 x3 x4 be nv a.1 a.2.1 a.2.2)
  · rw [leaves_half c i M0 h0 M1 h1 M2 h2 M3 h3 M4 h4 M5 h5 x0 x1 x2 x3 x4 be nv a]
    iintro ⟨HI, HO, Hk⟩
    iapply ((runHalf c i M0 h0 M1 h1 M2 h2 M3 h3 M4 h4 M5 h5 x0 x1 x2 x3 x4 be nv a.1 a.2.1 a.2.2).2 E K)
    isplitl [HI]; · iexact HI
    isplitl [HO]; · iexact HO
    iintro ⟨HI, ⟨%f, HO⟩⟩
    iapply Hk
    isplitl [HI]; · iexact HI
    unfold owns; iexists _; isplitr
    swap; · iexact HO
    ipureintro; exact View.read_writes_of_cover _ _ _ _ _ (cover_half c i M0 h0 M1 h1 M2 h2 M3 h3 M4 h4 M5 h5 x0 x1 x2 x3 x4 be nv a.1 a.2.1 a.2.2)
  · rw [leaves_whole c i M0 h0 M1 h1 M2 h2 M3 h3 M4 h4 M5 h5 x0 x1 x2 x3 x4 be nv a]
    iintro ⟨HI, HO, Hk⟩
    iapply ((runWhole c i M0 h0 M1 h1 M2 h2 M3 h3 M4 h4 M5 h5 x0 x1 x2 x3 x4 be nv a.1 a.2.1 a.2.2).2 E K)
    isplitl [HI]; · iexact HI
    isplitl [HO]; · iexact HO
    iintro ⟨HI, ⟨%f, HO⟩⟩
    iapply Hk
    isplitl [HI]; · iexact HI
    unfold owns; iexists _; isplitr
    swap; · iexact HO
    ipureintro; exact View.read_writes_of_cover _ _ _ _ _ (cover_whole c i M0 h0 M1 h1 M2 h2 M3 h3 M4 h4 M5 h5 x0 x1 x2 x3 x4 be nv a.1 a.2.1 a.2.2)

end Runs

end ExpertBlocks

end
-- ==== Proof.ExpertsRun.lean ====
/-
  The experts' call, launched. From the words of the two tables being in range (every expert below 32, every count at
  most 1024) every window's block lies inside its array and the body stores its output block at every point. So the
  pipeline's proof data can be given point by point, and the whole run follows: the five float arrays and the two tables
  end as they began, every counter is zero, and the result array is what the blocks written back make it.
-/
module

public import proofs.«01_k».proof.Proof.Blocks
public import Idealize.ShloMosaic.Lib.Claim
public import Idealize.ShloMosaic.Lib.ValueIdxCore
public import Idealize.ShloMosaic.Lib.Pipeline.ValueKit

@[expose] public section

set_option maxRecDepth 16384

noncomputable section

namespace ExpertsRun

open Cert.ExpertsIdeal Cert.ExpertsIdeal.Gen ExpertBlocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the region -/

/-- Core `c`'s buffers when the region is entered: the two biases reshaped, all else as launched. -/
abbrev entered (c : Dev nD) (b : Ref sig .tc) : Buf (Elt F) ((c : Thread nD τ).loc b) := StableHlo.after hostOps0 (fun b => m (c, b)) b

theorem no_fresh : (hostOps0 : List (HloOp τ sig (Elt F))).Forall fun op => op.fresh = ∅ := ⟨rfl, rfl⟩

theorem main_runs (𝒱₀ : Variants) : Pipeline.HMainP (Ix := Unit) (Name := ℕ) (U := UR sig nD τ) (Lvl := ℕ) pcfgs 0 defs₀ 𝒱₀ m (main (F := F)) (entered m) :=
  Pipeline.hmainP_prefix pcfgs 0 defs₀ 𝒱₀ m main hostOps0 hostOps0_sub no_fresh main_chain

/-- A buffer neither reshape writes is found as launched. -/
theorem entered_of_ne (c : Dev nD) (b : Ref sig .tc) (h0 : b ≠ main_v0) (h1 : b ≠ main_v1) : entered m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-! ## The tables -/

/-- The tables' contents when the region is entered. -/
def tables : pre0.Contents (Elt F) := fun j => entered m (0 : Dev nD) (pre0.ref j)

theorem entered_tables (c : Dev nD) (j : Fin 2) : entered m c (pre0.ref j) = tables m j := by
  obtain rfl : c = 0 := Subsingleton.elim _ _; rfl

/-- The expert and the count of block `j`. -/
abbrev expertOf (j : S168.Idx) : BitVec 32 := m (((0 : Dev nD) : Thread nD τ).loc main_arg0) j
abbrev countOf (j : S168.Idx) : BitVec 32 := m (((0 : Dev nD) : Thread nD τ).loc main_arg1) j

/-- The words are in range. -/
abbrev InRange : Prop := (∀ j, (expertOf m j).toNat < 32) ∧ ∀ j, (countOf m j).toNat ≤ 1024

theorem tables_zero (j : S168.Idx) : tables m 0 j = expertOf m j :=
  congrFun (entered_of_ne m 0 main_arg0 (by decide) (by decide)) j
theorem tables_one (j : S168.Idx) : tables m 1 j = countOf m j :=
  congrFun (entered_of_ne m 0 main_arg1 (by decide) (by decide)) j

/-- The table entry a grid point reads. -/
abbrev entry (i : grid0.Coords) : S168.Idx := ValueIdx.ix1 (i 0)

theorem first_entry (i : grid0.Coords) :
    (Rect.unit (s := S168) (k0_off1 i) S1.size (k0_off1_inb i)).emb (Shape.Idx.first (numel1_S1.symm ▸ Nat.one_pos)) = entry i := by
  funext a
  obtain rfl : a = 0 := Subsingleton.elim _ _
  refine Fin.ext ?_
  rw [ValueKit.rect_emb_unit_val]
  exact (Nat.add_zero _).trans (congrFun (k0_off1_eq i) 0)

theorem countAt_tables (c : Dev nD) (i : grid0.Coords) : countAt (F := F) (c := c) i (tables m 1) = countOf m (entry i) := by
  rw [← tables_one, ← first_entry]; rfl

theorem atD_tables (i : grid0.Coords) : (tables m).atD 1 (k0_off1 i) = countOf m (entry i) := by
  have h : ∀ a : Fin 1, (k0_off1 i) a + 1 ≤ S168.size a := fun a => by
    obtain rfl : a = 0 := Subsingleton.elim _ _
    exact k0_off1_inb i 0
  refine (dif_pos h).trans ?_
  rw [← tables_one]
  refine congrArg (tables m 1) (show (fun a => ⟨k0_off1 i a, h a⟩ : S168.Idx) = entry i from ?_)
  funext a
  obtain rfl : a = 0 := Subsingleton.elim _ _
  refine Fin.ext ?_
  show (k0_off1 i) 0 = (i 0).val
  rw [k0_off1_eq]; rfl

/-- A count of at most 1024 is of exactly one of the body's three cases. -/
theorem cases_le : ∀ n : Fin 1025,
    (n.val = 0 ∧ IsEmpty (BitVec.ofNat 32 n.val)) ∨ (n.val ≤ 512 ∧ IsHalf (BitVec.ofNat 32 n.val)) ∨ IsWhole (BitVec.ofNat 32 n.val) := by
  decide +kernel

theorem cases_of_le (v : BitVec 32) (h : v.toNat ≤ 1024) : (v.toNat = 0 ∧ IsEmpty v) ∨ (v.toNat ≤ 512 ∧ IsHalf v) ∨ IsWhole v := by
  have := cases_le ⟨v.toNat, Nat.lt_succ_of_le h⟩
  rwa [show BitVec.ofNat 32 v.toNat = v from by simp] at this

theorem one_case (hr : InRange m) (c : Dev nD) (i : grid0.Coords) :
    IsEmpty (countAt (F := F) (c := c) i (tables m 1)) ∨ IsHalf (countAt (F := F) (c := c) i (tables m 1)) ∨ IsWhole (countAt (F := F) (c := c) i (tables m 1)) := by
  rw [countAt_tables]
  rcases cases_of_le _ (hr.2 (entry i)) with h | h | h
  · exact .inl h.2
  · exact .inr (.inl h.2)
  · exact .inr (.inr h)

/-- No window is idle anywhere: the output's block is stored at every point. -/
theorem never_idle (hr : InRange m) (i : grid0.Coords) : idle0 (tables m) 5 i = false := by
  show (!(k0_cond1 ((tables m).atD 1 (k0_off1 i)) == 1#1) && !(k0_cond2 ((tables m).atD 1 (k0_off1 i)) == 1#1) && !(k0_cond3 ((tables m).atD 1 (k0_off1 i)) == 1#1)) = false
  rw [atD_tables]
  rcases cases_of_le _ (hr.2 (entry i)) with h | h | h
  · rw [h.2.1]; rfl
  · rw [h.2.2.1]; simp
  · rw [h.2.2]; simp

/-! ## The pipeline at these tables -/

/-- The word a weight window's index map reads. -/
theorem map_word (i : grid0.Coords) :
    (tables m).at 0 (Rect.unit (s := S168) (k0_off1 i) S1.size (k0_off1_inb i)) numel1_S1 = expertOf m (entry i) := by
  rw [← tables_zero, ← first_entry]; rfl

theorem map1 (i : grid0.Coords) : cc0_transform_1 k0_off1_inb numel1_S1 (tables m) i = ![(expertOf m (entry i)).toNat, 0, 0] := by
  rw [← map_word]; rfl
theorem map2 (i : grid0.Coords) : cc0_transform_2 k0_off1_inb numel1_S1 (tables m) i = ![(expertOf m (entry i)).toNat, 0, 0] := by
  rw [← map_word]; rfl
theorem map3 (i : grid0.Coords) : cc0_transform_3 k0_off1_inb numel1_S1 (tables m) i = ![(expertOf m (entry i)).toNat, 0, 0] := by
  rw [← map_word]; rfl
theorem map4 (i : grid0.Coords) : cc0_transform_4 k0_off1_inb numel1_S1 (tables m) i = ![(expertOf m (entry i)).toNat, 0, 0] := by
  rw [← map_word]; rfl

/-- Every window's block is inside its array. -/
theorem inside (hr : InRange m) : ok0 (F := F) (tables m) := by
  have hb : ∀ i : grid0.Coords, (expertOf m (entry i)).toNat < 32 := fun i => hr.1 _
  refine ⟨fun i => ⟨?_, .inl rfl⟩, fun i => ⟨?_, .inl rfl⟩, fun i => ⟨?_, .inl rfl⟩, fun i => ⟨?_, .inl rfl⟩⟩
  · rw [map1]; intro a; have := hb i
    fin_cases a
    · show (_ + 1) * 1 ≤ 32; dsimp; omega
    · show (0 + 1) * 1024 ≤ 1024; omega
    · show (0 + 1) * 2048 ≤ 2048; omega
  · rw [map2]; intro a; have := hb i
    fin_cases a
    · show (_ + 1) * 1 ≤ 32; dsimp; omega
    · show (0 + 1) * 1 ≤ 1; omega
    · show (0 + 1) * 2048 ≤ 2048; omega
  · rw [map3]; intro a; have := hb i
    fin_cases a
    · show (_ + 1) * 1 ≤ 32; dsimp; omega
    · show (0 + 1) * 1024 ≤ 1024; omega
    · show (0 + 1) * 1024 ≤ 1024; omega
  · rw [map4]; intro a; have := hb i
    fin_cases a
    · show (_ + 1) * 1 ≤ 32; dsimp; omega
    · show (0 + 1) * 1 ≤ 1; omega
    · show (0 + 1) * 1024 ≤ 1024; omega

/-- The tables as admissible contents, and the pipeline at them. -/
abbrev admitted (hr : InRange m) : (pcfg0 (F := F)).Adm := ⟨tables m, inside m hr⟩
abbrev pipe (hr : InRange m) : Pipeline.Cfg sig Λ₀ := cfg0 (admitted m hr)

/-- The tables' halves the region hands the body, one by one. -/
theorem halves_eq (c : Dev nD) :
    (Pipeline.ΦT pre0 (tables m) c : sProp 𝕄) = iprop(half c expertTable (tables m 0) ∗ half c countTable (tables m 1)) := by
  unfold Pipeline.ΦT Pipeline.prefHeld
  rw [show (Finset.univ : Finset (Fin 2)) = insert (0 : Fin 2) {(1 : Fin 2)} from by decide, bigSep_insert (by decide), bigSep_singleton]
  rfl

/-- The block of window `w` at point `t`, read off its array. -/
def blockAt (hr : InRange m) (c : Dev nD) (w : Fin (pipe m hr).W) (t : Fin (pipe m hr).N) :
    (((pipe m hr).win w).xblock ((pipe m hr).grid.coords t)).Idx → Elt F ((pipe m hr).win w).elt :=
  (((pipe m hr).win w).blk t).view.read (Elt F) (entered m c (Pipeline.arrRef spec0 w))

/-! The buffers in use at point `t`. -/
abbrev buf0 (hr : InRange m) (t : Fin (pipe m hr).N) : Memref sig .tc .vmem S1024x512 .i32 := spec0_0.stage ((pipe m hr).slots t 0)
abbrev buf0_whole (hr : InRange m) (t : Fin (pipe m hr).N) : (buf0 m hr t).IsWhole := hstage0_0 (((pipe m hr).slots t 0).cast nbuf0_0)
abbrev buf1 (hr : InRange m) (t : Fin (pipe m hr).N) : Memref sig .tc .vmem S1x1024x2048 .f32 := spec0_1.stage ((pipe m hr).slots t 1)
abbrev buf1_whole (hr : InRange m) (t : Fin (pipe m hr).N) : (buf1 m hr t).IsWhole := hstage0_1 (((pipe m hr).slots t 1).cast nbuf0_1)
abbrev buf2 (hr : InRange m) (t : Fin (pipe m hr).N) : Memref sig .tc .vmem S1x1x2048 .f32 := spec0_2.stage ((pipe m hr).slots t 2)
abbrev buf2_whole (hr : InRange m) (t : Fin (pipe m hr).N) : (buf2 m hr t).IsWhole := hstage0_2 (((pipe m hr).slots t 2).cast nbuf0_2)
abbrev buf3 (hr : InRange m) (t : Fin (pipe m hr).N) : Memref sig .tc .vmem S1x1024x1024 .f32 := spec0_3.stage ((pipe m hr).slots t 3)
abbrev buf3_whole (hr : InRange m) (t : Fin (pipe m hr).N) : (buf3 m hr t).IsWhole := hstage0_3 (((pipe m hr).slots t 3).cast nbuf0_3)
abbrev buf4 (hr : InRange m) (t : Fin (pipe m hr).N) : Memref sig .tc .vmem S1x1x1024 .f32 := spec0_4.stage ((pipe m hr).slots t 4)
abbrev buf4_whole (hr : InRange m) (t : Fin (pipe m hr).N) : (buf4 m hr t).IsWhole := hstage0_4 (((pipe m hr).slots t 4).cast nbuf0_4)
abbrev buf5 (hr : InRange m) (t : Fin (pipe m hr).N) : Memref sig .tc .vmem S1024x1024 .bf16 := spec0_5.stage ((pipe m hr).slots t 5)
abbrev buf5_whole (hr : InRange m) (t : Fin (pipe m hr).N) : (buf5 m hr t).IsWhole := hstage0_5 (((pipe m hr).slots t 5).cast nbuf0_5)

/-- The block the body leaves at point `t`. -/
def resultAt (hr : InRange m) (c : Dev nD) (t : Fin (pipe m hr).N) : Vec F S1024x1024 .bf16 :=
  leaves c (grid0.coords t) (buf0 m hr t) (buf0_whole m hr t) (buf1 m hr t) (buf1_whole m hr t) (buf2 m hr t) (buf2_whole m hr t)
    (buf3 m hr t) (buf3_whole m hr t) (buf4 m hr t) (buf4_whole m hr t) (buf5 m hr t) (buf5_whole m hr t)
    (blockAt m hr c 0 t) (blockAt m hr c 1 t) (blockAt m hr c 2 t) (blockAt m hr c 3 t) (blockAt m hr c 4 t) (tables m 0) (tables m 1)

/-- The proof data: each input's buffer keeps its block, the output's takes `resultAt`; the tables' halves pass through. -/
def data (hr : InRange m) (_ : Fin 1) (c : Dev nD) : Dat τ (Elt F) Unit ℕ (UR sig nD τ) ℕ (pipe m hr) c where
  A w := entered m c (Pipeline.arrRef spec0 w)
  after w t := match w with
    | ⟨0, _⟩ => blockAt m hr c 0 t
    | ⟨1, _⟩ => blockAt m hr c 1 t
    | ⟨2, _⟩ => blockAt m hr c 2 t
    | ⟨3, _⟩ => blockAt m hr c 3 t
    | ⟨4, _⟩ => blockAt m hr c 4 t
    | ⟨5, _⟩ => resultAt m hr c t
  Φ _ := iprop(Pipeline.ΦA spec0 c ∗ Pipeline.ΦT pre0 (tables m) c)
  q _ := fullShare
  owed _ := 0

theorem data_array (hr : InRange m) (c : Dev nD) (w : Fin (pipe m hr).W) : (data m hr 0 c).A w = entered m c (Pipeline.arrRef spec0 w) := by
  dsimp only [data]

theorem left0 (hr : InRange m) (c : Dev nD) (t : Fin (pipe m hr).N) : (data m hr 0 c).after 0 t = blockAt m hr c 0 t := by dsimp only [data]; rfl
theorem left1 (hr : InRange m) (c : Dev nD) (t : Fin (pipe m hr).N) : (data m hr 0 c).after 1 t = blockAt m hr c 1 t := by dsimp only [data]; rfl
theorem left2 (hr : InRange m) (c : Dev nD) (t : Fin (pipe m hr).N) : (data m hr 0 c).after 2 t = blockAt m hr c 2 t := by dsimp only [data]; rfl
theorem left3 (hr : InRange m) (c : Dev nD) (t : Fin (pipe m hr).N) : (data m hr 0 c).after 3 t = blockAt m hr c 3 t := by dsimp only [data]; rfl
theorem left4 (hr : InRange m) (c : Dev nD) (t : Fin (pipe m hr).N) : (data m hr 0 c).after 4 t = blockAt m hr c 4 t := by dsimp only [data]; rfl
theorem left5 (hr : InRange m) (c : Dev nD) (t : Fin (pipe m hr).N) : (data m hr 0 c).after 5 t = resultAt m hr c t := by dsimp only [data]; rfl

/-- Each input's buffer holds its block when the body is called. -/
theorem found0 (hr : InRange m) (c : Dev nD) (t : Fin (pipe m hr).N) (d) : (data m hr 0 c).before 0 t d = blockAt m hr c 0 t :=
  ((data m hr 0 c).before_in_eq_fetched 0 rfl (fun _ => rfl) (fun _ _ _ => rfl) (fun t => by rw [left0]; unfold Dat.blockOf blockAt; rw [data_array]) t d).trans
    (by unfold Dat.fetched Dat.blockOf blockAt; rw [data_array]; rfl)
theorem found1 (hr : InRange m) (c : Dev nD) (t : Fin (pipe m hr).N) (d) : (data m hr 0 c).before 1 t d = blockAt m hr c 1 t :=
  ((data m hr 0 c).before_in_eq_fetched 1 rfl (fun _ => rfl) (fun _ _ _ => rfl) (fun t => by rw [left1]; unfold Dat.blockOf blockAt; rw [data_array]) t d).trans
    (by unfold Dat.fetched Dat.blockOf blockAt; rw [data_array]; rfl)
theorem found2 (hr : InRange m) (c : Dev nD) (t : Fin (pipe m hr).N) (d) : (data m hr 0 c).before 2 t d = blockAt m hr c 2 t :=
  ((data m hr 0 c).before_in_eq_fetched 2 rfl (fun _ => rfl) (fun _ _ _ => rfl) (fun t => by rw [left2]; unfold Dat.blockOf blockAt; rw [data_array]) t d).trans
    (by unfold Dat.fetched Dat.blockOf blockAt; rw [data_array]; rfl)
theorem found3 (hr : InRange m) (c : Dev nD) (t : Fin (pipe m hr).N) (d) : (data m hr 0 c).before 3 t d = blockAt m hr c 3 t :=
  ((data m hr 0 c).before_in_eq_fetched 3 rfl (fun _ => rfl) (fun _ _ _ => rfl) (fun t => by rw [left3]; unfold Dat.blockOf blockAt; rw [data_array]) t d).trans
    (by unfold Dat.fetched Dat.blockOf blockAt; rw [data_array]; rfl)
theorem found4 (hr : InRange m) (c : Dev nD) (t : Fin (pipe m hr).N) (d) : (data m hr 0 c).before 4 t d = blockAt m hr c 4 t :=
  ((data m hr 0 c).before_in_eq_fetched 4 rfl (fun _ => rfl) (fun _ _ _ => rfl) (fun t => by rw [left4]; unfold Dat.blockOf blockAt; rw [data_array]) t d).trans
    (by unfold Dat.fetched Dat.blockOf blockAt; rw [data_array]; rfl)

/-! ## The body at a point -/

/-- The body as the pipeline calls it at point `t`. -/
abbrev bodyAt (hr : InRange m) (t : Fin (pipe m hr).N) : Prog (TpuEff nD τ sig (Elt F) Λ₀ .tc) PUnit :=
  cc0_moe_experts (grid0.coords t) expertTable (Memref.isWhole_whole _) countTable (Memref.isWhole_whole _) (buf0 m hr t) (buf0_whole m hr t)
    (buf1 m hr t) (buf1_whole m hr t) (buf2 m hr t) (buf2_whole m hr t) (buf3 m hr t) (buf3_whole m hr t) (buf4 m hr t) (buf4_whole m hr t)
    (buf5 m hr t) (buf5_whole m hr t)

/-- What it is called with, and what it returns, the windows one by one. -/
def called (hr : InRange m) (c : Dev nD) (t : Fin (pipe m hr).N) : sProp 𝕄 :=
  iprop((data m hr 0 c).Φ t.castSucc ∗ (data m hr 0 c).owesAt () t.castSucc
    ∗ (∃ d, owns (c : Thread nD τ) (buf0 m hr t) fullShare ((data m hr 0 c).before 0 t d))
    ∗ (∃ d, owns (c : Thread nD τ) (buf1 m hr t) fullShare ((data m hr 0 c).before 1 t d))
    ∗ (∃ d, owns (c : Thread nD τ) (buf2 m hr t) fullShare ((data m hr 0 c).before 2 t d))
    ∗ (∃ d, owns (c : Thread nD τ) (buf3 m hr t) fullShare ((data m hr 0 c).before 3 t d))
    ∗ (∃ d, owns (c : Thread nD τ) (buf4 m hr t) fullShare ((data m hr 0 c).before 4 t d))
    ∗ (∃ d, owns (c : Thread nD τ) (buf5 m hr t) fullShare ((data m hr 0 c).before 5 t d)))

def returned (hr : InRange m) (c : Dev nD) (t : Fin (pipe m hr).N) : sProp 𝕄 :=
  iprop((data m hr 0 c).Φ t.succ ∗ (data m hr 0 c).owesAt () t.succ
    ∗ owns (c : Thread nD τ) (buf0 m hr t) fullShare ((data m hr 0 c).after 0 t)
    ∗ owns (c : Thread nD τ) (buf1 m hr t) fullShare ((data m hr 0 c).after 1 t)
    ∗ owns (c : Thread nD τ) (buf2 m hr t) fullShare ((data m hr 0 c).after 2 t)
    ∗ owns (c : Thread nD τ) (buf3 m hr t) fullShare ((data m hr 0 c).after 3 t)
    ∗ owns (c : Thread nD τ) (buf4 m hr t) fullShare ((data m hr 0 c).after 4 t)
    ∗ owns (c : Thread nD τ) (buf5 m hr t) fullShare ((data m hr 0 c).after 5 t))

set_option maxHeartbeats 1600000 in
theorem body_sound (hr : InRange m) (c : Dev nD) (t : Fin (pipe m hr).N) :
    called m hr c t ⊢ wp frame (wpE (defs₀ (F := F)) Variants.none c none) Set.univ (bodyAt m hr t) (fun _ => returned m hr c t) := by
  unfold called returned
  simp only [found0, found1, found2, found3, found4]
  rw [show (data m hr 0 c).Φ t.succ = (data m hr 0 c).Φ t.castSucc from rfl,
    show (data m hr 0 c).owesAt () t.succ = (data m hr 0 c).owesAt () t.castSucc from rfl,
    left0, left1, left2, left3, left4, left5]
  rw [show (data m hr 0 c).Φ t.castSucc = iprop(Pipeline.ΦA spec0 c ∗ Pipeline.ΦT pre0 (tables m) c) from rfl, halves_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (body_runs c (grid0.coords t) _ (buf0_whole m hr t) _ (buf1_whole m hr t) _ (buf2_whole m hr t) _ (buf3_whole m hr t) _ (buf4_whole m hr t)
    _ (buf5_whole m hr t) (blockAt m hr c 0 t) (blockAt m hr c 1 t) (blockAt m hr c 2 t) (blockAt m hr c 3 t) (blockAt m hr c 4 t)
    (tables m 0) (tables m 1) (one_case m hr c (grid0.coords t)) Set.univ _)
  isplitl [H0 H1 H2 H3 H4 HT0 HT1]
  · unfold inputs
    isplitl [H0]; · iexact H0
    isplitl [H1]; · iexact H1
    isplitl [H2]; · iexact H2
    isplitl [H3]; · iexact H3
    isplitl [H4]; · iexact H4
    isplitl [HT0]; · iexact HT0
    iexact HT1
  isplitl [H5]; · iexists _; iexact H5
  unfold inputs
  iintro ⟨⟨H0, H1, H2, H3, H4, HT0, HT1⟩, H5⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem body_row (hr : InRange m) (t : Fin (pipe m hr).N) :
    defs₀ (F := F) .tc (pipe m hr).body ((pipe m hr).bodyArgs t ((pipe m hr).slots t)) = bodyAt m hr t := by
  unfold defs₀; rw [Defs.onTc_tc]

/-- The pipeline's obligation of the body. -/
theorem obligation (hr : InRange m) (c : Dev nD) : BodyObligation (data (F := F) m hr 0 c) (defs₀ (F := F)) Variants.none () Set.univ := fun t => by
  rw [bigSep_W0, bigSep_W0, body_row m hr]
  simp only [never_idle m hr]
  exact triple_restated (body_sound m hr c t) rfl .rfl fun _ => .rfl

/-! ## The run -/

set_option backward.isDefEq.respectTransparency.types false in
/-- The whole program: it terminates without a fault, every array of the pipeline is what the data says, every other buffer
    as the region found it, and every counter is zero. -/
theorem runs (hr : InRange m) : θ_run defs (onTc (τ := τ) (main (F := F))) (s₀ m ρ)
    (fun r => (Pipeline.FramePost (Pipeline.pin pcfgs fun _ => admitted m hr) (data m hr) 0 (entered m)) r ∧ r.2.sem = fun _ => 0) :=
  Pipeline.θ_run_frameP (Q' := _) pcfgs (fun _ => admitted m hr) (data m hr) (0 : Fin 1) launch0 defs₀ Variants.none m ρ main
    (hbody := fun c => (obligation m hr c).loose) (hshare := fun c => (data m hr 0 c).share_full fun _ => rfl)
    (howed := fun _ _ => rfl) (V := entered m) (hmain := main_runs m Variants.none) (hA := data_array m hr) (hpf := entered_tables m)
    (hΦ := fun _ _ => rfl)

/-- The same, read at the arrays: the arguments end unchanged, the result is the array the blocks written back make. -/
theorem ends (hr : InRange m) : θ_run defs (onTc (τ := τ) (main (F := F))) ⟨m, fun _ => 0, ρ⟩ (fun r => (∀ c : Dev nD,
      r.2.mem ((c.tc : Thread nD τ).loc main_v2) = (data m hr 0 c).arrAt 5 (pipe m hr).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 5,
      ((h.1 c).2 main_arg0 (by decide : main_arg0 ∈ Pipeline.restRefs sig spec0)).trans (entered_of_ne m c main_arg0 (by decide) (by decide)),
      ((h.1 c).2 main_arg1 (by decide : main_arg1 ∈ Pipeline.restRefs sig spec0)).trans (entered_of_ne m c main_arg1 (by decide) (by decide)),
      ((h.1 c).1 0).trans (((data m hr 0 c).arrAt_in 0 rfl _).trans ((data_array m hr c 0).trans (entered_of_ne m c main_arg2 (by decide) (by decide)))),
      ((h.1 c).1 1).trans (((data m hr 0 c).arrAt_in 1 rfl _).trans ((data_array m hr c 1).trans (entered_of_ne m c main_arg3 (by decide) (by decide)))),
      ((h.1 c).2 main_arg4 (by decide : main_arg4 ∈ Pipeline.restRefs sig spec0)).trans (entered_of_ne m c main_arg4 (by decide) (by decide)),
      ((h.1 c).1 3).trans (((data m hr 0 c).arrAt_in 3 rfl _).trans ((data_array m hr c 3).trans (entered_of_ne m c main_arg5 (by decide) (by decide)))),
      ((h.1 c).2 main_arg6 (by decide : main_arg6 ∈ Pipeline.restRefs sig spec0)).trans (entered_of_ne m c main_arg6 (by decide) (by decide))⟩, h.2⟩)
    (runs m ρ hr)

end ExpertsRun

end
-- ==== Proof.Unpack.lean ====
/-
  Words that hold two bfloat16 numbers each: the number in the lower half, the number in the upper half, and a row of words read as
  the numbers of the lower halves followed by those of the upper halves (`unpack`).
-/
module

public import Idealize.ShloMosaic.Lib.Pointwise

@[expose] public section

noncomputable section

namespace Unpack

open Idealize.ShloMosaic

/-- The number in the lower half of a word, and the one in its upper half. -/
def low (w : BitVec 32) : EReal := Ideal.ofBits .f32 (w <<< (16 : ℕ))
def high (w : BitVec 32) : EReal := Ideal.ofBits .f32 (w &&& 4294901760#32)

/-- A row of 512 words, read as 1024 numbers. -/
def unpack (w : Fin 512 → BitVec 32) (q : Fin 1024) : EReal :=
  if h : q.val < 512 then low (w ⟨q.val, h⟩) else high (w ⟨q.val - 512, by have := q.isLt; omega⟩)

end Unpack

end
-- ==== Proof.ExpertsRef.lean ====
/-
  What the experts' reference computes, row by row. Row `i` of the result belongs to block `i / 1024`, whose expert the table
  names; `expertRow` is that expert applied to the row: the first product and bias, the clamped gate times its own scaled
  sigmoid times the clamped linear half plus one, the second product and bias. The reference's normalising of negative
  experts and clamping of large ones do nothing to an expert between 0 and 31.
-/
module

public import proofs.«01_k».proof.Proof.Gen.ExpertsRefIdeal.Run
public import proofs.«01_k».proof.Proof.Unpack
public import Idealize.ShloMosaic.Lib.Pointwise
public import Idealize.ShloMosaic.Lib.Pipeline.Value

@[expose] public section

set_option maxRecDepth 16384

noncomputable section

namespace ExpertsRef

open Cert.ExpertsRefIdeal Cert.ExpertsRefIdeal.Facts₀
open Unpack (unpack)
open Idealize.ShloMosaic

/-! ## One expert on one row -/

/-- The activation of a gate entry and a linear entry. -/
def act (g l : EReal) : EReal :=
  min g (Ideal.ofBits .f32 1088421888#32) * Ideal.logistic (Ideal.ofBits .f32 1071242019#32 * min g (Ideal.ofBits .f32 1088421888#32))
    * (min (Ideal.ofBits .f32 1088421888#32) (max (Ideal.ofBits .f32 3235905536#32) l) + 1)

/-- An entry of the first layer. -/
def first (x : Fin 1024 → EReal) (w : Fin 1024 → Fin 2048 → EReal) (b : Fin 2048 → EReal) (f : Fin 2048) : EReal :=
  ∑ k, x k * w k f + b f

/-- The expert's row at column `j`. -/
def expertRow (x : Fin 1024 → EReal) (w1 : Fin 1024 → Fin 2048 → EReal) (b1 : Fin 2048 → EReal) (w2 : Fin 1024 → Fin 1024 → EReal)
    (b2 : Fin 1024 → EReal) (j : Fin 1024) : EReal :=
  ∑ f : Fin 1024, act (first x w1 b1 ⟨f.val, by have := f.isLt; omega⟩) (first x w1 b1 ⟨1024 + f.val, by have := f.isLt; omega⟩) * w2 f j + b2 j

/-! ## The reference's term -/

/-- The first layer of every block. -/
def firstAll (x : FVec Ideal S168x1024x1024 .f32) (w1 : FVec Ideal S168x1024x2048 .f32) (b1 : FVec Ideal S168x2048 .f32) : FVec Ideal S168x1024x2048 .f32 :=
  addf (Host.dotGeneral dot_S168x1024x1024_S168x1024x2048_S168x1024x2048_2_1_1_2_0_0 none x w1)
    (broadcastInDim S168x1024x2048 ![0, 1, 2] bcast_S168x1x2048_S168x1024x2048_0_1_2 (broadcastInDim S168x1x2048 ![0, 2] bcast_S168x2048_S168x1x2048_0_2 b1))

theorem firstAll_apply (x : FVec Ideal S168x1024x1024 .f32) (w1 : FVec Ideal S168x1024x2048 .f32) (b1 : FVec Ideal S168x2048 .f32) (y : S168x1024x2048.Idx) :
    firstAll x w1 b1 y = ∑ k, x (ix3 (y 0) (y 1) k) * w1 (ix3 (y 0) k (y 2)) + b1 (ix2 (y 0) (y 2)) := by
  unfold firstAll
  pointwise

def actAll (h : FVec Ideal S168x1024x2048 .f32) : FVec Ideal S168x1024x1024 .f32 :=
  mulf (mulf (minimumf (extractStridedSlice S168x1024x1024 ![0, 0, 0] h slices_S168x1024x2048_S168x1024x1024_0_0_0) (broadcastInDim S168x1024x1024 ![] bcast_S_S168x1024x1024 (constant S_ .f32 0x40E00000#32)))
    (Host.divf (broadcastInDim S168x1024x1024 ![] bcast_S_S168x1024x1024 (constant S_ .f32 0x3F800000#32)) (addf (broadcastInDim S168x1024x1024 ![] bcast_S_S168x1024x1024 (constant S_ .f32 0x3F800000#32)) (Host.exp (Host.negf (mulf (broadcastInDim S168x1024x1024 ![] bcast_S_S168x1024x1024 (constant S_ .f32 0x3FD9DB23#32)) (minimumf (extractStridedSlice S168x1024x1024 ![0, 0, 0] h slices_S168x1024x2048_S168x1024x1024_0_0_0) (broadcastInDim S168x1024x1024 ![] bcast_S_S168x1024x1024 (constant S_ .f32 0x40E00000#32)))))))))
    (addf (minimumf (broadcastInDim S168x1024x1024 ![] bcast_S_S168x1024x1024 (id (constant S_ .f32 0x40E00000#32))) (maximumf (broadcastInDim S168x1024x1024 ![] bcast_S_S168x1024x1024 (id (constant S_ .f32 0xC0E00000#32))) (extractStridedSlice S168x1024x1024 ![0, 0, 1024] h slices_S168x1024x2048_S168x1024x1024_0_0_1024))) (broadcastInDim S168x1024x1024 ![] bcast_S_S168x1024x1024 (constant S_ .f32 0x3F800000#32)))

theorem actAll_apply (h : FVec Ideal S168x1024x2048 .f32) (y : S168x1024x1024.Idx) :
    actAll h y = act (h (ix3 (y 0) (y 1) ⟨(y 2).val, by have h2 : (y 2).val < 1024 := (y 2).isLt; omega⟩)) (h (ix3 (y 0) (y 1) ⟨1024 + (y 2).val, by have h2 : (y 2).val < 1024 := (y 2).isLt; omega⟩)) := by
  unfold actAll act Ideal.logistic
  simp only [id]
  pointwise

def secondAll (a : FVec Ideal S168x1024x1024 .f32) (w2 : FVec Ideal S168x1024x1024 .f32) (b2 : FVec Ideal S168x1024 .f32) : FVec Ideal S168x1024x1024 .f32 :=
  addf (Host.dotGeneral dot_S168x1024x1024_S168x1024x1024_S168x1024x1024_2_1_1_2_0_0 none a w2)
    (broadcastInDim S168x1024x1024 ![0, 1, 2] bcast_S168x1x1024_S168x1024x1024_0_1_2 (broadcastInDim S168x1x1024 ![0, 2] bcast_S168x1024_S168x1x1024_0_2 b2))

theorem secondAll_apply (a : FVec Ideal S168x1024x1024 .f32) (w2 : FVec Ideal S168x1024x1024 .f32) (b2 : FVec Ideal S168x1024 .f32) (y : S168x1024x1024.Idx) :
    secondAll a w2 b2 y = ∑ k, a (ix3 (y 0) (y 1) k) * w2 (ix3 (y 0) k (y 2)) + b2 (ix2 (y 0) (y 2)) := by
  unfold secondAll
  pointwise

/-- The table of experts as the gathers read it. -/
def named (be : IVec S168 32) : IVec S168x1 32 :=
  broadcastInDim S168x1 ![0] bcast_S168_S168x1_0 (select (cmpi .slt be (broadcastInDim S168 ![] bcast_S_S168 (constantI S_ 32 0#32))) (addi be (broadcastInDim S168 ![] bcast_S_S168 (constantI S_ 32 32#32))) be)

/-- The words, read. -/
def numbers (x : IVec S172032x512 32) : FVec Ideal S172032x1024 .f32 :=
  concatenate S172032x1024 1 [⟨S172032x512, (bitcastToFloat (F := Ideal) .f32 (Host.shli x (broadcastInDim S172032x512 ![] bcast_S_S172032x512 (constantI S_ 32 16#32))))⟩, ⟨S172032x512, (bitcastToFloat (F := Ideal) .f32 (andi x (broadcastInDim S172032x512 ![] bcast_S_S172032x512 (constantI S_ 32 4294901760#32))))⟩] concatenates_S172032x512_S172032x512_S172032x1024_d1

theorem numbers_apply (x : IVec S172032x512 32) (n : Fin 172032) (k : Fin 1024) : numbers x (ix2 n k) = unpack (fun l => x (ix2 n l)) k := by
  unfold numbers unpack
  pointwise
  split_ifs
  all_goals first | rfl | exact absurd rfl ‹_›

/-- The reference's result of its arguments. -/
def result (be : IVec S168 32) (x : IVec S172032x512 32) (w1 : FVec Ideal S32x1024x2048 .f32) (b1 : FVec Ideal S32x2048 .f32)
    (w2 : FVec Ideal S32x1024x1024 .f32) (b2 : FVec Ideal S32x1024 .f32) : FVec Ideal S172032x1024 .bf16 :=
  truncf .bf16 (shapeCast _ (secondAll (actAll (firstAll (shapeCast _ (numbers x) shapeCasts_S172032x1024_S168x1024x1024)
      (Host.gather gather_S32x1024x2048_S168x1_S168x1024x2048_12_0_n_n_0_1_110242048 w1 (named be))
      (Host.gather gather_S32x2048_S168x1_S168x2048_1_0_n_n_0_1_12048 b1 (named be))))
      (Host.gather gather_S32x1024x1024_S168x1_S168x1024x1024_12_0_n_n_0_1_110241024 w2 (named be))
      (Host.gather gather_S32x1024_S168x1_S168x1024_1_0_n_n_0_1_11024 b2 (named be)))
    shapeCasts_S168x1024x1024_S172032x1024) bitsLt_bf16_f32

theorem result_eq (m : (ℓ : Loc nD τ sig) → Buf (Elt Ideal) ℓ) (c : Dev nD) :
    Value.res_main_v62 m c = result (m ((c.tc : Thread nD τ).loc main_arg0)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold Value.res_main_v62 result secondAll actAll firstAll named numbers
  rfl

/-! ## The gathers -/

section Gathers
variable {α : Type}

/-- Gathering whole matrices of a stack of `N`, one per entry of a table of `B`. -/
abbrev stackDims (N B R C : Nat) (wf : GatherDims.WF ⟨3, ![N, R, C]⟩ ⟨2, ![B, 1]⟩ ⟨3, ![B, R, C]⟩ [1, 2] [0] [] [0] [] 1 ![1, R, C]) :
    GatherDims ⟨3, ![N, R, C]⟩ ⟨2, ![B, 1]⟩ ⟨3, ![B, R, C]⟩ where
  offsetDims := [1, 2]
  collapsedSliceDims := [0]
  operandBatchingDims := []
  startIndicesBatchingDims := []
  startIndexMap := [0]
  indexVectorDim := 1
  sliceSizes := ![1, R, C]
  wf := wf

/-- Gathering rows of a matrix of `N` rows, one per entry of a table of `B`. -/
abbrev rowDims (N B C : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

theorem stack_apply {N B R C : Nat} (wf : GatherDims.WF ⟨3, ![N, R, C]⟩ ⟨2, ![B, 1]⟩ ⟨3, ![B, R, C]⟩ [1, 2] [0] [] [0] [] 1 ![1, R, C])
    (x : (⟨3, ![N, R, C]⟩ : Shape).Idx → α) (q : IVec ⟨2, ![B, 1]⟩ 32) (b : Fin B) (r : Fin R) (c : Fin C) (e : Fin N)
    (he : (q (ix2 b 0)).toInt.toNat = e.val) :
    Host.gather (stackDims N B R C wf) x q (ix3 b r c) = x (ix3 e r c) := by
  refine congrArg x (funext fun a => Fin.ext ?_)
  have outside : ∀ a : Fin 3, a ≠ 0 → a ∉ (stackDims N B R C wf).startIndexMap := fun a ha h => ha (List.mem_singleton.mp h)
  have kept : ∀ a : Fin 3, a ≠ 0 → a ∈ (stackDims N B R C wf).sKept := fun a ha =>
    (GatherDims.mem_sKept _ _).mpr ⟨fun h => ha (List.mem_singleton.mp h), List.not_mem_nil⟩
  match a with
  | ⟨0, _⟩ =>
    show (stackDims N B R C wf).start (ix3 b r c) q 0 + (stackDims N B R C wf).batchCoord (ix3 b r c) 0 + (stackDims N B R C wf).offCoord (ix3 b r c) 0 = e.val
    rw [GatherDims.batchCoord_eq_zero _ _ _ List.not_mem_nil,
      GatherDims.offCoord_eq_zero _ _ _ fun h => ((GatherDims.mem_sKept _ _).mp h).1 (List.mem_singleton.mpr rfl)]
    unfold GatherDims.start
    rw [dif_pos (show (0 : Fin 3) ∈ (stackDims N B R C wf).startIndexMap from List.mem_singleton.mpr rfl)]
    have hi : (stackDims N B R C wf).siIdx (ix3 b r c) ⟨List.idxOf (0 : Fin 3) (stackDims N B R C wf).startIndexMap,
        List.idxOf_lt_length_iff.2 (List.mem_singleton.mpr rfl)⟩ = ix2 b 0 := by
      funext a; refine Fin.ext ?_
      match a with
      | ⟨0, _⟩ => rfl
      | ⟨1, _⟩ => rfl
    rw [hi, he]
    show min e.val (N - 1) + 0 + 0 = e.val
    have := e.isLt; omega
  | ⟨1, _⟩ =>
    show (stackDims N B R C wf).start (ix3 b r c) q 1 + (stackDims N B R C wf).batchCoord (ix3 b r c) 1 + (stackDims N B R C wf).offCoord (ix3 b r c) 1 = r.val
    rw [GatherDims.batchCoord_eq_zero _ _ _ List.not_mem_nil]
    unfold GatherDims.start GatherDims.offCoord
    rw [dif_neg (outside 1 (by decide)), dif_pos (kept 1 (by decide))]
    show 0 + 0 + r.val = r.val
    omega
  | ⟨2, _⟩ =>
    show (stackDims N B R C wf).start (ix3 b r c) q 2 + (stackDims N B R C wf).batchCoord (ix3 b r c) 2 + (stackDims N B R C wf).offCoord (ix3 b r c) 2 = c.val
    rw [GatherDims.batchCoord_eq_zero _ _ _ List.not_mem_nil]
    unfold GatherDims.start GatherDims.offCoord
    rw [dif_neg (outside 2 (by decide)), dif_pos (kept 2 (by decide))]
    show 0 + 0 + c.val = c.val
    omega

theorem row_apply {N B C : Nat} (wf : GatherDims.WF ⟨2, ![N, C]⟩ ⟨2, ![B, 1]⟩ ⟨2, ![B, C]⟩ [1] [0] [] [0] [] 1 ![1, C])
    (x : (⟨2, ![N, C]⟩ : Shape).Idx → α) (q : IVec ⟨2, ![B, 1]⟩ 32) (b : Fin B) (c : Fin C) (e : Fin N)
    (he : (q (ix2 b 0)).toInt.toNat = e.val) :
    Host.gather (rowDims N B C wf) x q (ix2 b c) = x (ix2 e c) := by
  refine congrArg x (funext fun a => Fin.ext ?_)
  have outside : ∀ a : Fin 2, a ≠ 0 → a ∉ (rowDims N B C wf).startIndexMap := fun a ha h => ha (List.mem_singleton.mp h)
  have kept : ∀ a : Fin 2, a ≠ 0 → a ∈ (rowDims N B C wf).sKept := fun a ha =>
    (GatherDims.mem_sKept _ _).mpr ⟨fun h => ha (List.mem_singleton.mp h), List.not_mem_nil⟩
  match a with
  | ⟨0, _⟩ =>
    show (rowDims N B C wf).start (ix2 b c) q 0 + (rowDims N B C wf).batchCoord (ix2 b c) 0 + (rowDims N B C wf).offCoord (ix2 b c) 0 = e.val
    rw [GatherDims.batchCoord_eq_zero _ _ _ List.not_mem_nil,
      GatherDims.offCoord_eq_zero _ _ _ fun h => ((GatherDims.mem_sKept _ _).mp h).1 (List.mem_singleton.mpr rfl)]
    unfold GatherDims.start
    rw [dif_pos (show (0 : Fin 2) ∈ (rowDims N B C wf).startIndexMap from List.mem_singleton.mpr rfl)]
    have hi : (rowDims N B C wf).siIdx (ix2 b c) ⟨List.idxOf (0 : Fin 2) (rowDims N B C wf).startIndexMap,
        List.idxOf_lt_length_iff.2 (List.mem_singleton.mpr rfl)⟩ = ix2 b 0 := by
      funext a; refine Fin.ext ?_
      match a with
      | ⟨0, _⟩ => rfl
      | ⟨1, _⟩ => rfl
    rw [hi, he]
    show min e.val (N - 1) + 0 + 0 = e.val
    have := e.isLt; omega
  | ⟨1, _⟩ =>
    show (rowDims N B C wf).start (ix2 b c) q 1 + (rowDims N B C wf).batchCoord (ix2 b c) 1 + (rowDims N B C wf).offCoord (ix2 b c) 1 = c.val
    rw [GatherDims.batchCoord_eq_zero _ _ _ List.not_mem_nil]
    unfold GatherDims.start GatherDims.offCoord
    rw [dif_neg (outside 1 (by decide)), dif_pos (kept 1 (by decide))]
    show 0 + 0 + c.val = c.val
    omega

end Gathers

/-! ## Its value -/

/-- The expert of block `b`. -/
def expertAt (be : IVec S168 32) (b : Fin 168) : Fin 32 := Fin.ofNat 32 (be (ix1 b)).toNat

/-- A small word is not negative. -/
theorem slt_zero {v : BitVec 32} (h : v.toNat < 32) : IntOp.cmpi .slt v 0#32 = 0#1 := by
  have : BitVec.slt v 0#32 = false := by
    rw [BitVec.slt_eq_decide, BitVec.toInt_eq_toNat_cond, decide_eq_false_iff_not]
    simp only [BitVec.toInt_zero]
    split <;> omega
  simp only [IntOp.cmpi, this]; rfl

theorem named_apply (be : IVec S168 32) (hb : ∀ j, (be j).toNat < 32) (b : Fin 168) : (named be (ix2 b 0)).toInt.toNat = (expertAt be b).val := by
  have h : named be (ix2 b 0) = be (ix1 b) := by
    show Scalar.select (IntOp.cmpi .slt (be _) 0#32) _ (be _) = _
    rw [slt_zero (hb _)]
    exact congrArg be (funext fun a => match a with | ⟨0, _⟩ => rfl)
  have := hb (ix1 b)
  rw [h]
  show _ = (be (ix1 b)).toNat % 32
  rw [BitVec.toInt_eq_toNat_cond]; split <;> omega

/-- The block of a row, and the row in its block. -/
abbrev blockOf (n : Fin 172032) : Fin 168 := ⟨n.val / 1024, by have := n.isLt; omega⟩
abbrev rowOf (n : Fin 172032) : Fin 1024 := ⟨n.val % 1024, Nat.mod_lt _ (by decide)⟩

/-- What every row is: its block's expert's row of it. -/
def value (be : IVec S168 32) (x : IVec S172032x512 32) (w1 : FVec Ideal S32x1024x2048 .f32) (b1 : FVec Ideal S32x2048 .f32)
    (w2 : FVec Ideal S32x1024x1024 .f32) (b2 : FVec Ideal S32x1024 .f32) (n : Fin 172032) (j : Fin 1024) : EReal :=
  expertRow (unpack (fun l => x (ix2 n l))) (fun k f => w1 (ix3 (expertAt be (blockOf n)) k f)) (fun f => b1 (ix2 (expertAt be (blockOf n)) f))
    (fun f j => w2 (ix3 (expertAt be (blockOf n)) f j)) (fun j => b2 (ix2 (expertAt be (blockOf n)) j)) j

theorem result_apply (be : IVec S168 32) (hb : ∀ j, (be j).toNat < 32) (x : IVec S172032x512 32) (w1 : FVec Ideal S32x1024x2048 .f32)
    (b1 : FVec Ideal S32x2048 .f32) (w2 : FVec Ideal S32x1024x1024 .f32) (b2 : FVec Ideal S32x1024 .f32) (n : Fin 172032) (j : Fin 1024) :
    result be x w1 b1 w2 b2 (ix2 n j) = value be x w1 b1 w2 b2 n j := by
  have hx : ∀ k : Fin 1024, shapeCast S168x1024x1024 (numbers x) shapeCasts_S172032x1024_S168x1024x1024 (ix3 (blockOf n) (rowOf n) k) = unpack (fun l => x (ix2 n l)) k := fun k => by
    refine (shapeCast_apply _ _ _ (ix2 n k) ?_).trans (numbers_apply x n k)
    rw [Shape.rowMajor_val_two, Shape.rowMajor_val_three]
    show n.val * 1024 + k.val = (n.val / 1024 * 1024 + n.val % 1024) * 1024 + k.val
    omega
  unfold result
  change shapeCast S172032x1024 (secondAll _ _ _) shapeCasts_S168x1024x1024_S172032x1024 (ix2 n j) = _
  refine (shapeCast_apply _ _ _ (ix3 (blockOf n) (rowOf n) j) ?_).trans ?_
  · rw [Shape.rowMajor_val_two, Shape.rowMajor_val_three]
    show (n.val / 1024 * 1024 + n.val % 1024) * 1024 + j.val = n.val * 1024 + j.val
    omega
  · rw [secondAll_apply]
    unfold value expertRow first
    simp only [ix3_0, ix3_1, ix3_2, actAll_apply, firstAll_apply, hx]
    rw [show Host.gather gather_S32x1024_S168x1_S168x1024_1_0_n_n_0_1_11024 b2 (named be) (ix2 (blockOf n) j) = b2 (ix2 (expertAt be (blockOf n)) j) from
      row_apply _ b2 (named be) (blockOf n) j _ (named_apply be hb _)]
    have h2 : ∀ f : Fin 1024, Host.gather gather_S32x1024x1024_S168x1_S168x1024x1024_12_0_n_n_0_1_110241024 w2 (named be) (ix3 (blockOf n) f j) = w2 (ix3 (expertAt be (blockOf n)) f j) := fun f =>
      stack_apply _ w2 (named be) (blockOf n) f j _ (named_apply be hb _)
    have h1 : ∀ (k : Fin 1024) (f : Fin 2048), Host.gather gather_S32x1024x2048_S168x1_S168x1024x2048_12_0_n_n_0_1_110242048 w1 (named be) (ix3 (blockOf n) k f) = w1 (ix3 (expertAt be (blockOf n)) k f) := fun k f =>
      stack_apply _ w1 (named be) (blockOf n) k f _ (named_apply be hb _)
    have h0 : ∀ (f : Fin 2048), Host.gather gather_S32x2048_S168x1_S168x2048_1_0_n_n_0_1_12048 b1 (named be) (ix2 (blockOf n) f) = b1 (ix2 (expertAt be (blockOf n)) f) := fun f =>
      row_apply _ b1 (named be) (blockOf n) f _ (named_apply be hb _)
    simp only [h2, h1, h0]

end ExpertsRef

end
-- ==== Proof.ExpertsValue.lean ====
/-
  What the experts' call computes. On a row that is an assignment, the block the body leaves holds that row's expert's row
  (`left_row`): its mask keeps the row, and a block of which at most half the rows are assignments has them in its upper half.
-/
module

public import proofs.«01_k».proof.Proof.ExpertsRun
public import proofs.«01_k».proof.Proof.ExpertsRef
public import Idealize.ShloMosaic.Lib.WritesUnit
public import Idealize.ShloMosaic.Lib.WholeRead
public import Idealize.ShloMosaic.Lib.Pipeline.Covers

@[expose] public section

set_option maxRecDepth 16384

noncomputable section

namespace ExpertsValue

open Cert.ExpertsIdeal Cert.ExpertsIdeal.Gen ExpertBlocks ExpertsRun
open ExpertsRef (act first expertRow)
open Unpack (unpack)
open Idealize.ShloMosaic

/-! ## The payloads at a row -/

section Payloads

variable (v : BitVec 32) (w : Vec Ideal S1x1024x1024 .f32) (b : Vec Ideal S1x1x1024 .f32) (w' : Vec Ideal S1x1024x1024 .f32) (b' : Vec Ideal S1x1x1024 .f32)
  (u : Vec Ideal S1x1024x1024 .f32) (d : Vec Ideal S1x1x1024 .f32)

theorem kept_one (a b : EReal) : Scalar.select 1#1 a b = a := rfl

theorem half_rows (x : Vec Ideal S512x512 .i32) (q : Fin 512) (k : Fin 1024) (hq : IntOp.cmpi .slt (BitVec.ofNat 32 q.val) v = 1#1) :
    k0_pay5 (F := Ideal) v x (ix2 q k) = unpack (fun l => x (ix2 q l)) k := by
  unfold k0_pay5 unpack
  pointwise
  simp only [hq, kept_one]
  split_ifs
  all_goals first | rfl | exact absurd rfl ‹_›

theorem half_apply (x : Vec Ideal S512x512 .i32) (q : Fin 512) (j : Fin 1024) (hq : IntOp.cmpi .slt (BitVec.ofNat 32 q.val) v = 1#1) :
    k0_pay2 (F := Ideal) (k0_pay6 (F := Ideal) v x w b) (k0_pay7 (F := Ideal) v x w' b') (Scalar.ofBits .f32 0x3FD9DB23#32) u d (ix2 q j)
      = ∑ f : Fin 1024, act (∑ k : Fin 1024, unpack (fun l => x (ix2 q l)) k * w (ix3 0 k f) + b (ix3 0 0 f)) (∑ k : Fin 1024, unpack (fun l => x (ix2 q l)) k * w' (ix3 0 k f) + b' (ix3 0 0 f)) * u (ix3 0 f j)
        + d (ix3 0 0 j) := by
  have h5 : ∀ k, k0_pay5 (F := Ideal) v x (ix2 q k) = unpack (fun l => x (ix2 q l)) k := fun k => half_rows v x q k hq
  generalize unpack (fun l => x (ix2 q l)) = z at h5 ⊢
  unfold k0_pay2 k0_pay6 k0_pay7 act
  generalize k0_pay5 (F := Ideal) v x = y at h5 ⊢
  pointwise
  simp only [h5]

theorem whole_rows (x : Vec Ideal S1024x512 .i32) (q : Fin 1024) (k : Fin 1024) (hq : IntOp.cmpi .slt (BitVec.ofNat 32 q.val) v = 1#1) :
    k0_pay8 (F := Ideal) v x (ix2 q k) = unpack (fun l => x (ix2 q l)) k := by
  unfold k0_pay8 unpack
  pointwise
  simp only [hq, kept_one]
  split_ifs
  all_goals first | rfl | exact absurd rfl ‹_›

theorem whole_apply (x : Vec Ideal S1024x512 .i32) (q : Fin 1024) (j : Fin 1024) (hq : IntOp.cmpi .slt (BitVec.ofNat 32 q.val) v = 1#1) :
    k0_pay4 (F := Ideal) (k0_pay9 (F := Ideal) v x w b) (k0_pay10 (F := Ideal) v x w' b') (Scalar.ofBits .f32 0x3FD9DB23#32) u d (ix2 q j)
      = ∑ f : Fin 1024, act (∑ k : Fin 1024, unpack (fun l => x (ix2 q l)) k * w (ix3 0 k f) + b (ix3 0 0 f)) (∑ k : Fin 1024, unpack (fun l => x (ix2 q l)) k * w' (ix3 0 k f) + b' (ix3 0 0 f)) * u (ix3 0 f j)
        + d (ix3 0 0 j) := by
  have h5 : ∀ k, k0_pay8 (F := Ideal) v x (ix2 q k) = unpack (fun l => x (ix2 q l)) k := fun k => whole_rows v x q k hq
  generalize unpack (fun l => x (ix2 q l)) = z at h5 ⊢
  unfold k0_pay4 k0_pay9 k0_pay10 act
  generalize k0_pay8 (F := Ideal) v x = y at h5 ⊢
  pointwise
  simp only [h5]

end Payloads

/-! ## The block the body leaves, at a row -/

section Rows

variable (c : Dev nD) (i : grid0.Coords)
  (M0 : Memref sig .tc .vmem S1024x512 .i32) (h0 : M0.IsWhole) (M1 : Memref sig .tc .vmem S1x1024x2048 .f32) (h1 : M1.IsWhole)
  (M2 : Memref sig .tc .vmem S1x1x2048 .f32) (h2 : M2.IsWhole) (M3 : Memref sig .tc .vmem S1x1024x1024 .f32) (h3 : M3.IsWhole)
  (M4 : Memref sig .tc .vmem S1x1x1024 .f32) (h4 : M4.IsWhole) (M5 : Memref sig .tc .vmem S1024x1024 .bf16) (h5 : M5.IsWhole)
  (x0 : Vec Ideal S1024x512 .i32) (x1 : Vec Ideal S1x1024x2048 .f32) (x2 : Vec Ideal S1x1x2048 .f32) (x3 : Vec Ideal S1x1024x1024 .f32) (x4 : Vec Ideal S1x1x1024 .f32)
  (be : Words (F := Ideal) c expertTable) (nv : Words (F := Ideal) c countTable)

/-- The loads the body makes of its buffers. -/
abbrev gateW : Vec Ideal S1x1024x1024 .f32 := M1.view.readAt (Elt Ideal) (Rect.unit (s := S1x1024x2048) ![0, 0, 0] S1x1024x1024.size inb_S1x1024x2048_S1x1024x1024_0_0_0).toLoadRect (h1.unread x1)
abbrev linW : Vec Ideal S1x1024x1024 .f32 := M1.view.readAt (Elt Ideal) (Rect.unit (s := S1x1024x2048) ![0, 0, 1024] S1x1024x1024.size inb_S1x1024x2048_S1x1024x1024_0_0_1024).toLoadRect (h1.unread x1)
abbrev gateB : Vec Ideal S1x1x1024 .f32 := M2.view.readAt (Elt Ideal) (Rect.unit (s := S1x1x2048) ![0, 0, 0] S1x1x1024.size inb_S1x1x2048_S1x1x1024_0_0_0).toLoadRect (h2.unread x2)
abbrev linB : Vec Ideal S1x1x1024 .f32 := M2.view.readAt (Elt Ideal) (Rect.unit (s := S1x1x2048) ![0, 0, 1024] S1x1x1024.size inb_S1x1x2048_S1x1x1024_0_0_1024).toLoadRect (h2.unread x2)
abbrev outW : Vec Ideal S1x1024x1024 .f32 := M3.view.readAt (Elt Ideal) (Rect.unit (s := S1x1024x1024) ![0, 0, 0] S1x1024x1024.size inb_S1x1024x1024_S1x1024x1024_0_0_0).toLoadRect (h3.unread x3)
abbrev outB : Vec Ideal S1x1x1024 .f32 := M4.view.readAt (Elt Ideal) (Rect.unit (s := S1x1x1024) ![0, 0, 0] S1x1x1024.size inb_S1x1x1024_S1x1x1024_0_0_0).toLoadRect (h4.unread x4)
abbrev rowsTop : Vec Ideal S512x512 .i32 := M0.view.readAt (Elt Ideal) (Rect.unit (s := S1024x512) ![0, 0] S512x512.size inb_S1024x512_S512x512_0_0).toLoadRect (h0.unread x0)
abbrev rowsAll : Vec Ideal S1024x512 .i32 := M0.view.readAt (Elt Ideal) (Rect.unit (s := S1024x512) ![0, 0] S1024x512.size inb_S1024x512_S1024x512_0_0).toLoadRect (h0.unread x0)

theorem stores_half (a1 : ¬ k0_cond1 (countAt i nv) = 1#1) (a2 : k0_cond2 (countAt i nv) = 1#1) (a3 : ¬ k0_cond3 (countAt i nv) = 1#1) :
    (runHalf (F := Ideal) c i M0 h0 M1 h1 M2 h2 M3 h3 M4 h4 M5 h5 x0 x1 x2 x3 x4 be nv a1 a2 a3).1
      = [⟨Rect.unit (s := S1024x1024) ![512, 0] S512x1024.size inb_S1024x1024_S512x1024_512_0, k0_pay3 (F := Ideal)⟩,
         ⟨Rect.unit (s := S1024x1024) ![0, 0] S512x1024.size inb_S1024x1024_S512x1024_0_0,
          k0_pay2 (F := Ideal) (k0_pay6 (F := Ideal) (countAt i nv) (rowsTop M0 h0 x0) (gateW M1 h1 x1) (gateB M2 h2 x2)) (k0_pay7 (F := Ideal) (countAt i nv) (rowsTop M0 h0 x0) (linW M1 h1 x1) (linB M2 h2 x2)) (Scalar.ofBits .f32 0x3FD9DB23#32) (outW M3 h3 x3) (outB M4 h4 x4)⟩] := rfl

theorem stores_whole (a1 : ¬ k0_cond1 (countAt i nv) = 1#1) (a2 : ¬ k0_cond2 (countAt i nv) = 1#1) (a3 : k0_cond3 (countAt i nv) = 1#1) :
    (runWhole (F := Ideal) c i M0 h0 M1 h1 M2 h2 M3 h3 M4 h4 M5 h5 x0 x1 x2 x3 x4 be nv a1 a2 a3).1
      = [⟨Rect.unit (s := S1024x1024) ![0, 0] S1024x1024.size inb_S1024x1024_S1024x1024_0_0,
          k0_pay4 (F := Ideal) (k0_pay9 (F := Ideal) (countAt i nv) (rowsAll M0 h0 x0) (gateW M1 h1 x1) (gateB M2 h2 x2)) (k0_pay10 (F := Ideal) (countAt i nv) (rowsAll M0 h0 x0) (linW M1 h1 x1) (linB M2 h2 x2)) (Scalar.ofBits .f32 0x3FD9DB23#32) (outW M3 h3 x3) (outB M4 h4 x4)⟩] := rfl

/-- The expert's row of row `q` of the block, the expert being the one whose matrices and biases the block is handed. -/
abbrev blockRow (q j : Fin 1024) : EReal :=
  expertRow (unpack (fun l => x0 (ix2 q l))) (fun k f => x1 (ix3 0 k f)) (fun f => x2 (ix3 0 0 f)) (fun f j => x3 (ix3 0 f j)) (fun j => x4 (ix3 0 0 j)) j

theorem gateW_apply (k f : Fin 1024) : gateW M1 h1 x1 (ix3 0 k f) = x1 (ix3 0 k ⟨f.val, by have := f.isLt; omega⟩) :=
  (h1.readAt_unread x1 _ _).trans (congrArg x1 (funext fun a => Fin.ext (match a with
    | ⟨0, _⟩ => rfl
    | ⟨1, _⟩ => by show 0 + 1 * k.val = k.val; omega
    | ⟨2, _⟩ => by show 0 + 1 * f.val = f.val; omega)))
theorem linW_apply (k f : Fin 1024) : linW M1 h1 x1 (ix3 0 k f) = x1 (ix3 0 k ⟨1024 + f.val, by have := f.isLt; omega⟩) :=
  (h1.readAt_unread x1 _ _).trans (congrArg x1 (funext fun a => Fin.ext (match a with
    | ⟨0, _⟩ => rfl
    | ⟨1, _⟩ => by show 0 + 1 * k.val = k.val; omega
    | ⟨2, _⟩ => by show 1024 + 1 * f.val = 1024 + f.val; omega)))
theorem gateB_apply (f : Fin 1024) : gateB M2 h2 x2 (ix3 0 0 f) = x2 (ix3 0 0 ⟨f.val, by have := f.isLt; omega⟩) :=
  (h2.readAt_unread x2 _ _).trans (congrArg x2 (funext fun a => Fin.ext (match a with
    | ⟨0, _⟩ => rfl
    | ⟨1, _⟩ => rfl
    | ⟨2, _⟩ => by show 0 + 1 * f.val = f.val; omega)))
theorem linB_apply (f : Fin 1024) : linB M2 h2 x2 (ix3 0 0 f) = x2 (ix3 0 0 ⟨1024 + f.val, by have := f.isLt; omega⟩) :=
  (h2.readAt_unread x2 _ _).trans (congrArg x2 (funext fun a => Fin.ext (match a with
    | ⟨0, _⟩ => rfl
    | ⟨1, _⟩ => rfl
    | ⟨2, _⟩ => by show 1024 + 1 * f.val = 1024 + f.val; omega)))
theorem outW_apply (k f : Fin 1024) : outW M3 h3 x3 (ix3 0 k f) = x3 (ix3 0 k f) :=
  (h3.readAt_unread x3 _ _).trans (congrArg x3 (funext fun a => Fin.ext (match a with
    | ⟨0, _⟩ => rfl
    | ⟨1, _⟩ => by show 0 + 1 * k.val = k.val; omega
    | ⟨2, _⟩ => by show 0 + 1 * f.val = f.val; omega)))
theorem outB_apply (f : Fin 1024) : outB M4 h4 x4 (ix3 0 0 f) = x4 (ix3 0 0 f) :=
  (h4.readAt_unread x4 _ _).trans (congrArg x4 (funext fun a => Fin.ext (match a with
    | ⟨0, _⟩ => rfl
    | ⟨1, _⟩ => rfl
    | ⟨2, _⟩ => by show 0 + 1 * f.val = f.val; omega)))
theorem rowsTop_apply (q : Fin 512) (k : Fin 512) : rowsTop M0 h0 x0 (ix2 q k) = x0 (ix2 ⟨q.val, by have := q.isLt; omega⟩ k) :=
  (h0.readAt_unread x0 _ _).trans (congrArg x0 (funext fun a => Fin.ext (match a with
    | ⟨0, _⟩ => by show 0 + 1 * q.val = q.val; omega
    | ⟨1, _⟩ => by show 0 + 1 * k.val = k.val; omega)))
theorem rowsAll_apply (q : Fin 1024) (k : Fin 512) : rowsAll M0 h0 x0 (ix2 q k) = x0 (ix2 q k) :=
  (h0.readAt_unread x0 _ _).trans (congrArg x0 (funext fun a => Fin.ext (match a with
    | ⟨0, _⟩ => by show 0 + 1 * q.val = q.val; omega
    | ⟨1, _⟩ => by show 0 + 1 * k.val = k.val; omega)))

/-- A row below a count of at most 1024 passes the body's mask. -/
theorem passes (v : BitVec 32) (hv : v.toNat ≤ 1024) (q : ℕ) (hq : q < v.toNat) : IntOp.cmpi .slt (BitVec.ofNat 32 q) v = 1#1 := by
  have : BitVec.slt (BitVec.ofNat 32 q) v = true := by
    rw [BitVec.slt_eq_decide, decide_eq_true_eq, BitVec.toInt_eq_toNat_cond, BitVec.toInt_eq_toNat_cond, BitVec.toNat_ofNat, Nat.mod_eq_of_lt (by omega)]
    split <;> split <;> omega
  simp only [IntOp.cmpi, this]; rfl

/-- A row that is an assignment, in the block the body leaves. -/
theorem leaves_row (hv : (countAt (F := Ideal) (c := c) i nv).toNat ≤ 1024) (q j : Fin 1024) (hq : q.val < (countAt (F := Ideal) (c := c) i nv).toNat) :
    leaves (F := Ideal) c i M0 h0 M1 h1 M2 h2 M3 h3 M4 h4 M5 h5 x0 x1 x2 x3 x4 be nv (ix2 q j) = blockRow x0 x1 x2 x3 x4 q j := by
  rcases cases_of_le _ hv with a | a | a
  · omega
  · have hq' : q.val < 512 := by omega
    rw [leaves_half c i M0 h0 M1 h1 M2 h2 M3 h3 M4 h4 M5 h5 x0 x1 x2 x3 x4 be nv a.2]
    unfold stored
    rw [stores_half]
    refine (View.read_writes_cons_unit_of_not_mem _ _ _ _ _ (ix2 q j) rfl (0 : Fin 2) (.inl hq')).trans ?_
    refine (View.read_writes_cons_unit_of_mem _ _ _ _ _ (ix2 q j) (ix2 (⟨q.val, hq'⟩ : Fin 512) j) rfl (fun a => match a with
      | ⟨0, _⟩ => by show q.val = 0 + q.val; omega
      | ⟨1, _⟩ => by show j.val = 0 + j.val; omega)).trans ?_
    refine (half_apply _ _ _ _ _ _ _ _ (⟨q.val, hq'⟩ : Fin 512) j (passes _ hv _ hq)).trans ?_
    unfold blockRow expertRow first
    simp only [gateW_apply, linW_apply, gateB_apply, linB_apply, outW_apply, outB_apply, rowsTop_apply]
  · rw [leaves_whole c i M0 h0 M1 h1 M2 h2 M3 h3 M4 h4 M5 h5 x0 x1 x2 x3 x4 be nv a]
    unfold stored
    rw [stores_whole]
    refine (View.read_writes_cons_unit_of_mem _ _ _ _ _ (ix2 q j) (ix2 q j) rfl (fun a => match a with
      | ⟨0, _⟩ => by show q.val = 0 + q.val; omega
      | ⟨1, _⟩ => by show j.val = 0 + j.val; omega)).trans ?_
    refine (whole_apply _ _ _ _ _ _ _ _ q j (passes _ hv _ hq)).trans ?_
    unfold blockRow expertRow first
    simp only [gateW_apply, linW_apply, gateB_apply, linB_apply, outW_apply, outB_apply, rowsAll_apply]

end Rows

/-! ## The array -/

section Array

variable (m : (ℓ : Loc nD τ sig) → Buf (Elt Ideal) ℓ) (hr : InRange m)

/-- The block a grid point is of. -/
abbrev pointBlock (t : Fin (pipe m hr).N) : Fin 168 := grid0.coords t 0

theorem entry_point (t : Fin (pipe m hr).N) : entry (grid0.coords t) = ix1 (pointBlock m hr t) := (ix1_eq_valueIdx _).symm

/-- Where a window's block lies, at each point. -/
theorem index0 (t : Fin (pipe m hr).N) : ((pipe m hr).win 0).index t = ![(pointBlock m hr t).val, 0] := by
  show ![(BitVec.ofNat 32 (grid0.coords t 0).val).toNat, 0] = _
  have h : (grid0.coords t 0).val < 168 := (grid0.coords t 0).isLt
  rw [BitVec.toNat_ofNat, Nat.mod_eq_of_lt (by omega)]
theorem index1 (t : Fin (pipe m hr).N) : ((pipe m hr).win 1).index t = ![(expertOf m (ix1 (pointBlock m hr t))).toNat, 0, 0] := by
  rw [← entry_point]; exact map1 m (grid0.coords t)
theorem index2 (t : Fin (pipe m hr).N) : ((pipe m hr).win 2).index t = ![(expertOf m (ix1 (pointBlock m hr t))).toNat, 0, 0] := by
  rw [← entry_point]; exact map2 m (grid0.coords t)
theorem index3 (t : Fin (pipe m hr).N) : ((pipe m hr).win 3).index t = ![(expertOf m (ix1 (pointBlock m hr t))).toNat, 0, 0] := by
  rw [← entry_point]; exact map3 m (grid0.coords t)
theorem index4 (t : Fin (pipe m hr).N) : ((pipe m hr).win 4).index t = ![(expertOf m (ix1 (pointBlock m hr t))).toNat, 0, 0] := by
  rw [← entry_point]; exact map4 m (grid0.coords t)
theorem index5 (t : Fin (pipe m hr).N) : ((pipe m hr).win 5).index t = ![(pointBlock m hr t).val, 0] := by
  show ![(BitVec.ofNat 32 (grid0.coords t 0).val).toNat, 0] = _
  have h : (grid0.coords t 0).val < 168 := (grid0.coords t 0).isLt
  rw [BitVec.toNat_ofNat, Nat.mod_eq_of_lt (by omega)]

/-- Where an element of a block lies in its array, the block's index being `ix`. -/
theorem placed (w : Fin (pipe m hr).W) (t : Fin (pipe m hr).N) (ix : Fin ((pipe m hr).win w).shape.rank → ℕ) (h : ((pipe m hr).win w).index t = ix)
    (y : (((pipe m hr).win w).xblock ((pipe m hr).grid.coords t)).Idx) (a : Fin ((pipe m hr).win w).shape.rank) (hk : ((pipe m hr).win w).kind = .blocked) :
    ((((pipe m hr).win w).rect t).emb y a : ℕ) = ix a * ((pipe m hr).win w).size a + y a := by
  rw [Pipeline.Window.rect_emb_val _ _ _ _ hk, h]

/-- The biases, reshaped for the kernel. -/
theorem entered_first (c : Dev nD) : entered m c main_v0 = shapeCast S32x1x2048 (m ((c.tc : Thread nD τ).loc main_arg4)) shapeCasts_S32x2048_S32x1x2048 := by
  simp only [entered, hostOps0]; after_results_simp; rfl
theorem entered_second (c : Dev nD) : entered m c main_v1 = shapeCast S32x1x1024 (m ((c.tc : Thread nD τ).loc main_arg6)) shapeCasts_S32x1024_S32x1x1024 := by
  simp only [entered, hostOps0]; after_results_simp; rfl

theorem spread {n : ℕ} (x : (⟨2, ![32, n]⟩ : Shape).Idx → EReal) (h : (⟨2, ![32, n]⟩ : Shape).ShapeCasts ⟨3, ![32, 1, n]⟩) (e : Fin 32) (f : Fin n) :
    shapeCast ⟨3, ![32, 1, n]⟩ x h (ix3 e (0 : Fin 1) f) = x (ix2 e f) := by
  refine shapeCast_apply _ _ _ _ ?_
  rw [Shape.rowMajor_val_two, Shape.rowMajor_val_three]
  show e.val * n + f.val = (e.val * 1 + 0) * n + f.val
  rw [Nat.mul_one, Nat.add_zero]

/-- A row of block `b`. -/
abbrev rowIn (b : Fin 168) (q : Fin 1024) : Fin 172032 := ⟨1024 * b.val + q.val, by have := b.isLt; have := q.isLt; omega⟩

abbrev expertIn (b : Fin 168) : Fin 32 := ExpertsRef.expertAt (m (((0 : Dev nD).tc : Thread nD τ).loc main_arg0)) b

theorem expertIn_val (b : Fin 168) (hr : InRange m) : (expertOf m (ix1 b)).toNat = (expertIn m b).val := (Nat.mod_eq_of_lt (hr.1 (ix1 b))).symm

theorem block0 (t : Fin (pipe m hr).N) (q : Fin 1024) (k : Fin 512) :
    blockAt m hr 0 0 t (ix2 q k) = m (((0 : Dev nD).tc : Thread nD τ).loc main_arg2) (ix2 (rowIn (pointBlock m hr t) q) k) := by
  refine Eq.trans (b := entered m 0 main_arg2 ((((pipe m hr).win 0).rect t).emb (ix2 q k))) rfl ?_
  rw [entered_of_ne m 0 main_arg2 (by decide) (by decide)]
  refine congrArg _ (funext fun a => Fin.ext ?_)
  refine (placed m hr 0 t _ (index0 m hr t) _ a rfl).trans ?_
  match a with
  | ⟨0, _⟩ => show (pointBlock m hr t).val * 1024 + q.val = 1024 * (pointBlock m hr t).val + q.val; omega
  | ⟨1, _⟩ => show 0 * 512 + k.val = k.val; omega

theorem block1 (t : Fin (pipe m hr).N) (k : Fin 1024) (f : Fin 2048) :
    blockAt m hr 0 1 t (ix3 0 k f) = m (((0 : Dev nD).tc : Thread nD τ).loc main_arg3) (ix3 (expertIn m (pointBlock m hr t)) k f) := by
  refine Eq.trans (b := entered m 0 main_arg3 ((((pipe m hr).win 1).rect t).emb (ix3 0 k f))) rfl ?_
  rw [entered_of_ne m 0 main_arg3 (by decide) (by decide)]
  refine congrArg _ (funext fun a => Fin.ext ?_)
  refine (placed m hr 1 t _ (index1 m hr t) _ a rfl).trans ?_
  have he := expertIn_val m (pointBlock m hr t) hr
  match a with
  | ⟨0, _⟩ => show (expertOf m (ix1 (pointBlock m hr t))).toNat * 1 + 0 = (expertIn m (pointBlock m hr t)).val; omega
  | ⟨1, _⟩ => show 0 * 1024 + k.val = k.val; omega
  | ⟨2, _⟩ => show 0 * 2048 + f.val = f.val; omega

theorem block3 (t : Fin (pipe m hr).N) (k f : Fin 1024) :
    blockAt m hr 0 3 t (ix3 0 k f) = m (((0 : Dev nD).tc : Thread nD τ).loc main_arg5) (ix3 (expertIn m (pointBlock m hr t)) k f) := by
  refine Eq.trans (b := entered m 0 main_arg5 ((((pipe m hr).win 3).rect t).emb (ix3 0 k f))) rfl ?_
  rw [entered_of_ne m 0 main_arg5 (by decide) (by decide)]
  refine congrArg _ (funext fun a => Fin.ext ?_)
  refine (placed m hr 3 t _ (index3 m hr t) _ a rfl).trans ?_
  have he := expertIn_val m (pointBlock m hr t) hr
  match a with
  | ⟨0, _⟩ => show (expertOf m (ix1 (pointBlock m hr t))).toNat * 1 + 0 = (expertIn m (pointBlock m hr t)).val; omega
  | ⟨1, _⟩ => show 0 * 1024 + k.val = k.val; omega
  | ⟨2, _⟩ => show 0 * 1024 + f.val = f.val; omega

theorem block2 (t : Fin (pipe m hr).N) (f : Fin 2048) :
    blockAt m hr 0 2 t (ix3 0 0 f) = m (((0 : Dev nD).tc : Thread nD τ).loc main_arg4) (ix2 (expertIn m (pointBlock m hr t)) f) := by
  refine Eq.trans (b := entered m 0 main_v0 ((((pipe m hr).win 2).rect t).emb (ix3 0 0 f))) rfl ?_
  have h : (((pipe m hr).win 2).rect t).emb (ix3 (0 : Fin 1) (0 : Fin 1) f) = ix3 (expertIn m (pointBlock m hr t)) (0 : Fin 1) f := by
    refine funext fun a => Fin.ext ?_
    refine (placed m hr 2 t _ (index2 m hr t) _ a rfl).trans ?_
    have he := expertIn_val m (pointBlock m hr t) hr
    match a with
    | ⟨0, _⟩ => show (expertOf m (ix1 (pointBlock m hr t))).toNat * 1 + 0 = (expertIn m (pointBlock m hr t)).val; omega
    | ⟨1, _⟩ => rfl
    | ⟨2, _⟩ => show 0 * 2048 + f.val = f.val; omega
  rw [entered_first]
  exact (congrArg _ h).trans (spread _ _ _ _)

theorem block4 (t : Fin (pipe m hr).N) (f : Fin 1024) :
    blockAt m hr 0 4 t (ix3 0 0 f) = m (((0 : Dev nD).tc : Thread nD τ).loc main_arg6) (ix2 (expertIn m (pointBlock m hr t)) f) := by
  refine Eq.trans (b := entered m 0 main_v1 ((((pipe m hr).win 4).rect t).emb (ix3 0 0 f))) rfl ?_
  have h : (((pipe m hr).win 4).rect t).emb (ix3 (0 : Fin 1) (0 : Fin 1) f) = ix3 (expertIn m (pointBlock m hr t)) (0 : Fin 1) f := by
    refine funext fun a => Fin.ext ?_
    refine (placed m hr 4 t _ (index4 m hr t) _ a rfl).trans ?_
    have he := expertIn_val m (pointBlock m hr t) hr
    match a with
    | ⟨0, _⟩ => show (expertOf m (ix1 (pointBlock m hr t))).toNat * 1 + 0 = (expertIn m (pointBlock m hr t)).val; omega
    | ⟨1, _⟩ => rfl
    | ⟨2, _⟩ => show 0 * 1024 + f.val = f.val; omega
  rw [entered_second]
  exact (congrArg _ h).trans (spread _ _ _ _)

/-- What row `n` is, of the launch's memory. -/
abbrev rowValue (n : Fin 172032) (j : Fin 1024) : EReal :=
  ExpertsRef.value (m (((0 : Dev nD).tc : Thread nD τ).loc main_arg0)) (m (((0 : Dev nD).tc : Thread nD τ).loc main_arg2)) (m (((0 : Dev nD).tc : Thread nD τ).loc main_arg3))
    (m (((0 : Dev nD).tc : Thread nD τ).loc main_arg4)) (m (((0 : Dev nD).tc : Thread nD τ).loc main_arg5)) (m (((0 : Dev nD).tc : Thread nD τ).loc main_arg6)) n j

/-- The block left at a point, on a row that is an assignment. -/
theorem left_row (t : Fin (pipe m hr).N) (q j : Fin 1024) (hq : q.val < (countOf m (ix1 (pointBlock m hr t))).toNat) :
    resultAt m hr 0 t (ix2 q j) = rowValue m (rowIn (pointBlock m hr t) q) j := by
  have hc : countAt (F := Ideal) (c := 0) (grid0.coords t) (tables m 1) = countOf m (ix1 (pointBlock m hr t)) := by
    rw [countAt_tables, entry_point m hr t]
  unfold resultAt
  refine (leaves_row 0 (grid0.coords t) _ _ _ _ _ _ _ _ _ _ _ _ _ _ _ _ _ _ (tables m 1) (by rw [hc]; exact hr.2 _) q j (by rw [hc]; exact hq)).trans ?_
  have hb : ExpertsRef.blockOf (rowIn (pointBlock m hr t) q) = pointBlock m hr t := Fin.ext (by
    show (1024 * (pointBlock m hr t).val + q.val) / 1024 = (pointBlock m hr t).val
    have := q.isLt; omega)
  unfold blockRow rowValue ExpertsRef.value
  rw [hb]
  simp only [block0, block1, block2, block3, block4]

theorem covers : ((pipe m hr).win 5).Covers :=
  ((pipe m hr).win 5).covers_of_indexMap_surj rfl
    (show ∀ a : Fin 2, 0 < (![1024, 1024] : Fin 2 → ℕ) a by decide)
    (show ∀ β : (a : Fin 2) → Fin (((pipe m hr).win 5).nblk a), ∃ i : grid0.Coords, ∀ a : Fin 2, cc0_transform_5 i a = (β a).val from fun β => by
      have h : (β 0).val < 168 := lt_of_lt_of_eq (β 0).isLt (show (172032 + 1024 - 1) / 1024 = 168 by decide)
      have h1 : (β 1).val < 1 := lt_of_lt_of_eq (β 1).isLt (show (1024 + 1024 - 1) / 1024 = 1 by decide)
      refine ⟨ValueIdx.ix1 (⟨(β 0).val, h⟩ : Fin 168), Fin.forall_fin_two.mpr ⟨?_, ?_⟩⟩
      · show (BitVec.ofNat 32 (β 0).val).toNat = (β 0).val
        rw [BitVec.toNat_ofNat, Nat.mod_eq_of_lt (by omega)]
      · show 0 = (β 1).val
        omega)

/-- The result array, on a row that is an assignment. -/
theorem ended (n : Fin 172032) (j : Fin 1024) (hn : n.val % 1024 < (countOf m (ix1 (ExpertsRef.blockOf n))).toNat) :
    (data m hr 0 0).arrAt 5 (pipe m hr).N (ix2 n j) = rowValue m n j := by
  refine (data m hr 0 0).arrAt_forall_of_covers 5
    (fun (i : S172032x1024.Idx) (v : EReal) => (i 0).val % 1024 < (countOf m (ix1 (ExpertsRef.blockOf (i 0)))).toNat → v = rowValue m (i 0) (i 1))
    (covers m hr) (fun t _ (y : S1024x1024.Idx) => ?_) (ix2 n j) (Memref.isWhole_whole _) hn
  obtain ⟨q, j, rfl⟩ : ∃ (q j : Fin 1024), y = ix2 q j := ⟨y 0, y 1, eq_ix2 y⟩
  have h : (((pipe m hr).win 5).blk t).view.emb (ix2 q j) = ix2 (rowIn (pointBlock m hr t) q) j := by
    refine Eq.trans (b := (((pipe m hr).win 5).rect t).emb (ix2 q j)) rfl (funext fun a => Fin.ext ?_)
    refine (placed m hr 5 t _ (index5 m hr t) _ a rfl).trans ?_
    match a with
    | ⟨0, _⟩ => show (pointBlock m hr t).val * 1024 + q.val = 1024 * (pointBlock m hr t).val + q.val; omega
    | ⟨1, _⟩ => show 0 * 1024 + j.val = j.val; omega
  rw [h]
  intro hq
  refine Eq.trans (b := resultAt m hr 0 t (ix2 q j)) rfl (left_row m hr t q j ?_)
  have hb : ExpertsRef.blockOf (rowIn (pointBlock m hr t) q) = pointBlock m hr t := Fin.ext (by
    show (1024 * (pointBlock m hr t).val + q.val) / 1024 = (pointBlock m hr t).val
    have := q.isLt; omega)
  have hm : (1024 * (pointBlock m hr t).val + q.val) % 1024 = q.val := by have := q.isLt; omega
  change (1024 * (pointBlock m hr t).val + q.val) % 1024 < (countOf m (ix1 (ExpertsRef.blockOf (rowIn (pointBlock m hr t) q)))).toNat at hq
  rwa [hb, hm] at hq

end Array

end ExpertsValue

end
-- ==== Proof.ExpertsClaims.lean ====
/-
  The precondition and the mask of the experts' call, brought to plain bounds: a block's expert is one of the 32 and its
  count at most 1024 (`bounded`), and a row that the mask selects is among the first rows of its block, as many as the
  block's count says (`selected`). With these, the call's two runs end with equal rows wherever the mask is set (`agree`).
-/
module

public import proofs.«01_k».proof.Defs
public import proofs.«01_k».proof.Proof.ExpertsValue
public import proofs.«01_k».proof.Proof.Gen.Experts
public import proofs.«01_k».proof.Proof.Gen.ExpertsRefIdeal.Run
public import Idealize.ShloMosaic.Lib.Quiescent

@[expose] public section

set_option maxRecDepth 16384

noncomputable section

namespace ExpertsClaims

open Idealize.ShloMosaic Idealize.SL.Sem

instance blocks_facts : Cert.Pre_blocks_ok.Facts := ⟨by decide⟩

instance assigned_facts : Cert.On_assigned.Facts := ⟨by decide, by decide, by decide⟩

/-- The precondition at one block: its expert and its count are in their ranges. -/
theorem bounds_of_pre {e v : BitVec 32}
    (h : IntOp.andi (IntOp.andi (IntOp.andi (IntOp.cmpi .sge e 0#32) (IntOp.cmpi .slt e 32#32)) (IntOp.cmpi .sge v 0#32)) (IntOp.cmpi .sle v 1024#32) = 1#1) :
    e.toNat < 32 ∧ v.toNat ≤ 1024 := by
  have four : ∀ a b c d : Bool, IntOp.andi (IntOp.andi (IntOp.andi (BitVec.ofBool a) (BitVec.ofBool b)) (BitVec.ofBool c)) (BitVec.ofBool d) = 1#1 →
      (a = true ∧ b = true) ∧ c = true ∧ d = true := by decide
  simp only [IntOp.cmpi] at h
  obtain ⟨⟨h0, h1⟩, h2, h3⟩ := four _ _ _ _ h
  rw [BitVec.sle_eq_decide, decide_eq_true_eq, BitVec.toInt_zero, BitVec.toInt_eq_toNat_cond] at h0 h2
  rw [BitVec.slt_eq_decide, decide_eq_true_eq, BitVec.toInt_eq_toNat_cond, show (32#32).toInt = 32 by decide] at h1
  rw [BitVec.sle_eq_decide, decide_eq_true_eq, BitVec.toInt_eq_toNat_cond, show (1024#32).toInt = 1024 by decide] at h3
  constructor
  · split at h0 <;> split at h1 <;> omega
  · split at h2 <;> split at h3 <;> omega

/-- A row number below a count, as the mask compares them. -/
theorem below_of_mask {q : Nat} (hq : q < 1024) {v : BitVec 32} (hv : v.toNat ≤ 1024) (h : IntOp.cmpi .slt (BitVec.ofNat 32 q) v = 1#1) : q < v.toNat := by
  have one : ∀ a : Bool, BitVec.ofBool a = 1#1 → a = true := by decide
  simp only [IntOp.cmpi] at h
  have h := one _ h
  rw [BitVec.slt_eq_decide, decide_eq_true_eq, BitVec.toInt_eq_toNat_cond, BitVec.toInt_eq_toNat_cond, BitVec.toNat_ofNat] at h
  split at h <;> split at h <;> omega

section Bounds
variable {F : FTy → Type} [FloatOps F]

/-- Where the precondition holds, every block's expert and count are in range. -/
theorem bounded (m : (ℓ : Loc Cert.ExpertsIdeal.nD Cert.ExpertsIdeal.τ Cert.ExpertsIdeal.sig) → Buf (Elt F) ℓ)
    (x : IVec Cert.Pre_blocks_ok.S172032x512 32) (w1 : FVec F Cert.Pre_blocks_ok.S32x1024x2048 .f32) (b1 : FVec F Cert.Pre_blocks_ok.S32x2048 .f32)
    (w2 : FVec F Cert.Pre_blocks_ok.S32x1024x1024 .f32) (b2 : FVec F Cert.Pre_blocks_ok.S32x1024 .f32)
    (h : Cert.Pre_blocks_ok.fn (F := F) (ExpertsRun.expertOf m) (ExpertsRun.countOf m) x w1 b1 w2 b2 = fun _ => 1#1) : ExpertsRun.InRange m :=
  ⟨fun j => (bounds_of_pre (congrFun h j)).1, fun j => (bounds_of_pre (congrFun h j)).2⟩

/-- A row that the mask selects is among the first rows of its block, as many as the count says. -/
theorem selected (be nv : IVec Cert.On_assigned.S168 32) (x : IVec Cert.On_assigned.S172032x512 32) (w1 : FVec F Cert.On_assigned.S32x1024x2048 .f32)
    (b1 : FVec F Cert.On_assigned.S32x2048 .f32) (w2 : FVec F Cert.On_assigned.S32x1024x1024 .f32) (b2 : FVec F Cert.On_assigned.S32x1024 .f32)
    (n : Fin 172032) (j : Fin 1024) (hv : (nv (ix1 (ExpertsRef.blockOf n))).toNat ≤ 1024)
    (h : Cert.On_assigned.fn (F := F) be nv x w1 b1 w2 b2 (ix2 n j) = 1#1) : n.val % 1024 < (nv (ix1 (ExpertsRef.blockOf n))).toNat := by
  refine below_of_mask (Nat.mod_lt _ (by decide)) hv ((Eq.symm ?_).trans h)
  unfold Cert.On_assigned.fn
  refine (shapeCast_apply _ _ _ (ix3 (ExpertsRef.blockOf n) (ExpertsRef.rowOf n) j) ?_).trans ?_
  · rw [Shape.rowMajor_val_two, Shape.rowMajor_val_three]
    show (n.val / 1024 * 1024 + n.val % 1024) * 1024 + j.val = n.val * 1024 + j.val
    omega
  · refine congrArg (IntOp.cmpi .slt (BitVec.ofNat 32 (n.val % 1024))) (congrArg nv (funext fun a => ?_))
    match a with
    | ⟨0, _⟩ => rfl

end Bounds

/-! ## The claims -/

theorem in_range_ideal (m : (ℓ : Loc Cert.ExpertsIdeal.nD Cert.ExpertsIdeal.τ Cert.ExpertsIdeal.sig) → Buf (Elt Ideal) ℓ) (h : Cert.Pre_ExpertsIdeal m) :
    ExpertsRun.InRange m := bounded m _ _ _ _ _ (h 0)

theorem frame_ideal : Cert.quiescent_ExpertsIdeal := fun m ρ hpre =>
  (θ_run Cert.ExpertsIdeal.defs _ _).mono (fun _ h => ⟨fun c => (h.1 c).2, h.2⟩) (ExpertsRun.ends (F := Ideal) m ρ (in_range_ideal m hpre))

/-- The kernel's own body table is the one of the text read at the ideal numbers: label by label the same body. -/
theorem bodies_eq {F : FTy → Type} [FloatOps F] : Cert.Experts.defs₀ (F := F) = Cert.ExpertsIdeal.defs₀ (F := F) := by
  unfold Cert.Experts.defs₀ Cert.ExpertsIdeal.defs₀
  refine congrArg Defs.onTc (funext fun l => ?_)
  match l with
  | 0 => rfl

theorem defs_eq {F : FTy → Type} [FloatOps F] : Cert.Experts.defs (F := F) = Cert.ExpertsIdeal.defs (F := F) :=
  congrArg (Pipeline.defs (Cert.ExpertsIdeal.pcfgs (F := F))) bodies_eq

theorem main_eq {F : FTy → Type} [FloatOps F] : Cert.Experts.main (F := F) = Cert.ExpertsIdeal.main (F := F) := rfl

theorem in_range_kernel (m : (ℓ : Loc Cert.Experts.nD Cert.Experts.τ Cert.Experts.sig) → Buf (Elt Bits) ℓ) (h : Cert.Pre_Experts m) :
    ExpertsRun.InRange (F := Bits) m := bounded (F := Bits) m _ _ _ _ _ (h 0)

theorem frame_kernel : Cert.quiescent_Experts := by
  intro m ρ hpre
  rw [defs_eq, main_eq]
  exact (θ_run Cert.ExpertsIdeal.defs _ _).mono (fun _ h => ⟨fun c => (h.1 c).2, h.2⟩) (ExpertsRun.ends (F := Bits) m ρ (in_range_kernel m hpre))

theorem frame_reference : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

/-- Where the mask is set the reference's row is the row that the kernel's run leaves. -/
theorem agree (m : (ℓ : Loc Cert.ExpertsIdeal.nD Cert.ExpertsIdeal.τ Cert.ExpertsIdeal.sig) → Buf (Elt Ideal) ℓ) (hr : ExpertsRun.InRange m)
    (n : Fin 172032) (j : Fin 1024) (hn : n.val % 1024 < (ExpertsRun.countOf m (ix1 (ExpertsRef.blockOf n))).toNat) :
    ExpertsRef.result (ExpertsRun.expertOf m) (m (((0 : Dev Cert.ExpertsIdeal.nD).tc : Thread Cert.ExpertsIdeal.nD Cert.ExpertsIdeal.τ).loc Cert.ExpertsIdeal.main_arg2))
      (m (((0 : Dev Cert.ExpertsIdeal.nD).tc : Thread Cert.ExpertsIdeal.nD Cert.ExpertsIdeal.τ).loc Cert.ExpertsIdeal.main_arg3))
      (m (((0 : Dev Cert.ExpertsIdeal.nD).tc : Thread Cert.ExpertsIdeal.nD Cert.ExpertsIdeal.τ).loc Cert.ExpertsIdeal.main_arg4))
      (m (((0 : Dev Cert.ExpertsIdeal.nD).tc : Thread Cert.ExpertsIdeal.nD Cert.ExpertsIdeal.τ).loc Cert.ExpertsIdeal.main_arg5))
      (m (((0 : Dev Cert.ExpertsIdeal.nD).tc : Thread Cert.ExpertsIdeal.nD Cert.ExpertsIdeal.τ).loc Cert.ExpertsIdeal.main_arg6)) (ix2 n j)
      = (ExpertsRun.data m hr 0 0).arrAt 5 (ExpertsRun.pipe m hr).N (ix2 n j) :=
  (ExpertsRef.result_apply _ hr.1 _ _ _ _ _ n j).trans (ExpertsValue.ended m hr n j hn).symm

theorem algebraic : Cert.algebraic_ExpertsIdeal_ExpertsRefIdeal_on_assigned := by
  intro m ρ m' ρ' hpre hargs
  have hr := in_range_ideal m hpre
  refine ⟨fun c => (ExpertsRun.data m hr 0 c).arrAt 5 (ExpertsRun.pipe m hr).N,
    (θ_run Cert.ExpertsIdeal.defs _ _).mono (fun _ h c => ⟨fun i _ => congrFun (h.1 c).1 i, (h.1 c).2⟩) (ExpertsRun.ends (F := Ideal) m ρ hr), ?_⟩
  refine (θ_run Cert.ExpertsRefIdeal.defs _ _).mono (fun r h c => ⟨fun i hi => (congrFun (h c).1 i).trans ?_, (h c).2⟩) (Cert.ExpertsRefIdeal.Value.run (F := Ideal) m' ρ')
  obtain rfl : c = 0 := Subsingleton.elim _ _
  obtain ⟨n, j, rfl⟩ : ∃ (n : Fin 172032) (j : Fin 1024), i = ix2 n j := ⟨i 0, i 1, eq_ix2 i⟩
  obtain ⟨a0, -, a2, a3, a4, a5, a6⟩ := hargs 0
  have hn := selected (F := Ideal) (ExpertsRun.expertOf m) (ExpertsRun.countOf m) _ _ _ _ _ n j (hr.2 _) hi
  rw [ExpertsRef.result_eq]
  erw [a0, a2, a3, a4, a5, a6]
  exact agree m hr n j hn

end ExpertsClaims

end
-- ==== Proof.InprojRef.lean ====
/-
  What the projections' reference computes, entry by entry: a token's row is normalised and modulated (`row`), each column
  of the weights gives one projection of it (`Args.P`); the first 1024 columns, after the three rows kept from before, are
  mixed four at a time down the sequence (`Args.mix`) and go through the unit (`Args.act`); of the result, the first two
  groups of four heads of 64 are scaled to unit length, the first of them also by an eighth (`Args.qkv`).
-/
module

public import proofs.«01_k».proof.Proof.Gen.InprojRefIdeal.Run
public import Idealize.ShloMosaic.Lib.Pointwise
public import Idealize.ShloMosaic.Lib.Pipeline.Value

@[expose] public section

set_option maxRecDepth 16384

noncomputable section

namespace InprojRef

open Cert.InprojRefIdeal Cert.InprojRefIdeal.Facts₀
open Idealize.ShloMosaic Idealize.ShloMosaic.TcCoe Idealize.ShloMosaic.StableHlo

/-! ## The values -/

abbrev eps : EReal := Ideal.ofBits .f32 0x358637BD#32

/-- A token's row, normalised and modulated. -/
def row (x nw sc sh : Fin 1024 → EReal) (k : Fin 1024) : EReal :=
  x k * Ideal.rsqrt (Ideal.div (∑ l, x l * x l) (Ideal.ofBits .f32 0x44800000#32) + eps) * nw k * (1 + sc k) + sh k

/-- An entry of a projection of the row. -/
def proj (x nw sc sh w : Fin 1024 → EReal) (b : EReal) : EReal :=
  ∑ k, row x nw sc sh k * w k + b

/-- A vector's entry over the length of its head of 64. -/
def scaled (y : Fin 1024 → EReal) (q : Fin 1024) : EReal :=
  y q * Ideal.rsqrt ((∑ e : Fin 64, y ⟨64 * (q.val / 64) + e.val, by have := q.isLt; have := e.isLt; omega⟩ * y ⟨64 * (q.val / 64) + e.val, by have := q.isLt; have := e.isLt; omega⟩) + eps)

/-- The arguments, as functions of their coordinates. -/
structure Args where
  x : Fin 32 → Fin 2048 → Fin 1024 → EReal
  sc : Fin 32 → Fin 1024 → EReal
  sh : Fin 32 → Fin 1024 → EReal
  nw : Fin 1024 → EReal
  w : Fin 1024 → Fin 2320 → EReal
  b : Fin 2320 → EReal
  kept : Fin 32 → Fin 3 → Fin 1024 → EReal
  taps : Fin 4 → Fin 1024 → EReal

/-- The projection of token `t` of sequence `s` to column `q`. -/
def Args.P (a : Args) (s : Fin 32) (t : Fin 2048) (q : Fin 2320) : EReal :=
  proj (a.x s t) a.nw (a.sc s) (a.sh s) (fun k => a.w k q) (a.b q)

/-- The sequence the taps run over: the three rows kept, then the projections. -/
def Args.line (a : Args) (s : Fin 32) (j : Fin 2051) (q : Fin 1024) : EReal :=
  if h : j.val < 3 then a.kept s ⟨j.val, h⟩ q
  else a.P s ⟨j.val - 3, by have := j.isLt; omega⟩ ⟨q.val, by have := q.isLt; omega⟩

def Args.mix (a : Args) (s : Fin 32) (t : Fin 2048) (q : Fin 1024) : EReal :=
  a.line s ⟨t.val, by have := t.isLt; omega⟩ q * a.taps 0 q + a.line s ⟨1 + t.val, by have := t.isLt; omega⟩ q * a.taps 1 q
    + a.line s ⟨2 + t.val, by have := t.isLt; omega⟩ q * a.taps 2 q + a.line s ⟨3 + t.val, by have := t.isLt; omega⟩ q * a.taps 3 q

def Args.act (a : Args) (s : Fin 32) (t : Fin 2048) (q : Fin 1024) : EReal :=
  a.mix s t q * Ideal.logistic (a.mix s t q)

def Args.qkv (a : Args) (s : Fin 32) (t : Fin 2048) (q : Fin 1024) : EReal :=
  if q.val < 256 then scaled (a.act s t) q * Ideal.ofBits .f32 0x3E000000#32
  else if q.val < 512 then scaled (a.act s t) q
  else a.act s t q

/-! ## The reference's terms -/

variable (V0 : Valuation τ sig (Elt Ideal))

abbrev A0 : FVec Ideal S32x2048x1024 .f32 := V0 (Proc.devRef .tc main_arg0)
abbrev A1 : FVec Ideal S32x1024 .f32 := V0 (Proc.devRef .tc main_arg1)
abbrev A2 : FVec Ideal S32x1024 .f32 := V0 (Proc.devRef .tc main_arg2)
abbrev A3 : FVec Ideal S1024 .f32 := V0 (Proc.devRef .tc main_arg3)
abbrev A4 : FVec Ideal S1024x2320 .f32 := V0 (Proc.devRef .tc main_arg4)
abbrev A5 : FVec Ideal S2320 .f32 := V0 (Proc.devRef .tc main_arg5)
abbrev A6 : FVec Ideal S32x3x1024 .f32 := V0 (Proc.devRef .tc main_arg6)
abbrev A7 : FVec Ideal S4x1024 .f32 := V0 (Proc.devRef .tc main_arg7)

/-- The reference's arguments. -/
def args : Args where
  x s t k := A0 V0 (ix3 s t k)
  sc s k := A1 V0 (ix2 s k)
  sh s k := A2 V0 (ix2 s k)
  nw k := A3 V0 (ix1 k)
  w k q := A4 V0 (ix2 k q)
  b q := A5 V0 (ix1 q)
  kept s j q := A6 V0 (ix3 s j q)
  taps j q := A7 V0 (ix2 j q)

theorem proj_apply (b : Fin 32) (t : Fin 2048) (q : Fin 2320) :
    Value.res_main_v24 V0 (ix3 b t q) = (args V0).P b t q := by
  unfold Value.res_main_v24 Args.P proj row
  pointwise
  rfl

theorem first_apply (b : Fin 32) (t : Fin 2048) (q : Fin 1024) :
    Value.res_main_v25 V0 (ix3 b t q) = (args V0).P b t ⟨q.val, by have := q.isLt; omega⟩ := by
  rw [← proj_apply]
  unfold Value.res_main_v25
  pointwise

theorem line_apply (b : Fin 32) (j : Fin 2051) (q : Fin 1024) :
    Value.res_main_v31 V0 (ix3 b j q) = (args V0).line b j q := by
  unfold Value.res_main_v31 Args.line
  simp only [← first_apply]
  pointwise
  rfl

theorem mix_apply (b : Fin 32) (t : Fin 2048) (q : Fin 1024) :
    Value.res_main_v58 V0 (ix3 b t q) = (args V0).mix b t q := by
  unfold Value.res_main_v58 Args.mix
  have taps : ∀ (j : Fin 4), (args V0).taps j q = A7 V0 (ix2 j q) := fun j => rfl
  simp only [← line_apply, taps]
  pointwise

theorem act_apply (b : Fin 32) (t : Fin 2048) (q : Fin 1024) :
    Value.res_main_v59 V0 (ix3 b t q) = (args V0).act b t q := by
  unfold Value.res_main_v59 Args.act Ideal.logistic
  simp only [← mix_apply]
  pointwise

/-- The first group of heads. -/
def firsts (v : FVec Ideal S32x2048x4x64 .f32) : FVec Ideal S32x2048x4x64 .f32 :=
  mulf v (broadcastInDim S32x2048x4x64 ![0, 1, 2, 3] bcast_S32x2048x4x1_S32x2048x4x64_0_1_2_3 (Host.rsqrt (addf (broadcastInDim S32x2048x4x1 ![0, 1, 2] bcast_S32x2048x4_S32x2048x4x1_0_1_2 (Host.reduceAdd (mulf v v) (constant S_ .f32 0x00000000#32) reducesTo_S32x2048x4x64_S32x2048x4_d3 h_S_)) (broadcastInDim S32x2048x4x1 ![] bcast_S_S32x2048x4x1 (constant S_ .f32 0x358637BD#32)))))

theorem firsts_apply (v : FVec Ideal S32x2048x4x64 .f32) (b : Fin 32) (t : Fin 2048) (h : Fin 4) (e : Fin 64) :
    firsts v (ix4 b t h e) = v (ix4 b t h e) * Ideal.rsqrt ((∑ f, v (ix4 b t h f) * v (ix4 b t h f)) + eps) := by
  unfold firsts
  pointwise

theorem split_apply (y : FVec Ideal S32x2048x256 .f32) (b : Fin 32) (t : Fin 2048) (h : Fin 4) (e : Fin 64) :
    shapeCast S32x2048x4x64 y shapeCasts_S32x2048x256_S32x2048x4x64 (ix4 b t h e) = y (ix3 b t ⟨64 * h.val + e.val, by have := h.isLt; have := e.isLt; omega⟩) := by
  pointwise
  exact congrArg (fun k => y (ix3 b t k)) (Fin.ext (by simp only; omega))

theorem merge_apply (v : FVec Ideal S32x2048x4x64 .f32) (b : Fin 32) (t : Fin 2048) (q : Fin 256) :
    shapeCast S32x2048x256 v shapeCasts_S32x2048x4x64_S32x2048x256 (ix3 b t q) = v (ix4 b t ⟨q.val / 64, by have := q.isLt; omega⟩ ⟨q.val % 64, by omega⟩) := by
  pointwise

/-- The heads scaled, laid side by side again, and the rest. -/
def qkv : FVec Ideal S32x2048x1024 .f32 :=
  (concatenate S32x2048x1024 2 [⟨S32x2048x256, ((shapeCast _ (mulf (firsts (Value.res_main_v63 V0)) (broadcastInDim S32x2048x4x64 ![] bcast_S_S32x2048x4x64 (constant S_ .f32 0x3E000000#32))) shapeCasts_S32x2048x4x64_S32x2048x256) : (⟨S32x2048x256, .f32⟩ : BufTy).Contents (Elt Ideal))⟩, ⟨S32x2048x256, ((shapeCast _ (firsts (Value.res_main_v64 V0)) shapeCasts_S32x2048x4x64_S32x2048x256) : (⟨S32x2048x256, .f32⟩ : BufTy).Contents (Elt Ideal))⟩, ⟨S32x2048x512, ((extractStridedSlice S32x2048x512 ![0, 0, 512] (Value.res_main_v59 V0) slices_S32x2048x1024_S32x2048x512_0_0_512) : (⟨S32x2048x512, .f32⟩ : BufTy).Contents (Elt Ideal))⟩] concatenates_S32x2048x256_S32x2048x256_S32x2048x512_S32x2048x1024_d2 : (⟨S32x2048x1024, .f32⟩ : BufTy).Contents (Elt Ideal))

theorem side_apply (u v : FVec Ideal S32x2048x256 .f32) (w : FVec Ideal S32x2048x512 .f32) (b : Fin 32) (t : Fin 2048) (q : Fin 1024) :
    concatenate S32x2048x1024 2 [⟨S32x2048x256, u⟩, ⟨S32x2048x256, v⟩, ⟨S32x2048x512, w⟩] concatenates_S32x2048x256_S32x2048x256_S32x2048x512_S32x2048x1024_d2 (ix3 b t q)
      = if h : q.val < 256 then u (ix3 b t ⟨q.val, h⟩) else if h' : q.val < 512 then v (ix3 b t ⟨q.val - 256, by omega⟩) else w (ix3 b t ⟨q.val - 512, by have := q.isLt; omega⟩) := by
  pointwise
  by_cases h : q.val < 256
  · rw [dif_pos h, dif_pos h]
  · rw [dif_neg h, dif_neg h]
    by_cases h' : q.val < 512
    · rw [dif_pos (by omega), dif_pos h']
    · rw [dif_neg (by omega), dif_neg h']
      exact congrArg (fun k => w (ix3 b t k)) (Fin.ext (by simp only; omega))

theorem fst_apply (b : Fin 32) (t : Fin 2048) (h : Fin 4) (e : Fin 64) :
    Value.res_main_v63 V0 (ix4 b t h e) = (args V0).act b t ⟨64 * h.val + e.val, by have := h.isLt; have := e.isLt; omega⟩ := by
  unfold Value.res_main_v63
  refine (split_apply _ b t h e).trans ?_
  rw [← act_apply]
  pointwise

theorem snd_apply (b : Fin 32) (t : Fin 2048) (h : Fin 4) (e : Fin 64) :
    Value.res_main_v64 V0 (ix4 b t h e) = (args V0).act b t ⟨256 + (64 * h.val + e.val), by have := h.isLt; have := e.isLt; omega⟩ := by
  unfold Value.res_main_v64
  refine (split_apply _ b t h e).trans ?_
  rw [← act_apply]
  pointwise

theorem scaled_eq (y : Fin 1024 → EReal) (q : Fin 1024) (f : Fin 64 → Fin 1024) (p : Fin 1024) (hp : p = q)
    (hf : ∀ e, (f e).val = 64 * (q.val / 64) + e.val) : y p * Ideal.rsqrt ((∑ e, y (f e) * y (f e)) + eps) = scaled y q := by
  subst hp
  unfold scaled
  have : f = fun e => ⟨64 * (p.val / 64) + e.val, by have := p.isLt; have := e.isLt; omega⟩ := funext fun e => Fin.ext (hf e)
  rw [this]

theorem qkv_apply (b : Fin 32) (t : Fin 2048) (q : Fin 1024) : qkv V0 (ix3 b t q) = (args V0).qkv b t q := by
  have eighth : ∀ (v : FVec Ideal S32x2048x4x64 .f32) (i : S32x2048x4x64.Idx),
      mulf v (broadcastInDim S32x2048x4x64 ![] bcast_S_S32x2048x4x64 (constant S_ .f32 0x3E000000#32)) i = v i * Ideal.ofBits .f32 0x3E000000#32 := fun v i => rfl
  unfold qkv Args.qkv
  rw [side_apply]
  by_cases h : q.val < 256
  · rw [dif_pos h, if_pos h, merge_apply, eighth, firsts_apply]
    simp only [fst_apply]
    exact congrArg (· * _) (scaled_eq _ q _ _ (Fin.ext (by simp only; omega)) fun e => rfl)
  · rw [dif_neg h, if_neg h]
    by_cases h' : q.val < 512
    · rw [dif_pos h', if_pos h', merge_apply, firsts_apply]
      simp only [snd_apply]
      exact scaled_eq _ q _ _ (Fin.ext (by simp only; omega)) fun e => by simp only; omega
    · rw [dif_neg h', if_neg h', ← act_apply]
      pointwise
      exact congrArg (fun k => Value.res_main_v59 V0 (ix3 b t k)) (Fin.ext (by simp only; omega))

/-- The gates' columns, then zeros. -/
def gates : FVec Ideal S32x2048x128 .f32 :=
  pad S32x2048x128 ![0, 0, 0] ![0, 0, 112] ![0, 0, 0] (extractStridedSlice S32x2048x16 ![0, 0, 1536] (Value.res_main_v24 V0) slices_S32x2048x2320_S32x2048x16_0_0_1536) (sitofp .f32 (constantI S_ 32 0#32)) pads_S32x2048x16_S32x2048x128_000_000_01120 h_S_

theorem sitofp_zero : FloatOps.sitofp (F := Ideal) FTy.f32 (0#32) = (0 : EReal) := by
  have h : FloatOps.sitofp (F := Ideal) FTy.f32 (0#32) = ((((0#32 : BitVec 32).toInt : ℤ) : ℝ) : EReal) := rfl
  rw [h, BitVec.toInt_zero, Int.cast_zero, EReal.coe_zero]

theorem gates_apply (b : Fin 32) (t : Fin 2048) (q : Fin 128) : gates V0 (ix3 b t q) = if h : q.val < 16 then (args V0).P b t ⟨1536 + q.val, by omega⟩ else 0 := by
  unfold gates
  simp only [← proj_apply]
  pointwise
  rw [show FloatOps.sitofp (F := Ideal) FTy.f32 (0#32) = 0 from sitofp_zero]

end InprojRef

end
-- ==== Proof.InprojPieces.lean ====
/-
  What the projections' body computes from its blocks, entry by entry: the projections of a row (`proj_apply`), the taps
  (`act_apply`), and a group of two heads of 64 scaled to unit length, lanes below 64 by one mask (`unit_apply`).
-/
module

public import proofs.«01_k».proof.Proof.InprojRef
public import proofs.«01_k».proof.Proof.Gen.InprojIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace InprojPieces

open Cert.InprojIdeal Cert.InprojIdeal.Gen
open InprojRef (row proj scaled eps)
open Idealize.ShloMosaic Idealize.ShloMosaic.TcCoe

section Projections

variable (x : Vec Ideal S1x512x1024 .f32) (nw : Vec Ideal S1x1024 .f32) (sc sh : Vec Ideal S1x1x1024 .f32) (w : Vec Ideal S1024x2432 .bf16) (b : Vec Ideal S1x2432 .f32)

/-- The projection of row `r` of the block to column `q` of the body's weights. -/
abbrev P (r : Fin 512) (q : Fin 2432) : EReal :=
  proj (fun k => x (ix3 0 r k)) (fun k => nw (ix2 0 k)) (fun k => sc (ix3 0 0 k)) (fun k => sh (ix3 0 0 k)) (fun k => w (ix2 k q)) (b (ix2 0 q))

theorem proj_apply (r : Fin 512) (q : Fin 2432) : k0_pay3 (F := Ideal) (k0_pay2 (F := Ideal) x nw sc sh w) b (ix2 r q) = P x nw sc sh w b r q := by
  have h : k0_pay2 (F := Ideal) x nw sc sh w (ix2 r q)
      = ∑ k, row (fun k => x (ix3 0 r k)) (fun k => nw (ix2 0 k)) (fun k => sc (ix3 0 0 k)) (fun k => sh (ix3 0 0 k)) k * w (ix2 k q) := by
    unfold k0_pay2 row
    pointwise
  unfold P proj
  rw [← h]
  generalize k0_pay2 (F := Ideal) x nw sc sh w = y
  unfold k0_pay3
  pointwise

theorem z_apply (r : Fin 512) (j : Fin 512) : k0_pay4 (F := Ideal) (k0_pay2 (F := Ideal) x nw sc sh w) b (ix3 0 r j) = P x nw sc sh w b r ⟨1024 + j.val, by have := j.isLt; omega⟩ := by
  rw [← proj_apply]; unfold k0_pay4; pointwise
theorem sq_apply (r : Fin 512) (j : Fin 512) : k0_pay5 (F := Ideal) (k0_pay2 (F := Ideal) x nw sc sh w) b (ix3 0 r j) = P x nw sc sh w b r ⟨1536 + j.val, by have := j.isLt; omega⟩ := by
  rw [← proj_apply]; unfold k0_pay5; pointwise
theorem sk_apply (r : Fin 512) (j : Fin 128) : k0_pay6 (F := Ideal) (k0_pay2 (F := Ideal) x nw sc sh w) b (ix3 0 r j) = P x nw sc sh w b r ⟨2048 + j.val, by have := j.isLt; omega⟩ := by
  rw [← proj_apply]; unfold k0_pay6; pointwise
theorem sv_apply (r : Fin 512) (j : Fin 128) : k0_pay7 (F := Ideal) (k0_pay2 (F := Ideal) x nw sc sh w) b (ix3 0 r j) = P x nw sc sh w b r ⟨2176 + j.val, by have := j.isLt; omega⟩ := by
  rw [← proj_apply]; unfold k0_pay7; pointwise
theorem ba_apply (r : Fin 512) (j : Fin 128) : k0_pay8 (F := Ideal) (k0_pay2 (F := Ideal) x nw sc sh w) b (ix3 0 r j) = P x nw sc sh w b r ⟨2304 + j.val, by have := j.isLt; omega⟩ := by
  rw [← proj_apply]; unfold k0_pay8; pointwise
theorem u_apply (r : Fin 512) (j : Fin 1024) : k0_pay9 (F := Ideal) (k0_pay2 (F := Ideal) x nw sc sh w) b (ix3 0 r j) = P x nw sc sh w b r ⟨j.val, by have := j.isLt; omega⟩ := by
  rw [← proj_apply]; unfold k0_pay9; pointwise

end Projections

section Taps

variable (l0 l1 l2 l3 : Vec Ideal S1x512x1024 .f32) (w0 w1 w2 w3 : Vec Ideal S1x1024 .f32)

abbrev mixed (r : Fin 512) (q : Fin 1024) : EReal :=
  l0 (ix3 0 r q) * w0 (ix2 0 q) + l1 (ix3 0 r q) * w1 (ix2 0 q) + l2 (ix3 0 r q) * w2 (ix2 0 q) + l3 (ix3 0 r q) * w3 (ix2 0 q)

abbrev acted : FVec Ideal S1x512x1024 .f32 := k0_pay12 (F := Ideal) (k0_pay10 (F := Ideal) l0 w0) l1 w1 l2 w2 l3 w3

theorem act_apply (r : Fin 512) (q : Fin 1024) :
    acted l0 l1 l2 l3 w0 w1 w2 w3 (ix3 0 r q) = mixed l0 l1 l2 l3 w0 w1 w2 w3 r q * Ideal.logistic (mixed l0 l1 l2 l3 w0 w1 w2 w3 r q) := by
  unfold acted k0_pay12 k0_pay10 mixed
  pointwise

end Taps

theorem kept8_apply (v : Vec Ideal S1x8x1024 .f32) (r : Fin 8) (q : Fin 1024) : k0_pay1 (F := Ideal) v (ix3 0 r q) = v (ix3 0 r q) := by
  unfold k0_pay1; pointwise
theorem carried_apply (v : Vec Ideal S1x8x1024 .f32) (r : Fin 8) (q : Fin 1024) : k0_pay11 (F := Ideal) v (ix3 0 r q) = v (ix3 0 r q) := by
  unfold k0_pay11; pointwise

section Heads

theorem mask_apply (r : Fin 512) (l : Fin 128) : k0_pay13 (ix3 0 r l) = if l.val < 64 then 1#1 else 0#1 := by
  have h : k0_pay13 (ix3 0 r l) = IntOp.cmpi .slt (BitVec.ofNat 32 l.val) 64#32 := by
    unfold k0_pay13; pointwise
  rw [h]
  clear h
  revert l
  decide

theorem low_sum (v : Fin 128 → EReal) (r : Fin 512) :
    ∑ l, Scalar.select (k0_pay13 (ix3 0 r l)) (v l) 0 = ∑ e : Fin 64, v ⟨e.val, by omega⟩ := by
  simp only [mask_apply]
  refine (Fin.sum_univ_add (a := 64) (b := 64) (fun l : Fin 128 => Scalar.select (if l.val < 64 then 1#1 else 0#1) (v l) 0)).trans ?_
  have h1 : ∀ e : Fin 64, Scalar.select (if (Fin.castAdd 64 e).val < 64 then 1#1 else 0#1) (v (Fin.castAdd 64 e)) (0 : EReal) = v ⟨e.val, by omega⟩ := fun e => by
    rw [if_pos (by simp)]; rfl
  have h2 : ∀ e : Fin 64, Scalar.select (if (Fin.natAdd 64 e).val < 64 then 1#1 else 0#1) (v (Fin.natAdd 64 e)) (0 : EReal) = 0 := fun e => by
    rw [if_neg (by simp)]; rfl
  simp only [h1, h2, Finset.sum_const_zero, add_zero]

theorem high_sum (v : Fin 128 → EReal) (r : Fin 512) :
    ∑ l, Scalar.select (k0_pay13 (ix3 0 r l)) 0 (v l) = ∑ e : Fin 64, v ⟨64 + e.val, by omega⟩ := by
  simp only [mask_apply]
  refine (Fin.sum_univ_add (a := 64) (b := 64) (fun l : Fin 128 => Scalar.select (if l.val < 64 then 1#1 else 0#1) 0 (v l))).trans ?_
  have h1 : ∀ e : Fin 64, Scalar.select (if (Fin.castAdd 64 e).val < 64 then 1#1 else 0#1) (0 : EReal) (v (Fin.castAdd 64 e)) = 0 := fun e => by
    rw [if_pos (by simp)]; rfl
  have h2 : ∀ e : Fin 64, Scalar.select (if (Fin.natAdd 64 e).val < 64 then 1#1 else 0#1) (0 : EReal) (v (Fin.natAdd 64 e)) = v ⟨64 + e.val, by omega⟩ := fun e => by
    rw [if_neg (by simp)]; rfl
  simp only [h1, h2, Finset.sum_const_zero, zero_add]

variable (v : FVec Ideal S1x512x128 .f32)

theorem length_apply (r : Fin 512) (l : Fin 128) :
    Scalar.select (k0_pay13 (ix3 0 r l)) (∑ l, Scalar.select (k0_pay13 (ix3 0 r l)) (v (ix3 0 r l) * v (ix3 0 r l)) 0) (∑ l, Scalar.select (k0_pay13 (ix3 0 r l)) 0 (v (ix3 0 r l) * v (ix3 0 r l)))
      = ∑ e : Fin 64, v (ix3 0 r ⟨64 * (l.val / 64) + e.val, by have := l.isLt; omega⟩) * v (ix3 0 r ⟨64 * (l.val / 64) + e.val, by have := l.isLt; omega⟩) := by
  rw [low_sum (fun l => v (ix3 0 r l) * v (ix3 0 r l)), high_sum (fun l => v (ix3 0 r l) * v (ix3 0 r l)), mask_apply]
  have hl := l.isLt
  by_cases h : l.val < 64
  · rw [if_pos h]
    refine (?_ : (∑ e : Fin 64, v (ix3 0 r ⟨e.val, by omega⟩) * v (ix3 0 r ⟨e.val, by omega⟩)) = _)
    refine Finset.sum_congr rfl fun e _ => ?_
    have : (⟨e.val, by omega⟩ : Fin 128) = ⟨64 * (l.val / 64) + e.val, by omega⟩ := Fin.ext (by show e.val = _; simp only; omega)
    simp only [this]
  · rw [if_neg h]
    refine (?_ : (∑ e : Fin 64, v (ix3 0 r ⟨64 + e.val, by omega⟩) * v (ix3 0 r ⟨64 + e.val, by omega⟩)) = _)
    refine Finset.sum_congr rfl fun e _ => ?_
    have : (⟨64 + e.val, by omega⟩ : Fin 128) = ⟨64 * (l.val / 64) + e.val, by omega⟩ := Fin.ext (by simp only; omega)
    simp only [this]

theorem unit_apply (r : Fin 512) (l : Fin 128) :
    k0_pay19 (F := Ideal) k0_pay13 v (ix3 0 r l)
      = v (ix3 0 r l) * Ideal.rsqrt ((∑ e : Fin 64, v (ix3 0 r ⟨64 * (l.val / 64) + e.val, by have := l.isLt; omega⟩) * v (ix3 0 r ⟨64 * (l.val / 64) + e.val, by have := l.isLt; omega⟩)) + eps) := by
  rw [← length_apply]
  generalize k0_pay13 = mask
  unfold k0_pay19
  pointwise

theorem eighth_apply (r : Fin 512) (l : Fin 128) :
    k0_pay24 (F := Ideal) k0_pay13 v (mulf v v) (select k0_pay13 (mulf v v) (broadcast S1x512x128 (Scalar.ofBits .f32 0x00000000#32))) (ix3 0 r l)
      = v (ix3 0 r l) * Ideal.rsqrt ((∑ e : Fin 64, v (ix3 0 r ⟨64 * (l.val / 64) + e.val, by have := l.isLt; omega⟩) * v (ix3 0 r ⟨64 * (l.val / 64) + e.val, by have := l.isLt; omega⟩)) + eps) * Ideal.ofBits .f32 0x3E000000#32 := by
  rw [← length_apply]
  generalize k0_pay13 = mask
  unfold k0_pay24
  pointwise

end Heads

end InprojPieces

end
-- ==== Proof.InprojBlocks.lean ====
/-
  The blocks the projections' body is handed at a grid point, read off the arguments: point `t` is tile `t % 4` of sequence
  `t / 4`. The weights' columns the body takes are the arguments' in another order, with zeros after them (`proj_eq`).
-/
module

public import proofs.«01_k».proof.Proof.InprojPieces

@[expose] public section

set_option maxRecDepth 16384

noncomputable section

namespace InprojBlocks

open Cert.InprojIdeal Cert.InprojIdeal.Gen
open Idealize.ShloMosaic Idealize.ShloMosaic.TcCoe

variable (m : (ℓ : Loc nD τ sig) → Buf (Elt Ideal) ℓ) (c : Dev nD)

abbrev A0 : FVec Ideal S32x2048x1024 .f32 := m ((c : Thread nD τ).loc main_arg0)
abbrev A1 : FVec Ideal S32x1024 .f32 := m ((c : Thread nD τ).loc main_arg1)
abbrev A2 : FVec Ideal S32x1024 .f32 := m ((c : Thread nD τ).loc main_arg2)
abbrev A3 : FVec Ideal S1024 .f32 := m ((c : Thread nD τ).loc main_arg3)
abbrev A4 : FVec Ideal S1024x2320 .f32 := m ((c : Thread nD τ).loc main_arg4)
abbrev A5 : FVec Ideal S2320 .f32 := m ((c : Thread nD τ).loc main_arg5)
abbrev A6 : FVec Ideal S32x3x1024 .f32 := m ((c : Thread nD τ).loc main_arg6)
abbrev A7 : FVec Ideal S4x1024 .f32 := m ((c : Thread nD τ).loc main_arg7)

/-- The kernel's arguments. -/
def args : InprojRef.Args where
  x s t k := A0 m c (ix3 s t k)
  sc s k := A1 m c (ix2 s k)
  sh s k := A2 m c (ix2 s k)
  nw k := A3 m c (ix1 k)
  w k q := A4 m c (ix2 k q)
  b q := A5 m c (ix1 q)
  kept s j q := A6 m c (ix3 s j q)
  taps j q := A7 m c (ix2 j q)

theorem points (t : Fin cfg0.N) : t.val < 128 := lt_of_lt_of_eq t.isLt N_0

/-- The sequence a point works on, and the token of row `r` of its tile. -/
abbrev seqOf (t : Fin cfg0.N) : Fin 32 := ⟨t.val / 4, by have := points t; omega⟩
abbrev tokOf (t : Fin cfg0.N) (r : Fin 512) : Fin 2048 := ⟨512 * (t.val % 4) + r.val, by have := r.isLt; omega⟩

theorem index0 : ∀ t : Fin cfg0.N, win0_0.index t = ![t.val / 4, t.val % 4, 0] := (by decide +kernel : ∀ t : Fin grid0.N, _)
theorem index1 : ∀ t : Fin cfg0.N, win0_1.index t = ![t.val / 4, 0, 0] := (by decide +kernel : ∀ t : Fin grid0.N, _)
theorem index2 : ∀ t : Fin cfg0.N, win0_2.index t = ![t.val / 4, 0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val / 4, 0, 0] := (by decide +kernel : ∀ t : Fin grid0.N, _)
theorem index7 : ∀ t : Fin cfg0.N, win0_7.index t = ![0, 0] := (by decide +kernel : ∀ t : Fin grid0.N, _)

theorem x_apply (t : Fin cfg0.N) (r : Fin 512) (k : Fin 1024) : iblk m c 0 t (ix3 0 r k) = (args m c).x (seqOf t) (tokOf t r) k := by
  show _ = A0 m c (ix3 _ _ k)
  blk_ext [iblk, V_main_arg0, index0 t]

theorem taps_apply (t : Fin cfg0.N) (j : Fin 4) (k : Fin 1024) : iblk m c 7 t (ix2 j k) = (args m c).taps j k := by
  show _ = A7 m c (ix2 _ k)
  blk_ext [iblk, V_main_arg7, index7 t]

theorem V_sc (s : Fin 32) (k : Fin 1024) : V m c main_v14 (ix3 s 0 k) = A1 m c (ix2 s k) := by
  entry_read
  pointwise
theorem V_sh (s : Fin 32) (k : Fin 1024) : V m c main_v15 (ix3 s 0 k) = A2 m c (ix2 s k) := by
  entry_read
  pointwise
theorem V_nw (k : Fin 1024) : V m c main_v16 (ix2 0 k) = A3 m c (ix1 k) := by
  entry_read
  pointwise

theorem V_kept (s : Fin 32) (j : Fin 3) (k : Fin 1024) : V m c main_v13 (ix3 s ⟨5 + j.val, by omega⟩ k) = A6 m c (ix3 s j k) := by
  entry_read
  pointwise

theorem side_w (u0 : FVec Ideal S1024x1536 .f32) (u1 : FVec Ideal S1024x768 .f32) (u2 : FVec Ideal S1024x16 .f32) (u3 : FVec Ideal S1024x112 .f32) (k : Fin 1024) (q : Fin 2432) :
    concatenate S1024x2432 1 [⟨S1024x1536, u0⟩, ⟨S1024x768, u1⟩, ⟨S1024x16, u2⟩, ⟨S1024x112, u3⟩] concatenates_S1024x1536_S1024x768_S1024x16_S1024x112_S1024x2432_d1 (ix2 k q)
      = if h : q.val < 1536 then u0 (ix2 k ⟨q.val, h⟩) else if h' : q.val < 2304 then u1 (ix2 k ⟨q.val - 1536, by omega⟩)
        else if h'' : q.val < 2320 then u2 (ix2 k ⟨q.val - 2304, by omega⟩) else u3 (ix2 k ⟨q.val - 2320, by have := q.isLt; omega⟩) := by
  have hq := q.isLt
  pointwise
  by_cases h : q.val < 1536
  · rw [dif_pos h, dif_pos h]
  · rw [dif_neg h, dif_neg h]
    by_cases h' : q.val < 2304
    · rw [dif_pos (by omega), dif_pos h']
    · rw [dif_neg (by omega), dif_neg h']
      by_cases h'' : q.val < 2320
      · rw [dif_pos (by omega), dif_pos h'']
        exact congrArg (fun j => u2 (ix2 k j)) (Fin.ext (by simp only; omega))
      · rw [dif_neg (by omega), dif_neg h'']
        exact congrArg (fun j => u3 (ix2 k j)) (Fin.ext (by simp only; omega))

theorem side_b (u0 : FVec Ideal S1536 .f32) (u1 : FVec Ideal S768 .f32) (u2 : FVec Ideal S16 .f32) (u3 : FVec Ideal S112 .f32) (q : Fin 2432) :
    concatenate S2432 0 [⟨S1536, u0⟩, ⟨S768, u1⟩, ⟨S16, u2⟩, ⟨S112, u3⟩] concatenates_S1536_S768_S16_S112_S2432_d0 (ix1 q)
      = if h : q.val < 1536 then u0 (ix1 ⟨q.val, h⟩) else if h' : q.val < 2304 then u1 (ix1 ⟨q.val - 1536, by omega⟩)
        else if h'' : q.val < 2320 then u2 (ix1 ⟨q.val - 2304, by omega⟩) else u3 (ix1 ⟨q.val - 2320, by have := q.isLt; omega⟩) := by
  have hq := q.isLt
  pointwise
  by_cases h : q.val < 1536
  · rw [dif_pos h, dif_pos h]
  · rw [dif_neg h, dif_neg h]
    by_cases h' : q.val < 2304
    · rw [dif_pos (by omega), dif_pos h']
    · rw [dif_neg (by omega), dif_neg h']
      by_cases h'' : q.val < 2320
      · rw [dif_pos (by omega), dif_pos h'']
        exact congrArg (fun j => u2 (ix1 j)) (Fin.ext (by simp only; omega))
      · rw [dif_neg (by omega), dif_neg h'']
        exact congrArg (fun j => u3 (ix1 j)) (Fin.ext (by simp only; omega))

theorem V_w_eq : V m c main_v5 = (truncf .bf16 (concatenate S1024x2432 1 [⟨S1024x1536, extractStridedSlice S1024x1536 ![0, 0] (A4 m c) slices_S1024x2320_S1024x1536_0_0⟩, ⟨S1024x768, extractStridedSlice S1024x768 ![0, 1552] (A4 m c) slices_S1024x2320_S1024x768_0_1552⟩, ⟨S1024x16, extractStridedSlice S1024x16 ![0, 1536] (A4 m c) slices_S1024x2320_S1024x16_0_1536⟩, ⟨S1024x112, broadcastInDim S1024x112 ![] bcast_S_S1024x112 (constant S_ .f32 0x00000000#32)⟩] concatenates_S1024x1536_S1024x768_S1024x16_S1024x112_S1024x2432_d1) bitsLt_bf16_f32 : FVec Ideal S1024x2432 .bf16) := by
  show StableHlo.after hostOps0 _ _ = _
  after_results
  all_goals rfl

theorem V_b_eq : V m c main_v11 = (shapeCast S1x2432 (concatenate S2432 0 [⟨S1536, extractStridedSlice S1536 ![0] (A5 m c) slices_S2320_S1536_0⟩, ⟨S768, extractStridedSlice S768 ![1552] (A5 m c) slices_S2320_S768_1552⟩, ⟨S16, extractStridedSlice S16 ![1536] (A5 m c) slices_S2320_S16_1536⟩, ⟨S112, broadcastInDim S112 ![] bcast_S_S112 (constant S_ .f32 0x00000000#32)⟩] concatenates_S1536_S768_S16_S112_S2432_d0) shapeCasts_S2432_S1x2432 : FVec Ideal S1x2432 .f32) := by
  show StableHlo.after hostOps0 _ _ = _
  after_results
  all_goals rfl

theorem V_w (k : Fin 1024) (q : Fin 2432) :
    V m c main_v5 (ix2 k q) = if h : q.val < 1536 then A4 m c (ix2 k ⟨q.val, by omega⟩) else if h' : q.val < 2304 then A4 m c (ix2 k ⟨q.val + 16, by omega⟩)
      else if h'' : q.val < 2320 then A4 m c (ix2 k ⟨q.val - 768, by omega⟩) else 0 := by
  have hq := q.isLt
  rw [V_w_eq]
  refine (side_w _ _ _ _ k q).trans ?_
  split
  · pointwise
  · split
    · pointwise
      exact congrArg (fun j => A4 m c (ix2 k j)) (Fin.ext (by simp only; omega))
    · split
      · pointwise
        exact congrArg (fun j => A4 m c (ix2 k j)) (Fin.ext (by simp only; omega))
      · pointwise

theorem V_b (q : Fin 2432) :
    V m c main_v11 (ix2 0 q) = if h : q.val < 1536 then A5 m c (ix1 ⟨q.val, by omega⟩) else if h' : q.val < 2304 then A5 m c (ix1 ⟨q.val + 16, by omega⟩)
      else if h'' : q.val < 2320 then A5 m c (ix1 ⟨q.val - 768, by omega⟩) else 0 := by
  have hq := q.isLt
  have cast : ∀ u : FVec Ideal S2432 .f32, shapeCast S1x2432 u shapeCasts_S2432_S1x2432 (ix2 0 q) = u (ix1 q) := fun u => by pointwise
  rw [V_b_eq]
  refine (cast _).trans ((side_b _ _ _ _ q).trans ?_)
  split
  · pointwise
  · split
    · pointwise
      exact congrArg (fun j => A5 m c (ix1 j)) (Fin.ext (by simp only; omega))
    · split
      · pointwise
        exact congrArg (fun j => A5 m c (ix1 j)) (Fin.ext (by simp only; omega))
      · pointwise

theorem sc_apply (t : Fin cfg0.N) (k : Fin 1024) : iblk m c 1 t (ix3 0 0 k) = (args m c).sc (seqOf t) k := by
  refine Eq.trans ?_ (V_sc m c (seqOf t) k)
  blk_ext [iblk, index1 t]
theorem sh_apply (t : Fin cfg0.N) (k : Fin 1024) : iblk m c 2 t (ix3 0 0 k) = (args m c).sh (seqOf t) k := by
  refine Eq.trans ?_ (V_sh m c (seqOf t) k)
  blk_ext [iblk, index2 t]
theorem nw_apply (t : Fin cfg0.N) (k : Fin 1024) : iblk m c 3 t (ix2 0 k) = (args m c).nw k := by
  refine Eq.trans ?_ (V_nw m c k)
  blk_ext [iblk, index3 t]
theorem w_apply (t : Fin cfg0.N) (k : Fin 1024) (q : Fin 2432) : iblk m c 4 t (ix2 k q) = V m c main_v5 (ix2 k q) := by
  blk_ext [iblk, index4 t]
theorem b_apply (t : Fin cfg0.N) (q : Fin 2432) : iblk m c 5 t (ix2 0 q) = V m c main_v11 (ix2 0 q) := by
  blk_ext [iblk, index5 t]
theorem kept_apply (t : Fin cfg0.N) (j : Fin 3) (k : Fin 1024) : iblk m c 6 t (ix3 0 ⟨5 + j.val, by omega⟩ k) = (args m c).kept (seqOf t) j k := by
  refine Eq.trans ?_ (V_kept m c (seqOf t) j k)
  blk_ext [iblk, index6 t]

/-- The projection of row `r` of point `t`'s block, to a column of the body's weights. -/
abbrev PB (t : Fin cfg0.N) (r : Fin 512) (q : Fin 2432) : EReal :=
  InprojPieces.P (iblk m c 0 t) (iblk m c 3 t) (iblk m c 1 t) (iblk m c 2 t) (iblk m c 4 t) (iblk m c 5 t) r q

theorem proj_eq (t : Fin cfg0.N) (r : Fin 512) (q : Fin 2432) :
    PB m c t r q = InprojRef.proj ((args m c).x (seqOf t) (tokOf t r)) (args m c).nw ((args m c).sc (seqOf t)) ((args m c).sh (seqOf t))
      (fun k => V m c main_v5 (ix2 k q)) (V m c main_v11 (ix2 0 q)) := by
  have hx : (fun k => iblk m c 0 t (ix3 0 r k)) = (args m c).x (seqOf t) (tokOf t r) := funext fun k => x_apply m c t r k
  have hn : (fun k => iblk m c 3 t (ix2 0 k)) = (args m c).nw := funext fun k => nw_apply m c t k
  have hs : (fun k => iblk m c 1 t (ix3 0 0 k)) = (args m c).sc (seqOf t) := funext fun k => sc_apply m c t k
  have hh : (fun k => iblk m c 2 t (ix3 0 0 k)) = (args m c).sh (seqOf t) := funext fun k => sh_apply m c t k
  have hw : (fun k => iblk m c 4 t (ix2 k q)) = fun k => V m c main_v5 (ix2 k q) := funext fun k => w_apply m c t k q
  show InprojRef.proj (fun k => iblk m c 0 t (ix3 0 r k)) (fun k => iblk m c 3 t (ix2 0 k)) (fun k => iblk m c 1 t (ix3 0 0 k)) (fun k => iblk m c 2 t (ix3 0 0 k))
    (fun k => iblk m c 4 t (ix2 k q)) (iblk m c 5 t (ix2 0 q)) = _
  rw [hx, hn, hs, hh, hw, b_apply]

theorem proj_low (t : Fin cfg0.N) (r : Fin 512) (q : Fin 2432) (p : Fin 2320) (h : q.val < 1536) (hp : p.val = q.val) :
    PB m c t r q = (args m c).P (seqOf t) (tokOf t r) p := by
  obtain ⟨p, hp0⟩ := p
  replace hp : p = q.val := hp
  subst hp
  rw [proj_eq, V_b, dif_pos h]
  rw [show (fun k => V m c main_v5 (ix2 k q)) = fun k => A4 m c (ix2 k ⟨q.val, by omega⟩) from funext fun k => (V_w m c k q).trans (dif_pos h)]
  rfl

theorem proj_mid (t : Fin cfg0.N) (r : Fin 512) (q : Fin 2432) (p : Fin 2320) (h : 1536 ≤ q.val) (h' : q.val < 2304) (hp : p.val = q.val + 16) :
    PB m c t r q = (args m c).P (seqOf t) (tokOf t r) p := by
  obtain ⟨p, hp0⟩ := p
  replace hp : p = q.val + 16 := hp
  subst hp
  rw [proj_eq, V_b, dif_neg (by omega), dif_pos h']
  rw [show (fun k => V m c main_v5 (ix2 k q)) = fun k => A4 m c (ix2 k ⟨q.val + 16, by omega⟩) from
    funext fun k => (V_w m c k q).trans ((dif_neg (by omega)).trans (dif_pos h'))]
  rfl

theorem proj_gate (t : Fin cfg0.N) (r : Fin 512) (q : Fin 2432) (p : Fin 2320) (h : 2304 ≤ q.val) (h' : q.val < 2320) (hp : p.val = q.val - 768) :
    PB m c t r q = (args m c).P (seqOf t) (tokOf t r) p := by
  obtain ⟨p, hp0⟩ := p
  replace hp : p = q.val - 768 := hp
  subst hp
  rw [proj_eq, V_b, dif_neg (by omega), dif_neg (by omega), dif_pos h']
  rw [show (fun k => V m c main_v5 (ix2 k q)) = fun k => A4 m c (ix2 k ⟨q.val - 768, by omega⟩) from
    funext fun k => (V_w m c k q).trans ((dif_neg (by omega)).trans ((dif_neg (by omega)).trans (dif_pos h')))]
  rfl

/-- A column past the arguments' has no weights. -/
theorem proj_pad (t : Fin cfg0.N) (r : Fin 512) (q : Fin 2432) (h : 2320 ≤ q.val) : PB m c t r q = 0 := by
  rw [proj_eq, V_b, dif_neg (by omega), dif_neg (by omega), dif_neg (by omega)]
  rw [show (fun k => V m c main_v5 (ix2 k q)) = fun _ => (0 : EReal) from
    funext fun k => (V_w m c k q).trans ((dif_neg (by omega)).trans ((dif_neg (by omega)).trans (dif_neg (by omega))))]
  unfold InprojRef.proj
  simp only [mul_zero, Finset.sum_const_zero, add_zero]

end InprojBlocks

end
-- ==== Proof.InprojPoints.lean ====
/-
  What the projections' body leaves at a grid point. Its scratch holds eight rows kept before the tile's 512: the rows the
  first tile of a sequence is given, or the last eight of the tile before (`carry`). So the rows the taps read are the rows of
  the sequence (`window`), and each output block is the reference's (`z_at`, …, `qkv_at`, `tail_at`).
-/
module

public import proofs.«01_k».proof.Proof.InprojBlocks
public import Idealize.ShloMosaic.Lib.WritesUnit

@[expose] public section

set_option maxRecDepth 16384

noncomputable section

namespace InprojPoints

open Cert.InprojIdeal Cert.InprojIdeal.Gen InprojPieces InprojBlocks
open InprojRef (scaled eps)
open Idealize.ShloMosaic Idealize.ShloMosaic.TcCoe

/-! ## Loads of the scratch -/

section Loads

variable (u : Vec Ideal S1x512x1024 .f32) (k : Vec Ideal S1x8x1024 .f32) (xs : Vec Ideal S1x520x1024 .f32)

abbrev tile : View.Piece (Elt Ideal) S1x520x1024 .f32 := ⟨Rect.unit (s := S1x520x1024) ![0, 8, 0] ![1, 512, 1024] inb_S1x520x1024_S1x512x1024_0_8_0, u⟩
abbrev before : View.Piece (Elt Ideal) S1x520x1024 .f32 := ⟨Rect.unit (s := S1x520x1024) ![0, 0, 0] ![1, 8, 1024] inb_S1x520x1024_S1x8x1024_0_0_0, k⟩

abbrev scr : View sig .tc .vmem S1x520x1024 .f32 := View.whole cc0_scratch0

theorem read_tile (f : scr.ty.Contents (Elt Ideal)) (L : List (View.Piece (Elt Ideal) S1x520x1024 .f32)) (j : Fin 520) (q : Fin 1024) (r : Fin 512) (h : j.val = 8 + r.val) :
    scr.read (Elt Ideal) (scr.writes (Elt Ideal) f (tile u :: L)) (ix3 0 j q) = u (ix3 0 r q) :=
  View.read_writes_cons_unit_of_mem (v := scr) (f := f) inb_S1x520x1024_S1x512x1024_0_8_0 u L (ix3 0 j q) (ix3 0 r q) rfl
    (fun a => match a with
      | ⟨0, _⟩ => rfl
      | ⟨1, _⟩ => h
      | ⟨2, _⟩ => (Nat.zero_add _).symm)

theorem read_skip (f : scr.ty.Contents (Elt Ideal)) (L : List (View.Piece (Elt Ideal) S1x520x1024 .f32)) (j : Fin 520) (q : Fin 1024) (h : j.val < 8) :
    scr.read (Elt Ideal) (scr.writes (Elt Ideal) f (tile u :: L)) (ix3 0 j q) = scr.read (Elt Ideal) (scr.writes (Elt Ideal) f L) (ix3 0 j q) :=
  View.read_writes_cons_unit_of_not_mem (v := scr) (f := f) inb_S1x520x1024_S1x512x1024_0_8_0 u L (ix3 0 j q) rfl 1 (.inl h)

theorem read_before (f : scr.ty.Contents (Elt Ideal)) (L : List (View.Piece (Elt Ideal) S1x520x1024 .f32)) (j : Fin 520) (q : Fin 1024) (r : Fin 8) (h : j.val = r.val) :
    scr.read (Elt Ideal) (scr.writes (Elt Ideal) f (before k :: L)) (ix3 0 j q) = k (ix3 0 r q) :=
  View.read_writes_cons_unit_of_mem (v := scr) (f := f) inb_S1x520x1024_S1x8x1024_0_0_0 k L (ix3 0 j q) (ix3 0 r q) rfl
    (fun a => match a with
      | ⟨0, _⟩ => rfl
      | ⟨1, _⟩ => h.trans (Nat.zero_add _).symm
      | ⟨2, _⟩ => (Nat.zero_add _).symm)

theorem idx_rows (o n : ℕ) (inb : ∀ a, (![0, o, 0] : Fin 3 → ℕ) a + (![1, n, 1024] : Fin 3 → ℕ) a ≤ S1x520x1024.size a) (r : Fin n) (q : Fin 1024) (j : Fin 520) (h : j.val = o + r.val) :
    (Rect.unit (s := S1x520x1024) ![0, o, 0] ![1, n, 1024] inb).toLoadRect.idx (ix3 0 r q) = ix3 0 j q :=
  funext fun a => Fin.ext (match a with
    | ⟨0, _⟩ => rfl
    | ⟨1, _⟩ => by show o + 1 * r.val = j.val; omega
    | ⟨2, _⟩ => by show 0 + 1 * q.val = q.val; omega)

/-- Over a first tile's writes. -/
theorem load_first (o : ℕ) (inb : ∀ a, (![0, o, 0] : Fin 3 → ℕ) a + (![1, 512, 1024] : Fin 3 → ℕ) a ≤ S1x520x1024.size a) (r : Fin 512) (q : Fin 1024) (j : Fin 520) (h : j.val = o + r.val) :
    scr.readCov [tile u, before k] (Rect.unit (s := S1x520x1024) ![0, o, 0] ![1, 512, 1024] inb).toLoadRect (ix3 0 r q)
      = if h : j.val < 8 then k (ix3 0 ⟨j.val, h⟩ q) else u (ix3 0 ⟨j.val - 8, by have := j.isLt; omega⟩ q) := by
  show scr.read (Elt Ideal) (scr.writes (Elt Ideal) scr.junk [tile u, before k]) ((Rect.unit (s := S1x520x1024) ![0, o, 0] ![1, 512, 1024] inb).toLoadRect.idx (ix3 0 r q)) = _
  rw [idx_rows o 512 inb r q j h]
  split
  · rw [read_skip _ _ _ _ _ ‹_›, read_before k _ _ j q ⟨j.val, ‹_›⟩ rfl]
  · rw [read_tile u _ _ j q ⟨j.val - 8, by have := j.isLt; omega⟩ (by show j.val = 8 + (j.val - 8); omega)]

/-- Over a later tile's. -/
theorem load_later (H : (Memref.whole cc0_scratch0 : Memref sig .tc .vmem S1x520x1024 .f32).IsWhole) (o : ℕ) (inb : ∀ a, (![0, o, 0] : Fin 3 → ℕ) a + (![1, 512, 1024] : Fin 3 → ℕ) a ≤ S1x520x1024.size a) (r : Fin 512) (q : Fin 1024) (j : Fin 520) (h : j.val = o + r.val) :
    View.ld (scr.read (Elt Ideal) (scr.writes (Elt Ideal) (H.unread xs) [tile u])) (Rect.unit (s := S1x520x1024) ![0, o, 0] ![1, 512, 1024] inb) (ix3 0 r q)
      = if h : j.val < 8 then xs (ix3 0 j q) else u (ix3 0 ⟨j.val - 8, by have := j.isLt; omega⟩ q) := by
  show scr.read (Elt Ideal) (scr.writes (Elt Ideal) (H.unread xs) [tile u]) ((Rect.unit (s := S1x520x1024) ![0, o, 0] ![1, 512, 1024] inb).toLoadRect.idx (ix3 0 r q)) = _
  rw [idx_rows o 512 inb r q j h]
  split
  · rw [read_skip _ _ _ _ _ ‹_›]
    exact congrFun (H.read_unread xs) _
  · rw [read_tile u _ _ j q ⟨j.val - 8, by have := j.isLt; omega⟩ (by show j.val = 8 + (j.val - 8); omega)]

theorem load_tile (L : List (View.Piece (Elt Ideal) S1x520x1024 .f32)) (r : Fin 512) (q : Fin 1024) :
    scr.readCov (tile u :: L) (Rect.unit (s := S1x520x1024) ![0, 8, 0] ![1, 512, 1024] inb_S1x520x1024_S1x512x1024_0_8_0).toLoadRect (ix3 0 r q) = u (ix3 0 r q) := by
  show scr.read (Elt Ideal) (scr.writes (Elt Ideal) scr.junk (tile u :: L)) ((Rect.unit (s := S1x520x1024) ![0, 8, 0] ![1, 512, 1024] inb_S1x520x1024_S1x512x1024_0_8_0).toLoadRect.idx (ix3 0 r q)) = _
  rw [idx_rows 8 512 _ r q ⟨8 + r.val, by have := r.isLt; omega⟩ rfl]
  exact read_tile u _ _ _ q r rfl

theorem load_tail (L : List (View.Piece (Elt Ideal) S1x520x1024 .f32)) (r : Fin 8) (q : Fin 1024) :
    scr.readCov (tile u :: L) (Rect.unit (s := S1x520x1024) ![0, 512, 0] ![1, 8, 1024] inb_S1x520x1024_S1x8x1024_0_512_0).toLoadRect (ix3 0 r q) = u (ix3 0 ⟨504 + r.val, by have := r.isLt; omega⟩ q) := by
  show scr.read (Elt Ideal) (scr.writes (Elt Ideal) scr.junk (tile u :: L)) ((Rect.unit (s := S1x520x1024) ![0, 512, 0] ![1, 8, 1024] inb_S1x520x1024_S1x8x1024_0_512_0).toLoadRect.idx (ix3 0 r q)) = _
  rw [idx_rows 512 8 _ r q ⟨512 + r.val, by have := r.isLt; omega⟩ rfl]
  exact read_tile u _ _ _ q ⟨504 + r.val, by have := r.isLt; omega⟩ (by show 512 + r.val = 8 + (504 + r.val); omega)

theorem canon_before (L : List (View.Piece (Elt Ideal) S1x520x1024 .f32)) (j : Fin 520) (q : Fin 1024) (r : Fin 8) (h : j.val = r.val) :
    View.canon (Val := Elt Ideal) (before k :: L) (ix3 0 j q) = k (ix3 0 r q) := by
  rw [← View.read_writes_junk_apply_eq_canon scr]
  exact read_before k _ _ j q r h

end Loads

/-! ## The outputs taken straight from the projections -/

variable (m : (ℓ : Loc nD τ sig) → Buf (Elt Ideal) ℓ) (c : Dev nD) (t : Fin cfg0.N)

theorem z_at (r : Fin 512) (j : Fin 512) : (outsAt0 m c t.val t.isLt).2.1 (ix3 0 r j) = (args m c).P (seqOf t) (tokOf t r) ⟨1024 + j.val, by have := j.isLt; omega⟩ := by
  have hj := j.isLt
  by_cases h0 : t.val % 4 = 0
  · rw [outsAt0_A m c t h0]
    frame_out
    exact (z_apply _ _ _ _ _ _ r j).trans (proj_low m c t r _ _ (by show 1024 + j.val < 1536; omega) rfl)
  · rw [outsAt0_B m c t h0]
    frame_out
    exact (z_apply _ _ _ _ _ _ r j).trans (proj_low m c t r _ _ (by show 1024 + j.val < 1536; omega) rfl)

theorem sq_at (r : Fin 512) (j : Fin 512) : (outsAt0 m c t.val t.isLt).2.2.1 (ix3 0 r j) = (args m c).P (seqOf t) (tokOf t r) ⟨1552 + j.val, by have := j.isLt; omega⟩ := by
  have hj := j.isLt
  have e := proj_mid m c t r ⟨1536 + j.val, by omega⟩ ⟨1552 + j.val, by omega⟩ (by simp only; omega) (by simp only; omega) (by simp only; omega)
  by_cases h0 : t.val % 4 = 0
  · rw [outsAt0_A m c t h0]
    frame_out
    exact (sq_apply _ _ _ _ _ _ r j).trans e
  · rw [outsAt0_B m c t h0]
    frame_out
    exact (sq_apply _ _ _ _ _ _ r j).trans e

theorem sk_at (r : Fin 512) (j : Fin 128) : (outsAt0 m c t.val t.isLt).2.2.2.1 (ix3 0 r j) = (args m c).P (seqOf t) (tokOf t r) ⟨2064 + j.val, by have := j.isLt; omega⟩ := by
  have hj := j.isLt
  have e := proj_mid m c t r ⟨2048 + j.val, by omega⟩ ⟨2064 + j.val, by omega⟩ (by simp only; omega) (by simp only; omega) (by simp only; omega)
  by_cases h0 : t.val % 4 = 0
  · rw [outsAt0_A m c t h0]
    frame_out
    exact (sk_apply _ _ _ _ _ _ r j).trans e
  · rw [outsAt0_B m c t h0]
    frame_out
    exact (sk_apply _ _ _ _ _ _ r j).trans e

theorem sv_at (r : Fin 512) (j : Fin 128) : (outsAt0 m c t.val t.isLt).2.2.2.2.1 (ix3 0 r j) = (args m c).P (seqOf t) (tokOf t r) ⟨2192 + j.val, by have := j.isLt; omega⟩ := by
  have hj := j.isLt
  have e := proj_mid m c t r ⟨2176 + j.val, by omega⟩ ⟨2192 + j.val, by omega⟩ (by simp only; omega) (by simp only; omega) (by simp only; omega)
  by_cases h0 : t.val % 4 = 0
  · rw [outsAt0_A m c t h0]
    frame_out
    exact (sv_apply _ _ _ _ _ _ r j).trans e
  · rw [outsAt0_B m c t h0]
    frame_out
    exact (sv_apply _ _ _ _ _ _ r j).trans e

theorem ba_at (r : Fin 512) (j : Fin 128) : (outsAt0 m c t.val t.isLt).2.2.2.2.2.1 (ix3 0 r j)
    = if h : j.val < 16 then (args m c).P (seqOf t) (tokOf t r) ⟨1536 + j.val, by omega⟩ else 0 := by
  have hj := j.isLt
  have e : PB m c t r ⟨2304 + j.val, by omega⟩ = if h : j.val < 16 then (args m c).P (seqOf t) (tokOf t r) ⟨1536 + j.val, by omega⟩ else 0 := by
    split
    · exact proj_gate m c t r _ _ (by simp only; omega) (by simp only; omega) (by simp only; omega)
    · exact proj_pad m c t r _ (by simp only; omega)
  by_cases h0 : t.val % 4 = 0
  · rw [outsAt0_A m c t h0]
    frame_out
    exact (ba_apply _ _ _ _ _ _ r j).trans e
  · rw [outsAt0_B m c t h0]
    frame_out
    exact (ba_apply _ _ _ _ _ _ r j).trans e

/-! ## The rows carried -/

/-- The last eight rows of a tile. -/
abbrev last (r : Fin 8) (q : Fin 1024) : EReal := PB m c t ⟨504 + r.val, by have := r.isLt; omega⟩ ⟨q.val, by have := q.isLt; omega⟩

theorem tail_point (r : Fin 8) (q : Fin 1024) : (outsAt0 m c t.val t.isLt).2.2.2.2.2.2.1 (ix3 0 r q) = last m c t r q := by
  by_cases h0 : t.val % 4 = 0
  · rw [outsAt0_A m c t h0]
    frame_out
    exact (load_tail _ _ r q).trans (u_apply _ _ _ _ _ _ _ q)
  · rw [outsAt0_B m c t h0]
    frame_out
    exact (load_tail _ _ r q).trans (u_apply _ _ _ _ _ _ _ q)

theorem carry (r : Fin 8) (q : Fin 1024) (j : Fin 520) (h : j.val = r.val) : (outsAt0 m c t.val t.isLt).2.2.2.2.2.2.2 (ix3 0 j q) = last m c t r q := by
  by_cases h0 : t.val % 4 = 0
  · rw [outsAt0_A m c t h0]
    frame_out
    exact (canon_before _ _ j q r h).trans ((carried_apply _ r q).trans ((load_tail _ _ r q).trans (u_apply _ _ _ _ _ _ _ q)))
  · rw [outsAt0_B m c t h0]
    frame_out
    exact (canon_before _ _ j q r h).trans ((carried_apply _ r q).trans ((load_tail _ _ r q).trans (u_apply _ _ _ _ _ _ _ q)))

theorem line_proj (s : Fin 32) (n : Fin 2051) (tok : Fin 2048) (q : Fin 1024) (h : n.val = tok.val + 3) :
    (args m c).line s n q = (args m c).P s tok ⟨q.val, by have := q.isLt; omega⟩ := by
  obtain ⟨n, hn⟩ := n
  replace h : n = tok.val + 3 := h
  subst h
  unfold InprojRef.Args.line
  rw [dif_neg (by simp only; omega)]
  exact congrArg (fun tok => (args m c).P s tok _) (Fin.ext (Nat.add_sub_cancel ..))

/-- The rows the last tile of a sequence hands on are its last eight. -/
theorem tail_at (h3 : t.val % 4 = 3) (r : Fin 8) (q : Fin 1024) :
    (outsAt0 m c t.val t.isLt).2.2.2.2.2.2.1 (ix3 0 r q) = (args m c).P (seqOf t) ⟨2040 + r.val, by have := r.isLt; omega⟩ ⟨q.val, by have := q.isLt; omega⟩ := by
  rw [tail_point]
  refine (proj_low m c t _ _ ⟨q.val, by have := q.isLt; omega⟩ (by have := q.isLt; simp only; omega) rfl).trans ?_
  exact congrArg (fun tok => (args m c).P (seqOf t) tok _) (Fin.ext (by simp only; omega))

/-- The tile's rows. -/
abbrev rows : Vec Ideal S1x512x1024 .f32 :=
  k0_pay9 (F := Ideal) (k0_pay2 (F := Ideal) (iblk m c 0 t) (iblk m c 3 t) (iblk m c 1 t) (iblk m c 2 t) (iblk m c 4 t)) (iblk m c 5 t)

theorem rows_line (r : Fin 512) (q : Fin 1024) (n : Fin 2051) (h : n.val = 512 * (t.val % 4) + r.val + 3) :
    rows m c t (ix3 0 r q) = (args m c).line (seqOf t) n q := by
  rw [line_proj m c (seqOf t) n (tokOf t r) q h]
  exact (u_apply _ _ _ _ _ _ r q).trans (proj_low m c t r _ _ (by have := q.isLt; simp only; omega) rfl)

/-- A row of the scratch is a row of the sequence: in a first tile, -/
theorem window_first (h0 : t.val % 4 = 0) (q : Fin 1024) (j : Fin 520) (n : Fin 2051) (i : ℕ) (hj : j.val = 5 + i) (hn : n.val = 512 * (t.val % 4) + i) :
    (if h : j.val < 8 then k0_pay1 (F := Ideal) (iblk m c 6 t) (ix3 0 ⟨j.val, h⟩ q) else rows m c t (ix3 0 ⟨j.val - 8, by have := j.isLt; omega⟩ q))
      = (args m c).line (seqOf t) n q := by
  split
  · rename_i h
    have hi : i < 3 := by omega
    have hni : n.val = i := by omega
    rw [kept8_apply]
    have e : (⟨j.val, h⟩ : Fin 8) = ⟨5 + (⟨i, hi⟩ : Fin 3).val, by simp only; omega⟩ := Fin.ext hj
    refine (congrArg (fun j => iblk m c 6 t (ix3 0 j q)) e).trans ((kept_apply m c t ⟨i, hi⟩ q).trans ?_)
    unfold InprojRef.Args.line
    rw [dif_pos (by omega)]
    exact congrArg (fun j => (args m c).kept (seqOf t) j q) (Fin.ext hni.symm)
  · exact rows_line m c t _ q n (by simp only; omega)

/-- and in a later one. -/
theorem window_later (h0 : ¬ t.val % 4 = 0) (q : Fin 1024) (j : Fin 520) (n : Fin 2051) (i : ℕ) (hj : j.val = 5 + i) (hn : n.val = 512 * (t.val % 4) + i)
    (hp : t.val - 1 < cfg0.N) :
    (if h : j.val < 8 then (outsAt0 m c (t.val - 1) hp).2.2.2.2.2.2.2 (ix3 0 j q) else rows m c t (ix3 0 ⟨j.val - 8, by have := j.isLt; omega⟩ q))
      = (args m c).line (seqOf t) n q := by
  split
  · rename_i h
    have hpt := points t
    rw [carry m c ⟨t.val - 1, hp⟩ ⟨j.val, h⟩ q j rfl]
    refine (proj_low m c ⟨t.val - 1, hp⟩ _ _ ⟨q.val, by have := q.isLt; omega⟩ (by have := q.isLt; simp only; omega) rfl).trans ?_
    have es : seqOf ⟨t.val - 1, hp⟩ = seqOf t := Fin.ext (by simp only; omega)
    rw [es]
    exact (line_proj m c (seqOf t) n _ q (by simp only; omega)).symm
  · exact rows_line m c t _ q n (by simp only; omega)

/-! ## The taps and the heads -/

theorem tap_apply (o : ℕ) (inb : ∀ a, (![o, 0] : Fin 2 → ℕ) a + (![1, 1024] : Fin 2 → ℕ) a ≤ S4x1024.size a) (j : Fin 4) (q : Fin 1024) (h : j.val = o) :
    View.ld (iblk m c 7 t) (Rect.unit (s := S4x1024) ![o, 0] ![1, 1024] inb) (ix2 0 q) = (args m c).taps j q :=
  (congrArg (iblk m c 7 t) (funext fun a => Fin.ext (match a with
    | ⟨0, _⟩ => by show o + 1 * 0 = j.val; omega
    | ⟨1, _⟩ => by show 0 + 1 * q.val = q.val; omega))).trans (taps_apply m c t j q)

abbrev tap0 : Vec Ideal S1x1024 .f32 := View.ld (iblk m c 7 t) (Rect.unit (s := S4x1024) ![0, 0] ![1, 1024] inb_S4x1024_S1x1024_0_0)
abbrev tap1 : Vec Ideal S1x1024 .f32 := View.ld (iblk m c 7 t) (Rect.unit (s := S4x1024) ![1, 0] ![1, 1024] inb_S4x1024_S1x1024_1_0)
abbrev tap2 : Vec Ideal S1x1024 .f32 := View.ld (iblk m c 7 t) (Rect.unit (s := S4x1024) ![2, 0] ![1, 1024] inb_S4x1024_S1x1024_2_0)
abbrev tap3 : Vec Ideal S1x1024 .f32 := View.ld (iblk m c 7 t) (Rect.unit (s := S4x1024) ![3, 0] ![1, 1024] inb_S4x1024_S1x1024_3_0)

theorem acted_at (l0 l1 l2 l3 : Vec Ideal S1x512x1024 .f32)
    (h0 : ∀ (r : Fin 512) (q : Fin 1024) (n : Fin 2051), n.val = 512 * (t.val % 4) + (0 + r.val) → l0 (ix3 0 r q) = (args m c).line (seqOf t) n q)
    (h1 : ∀ (r : Fin 512) (q : Fin 1024) (n : Fin 2051), n.val = 512 * (t.val % 4) + (1 + r.val) → l1 (ix3 0 r q) = (args m c).line (seqOf t) n q)
    (h2 : ∀ (r : Fin 512) (q : Fin 1024) (n : Fin 2051), n.val = 512 * (t.val % 4) + (2 + r.val) → l2 (ix3 0 r q) = (args m c).line (seqOf t) n q)
    (h3 : ∀ (r : Fin 512) (q : Fin 1024) (n : Fin 2051), n.val = 512 * (t.val % 4) + (3 + r.val) → l3 (ix3 0 r q) = (args m c).line (seqOf t) n q)
    (r : Fin 512) (q : Fin 1024) :
    acted l0 l1 l2 l3 (tap0 m c t) (tap1 m c t) (tap2 m c t) (tap3 m c t) (ix3 0 r q) = (args m c).act (seqOf t) (tokOf t r) q := by
  rw [act_apply]
  have e : mixed l0 l1 l2 l3 (tap0 m c t) (tap1 m c t) (tap2 m c t) (tap3 m c t) r q = (args m c).mix (seqOf t) (tokOf t r) q := by
    have e0 : tap0 m c t (ix2 0 q) = (args m c).taps 0 q := tap_apply m c t 0 _ 0 q rfl
    have e1 : tap1 m c t (ix2 0 q) = (args m c).taps 1 q := tap_apply m c t 1 _ 1 q rfl
    have e2 : tap2 m c t (ix2 0 q) = (args m c).taps 2 q := tap_apply m c t 2 _ 2 q rfl
    have e3 : tap3 m c t (ix2 0 q) = (args m c).taps 3 q := tap_apply m c t 3 _ 3 q rfl
    unfold mixed InprojRef.Args.mix
    rw [h0 r q ⟨(tokOf t r).val, by have := (tokOf t r).isLt; omega⟩ (by simp only; omega), h1 r q ⟨1 + (tokOf t r).val, by have := (tokOf t r).isLt; omega⟩ (by simp only; omega),
      h2 r q ⟨2 + (tokOf t r).val, by have := (tokOf t r).isLt; omega⟩ (by simp only; omega), h3 r q ⟨3 + (tokOf t r).val, by have := (tokOf t r).isLt; omega⟩ (by simp only; omega),
      e0, e1, e2, e3]
  rw [e]
  rfl

section Heads

variable (y : FVec Ideal S1x512x1024 .f32)

abbrev eighthOf (v : FVec Ideal S1x512x128 .f32) : FVec Ideal S1x512x128 .f32 :=
  k0_pay24 (F := Ideal) k0_pay13 v (mulf v v) (select k0_pay13 (mulf v v) (broadcast S1x512x128 (Scalar.ofBits .f32 0x00000000#32)))

/-- The block the body leaves of the heads and the rest, five groups of columns stored one after another. -/
abbrev heads : S1x512x1024.Idx → EReal := View.canon (Val := Elt Ideal) (s := S1x512x1024) (e := .f32)
  [⟨Rect.unit (s := S1x512x1024) ![0, 0, 512] ![1, 512, 512] inb_S1x512x1024_S1x512x512_0_0_512, k0_pay26 (F := Ideal) y⟩,
   ⟨Rect.unit (s := S1x512x1024) ![0, 0, 384] ![1, 512, 128] inb_S1x512x1024_S1x512x128_0_0_384, k0_pay19 (F := Ideal) k0_pay13 (extractStridedSlice S1x512x128 ![0, 0, 384] y slices_S1x512x1024_o0_0_384_S1x512x128)⟩,
   ⟨Rect.unit (s := S1x512x1024) ![0, 0, 128] ![1, 512, 128] inb_S1x512x1024_S1x512x128_0_0_128, eighthOf (extractStridedSlice S1x512x128 ![0, 0, 128] y slices_S1x512x1024_o0_0_128_S1x512x128)⟩,
   ⟨Rect.unit (s := S1x512x1024) ![0, 0, 256] ![1, 512, 128] inb_S1x512x1024_S1x512x128_0_0_256, k0_pay19 (F := Ideal) k0_pay13 (extractStridedSlice S1x512x128 ![0, 0, 256] y slices_S1x512x1024_o0_0_256_S1x512x128)⟩,
   ⟨Rect.unit (s := S1x512x1024) ![0, 0, 0] ![1, 512, 128] inb_S1x512x1024_S1x512x128_0_0_0, eighthOf (extractStridedSlice S1x512x128 ![0, 0, 0] y slices_S1x512x1024_o0_0_0_S1x512x128)⟩]

theorem canon_cols (o n : ℕ) (inb : ∀ a, (![0, 0, o] : Fin 3 → ℕ) a + (![1, 512, n] : Fin 3 → ℕ) a ≤ S1x512x1024.size a)
    (w : (Rect.unit (s := S1x512x1024) ![0, 0, o] ![1, 512, n] inb).shape.Idx → EReal) (L : List (View.Piece (Elt Ideal) S1x512x1024 .f32)) (r : Fin 512) (q : Fin 1024) (l : Fin n) (h : q.val = o + l.val) :
    View.canon (Val := Elt Ideal) (s := S1x512x1024) (e := .f32) (⟨Rect.unit (s := S1x512x1024) ![0, 0, o] ![1, 512, n] inb, w⟩ :: L) (ix3 0 r q) = w (ix3 0 r l) := by
  have e : (Rect.unit (s := S1x512x1024) ![0, 0, o] ![1, 512, n] inb).emb (ix3 0 r l) = (ix3 0 r q : S1x512x1024.Idx) := funext fun a => Fin.ext (match a with
    | ⟨0, _⟩ => rfl
    | ⟨1, _⟩ => by show 0 + 1 * r.val = r.val; omega
    | ⟨2, _⟩ => by show o + 1 * l.val = q.val; omega)
  rw [← e]
  exact View.canon_cons_emb (Val := Elt Ideal) (s := S1x512x1024) (e := .f32) _ w L _

theorem canon_skip (o n : ℕ) (inb : ∀ a, (![0, 0, o] : Fin 3 → ℕ) a + (![1, 512, n] : Fin 3 → ℕ) a ≤ S1x512x1024.size a)
    (w : (Rect.unit (s := S1x512x1024) ![0, 0, o] ![1, 512, n] inb).shape.Idx → EReal) (L : List (View.Piece (Elt Ideal) S1x512x1024 .f32)) (r : Fin 512) (q : Fin 1024) (h : q.val < o ∨ o + n ≤ q.val) :
    View.canon (Val := Elt Ideal) (s := S1x512x1024) (e := .f32) (⟨Rect.unit (s := S1x512x1024) ![0, 0, o] ![1, 512, n] inb, w⟩ :: L) (ix3 0 r q) = View.canon (Val := Elt Ideal) L (ix3 0 r q) := by
  refine View.canon_cons_of_not_mem (Val := Elt Ideal) (s := S1x512x1024) (e := .f32) _ L fun hm => ?_
  have h2 : o ≤ q.val ∧ q.val < o + n := (Rect.mem_set_unit (inb := inb).mp hm) 2
  omega

theorem unit_col (v : FVec Ideal S1x512x128 .f32) (o : ℕ) (ho : o % 64 = 0) (hn : o + 128 ≤ 1024) (r : Fin 512) (l : Fin 128) (q : Fin 1024) (h : q.val = o + l.val)
    (hv : ∀ l : Fin 128, v (ix3 0 r l) = y (ix3 0 r ⟨o + l.val, by have := l.isLt; omega⟩)) :
    v (ix3 0 r l) * Ideal.rsqrt ((∑ e : Fin 64, v (ix3 0 r ⟨64 * (l.val / 64) + e.val, by have := l.isLt; omega⟩) * v (ix3 0 r ⟨64 * (l.val / 64) + e.val, by have := l.isLt; omega⟩)) + eps)
      = scaled (fun k => y (ix3 0 r k)) q := by
  simp only [hv]
  exact InprojRef.scaled_eq (fun k => y (ix3 0 r k)) q _ _ (Fin.ext h.symm) fun e => by simp only; omega

theorem heads_apply (r : Fin 512) (q : Fin 1024) : heads y (ix3 0 r q)
    = if q.val < 256 then scaled (fun k => y (ix3 0 r k)) q * Ideal.ofBits .f32 0x3E000000#32
      else if q.val < 512 then scaled (fun k => y (ix3 0 r k)) q
      else y (ix3 0 r q) := by
  have hq := q.isLt
  have s0 : ∀ l : Fin 128, extractStridedSlice S1x512x128 ![0, 0, 0] y slices_S1x512x1024_o0_0_0_S1x512x128 (ix3 0 r l) = y (ix3 0 r ⟨0 + l.val, by have := l.isLt; omega⟩) := fun l => by pointwise
  have s1 : ∀ l : Fin 128, extractStridedSlice S1x512x128 ![0, 0, 128] y slices_S1x512x1024_o0_0_128_S1x512x128 (ix3 0 r l) = y (ix3 0 r ⟨128 + l.val, by have := l.isLt; omega⟩) := fun l => by pointwise
  have s2 : ∀ l : Fin 128, extractStridedSlice S1x512x128 ![0, 0, 256] y slices_S1x512x1024_o0_0_256_S1x512x128 (ix3 0 r l) = y (ix3 0 r ⟨256 + l.val, by have := l.isLt; omega⟩) := fun l => by pointwise
  have s3 : ∀ l : Fin 128, extractStridedSlice S1x512x128 ![0, 0, 384] y slices_S1x512x1024_o0_0_384_S1x512x128 (ix3 0 r l) = y (ix3 0 r ⟨384 + l.val, by have := l.isLt; omega⟩) := fun l => by pointwise
  by_cases a : q.val < 256
  · rw [if_pos a]
    by_cases b : q.val < 128
    · refine (canon_skip 512 512 _ _ _ r q (.inl (by omega))).trans ((canon_skip 384 128 _ _ _ r q (.inl (by omega))).trans ((canon_skip 128 128 _ _ _ r q (.inl (by omega))).trans
        ((canon_skip 256 128 _ _ _ r q (.inl (by omega))).trans ((canon_cols 0 128 _ _ _ r q ⟨q.val, b⟩ (by simp only; omega)).trans ((eighth_apply _ r _).trans ?_)))))
      exact congrArg (· * _) (unit_col y _ 0 (by omega) (by omega) r ⟨q.val, b⟩ q (by simp only; omega) s0)
    · refine (canon_skip 512 512 _ _ _ r q (.inl (by omega))).trans ((canon_skip 384 128 _ _ _ r q (.inl (by omega))).trans
        ((canon_cols 128 128 _ _ _ r q ⟨q.val - 128, by omega⟩ (by simp only; omega)).trans ((eighth_apply _ r _).trans ?_)))
      exact congrArg (· * _) (unit_col y _ 128 (by omega) (by omega) r ⟨q.val - 128, by omega⟩ q (by simp only; omega) s1)
  · rw [if_neg a]
    by_cases b : q.val < 512
    · rw [if_pos b]
      by_cases d : q.val < 384
      · refine (canon_skip 512 512 _ _ _ r q (.inl (by omega))).trans ((canon_skip 384 128 _ _ _ r q (.inl (by omega))).trans ((canon_skip 128 128 _ _ _ r q (.inr (by omega))).trans
          ((canon_cols 256 128 _ _ _ r q ⟨q.val - 256, by omega⟩ (by simp only; omega)).trans ((unit_apply _ r _).trans ?_))))
        exact unit_col y _ 256 (by omega) (by omega) r ⟨q.val - 256, by omega⟩ q (by simp only; omega) s2
      · refine (canon_skip 512 512 _ _ _ r q (.inl (by omega))).trans
          ((canon_cols 384 128 _ _ _ r q ⟨q.val - 384, by omega⟩ (by simp only; omega)).trans ((unit_apply _ r _).trans ?_))
        exact unit_col y _ 384 (by omega) (by omega) r ⟨q.val - 384, by omega⟩ q (by simp only; omega) s3
    · rw [if_neg b]
      refine (canon_cols 512 512 _ _ _ r q ⟨q.val - 512, by omega⟩ (by simp only; omega)).trans ?_
      unfold k0_pay26
      pointwise
      exact congrArg (fun k => y (ix3 0 r k)) (Fin.ext (by simp only; omega))

end Heads

theorem qkv_first (h0 : t.val % 4 = 0) : (outsAt0 m c t.val t.isLt).1 = heads (acted
    (scr.readCov [tile (rows m c t), before (k0_pay1 (F := Ideal) (iblk m c 6 t))] (Rect.unit (s := S1x520x1024) ![0, 5, 0] ![1, 512, 1024] inb_S1x520x1024_S1x512x1024_0_5_0).toLoadRect)
    (scr.readCov [tile (rows m c t), before (k0_pay1 (F := Ideal) (iblk m c 6 t))] (Rect.unit (s := S1x520x1024) ![0, 6, 0] ![1, 512, 1024] inb_S1x520x1024_S1x512x1024_0_6_0).toLoadRect)
    (scr.readCov [tile (rows m c t), before (k0_pay1 (F := Ideal) (iblk m c 6 t))] (Rect.unit (s := S1x520x1024) ![0, 7, 0] ![1, 512, 1024] inb_S1x520x1024_S1x512x1024_0_7_0).toLoadRect)
    (scr.readCov [tile (rows m c t), before (k0_pay1 (F := Ideal) (iblk m c 6 t))] (Rect.unit (s := S1x520x1024) ![0, 8, 0] ![1, 512, 1024] inb_S1x520x1024_S1x512x1024_0_8_0).toLoadRect)
    (tap0 m c t) (tap1 m c t) (tap2 m c t) (tap3 m c t)) := by
  funext y
  rw [outsAt0_A m c t h0]
  frame_out
  rfl

theorem qkv_later (h0 : ¬ t.val % 4 = 0) (hp : t.val - 1 < cfg0.N) (H : (Memref.whole cc0_scratch0 : Memref sig .tc .vmem S1x520x1024 .f32).IsWhole) : (outsAt0 m c t.val t.isLt).1 = heads (acted
    (View.ld (scr.read (Elt Ideal) (scr.writes (Elt Ideal) (H.unread (outsAt0 m c (t.val - 1) hp).2.2.2.2.2.2.2) [tile (rows m c t)])) (Rect.unit (s := S1x520x1024) ![0, 5, 0] ![1, 512, 1024] inb_S1x520x1024_S1x512x1024_0_5_0))
    (View.ld (scr.read (Elt Ideal) (scr.writes (Elt Ideal) (H.unread (outsAt0 m c (t.val - 1) hp).2.2.2.2.2.2.2) [tile (rows m c t)])) (Rect.unit (s := S1x520x1024) ![0, 6, 0] ![1, 512, 1024] inb_S1x520x1024_S1x512x1024_0_6_0))
    (View.ld (scr.read (Elt Ideal) (scr.writes (Elt Ideal) (H.unread (outsAt0 m c (t.val - 1) hp).2.2.2.2.2.2.2) [tile (rows m c t)])) (Rect.unit (s := S1x520x1024) ![0, 7, 0] ![1, 512, 1024] inb_S1x520x1024_S1x512x1024_0_7_0))
    (scr.readCov [tile (rows m c t)] (Rect.unit (s := S1x520x1024) ![0, 8, 0] ![1, 512, 1024] inb_S1x520x1024_S1x512x1024_0_8_0).toLoadRect)
    (tap0 m c t) (tap1 m c t) (tap2 m c t) (tap3 m c t)) := by
  funext y
  rw [outsAt0_B m c t h0]
  frame_out
  rfl

theorem heads_at (y : FVec Ideal S1x512x1024 .f32) (hy : ∀ (r : Fin 512) (q : Fin 1024), y (ix3 0 r q) = (args m c).act (seqOf t) (tokOf t r) q) (r : Fin 512) (q : Fin 1024) :
    heads y (ix3 0 r q) = (args m c).qkv (seqOf t) (tokOf t r) q := by
  rw [heads_apply]
  unfold InprojRef.Args.qkv
  have e : (fun k => y (ix3 0 r k)) = (args m c).act (seqOf t) (tokOf t r) := funext fun k => hy r k
  rw [e, hy]

theorem qkv_at (r : Fin 512) (q : Fin 1024) : (outsAt0 m c t.val t.isLt).1 (ix3 0 r q) = (args m c).qkv (seqOf t) (tokOf t r) q := by
  by_cases h0 : t.val % 4 = 0
  · rw [qkv_first m c t h0]
    refine heads_at m c t _ (acted_at m c t _ _ _ _ ?_ ?_ ?_ ?_) r q
    · exact fun r q n hn => (load_first _ _ 5 _ r q ⟨5 + r.val, by omega⟩ rfl).trans (window_first m c t h0 q _ n _ (by simp only; omega) hn)
    · exact fun r q n hn => (load_first _ _ 6 _ r q ⟨6 + r.val, by omega⟩ rfl).trans (window_first m c t h0 q _ n _ (by simp only; omega) hn)
    · exact fun r q n hn => (load_first _ _ 7 _ r q ⟨7 + r.val, by omega⟩ rfl).trans (window_first m c t h0 q _ n _ (by simp only; omega) hn)
    · exact fun r q n hn => (load_tile _ _ r q).trans (rows_line m c t r q n (by omega))
  · have hp : t.val - 1 < cfg0.N := by have := t.isLt; omega
    rw [qkv_later m c t h0 hp (Memref.isWhole_whole _)]
    refine heads_at m c t _ (acted_at m c t _ _ _ _ ?_ ?_ ?_ ?_) r q
    · exact fun r q n hn => (load_later _ _ _ 5 _ r q ⟨5 + r.val, by omega⟩ rfl).trans (window_later m c t h0 q _ n _ (by simp only; omega) hn hp)
    · exact fun r q n hn => (load_later _ _ _ 6 _ r q ⟨6 + r.val, by omega⟩ rfl).trans (window_later m c t h0 q _ n _ (by simp only; omega) hn hp)
    · exact fun r q n hn => (load_later _ _ _ 7 _ r q ⟨7 + r.val, by omega⟩ rfl).trans (window_later m c t h0 q _ n _ (by simp only; omega) hn hp)
    · exact fun r q n hn => (load_tile _ _ r q).trans (rows_line m c t r q n (by omega))

end InprojPoints

end
-- ==== Proof.InprojClaims.lean ====
/-
  The projections' claims: each result array of the kernel's run, read where the last point that wrote the entry left it, is the
  reference's (`G8_apply`, …, `G14_apply`); the reference's terms are the same functions of the arguments (`algebraic`).
-/
module

public import proofs.«01_k».proof.Proof.InprojPoints
public import proofs.«01_k».proof.Proof.Gen.Inproj.Frame
public import proofs.«01_k».proof.Proof.Gen.InprojIdeal.Value
public import proofs.«01_k».proof.Defs
public import Idealize.ShloMosaic.Lib.Quiescent

@[expose] public section

set_option maxRecDepth 16384

noncomputable section

namespace InprojClaims

open InprojBlocks InprojPoints
open Idealize.ShloMosaic Idealize.ShloMosaic.TcCoe

/-! ## The kernel's results -/

section Results

open Cert.InprojIdeal Cert.InprojIdeal.Gen Cert.InprojIdeal.Value

variable (m : (ℓ : Loc nD τ sig) → Buf (Elt Ideal) ℓ) (c : Dev nD)

/-- The point that works on token `t` of sequence `s`, and the token's row in its tile. -/
abbrev ptOf (s : Fin 32) (t : Fin 2048) : Fin cfg0.N := ⟨4 * s.val + t.val / 512, lt_of_lt_of_eq (by have := s.isLt; have := t.isLt; omega) N_0.symm⟩
abbrev rowOf (t : Fin 2048) : Fin 512 := ⟨t.val % 512, Nat.mod_lt _ (by decide)⟩

/-- The last point of sequence `s`. -/
abbrev lastOf (s : Fin 32) : Fin cfg0.N := ⟨4 * s.val + 3, lt_of_lt_of_eq (by have := s.isLt; omega) N_0.symm⟩

theorem seq_ptOf (s : Fin 32) (t : Fin 2048) : seqOf (ptOf s t) = s := Fin.ext (by have := t.isLt; simp only; omega)
theorem tok_ptOf (s : Fin 32) (t : Fin 2048) : tokOf (ptOf s t) (rowOf t) = t := Fin.ext (by have := t.isLt; simp only; omega)
theorem seq_lastOf (s : Fin 32) : seqOf (lastOf s) = s := Fin.ext (by simp only; omega)

theorem fold_point (t : Fin cfg0.N) (n : ℕ) (h : 0 + n < cfg0.N) (e : n = t.val) :
    Pipeline.accAt (fun n h => stAt0 m c n h junk0) (stAt0 m c) 0 n h = outsAt0 m c t.val t.isLt := by
  obtain ⟨p, hp⟩ := t
  replace e : n = p := e
  subst e
  exact (outsAt0_sweep m c n hp).symm

theorem G8_apply (s : Fin 32) (t : Fin 2048) (q : Fin 1024) : G8 m c (ix3 s t q) = (args m c).qkv s t q := by
  have e : pt8Of (ix3 s t q) = (ptOf s t).val := by
    have := q.isLt
    show 4 * (s.val / 1 - 0) + 1 * (t.val / 512 - 0) + 1 * (q.val / 1024 - 0) = 4 * s.val + t.val / 512
    omega
  have l : loc8Of (ix3 s t q) = ix3 0 (rowOf t) q := funext fun a => Fin.ext (match a with
    | ⟨0, _⟩ => by show s.val % 1 = 0; omega
    | ⟨1, _⟩ => rfl
    | ⟨2, _⟩ => Nat.mod_eq_of_lt q.isLt)
  unfold G8
  rw [dif_pos (lt_of_eq_of_lt e (ptOf s t).isLt), l, fold_point m c (ptOf s t) _ _ e]
  refine (qkv_at m c (ptOf s t) (rowOf t) q).trans ?_
  rw [seq_ptOf, tok_ptOf]

theorem G9_apply (s : Fin 32) (t : Fin 2048) (q : Fin 512) : G9 m c (ix3 s t q) = (args m c).P s t ⟨1024 + q.val, by have := q.isLt; omega⟩ := by
  have e : pt9Of (ix3 s t q) = (ptOf s t).val := by
    have := q.isLt
    show 4 * (s.val / 1 - 0) + 1 * (t.val / 512 - 0) + 1 * (q.val / 512 - 0) = 4 * s.val + t.val / 512
    omega
  have l : loc9Of (ix3 s t q) = ix3 0 (rowOf t) q := funext fun a => Fin.ext (match a with
    | ⟨0, _⟩ => by show s.val % 1 = 0; omega
    | ⟨1, _⟩ => rfl
    | ⟨2, _⟩ => Nat.mod_eq_of_lt q.isLt)
  unfold G9
  rw [dif_pos (lt_of_eq_of_lt e (ptOf s t).isLt), l, fold_point m c (ptOf s t) _ _ e]
  refine (z_at m c (ptOf s t) (rowOf t) q).trans ?_
  rw [seq_ptOf, tok_ptOf]

theorem G10_apply (s : Fin 32) (t : Fin 2048) (q : Fin 512) : G10 m c (ix3 s t q) = (args m c).P s t ⟨1552 + q.val, by have := q.isLt; omega⟩ := by
  have e : pt10Of (ix3 s t q) = (ptOf s t).val := by
    have := q.isLt
    show 4 * (s.val / 1 - 0) + 1 * (t.val / 512 - 0) + 1 * (q.val / 512 - 0) = 4 * s.val + t.val / 512
    omega
  have l : loc10Of (ix3 s t q) = ix3 0 (rowOf t) q := funext fun a => Fin.ext (match a with
    | ⟨0, _⟩ => by show s.val % 1 = 0; omega
    | ⟨1, _⟩ => rfl
    | ⟨2, _⟩ => Nat.mod_eq_of_lt q.isLt)
  unfold G10
  rw [dif_pos (lt_of_eq_of_lt e (ptOf s t).isLt), l, fold_point m c (ptOf s t) _ _ e]
  refine (sq_at m c (ptOf s t) (rowOf t) q).trans ?_
  rw [seq_ptOf, tok_ptOf]

theorem G11_apply (s : Fin 32) (t : Fin 2048) (q : Fin 128) : G11 m c (ix3 s t q) = (args m c).P s t ⟨2064 + q.val, by have := q.isLt; omega⟩ := by
  have e : pt11Of (ix3 s t q) = (ptOf s t).val := by
    have := q.isLt
    show 4 * (s.val / 1 - 0) + 1 * (t.val / 512 - 0) + 1 * (q.val / 128 - 0) = 4 * s.val + t.val / 512
    omega
  have l : loc11Of (ix3 s t q) = ix3 0 (rowOf t) q := funext fun a => Fin.ext (match a with
    | ⟨0, _⟩ => by show s.val % 1 = 0; omega
    | ⟨1, _⟩ => rfl
    | ⟨2, _⟩ => Nat.mod_eq_of_lt q.isLt)
  unfold G11
  rw [dif_pos (lt_of_eq_of_lt e (ptOf s t).isLt), l, fold_point m c (ptOf s t) _ _ e]
  refine (sk_at m c (ptOf s t) (rowOf t) q).trans ?_
  rw [seq_ptOf, tok_ptOf]

theorem G12_apply (s : Fin 32) (t : Fin 2048) (q : Fin 128) : G12 m c (ix3 s t q) = (args m c).P s t ⟨2192 + q.val, by have := q.isLt; omega⟩ := by
  have e : pt12Of (ix3 s t q) = (ptOf s t).val := by
    have := q.isLt
    show 4 * (s.val / 1 - 0) + 1 * (t.val / 512 - 0) + 1 * (q.val / 128 - 0) = 4 * s.val + t.val / 512
    omega
  have l : loc12Of (ix3 s t q) = ix3 0 (rowOf t) q := funext fun a => Fin.ext (match a with
    | ⟨0, _⟩ => by show s.val % 1 = 0; omega
    | ⟨1, _⟩ => rfl
    | ⟨2, _⟩ => Nat.mod_eq_of_lt q.isLt)
  unfold G12
  rw [dif_pos (lt_of_eq_of_lt e (ptOf s t).isLt), l, fold_point m c (ptOf s t) _ _ e]
  refine (sv_at m c (ptOf s t) (rowOf t) q).trans ?_
  rw [seq_ptOf, tok_ptOf]

theorem G13_apply (s : Fin 32) (t : Fin 2048) (q : Fin 128) : G13 m c (ix3 s t q) = if h : q.val < 16 then (args m c).P s t ⟨1536 + q.val, by omega⟩ else 0 := by
  have e : pt13Of (ix3 s t q) = (ptOf s t).val := by
    have := q.isLt
    show 4 * (s.val / 1 - 0) + 1 * (t.val / 512 - 0) + 1 * (q.val / 128 - 0) = 4 * s.val + t.val / 512
    omega
  have l : loc13Of (ix3 s t q) = ix3 0 (rowOf t) q := funext fun a => Fin.ext (match a with
    | ⟨0, _⟩ => by show s.val % 1 = 0; omega
    | ⟨1, _⟩ => rfl
    | ⟨2, _⟩ => Nat.mod_eq_of_lt q.isLt)
  unfold G13
  rw [dif_pos (lt_of_eq_of_lt e (ptOf s t).isLt), l, fold_point m c (ptOf s t) _ _ e]
  refine (ba_at m c (ptOf s t) (rowOf t) q).trans ?_
  rw [seq_ptOf, tok_ptOf]

theorem G14_apply (s : Fin 32) (r : Fin 8) (q : Fin 1024) :
    G14 m c (ix3 s r q) = (args m c).P s ⟨2040 + r.val, by have := r.isLt; omega⟩ ⟨q.val, by have := q.isLt; omega⟩ := by
  have e : pt14Of (ix3 s r q) = (lastOf s).val := by
    have := r.isLt
    have := q.isLt
    show 4 * (1 * (s.val / 1 - 0) + 1 * (r.val / 8 - 0) + 1 * (q.val / 1024 - 0)) + 3 = 4 * s.val + 3
    omega
  have l : loc14Of (ix3 s r q) = ix3 0 r q := funext fun a => Fin.ext (match a with
    | ⟨0, _⟩ => by show s.val % 1 = 0; omega
    | ⟨1, _⟩ => Nat.mod_eq_of_lt r.isLt
    | ⟨2, _⟩ => Nat.mod_eq_of_lt q.isLt)
  unfold G14
  rw [dif_pos (lt_of_eq_of_lt e (lastOf s).isLt), l, fold_point m c (lastOf s) _ _ e]
  refine (tail_at m c (lastOf s) (by simp only; omega) r q).trans ?_
  rw [seq_lastOf]

end Results

/-! ## The reference's results -/

section Reference

open Cert.InprojRefIdeal Cert.InprojRefIdeal.Facts₀ Idealize.ShloMosaic.StableHlo

variable (V0 : Valuation τ sig (Elt Ideal))

theorem ref_z (s : Fin 32) (t : Fin 2048) (q : Fin 512) : extractStridedSlice S32x2048x512 ![0, 0, 1024] (Value.res_main_v24 V0) slices_S32x2048x2320_S32x2048x512_0_0_1024 (ix3 s t q)
    = (InprojRef.args V0).P s t ⟨1024 + q.val, by have := q.isLt; omega⟩ := by
  rw [← InprojRef.proj_apply]
  pointwise

theorem ref_sq (s : Fin 32) (t : Fin 2048) (q : Fin 512) : truncf .bf16 (extractStridedSlice S32x2048x512 ![0, 0, 1552] (Value.res_main_v24 V0) slices_S32x2048x2320_S32x2048x512_0_0_1552) bitsLt_bf16_f32 (ix3 s t q)
    = (InprojRef.args V0).P s t ⟨1552 + q.val, by have := q.isLt; omega⟩ := by
  rw [← InprojRef.proj_apply]
  pointwise

theorem ref_sk (s : Fin 32) (t : Fin 2048) (q : Fin 128) : extractStridedSlice S32x2048x128 ![0, 0, 2064] (Value.res_main_v24 V0) slices_S32x2048x2320_S32x2048x128_0_0_2064 (ix3 s t q)
    = (InprojRef.args V0).P s t ⟨2064 + q.val, by have := q.isLt; omega⟩ := by
  rw [← InprojRef.proj_apply]
  pointwise

theorem ref_sv (s : Fin 32) (t : Fin 2048) (q : Fin 128) : extractStridedSlice S32x2048x128 ![0, 0, 2192] (Value.res_main_v24 V0) slices_S32x2048x2320_S32x2048x128_0_0_2192 (ix3 s t q)
    = (InprojRef.args V0).P s t ⟨2192 + q.val, by have := q.isLt; omega⟩ := by
  rw [← InprojRef.proj_apply]
  pointwise

theorem ref_tail (s : Fin 32) (r : Fin 8) (q : Fin 1024) : extractStridedSlice S32x8x1024 ![0, 2040, 0] (Value.res_main_v25 V0) slices_S32x2048x1024_S32x8x1024_0_2040_0 (ix3 s r q)
    = (InprojRef.args V0).P s ⟨2040 + r.val, by have := r.isLt; omega⟩ ⟨q.val, by have := q.isLt; omega⟩ := by
  rw [← InprojRef.first_apply]
  pointwise

end Reference

/-! ## The claims -/

theorem frame_kernel : Cert.quiescent_Inproj := fun m ρ _ => Cert.Inproj.Gen.frame m ρ

theorem frame_ideal : Cert.quiescent_InprojIdeal := fun m ρ _ => Cert.InprojIdeal.Gen.frame m ρ

theorem frame_reference : Cert.quiescent_InprojRefIdeal := fun m ρ _ =>
  (θ_run Cert.InprojRefIdeal.defs _ _).mono (fun r h => ⟨fun c => (h c).2.2.2.2.2.2.2, sem_eq_zero_of_no_sems (by decide) r.2⟩)
    (Cert.InprojRefIdeal.Value.run (F := Ideal) m ρ)

/-- Where the two memories agree on the arguments, the two programs' arguments are one. -/
theorem args_eq (m : (ℓ : Loc Cert.InprojIdeal.nD Cert.InprojIdeal.τ Cert.InprojIdeal.sig) → Buf (Elt Ideal) ℓ) (c : Dev Cert.InprojIdeal.nD)
    (V0 : Valuation Cert.InprojRefIdeal.τ Cert.InprojRefIdeal.sig (Elt Ideal))
    (h0 : InprojRef.A0 V0 = A0 m c) (h1 : InprojRef.A1 V0 = A1 m c) (h2 : InprojRef.A2 V0 = A2 m c) (h3 : InprojRef.A3 V0 = A3 m c)
    (h4 : InprojRef.A4 V0 = A4 m c) (h5 : InprojRef.A5 V0 = A5 m c) (h6 : InprojRef.A6 V0 = A6 m c) (h7 : InprojRef.A7 V0 = A7 m c) :
    InprojRef.args V0 = args m c := by
  unfold InprojRef.args args
  rw [h0, h1, h2, h3, h4, h5, h6, h7]

theorem ext3 {α : Type} {d0 d1 d2 : ℕ} {f g : (⟨3, ![d0, d1, d2]⟩ : Shape).Idx → α} (h : ∀ a b e, f (ix3 a b e) = g (ix3 a b e)) : f = g :=
  funext fun i => by rw [eq_ix3 i]; exact h _ _ _

theorem algebraic : Cert.algebraic_InprojIdeal_InprojRefIdeal := by
  intro m ρ m' ρ' _ hargs
  refine ⟨Cert.InprojIdeal.Value.G8 m, Cert.InprojIdeal.Value.G9 m, Cert.InprojIdeal.Value.G10 m, Cert.InprojIdeal.Value.G11 m, Cert.InprojIdeal.Value.G12 m,
    Cert.InprojIdeal.Value.G13 m, Cert.InprojIdeal.Value.G14 m, Cert.InprojIdeal.Value.run m ρ, ?_⟩
  refine (θ_run Cert.InprojRefIdeal.defs _ _).mono (fun r h c => ?_) (Cert.InprojRefIdeal.Value.run (F := Ideal) m' ρ')
  obtain ⟨a0, a1, a2, a3, a4, a5, a6, a7⟩ := hargs c
  have e := args_eq m c (StableHlo.launchContents m' c) a0 a1 a2 a3 a4 a5 a6 a7
  obtain ⟨h0, h1, h2, h3, h4, h5, h6, kept⟩ := h c
  refine ⟨h0.trans ?_, h1.trans ?_, h2.trans ?_, h3.trans ?_, h4.trans ?_, h5.trans ?_, h6.trans ?_, kept⟩
  · exact ext3 fun s t q => (InprojRef.qkv_apply _ s t q).trans ((congrArg (fun a => a.qkv s t q) e).trans (G8_apply m c s t q).symm)
  · exact ext3 fun s t q => (ref_z _ s t q).trans ((congrFun (congrFun (congrFun (congrArg InprojRef.Args.P e) s) t) _).trans (G9_apply m c s t q).symm)
  · exact ext3 fun s t q => (ref_sq _ s t q).trans ((congrFun (congrFun (congrFun (congrArg InprojRef.Args.P e) s) t) _).trans (G10_apply m c s t q).symm)
  · exact ext3 fun s t q => (ref_sk _ s t q).trans ((congrFun (congrFun (congrFun (congrArg InprojRef.Args.P e) s) t) _).trans (G11_apply m c s t q).symm)
  · exact ext3 fun s t q => (ref_sv _ s t q).trans ((congrFun (congrFun (congrFun (congrArg InprojRef.Args.P e) s) t) _).trans (G12_apply m c s t q).symm)
  · exact ext3 fun s t q => (InprojRef.gates_apply _ s t q).trans
      ((congrArg (fun a : InprojRef.Args => if h : q.val < 16 then a.P s t ⟨1536 + q.val, by omega⟩ else 0) e).trans (G13_apply m c s t q).symm)
  · exact ext3 fun s r q => (ref_tail _ s r q).trans ((congrFun (congrFun (congrFun (congrArg InprojRef.Args.P e) s) _) _).trans (G14_apply m c s r q).symm)

end InprojClaims

end
-- ==== Proof.OutprojRef.lean ====
/-
  What the output projection's reference computes, entry by entry: the two mixers' outputs side by side, multiplied by the
  weights, are two sums, one over each half of the weights' rows (`Args.mix`); gated, they are added to the stream (`Args.x1`),
  of which a row is then normalised and modulated (`Args.h2`). The results are those of sequences 16 to 31.
-/
module

public import proofs.«01_k».proof.Proof.InprojRef
public import proofs.«01_k».proof.Proof.Gen.OutprojRefIdeal.Run
public import Idealize.ShloMosaic.Lib.Pointwise
public import Idealize.ShloMosaic.Lib.Pipeline.Value

@[expose] public section

set_option maxRecDepth 16384

noncomputable section

namespace OutprojRef

open Cert.OutprojRefIdeal Cert.OutprojRefIdeal.Facts₀
open InprojRef (row)
open Idealize.ShloMosaic Idealize.ShloMosaic.TcCoe Idealize.ShloMosaic.StableHlo

/-! ## The values -/

/-- The arguments the results read, as functions of their coordinates. -/
structure Args where
  dn : Fin 32 → Fin 2048 → Fin 512 → EReal
  sw : Fin 32 → Fin 2048 → Fin 512 → EReal
  x : Fin 32 → Fin 2048 → Fin 1024 → EReal
  g1 : Fin 32 → Fin 1024 → EReal
  sc : Fin 32 → Fin 1024 → EReal
  sh : Fin 32 → Fin 1024 → EReal
  w : Fin 1024 → Fin 1024 → EReal
  b : Fin 1024 → EReal
  nw : Fin 1024 → EReal

/-- A row of the two mixers' outputs times a column of the weights. -/
def mixOf (dn sw : Fin 512 → EReal) (wl wh : Fin 512 → EReal) (b : EReal) : EReal :=
  (∑ k, dn k * wl k) + (∑ k, sw k * wh k) + b

def Args.mix (a : Args) (s : Fin 32) (t : Fin 2048) (q : Fin 1024) : EReal :=
  mixOf (a.dn s t) (a.sw s t) (fun k => a.w ⟨k.val, by have := k.isLt; omega⟩ q) (fun k => a.w ⟨512 + k.val, by have := k.isLt; omega⟩ q) (a.b q)

def Args.x1 (a : Args) (s : Fin 32) (t : Fin 2048) (q : Fin 1024) : EReal :=
  a.x s t q + a.g1 s q * a.mix s t q

def Args.h2 (a : Args) (s : Fin 32) (t : Fin 2048) (q : Fin 1024) : EReal :=
  row (a.x1 s t) a.nw (a.sc s) (a.sh s) q

/-! ## The reference's terms -/

variable (A0 A1 : FVec Ideal S32x2048x512 .bf16) (A2 : FVec Ideal S32x2048x1024 .f32) (A3 A4 A5 : FVec Ideal S32x1024 .f32)
  (A6 : FVec Ideal S1024x1024 .f32) (A7 A8 : FVec Ideal S1024 .f32)

/-- The reference's arguments. -/
def args : Args where
  dn s t k := A0 (ix3 s t k)
  sw s t k := A1 (ix3 s t k)
  x s t k := A2 (ix3 s t k)
  g1 s k := A3 (ix2 s k)
  sc s k := A4 (ix2 s k)
  sh s k := A5 (ix2 s k)
  w k q := A6 (ix2 k q)
  b q := A7 (ix1 q)
  nw k := A8 (ix1 k)

def side : FVec Ideal S32x2048x1024 .bf16 :=
  concatenate S32x2048x1024 2 [⟨S32x2048x512, A0⟩, ⟨S32x2048x512, A1⟩] concatenates_S32x2048x512_S32x2048x512_S32x2048x1024_d2

theorem side_apply (s : Fin 32) (t : Fin 2048) (k : Fin 1024) :
    side A0 A1 (ix3 s t k) = if h : k.val < 512 then A0 (ix3 s t ⟨k.val, h⟩) else A1 (ix3 s t ⟨k.val - 512, by have := k.isLt; omega⟩) := by
  unfold side
  pointwise

def times (v : FVec Ideal S32x2048x1024 .bf16) : FVec Ideal S32x2048x1024 .f32 :=
  Host.dotGeneral dot_S32x2048x1024_S1024x1024_S32x2048x1024_2_0_01_1_n_n none (extf .f32 v bitsLt_bf16_f32) A6

theorem times_apply (v : FVec Ideal S32x2048x1024 .bf16) (s : Fin 32) (t : Fin 2048) (q : Fin 1024) :
    times A6 v (ix3 s t q) = ∑ k, v (ix3 s t k) * A6 (ix2 k q) := by
  unfold times
  pointwise

theorem sides_sum (s : Fin 32) (t : Fin 2048) (q : Fin 1024) :
    times A6 (side A0 A1) (ix3 s t q)
      = (∑ k : Fin 512, A0 (ix3 s t k) * A6 (ix2 ⟨k.val, by have := k.isLt; omega⟩ q)) + ∑ k : Fin 512, A1 (ix3 s t k) * A6 (ix2 ⟨512 + k.val, by have := k.isLt; omega⟩ q) := by
  rw [times_apply]
  refine (Fin.sum_univ_add (a := 512) (b := 512) (fun k : Fin 1024 => side A0 A1 (ix3 s t k) * A6 (ix2 k q))).trans ?_
  refine congrArg₂ (· + ·) (Finset.sum_congr rfl fun k _ => ?_) (Finset.sum_congr rfl fun k _ => ?_)
  · rw [side_apply, dif_pos (by simp)]
    rfl
  · rw [side_apply, dif_neg (by simp)]
    exact congrArg₂ (· * ·) (congrArg (fun j => A1 (ix3 s t j)) (Fin.ext (by simp))) rfl

/-- The stream after the mixers, of the second half of the sequences. -/
def stream : FVec Ideal S16x2048x1024 .f32 :=
  extractStridedSlice S16x2048x1024 ![16, 0, 0] (addf A2 (mulf (broadcastInDim S32x2048x1024 ![0, 1, 2] bcast_S32x1x1024_S32x2048x1024_0_1_2 (broadcastInDim S32x1x1024 ![0, 2] bcast_S32x1024_S32x1x1024_0_2 A3)) (addf (times A6 (side A0 A1)) (broadcastInDim S32x2048x1024 ![0, 1, 2] bcast_S1x1x1024_S32x2048x1024_0_1_2 (broadcastInDim S1x1x1024 ![2] bcast_S1024_S1x1x1024_2 A7))))) slices_S32x2048x1024_S16x2048x1024_16_0_0

theorem stream_apply (s : Fin 16) (t : Fin 2048) (q : Fin 1024) :
    stream A0 A1 A2 A3 A6 A7 (ix3 s t q) = (args A0 A1 A2 A3 A4 A5 A6 A7 A8).x1 ⟨16 + s.val, by have := s.isLt; omega⟩ t q := by
  unfold Args.x1 Args.mix mixOf
  have e := sides_sum A0 A1 A6 ⟨16 + s.val, by have := s.isLt; omega⟩ t q
  refine (?_ : _ = A2 (ix3 ⟨16 + s.val, by have := s.isLt; omega⟩ t q) + A3 (ix2 ⟨16 + s.val, by have := s.isLt; omega⟩ q) * (times A6 (side A0 A1) (ix3 ⟨16 + s.val, by have := s.isLt; omega⟩ t q) + A7 (ix1 q))).trans ?_
  · unfold stream
    generalize times A6 (side A0 A1) = y
    pointwise
  · rw [e]
    rfl

/-- A stream's rows, normalised and modulated, one under another. -/
def normed (y : FVec Ideal S16x2048x1024 .f32) : FVec Ideal S32768x1024 .bf16 :=
  truncf .bf16 (shapeCast _ (addf (mulf (mulf (mulf y (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf y y) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 A8))) (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (extractStridedSlice S16x1024 ![16, 0] A4 slices_S32x1024_S16x1024_16_0))))) (broadcastInDim S16x2048x1024 ![0, 1, 2] bcast_S16x1x1024_S16x2048x1024_0_1_2 (broadcastInDim S16x1x1024 ![0, 2] bcast_S16x1024_S16x1x1024_0_2 (extractStridedSlice S16x1024 ![16, 0] A5 slices_S32x1024_S16x1024_16_0)))) shapeCasts_S16x2048x1024_S32768x1024) bitsLt_bf16_f32

theorem merge_apply (v : FVec Ideal S16x2048x1024 .f32) (i : Fin 32768) (q : Fin 1024) :
    (truncf .bf16 (shapeCast S32768x1024 v shapeCasts_S16x2048x1024_S32768x1024) bitsLt_bf16_f32 : FVec Ideal S32768x1024 .bf16) (ix2 i q) = v (ix3 ⟨i.val / 2048, by have := i.isLt; omega⟩ ⟨i.val % 2048, by omega⟩ q) := by
  pointwise

theorem normed_apply (y : FVec Ideal S16x2048x1024 .f32) (i : Fin 32768) (q : Fin 1024) :
    normed A4 A5 A8 y (ix2 i q) = row (fun k => y (ix3 ⟨i.val / 2048, by have := i.isLt; omega⟩ ⟨i.val % 2048, by omega⟩ k)) (fun k => A8 (ix1 k))
      (fun k => A4 (ix2 ⟨16 + i.val / 2048, by have := i.isLt; omega⟩ k)) (fun k => A5 (ix2 ⟨16 + i.val / 2048, by have := i.isLt; omega⟩ k)) q := by
  unfold normed row
  refine (merge_apply _ i q).trans ?_
  pointwise

theorem h2_apply (i : Fin 32768) (q : Fin 1024) :
    normed A4 A5 A8 (stream A0 A1 A2 A3 A6 A7) (ix2 i q)
      = (args A0 A1 A2 A3 A4 A5 A6 A7 A8).h2 ⟨16 + i.val / 2048, by have := i.isLt; omega⟩ ⟨i.val % 2048, by omega⟩ q := by
  rw [normed_apply]
  unfold Args.h2
  simp only [stream_apply A0 A1 A2 A3 A4 A5 A6 A7 A8]
  rfl

end OutprojRef

end
-- ==== Proof.OutprojPoints.lean ====
/-
  What the output projection's body computes from its blocks (`stream_apply`, `normed_apply`), the blocks it is handed at a grid
  point, and so what it leaves there: point `t` is tile `t % 4` of sequence `16 + t / 4`, and its two blocks are the reference's
  (`x1_at`, `h2_at`). The first point also clears a running count; neither block reads it.
-/
module

public import proofs.«01_k».proof.Proof.OutprojRef
public import proofs.«01_k».proof.Proof.Gen.OutprojIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace OutprojPoints

open Cert.OutprojIdeal Cert.OutprojIdeal.Gen
open InprojRef (row)
open OutprojRef (mixOf)
open Idealize.ShloMosaic Idealize.ShloMosaic.TcCoe

/-! ## The body's values -/

section Body

variable (dn : Vec Ideal S1x512x512 .bf16) (wl : Vec Ideal S512x1024 .bf16) (sw : Vec Ideal S1x512x512 .bf16) (wh : Vec Ideal S512x1024 .bf16)
  (x : Vec Ideal S1x512x1024 .f32) (g : Vec Ideal S1x1x1024 .f32) (b : Vec Ideal S1x1024 .f32)

theorem stream_apply (r : Fin 512) (q : Fin 1024) :
    k0_pay3 (F := Ideal) dn wl sw wh x g b (ix3 0 r q)
      = x (ix3 0 r q) + g (ix3 0 0 q) * mixOf (fun k => dn (ix3 0 r k)) (fun k => sw (ix3 0 r k)) (fun k => wl (ix2 k q)) (fun k => wh (ix2 k q)) (b (ix2 0 q)) := by
  unfold k0_pay3 mixOf
  pointwise

variable (y : FVec Ideal S1x512x1024 .f32) (nw : Vec Ideal S1x1024 .f32) (sc sh : Vec Ideal S1x1x1024 .f32)

theorem normed_apply (r : Fin 512) (q : Fin 1024) :
    k0_pay6 (F := Ideal) y (mulf y y) nw sc sh (ix2 r q)
      = row (fun k => y (ix3 0 r k)) (fun k => nw (ix2 0 k)) (fun k => sc (ix3 0 0 k)) (fun k => sh (ix3 0 0 k)) q := by
  unfold k0_pay6 k0_pay5 row
  pointwise

end Body

/-! ## The blocks -/

variable (m : (ℓ : Loc nD τ sig) → Buf (Elt Ideal) ℓ) (c : Dev nD)

abbrev A0 : FVec Ideal S32x2048x512 .bf16 := m ((c : Thread nD τ).loc main_arg0)
abbrev A1 : FVec Ideal S32x2048x512 .bf16 := m ((c : Thread nD τ).loc main_arg1)
abbrev A2 : FVec Ideal S32x2048x1024 .f32 := m ((c : Thread nD τ).loc main_arg2)
abbrev A3 : FVec Ideal S32x1024 .f32 := m ((c : Thread nD τ).loc main_arg3)
abbrev A4 : FVec Ideal S32x1024 .f32 := m ((c : Thread nD τ).loc main_arg4)
abbrev A5 : FVec Ideal S32x1024 .f32 := m ((c : Thread nD τ).loc main_arg5)
abbrev A6 : FVec Ideal S1024x1024 .f32 := m ((c : Thread nD τ).loc main_arg6)
abbrev A7 : FVec Ideal S1024 .f32 := m ((c : Thread nD τ).loc main_arg7)
abbrev A8 : FVec Ideal S1024 .f32 := m ((c : Thread nD τ).loc main_arg8)

/-- The kernel's arguments. -/
def args : OutprojRef.Args where
  dn s t k := A0 m c (ix3 s t k)
  sw s t k := A1 m c (ix3 s t k)
  x s t k := A2 m c (ix3 s t k)
  g1 s k := A3 m c (ix2 s k)
  sc s k := A4 m c (ix2 s k)
  sh s k := A5 m c (ix2 s k)
  w k q := A6 m c (ix2 k q)
  b q := A7 m c (ix1 q)
  nw k := A8 m c (ix1 k)

theorem points (t : Fin cfg0.N) : t.val < 64 := lt_of_lt_of_eq t.isLt N_0

/-- The sequence a point works on, and the token of row `r` of its tile. -/
abbrev seqOf (t : Fin cfg0.N) : Fin 32 := ⟨16 + t.val / 4, by have := points t; omega⟩
abbrev tokOf (t : Fin cfg0.N) (r : Fin 512) : Fin 2048 := ⟨512 * (t.val % 4) + r.val, by have := r.isLt; omega⟩

theorem index0 : ∀ t : Fin cfg0.N, win0_0.index t = ![16 + t.val / 4, t.val % 4, 0] := (by decide +kernel : ∀ t : Fin grid0.N, _)
theorem index1 : ∀ t : Fin cfg0.N, win0_1.index t = ![16 + t.val / 4, t.val % 4, 0] := (by decide +kernel : ∀ t : Fin grid0.N, _)
theorem index2 : ∀ t : Fin cfg0.N, win0_2.index t = ![16 + t.val / 4, t.val % 4, 0] := (by decide +kernel : ∀ t : Fin grid0.N, _)
theorem index3 : ∀ t : Fin cfg0.N, win0_3.index t = ![16 + t.val / 4, 0, 0] := (by decide +kernel : ∀ t : Fin grid0.N, _)
theorem index4 : ∀ t : Fin cfg0.N, win0_4.index t = ![16 + t.val / 4, 0, 0] := (by decide +kernel : ∀ t : Fin grid0.N, _)
theorem index5 : ∀ t : Fin cfg0.N, win0_5.index t = ![16 + t.val / 4, 0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)

theorem V_g (s : Fin 32) (k : Fin 1024) : V m c main_v9 (ix3 s 0 k) = A3 m c (ix2 s k) := by
  entry_read
  pointwise
theorem V_sc (s : Fin 32) (k : Fin 1024) : V m c main_v10 (ix3 s 0 k) = A4 m c (ix2 s k) := by
  entry_read
  pointwise
theorem V_sh (s : Fin 32) (k : Fin 1024) : V m c main_v11 (ix3 s 0 k) = A5 m c (ix2 s k) := by
  entry_read
  pointwise
theorem V_wl (k : Fin 512) (q : Fin 1024) : V m c main_v1 (ix2 k q) = A6 m c (ix2 ⟨k.val, by have := k.isLt; omega⟩ q) := by
  entry_read
  pointwise
theorem V_wh (k : Fin 512) (q : Fin 1024) : V m c main_v3 (ix2 k q) = A6 m c (ix2 ⟨512 + k.val, by have := k.isLt; omega⟩ q) := by
  entry_read
  pointwise
theorem V_b (k : Fin 1024) : V m c main_v12 (ix2 0 k) = A7 m c (ix1 k) := by
  entry_read
  pointwise
theorem V_nw (k : Fin 1024) : V m c main_v13 (ix2 0 k) = A8 m c (ix1 k) := by
  entry_read
  pointwise

variable (t : Fin cfg0.N)

theorem dn_apply (r : Fin 512) (k : Fin 512) : iblk m c 0 t (ix3 0 r k) = (args m c).dn (seqOf t) (tokOf t r) k := by
  show _ = A0 m c (ix3 _ _ k)
  blk_ext [iblk, V_main_arg0, index0 t]
theorem sw_apply (r : Fin 512) (k : Fin 512) : iblk m c 1 t (ix3 0 r k) = (args m c).sw (seqOf t) (tokOf t r) k := by
  show _ = A1 m c (ix3 _ _ k)
  blk_ext [iblk, V_main_arg1, index1 t]
theorem x_apply (r : Fin 512) (k : Fin 1024) : iblk m c 2 t (ix3 0 r k) = (args m c).x (seqOf t) (tokOf t r) k := by
  show _ = A2 m c (ix3 _ _ k)
  blk_ext [iblk, V_main_arg2, index2 t]
theorem g_apply (k : Fin 1024) : iblk m c 3 t (ix3 0 0 k) = (args m c).g1 (seqOf t) k := by
  refine Eq.trans ?_ (V_g m c (seqOf t) k)
  blk_ext [iblk, index3 t]
theorem sc_apply (k : Fin 1024) : iblk m c 4 t (ix3 0 0 k) = (args m c).sc (seqOf t) k := by
  refine Eq.trans ?_ (V_sc m c (seqOf t) k)
  blk_ext [iblk, index4 t]
theorem sh_apply (k : Fin 1024) : iblk m c 5 t (ix3 0 0 k) = (args m c).sh (seqOf t) k := by
  refine Eq.trans ?_ (V_sh m c (seqOf t) k)
  blk_ext [iblk, index5 t]
theorem wl_apply (k : Fin 512) (q : Fin 1024) : iblk m c 6 t (ix2 k q) = (args m c).w ⟨k.val, by have := k.isLt; omega⟩ q := by
  refine Eq.trans ?_ (V_wl m c k q)
  blk_ext [iblk, index6 t]
theorem wh_apply (k : Fin 512) (q : Fin 1024) : iblk m c 7 t (ix2 k q) = (args m c).w ⟨512 + k.val, by have := k.isLt; omega⟩ q := by
  refine Eq.trans ?_ (V_wh m c k q)
  blk_ext [iblk, index7 t]
theorem b_apply (k : Fin 1024) : iblk m c 8 t (ix2 0 k) = (args m c).b k := by
  refine Eq.trans ?_ (V_b m c k)
  blk_ext [iblk, index8 t]
theorem nw_apply (k : Fin 1024) : iblk m c 9 t (ix2 0 k) = (args m c).nw k := by
  refine Eq.trans ?_ (V_nw m c k)
  blk_ext [iblk, index9 t]

/-! ## What a point leaves -/

/-- The stream's block at a point. -/
abbrev blockOf : FVec Ideal S1x512x1024 .f32 :=
  k0_pay3 (F := Ideal) (iblk m c 0 t) (iblk m c 6 t) (iblk m c 1 t) (iblk m c 7 t) (iblk m c 2 t) (iblk m c 3 t) (iblk m c 8 t)

theorem block_apply (r : Fin 512) (q : Fin 1024) : blockOf m c t (ix3 0 r q) = (args m c).x1 (seqOf t) (tokOf t r) q := by
  refine (stream_apply (iblk m c 0 t) (iblk m c 6 t) (iblk m c 1 t) (iblk m c 7 t) (iblk m c 2 t) (iblk m c 3 t) (iblk m c 8 t) r q).trans ?_
  have hd : (fun k => iblk m c 0 t (ix3 0 r k)) = (args m c).dn (seqOf t) (tokOf t r) := funext fun k => dn_apply m c t r k
  have hs : (fun k => iblk m c 1 t (ix3 0 r k)) = (args m c).sw (seqOf t) (tokOf t r) := funext fun k => sw_apply m c t r k
  have hl : (fun k => iblk m c 6 t (ix2 k q)) = fun k : Fin 512 => (args m c).w ⟨k.val, by have := k.isLt; omega⟩ q := funext fun k => wl_apply m c t k q
  have hh : (fun k => iblk m c 7 t (ix2 k q)) = fun k : Fin 512 => (args m c).w ⟨512 + k.val, by have := k.isLt; omega⟩ q := funext fun k => wh_apply m c t k q
  rw [hd, hs, hl, hh, x_apply, g_apply, b_apply]
  rfl

theorem rows_apply (r : Fin 512) (q : Fin 1024) :
    k0_pay6 (F := Ideal) (blockOf m c t) (mulf (blockOf m c t) (blockOf m c t)) (iblk m c 9 t) (iblk m c 4 t) (iblk m c 5 t) (ix2 r q)
      = (args m c).h2 (seqOf t) (tokOf t r) q := by
  refine (normed_apply (blockOf m c t) (iblk m c 9 t) (iblk m c 4 t) (iblk m c 5 t) r q).trans ?_
  have hx : (fun k => blockOf m c t (ix3 0 r k)) = (args m c).x1 (seqOf t) (tokOf t r) := funext fun k => block_apply m c t r k
  have hn : (fun k => iblk m c 9 t (ix2 0 k)) = (args m c).nw := funext fun k => nw_apply m c t k
  have hs : (fun k => iblk m c 4 t (ix3 0 0 k)) = (args m c).sc (seqOf t) := funext fun k => sc_apply m c t k
  have hh : (fun k => iblk m c 5 t (ix3 0 0 k)) = (args m c).sh (seqOf t) := funext fun k => sh_apply m c t k
  rw [hx, hn, hs, hh]
  rfl

theorem x1_at (r : Fin 512) (q : Fin 1024) : (outsAt0 m c t.val t.isLt).1 (ix3 0 r q) = (args m c).x1 (seqOf t) (tokOf t r) q := by
  by_cases h0 : t.val % 64 = 0
  · rw [outsAt0_A m c t h0]
    frame_out
    exact block_apply m c t r q
  · rw [outsAt0_B m c t h0]
    frame_out
    exact block_apply m c t r q

theorem h2_at (r : Fin 512) (q : Fin 1024) : (outsAt0 m c t.val t.isLt).2.1 (ix2 r q) = (args m c).h2 (seqOf t) (tokOf t r) q := by
  by_cases h0 : t.val % 64 = 0
  · rw [outsAt0_A m c t h0]
    frame_out
    exact rows_apply m c t r q
  · rw [outsAt0_B m c t h0]
    frame_out
    exact rows_apply m c t r q

end OutprojPoints

end
-- ==== Proof.OutprojClaims.lean ====
/-
  The output projection's claims: each result array of the kernel's run, read where the point that wrote the entry left it, is the
  reference's (`G13_apply`, `G14_apply`); the reference's terms are the same functions of the arguments (`algebraic`).
-/
module

public import proofs.«01_k».proof.Proof.OutprojPoints
public import proofs.«01_k».proof.Proof.Gen.Outproj.Frame
public import proofs.«01_k».proof.Proof.Gen.OutprojIdeal.Value
public import proofs.«01_k».proof.Defs
public import Idealize.ShloMosaic.Lib.Quiescent

@[expose] public section

set_option maxRecDepth 16384

noncomputable section

namespace OutprojClaims

open OutprojPoints
open Idealize.ShloMosaic Idealize.ShloMosaic.TcCoe

/-! ## The kernel's results -/

section Results

open Cert.OutprojIdeal Cert.OutprojIdeal.Gen Cert.OutprojIdeal.Value

variable (m : (ℓ : Loc nD τ sig) → Buf (Elt Ideal) ℓ) (c : Dev nD)

/-- The point that works on token `t` of the `s`-th sequence of the second half, and the token's row in its tile. -/
abbrev ptOf (s : Fin 16) (t : Fin 2048) : Fin cfg0.N := ⟨4 * s.val + t.val / 512, lt_of_lt_of_eq (by have := s.isLt; have := t.isLt; omega) N_0.symm⟩
abbrev rowOf (t : Fin 2048) : Fin 512 := ⟨t.val % 512, Nat.mod_lt _ (by decide)⟩

theorem seq_ptOf (s : Fin 16) (t : Fin 2048) : seqOf (ptOf s t) = ⟨16 + s.val, by have := s.isLt; omega⟩ := Fin.ext (by have := t.isLt; simp only; omega)
theorem tok_ptOf (s : Fin 16) (t : Fin 2048) : tokOf (ptOf s t) (rowOf t) = t := Fin.ext (by have := t.isLt; simp only; omega)

theorem fold_point (t : Fin cfg0.N) (n : ℕ) (h : 0 + n < cfg0.N) (e : n = t.val) :
    Pipeline.accAt (fun n h => stAt0 m c n h junk0) (stAt0 m c) 0 n h = outsAt0 m c t.val t.isLt := by
  obtain ⟨p, hp⟩ := t
  replace e : n = p := e
  subst e
  exact (outsAt0_sweep m c n hp).symm

theorem G13_apply (s : Fin 16) (t : Fin 2048) (q : Fin 1024) : G13 m c (ix3 s t q) = (args m c).x1 ⟨16 + s.val, by have := s.isLt; omega⟩ t q := by
  have e : pt13Of (ix3 s t q) = (ptOf s t).val := by
    have := q.isLt
    show 4 * (s.val / 1 - 0) + 1 * (t.val / 512 - 0) + 1 * (q.val / 1024 - 0) = 4 * s.val + t.val / 512
    omega
  have l : loc13Of (ix3 s t q) = ix3 0 (rowOf t) q := funext fun a => Fin.ext (match a with
    | ⟨0, _⟩ => by show s.val % 1 = 0; omega
    | ⟨1, _⟩ => rfl
    | ⟨2, _⟩ => Nat.mod_eq_of_lt q.isLt)
  unfold G13
  rw [dif_pos (lt_of_eq_of_lt e (ptOf s t).isLt), l, fold_point m c (ptOf s t) _ _ e]
  refine (x1_at m c (ptOf s t) (rowOf t) q).trans ?_
  rw [seq_ptOf, tok_ptOf]

theorem G14_apply (i : Fin 32768) (q : Fin 1024) :
    G14 m c (ix2 i q) = (args m c).h2 ⟨16 + i.val / 2048, by have := i.isLt; omega⟩ ⟨i.val % 2048, by omega⟩ q := by
  have hi := i.isLt
  have e : pt14Of (ix2 i q) = (ptOf ⟨i.val / 2048, by omega⟩ ⟨i.val % 2048, by omega⟩).val := by
    have := q.isLt
    show 1 * (i.val / 512 - 0) + 1 * (q.val / 1024 - 0) = 4 * (i.val / 2048) + i.val % 2048 / 512
    omega
  have l : loc14Of (ix2 i q) = ix2 (rowOf ⟨i.val % 2048, by omega⟩) q := funext fun a => Fin.ext (match a with
    | ⟨0, _⟩ => by show i.val % 512 = i.val % 2048 % 512; omega
    | ⟨1, _⟩ => Nat.mod_eq_of_lt q.isLt)
  unfold G14
  rw [dif_pos (lt_of_eq_of_lt e (ptOf _ _).isLt), l, fold_point m c (ptOf _ _) _ _ e]
  refine (h2_at m c (ptOf _ _) (rowOf _) q).trans ?_
  rw [seq_ptOf, tok_ptOf]

end Results

/-! ## The claims -/

theorem frame_kernel : Cert.quiescent_Outproj := fun m ρ _ => Cert.Outproj.Gen.frame m ρ

theorem frame_ideal : Cert.quiescent_OutprojIdeal := fun m ρ _ => Cert.OutprojIdeal.Gen.frame m ρ

theorem frame_reference : Cert.quiescent_OutprojRefIdeal := fun m ρ _ =>
  (θ_run Cert.OutprojRefIdeal.defs _ _).mono (fun r h => ⟨fun c => (h c).2.2, sem_eq_zero_of_no_sems (by decide) r.2⟩)
    (Cert.OutprojRefIdeal.Value.run (F := Ideal) m ρ)

theorem ext2 {α : Type} {d0 d1 : ℕ} {f g : (⟨2, ![d0, d1]⟩ : Shape).Idx → α} (h : ∀ a b, f (ix2 a b) = g (ix2 a b)) : f = g :=
  funext fun i => by rw [eq_ix2 i]; exact h _ _

theorem ext3 {α : Type} {d0 d1 d2 : ℕ} {f g : (⟨3, ![d0, d1, d2]⟩ : Shape).Idx → α} (h : ∀ a b e, f (ix3 a b e) = g (ix3 a b e)) : f = g :=
  funext fun i => by rw [eq_ix3 i]; exact h _ _ _

/-- Where the arrays are the kernel's arguments, so are their entries. -/
theorem args_eq (m : (ℓ : Loc Cert.OutprojIdeal.nD Cert.OutprojIdeal.τ Cert.OutprojIdeal.sig) → Buf (Elt Ideal) ℓ) (c : Dev Cert.OutprojIdeal.nD)
    {B0 : FVec Ideal Cert.OutprojRefIdeal.S32x2048x512 .bf16} {B1 : FVec Ideal Cert.OutprojRefIdeal.S32x2048x512 .bf16} {B2 : FVec Ideal Cert.OutprojRefIdeal.S32x2048x1024 .f32}
    {B3 B4 B5 : FVec Ideal Cert.OutprojRefIdeal.S32x1024 .f32} {B6 : FVec Ideal Cert.OutprojRefIdeal.S1024x1024 .f32} {B7 B8 : FVec Ideal Cert.OutprojRefIdeal.S1024 .f32}
    (h0 : B0 = A0 m c) (h1 : B1 = A1 m c) (h2 : B2 = A2 m c) (h3 : B3 = A3 m c) (h4 : B4 = A4 m c) (h5 : B5 = A5 m c) (h6 : B6 = A6 m c) (h7 : B7 = A7 m c) (h8 : B8 = A8 m c) :
    OutprojRef.args B0 B1 B2 B3 B4 B5 B6 B7 B8 = args m c := by
  unfold OutprojRef.args args
  rw [h0, h1, h2, h3, h4, h5, h6, h7, h8]

theorem algebraic : Cert.algebraic_OutprojIdeal_OutprojRefIdeal := by
  intro m ρ m' ρ' _ hargs
  refine ⟨Cert.OutprojIdeal.Value.G13 m, Cert.OutprojIdeal.Value.G14 m, ?_, ?_⟩
  · exact (θ_run Cert.OutprojIdeal.defs _ _).mono (fun r h c => ⟨(h c).1, (h c).2.1, (h c).2.2.2.2⟩) (Cert.OutprojIdeal.Value.run m ρ)
  refine (θ_run Cert.OutprojRefIdeal.defs _ _).mono (fun r h c => ?_) (Cert.OutprojRefIdeal.Value.run (F := Ideal) m' ρ')
  obtain ⟨a0, a1, a2, a3, a4, a5, a6, a7, a8, a9, a10⟩ := hargs c
  have e := args_eq m c a0 a1 a2 a3 a4 a5 a6 a7 a8
  obtain ⟨h0, h1, kept⟩ := h c
  refine ⟨h0.trans ?_, h1.trans ?_, kept⟩
  · exact ext3 fun s t q => (OutprojRef.stream_apply _ _ _ _ _ _ _ _ _ s t q).trans
      ((congrFun (congrFun (congrFun (congrArg OutprojRef.Args.x1 e) _) t) q).trans (G13_apply m c s t q).symm)
  · exact ext2 fun i q => (OutprojRef.h2_apply _ _ _ _ _ _ _ _ _ i q).trans
      ((congrFun (congrFun (congrFun (congrArg OutprojRef.Args.h2 e) _) _) q).trans (G14_apply m c i q).symm)

end OutprojClaims

end
-- ==== Proof.SwaRef.lean ====
/-
  What the attention's reference computes, entry by entry: the keys and values of a sequence are the cached ones and then the new
  ones (`joined`); a head's scores are the scaled products of a query with them, plus the bias (`Args.score`); its
  output is the values weighted by the scores' exponentials, over the weights' sum and the sink's own (`attend`). The eight heads
  lie side by side.
-/
module

public import proofs.«01_k».proof.Proof.Gen.SwaRefIdeal.Run
public import Idealize.ShloMosaic.Lib.Pointwise
public import Idealize.ShloMosaic.Lib.Pipeline.Value

@[expose] public section

set_option maxRecDepth 16384

noncomputable section

namespace SwaRef

open Cert.SwaRefIdeal Cert.SwaRefIdeal.Facts₀
open Idealize.ShloMosaic Idealize.ShloMosaic.TcCoe Idealize.ShloMosaic.StableHlo

/-! ## The values -/

/-- The arguments, as functions of their coordinates. -/
structure Args where
  q : Fin 32 → Fin 64 → Fin 512 → EReal
  ck : Fin 32 → Fin 128 → Fin 2 → Fin 64 → EReal
  cv : Fin 32 → Fin 128 → Fin 2 → Fin 64 → EReal
  k : Fin 32 → Fin 64 → Fin 128 → EReal
  v : Fin 32 → Fin 64 → Fin 128 → EReal
  bias : Fin 8 → Fin 64 → Fin 192 → EReal
  sink : Fin 8 → EReal

/-- The cached rows of a key head, and then the new ones. -/
def joined (c : Fin 128 → Fin 2 → Fin 64 → EReal) (n : Fin 64 → Fin 128 → EReal) (g : Fin 2) (j : Fin 192) (d : Fin 64) : EReal :=
  if h : j.val < 128 then c ⟨j.val, h⟩ g d else n ⟨j.val - 128, by have := j.isLt; omega⟩ ⟨64 * g.val + d.val, by have := g.isLt; have := d.isLt; omega⟩

/-- The scores of one query. -/
def scoresOf (q : Fin 64 → EReal) (k : Fin 192 → Fin 64 → EReal) (b : Fin 192 → EReal) (j : Fin 192) : EReal :=
  (∑ d, q d * k j d) * Ideal.ofBits .f32 0x3E000000#32 + b j

/-- The greatest of the scores and the sink. -/
def topOf (s : Fin 192 → EReal) (z : EReal) : EReal :=
  max (Finset.univ.fold max (Ideal.ofBits .f32 0xFF800000#32) s) z

/-- One entry of the output: the values `v` weighted by the exponentials of the scores. -/
def attend (s v : Fin 192 → EReal) (z : EReal) : EReal :=
  Ideal.div (∑ j, Ideal.exp (s j - topOf s z) * v j) ((∑ j, Ideal.exp (s j - topOf s z)) + Ideal.exp (z - topOf s z))

/-- The key head that a query head reads. -/
abbrev keyHead (h : Fin 8) : Fin 2 := ⟨h.val / 4, by have := h.isLt; omega⟩

def Args.score (a : Args) (s : Fin 32) (h : Fin 8) (t : Fin 64) : Fin 192 → EReal :=
  scoresOf (fun d => a.q s t ⟨64 * h.val + d.val, by have := h.isLt; have := d.isLt; omega⟩) (joined (a.ck s) (a.k s) (keyHead h)) (a.bias h t)

def Args.head (a : Args) (s : Fin 32) (h : Fin 8) (t d : Fin 64) : EReal :=
  attend (a.score s h t) (fun j => joined (a.cv s) (a.v s) (keyHead h) j d) (a.sink h)

def Args.out (a : Args) (s : Fin 32) (t : Fin 64) (q : Fin 512) : EReal :=
  a.head s ⟨q.val / 64, by have := q.isLt; omega⟩ t ⟨q.val % 64, by omega⟩

/-! ## The reference's terms -/

def logits (x : FVec Ideal S32x64x64 .f32) (y : FVec Ideal S32x192x64 .f32) (b : FVec Ideal S64x192 .f32) : FVec Ideal S32x64x192 .f32 :=
  addf (mulf (Host.dotGeneral dot_S32x64x64_S32x192x64_S32x64x192_2_2_1_1_0_0 none x y) (broadcastInDim S32x64x192 ![] bcast_S_S32x64x192 (constant S_ .f32 0x3E000000#32)))
    (broadcastInDim S32x64x192 ![0, 1, 2] bcast_S1x64x192_S32x64x192_0_1_2 (broadcastInDim S1x64x192 ![1, 2] bcast_S64x192_S1x64x192_1_2 b))

theorem logits_apply (x : FVec Ideal S32x64x64 .f32) (y : FVec Ideal S32x192x64 .f32) (b : FVec Ideal S64x192 .f32) (s : Fin 32) (t : Fin 64) (j : Fin 192) :
    logits x y b (ix3 s t j) = scoresOf (fun d => x (ix3 s t d)) (fun j d => y (ix3 s j d)) (fun j => b (ix2 t j)) j := by
  unfold logits scoresOf
  pointwise

def tops (u : FVec Ideal S32x64x192 .f32) (z : FVec Ideal S_ .f32) : FVec Ideal S32x64x1 .f32 :=
  maximumf (broadcastInDim S32x64x1 ![0, 1] bcast_S32x64_S32x64x1_0_1 (Host.reduce FloatOps.maximumf u (constant S_ .f32 0xFF800000#32) reducesTo_S32x64x192_S32x64_d2 h_S_)) (broadcastInDim S32x64x1 ![] bcast_S_S32x64x1 z)

theorem tops_apply (u : FVec Ideal S32x64x192 .f32) (z : FVec Ideal S_ .f32) (s : Fin 32) (t : Fin 64) :
    tops u z (ix3 s t 0) = topOf (fun j => u (ix3 s t j)) (z ix0) := by
  unfold tops topOf
  pointwise

def weights (u : FVec Ideal S32x64x192 .f32) (mx : FVec Ideal S32x64x1 .f32) : FVec Ideal S32x64x192 .f32 :=
  Host.exp (subf u (broadcastInDim S32x64x192 ![0, 1, 2] bcast_S32x64x1_S32x64x192_0_1_2 mx))

theorem weights_apply (u : FVec Ideal S32x64x192 .f32) (mx : FVec Ideal S32x64x1 .f32) (s : Fin 32) (t : Fin 64) (j : Fin 192) :
    weights u mx (ix3 s t j) = Ideal.exp (u (ix3 s t j) - mx (ix3 s t 0)) := by
  unfold weights
  pointwise

def head (p : FVec Ideal S32x64x192 .f32) (mx : FVec Ideal S32x64x1 .f32) (z : FVec Ideal S_ .f32) (v : FVec Ideal S32x192x64 .f32) : FVec Ideal S32x64x64 .f32 :=
  Host.divf (Host.dotGeneral dot_S32x64x192_S32x192x64_S32x64x64_2_1_1_2_0_0 none p v)
    (broadcastInDim S32x64x64 ![0, 1, 2] bcast_S32x64x1_S32x64x64_0_1_2 (addf (broadcastInDim S32x64x1 ![0, 1] bcast_S32x64_S32x64x1_0_1 (Host.reduceAdd p (constant S_ .f32 0x00000000#32) reducesTo_S32x64x192_S32x64_d2 h_S_))
      (Host.exp (subf (broadcastInDim S32x64x1 ![] bcast_S_S32x64x1 z) mx))))

theorem head_apply (p : FVec Ideal S32x64x192 .f32) (mx : FVec Ideal S32x64x1 .f32) (z : FVec Ideal S_ .f32) (v : FVec Ideal S32x192x64 .f32) (s : Fin 32) (t d : Fin 64) :
    head p mx z v (ix3 s t d) = Ideal.div (∑ j, p (ix3 s t j) * v (ix3 s j d)) ((∑ j, p (ix3 s t j)) + Ideal.exp (z ix0 - mx (ix3 s t 0))) := by
  unfold head
  pointwise

/-- A head's output from its scores, its sink and its values. -/
theorem attend_apply (u : FVec Ideal S32x64x192 .f32) (z : FVec Ideal S_ .f32) (v : FVec Ideal S32x192x64 .f32) (s : Fin 32) (t d : Fin 64) :
    head (weights u (tops u z)) (tops u z) z v (ix3 s t d) = attend (fun j => u (ix3 s t j)) (fun j => v (ix3 s j d)) (z ix0) := by
  rw [head_apply, tops_apply]
  simp only [weights_apply, tops_apply]
  rfl

variable (A0 : FVec Ideal S32x64x512 .bf16) (A1 A2 : FVec Ideal S32x128x2x64 .f32) (A3 A4 : FVec Ideal S32x64x128 .f32)
  (A5 : FVec Ideal S8x64x192 .f32) (A6 : FVec Ideal S8 .f32)

/-- The reference's arguments. -/
def args : Args where
  q s t k := A0 (ix3 s t k)
  ck s j g d := A1 (ix4 s j g d)
  cv s j g d := A2 (ix4 s j g d)
  k s t k := A3 (ix3 s t k)
  v s t k := A4 (ix3 s t k)
  bias h t j := A5 (ix3 h t j)
  sink h := A6 (ix1 h)

def rows0 (A : FVec Ideal S32x128x2x64 .f32) (B : FVec Ideal S32x64x128 .f32) : FVec Ideal S32x192x64 .f32 :=
  concatenate S32x192x64 1 [⟨S32x128x64, (shapeCast _ (extractStridedSlice S32x128x1x64 ![0, 0, 0, 0] A slices_S32x128x2x64_S32x128x1x64_0_0_0_0) shapeCasts_S32x128x1x64_S32x128x64)⟩, ⟨S32x64x64, (extractStridedSlice S32x64x64 ![0, 0, 0] B slices_S32x64x128_S32x64x64_0_0_0)⟩] concatenates_S32x128x64_S32x64x64_S32x192x64_d1

theorem rows0_apply (A : FVec Ideal S32x128x2x64 .f32) (B : FVec Ideal S32x64x128 .f32) (s : Fin 32) (j : Fin 192) (d : Fin 64) :
    rows0 A B (ix3 s j d) = joined (fun j g d => A (ix4 s j g d)) (fun j k => B (ix3 s j k)) 0 j d := by
  unfold rows0 joined
  pointwise

def rows1 (A : FVec Ideal S32x128x2x64 .f32) (B : FVec Ideal S32x64x128 .f32) : FVec Ideal S32x192x64 .f32 :=
  concatenate S32x192x64 1 [⟨S32x128x64, (shapeCast _ (extractStridedSlice S32x128x1x64 ![0, 0, 1, 0] A slices_S32x128x2x64_S32x128x1x64_0_0_1_0) shapeCasts_S32x128x1x64_S32x128x64)⟩, ⟨S32x64x64, (extractStridedSlice S32x64x64 ![0, 0, 64] B slices_S32x64x128_S32x64x64_0_0_64)⟩] concatenates_S32x128x64_S32x64x64_S32x192x64_d1

theorem rows1_apply (A : FVec Ideal S32x128x2x64 .f32) (B : FVec Ideal S32x64x128 .f32) (s : Fin 32) (j : Fin 192) (d : Fin 64) :
    rows1 A B (ix3 s j d) = joined (fun j g d => A (ix4 s j g d)) (fun j k => B (ix3 s j k)) 1 j d := by
  unfold rows1 joined
  pointwise

/-- The queries, as they are multiplied. -/
def wide : FVec Ideal S32x64x512 .f32 := extf .f32 A0 bitsLt_bf16_f32

def q0 : FVec Ideal S32x64x64 .f32 := extractStridedSlice S32x64x64 ![0, 0, 0] (wide A0) slices_S32x64x512_S32x64x64_0_0_0
def b0 : FVec Ideal S64x192 .f32 := shapeCast _ (extractStridedSlice S1x64x192 ![0, 0, 0] A5 slices_S8x64x192_S1x64x192_0_0_0) shapeCasts_S1x64x192_S64x192
def z0 : FVec Ideal S_ .f32 := shapeCast _ (extractStridedSlice S1 ![0] A6 slices_S8_S1_0) shapeCasts_S1_S_
def u0 : FVec Ideal S32x64x192 .f32 := logits (q0 A0) (rows0 A1 A3) (b0 A5)
def head0 : FVec Ideal S32x64x64 .f32 := head (weights (u0 A0 A1 A3 A5) (tops (u0 A0 A1 A3 A5) (z0 A6))) (tops (u0 A0 A1 A3 A5) (z0 A6)) (z0 A6) (rows0 A2 A4)

theorem q0_apply (s : Fin 32) (t d : Fin 64) : q0 A0 (ix3 s t d) = A0 (ix3 s t ⟨64 * 0 + d.val, by have := d.isLt; omega⟩) := by
  unfold q0 wide
  pointwise
theorem b0_apply (t : Fin 64) (j : Fin 192) : b0 A5 (ix2 t j) = A5 (ix3 0 t j) := by
  unfold b0
  pointwise
theorem z0_apply : z0 A6 ix0 = A6 (ix1 0) := by
  unfold z0
  pointwise
theorem head0_apply (s : Fin 32) (t d : Fin 64) : head0 A0 A1 A2 A3 A4 A5 A6 (ix3 s t d) = (args A0 A1 A2 A3 A4 A5 A6).head s 0 t d := by
  unfold head0 u0
  rw [attend_apply]
  simp only [logits_apply, rows0_apply, q0_apply, b0_apply, z0_apply]
  rfl

def q1 : FVec Ideal S32x64x64 .f32 := extractStridedSlice S32x64x64 ![0, 0, 64] (wide A0) slices_S32x64x512_S32x64x64_0_0_64
def b1 : FVec Ideal S64x192 .f32 := shapeCast _ (extractStridedSlice S1x64x192 ![1, 0, 0] A5 slices_S8x64x192_S1x64x192_1_0_0) shapeCasts_S1x64x192_S64x192
def z1 : FVec Ideal S_ .f32 := shapeCast _ (extractStridedSlice S1 ![1] A6 slices_S8_S1_1) shapeCasts_S1_S_
def u1 : FVec Ideal S32x64x192 .f32 := logits (q1 A0) (rows0 A1 A3) (b1 A5)
def head1 : FVec Ideal S32x64x64 .f32 := head (weights (u1 A0 A1 A3 A5) (tops (u1 A0 A1 A3 A5) (z1 A6))) (tops (u1 A0 A1 A3 A5) (z1 A6)) (z1 A6) (rows0 A2 A4)

theorem q1_apply (s : Fin 32) (t d : Fin 64) : q1 A0 (ix3 s t d) = A0 (ix3 s t ⟨64 * 1 + d.val, by have := d.isLt; omega⟩) := by
  unfold q1 wide
  pointwise
theorem b1_apply (t : Fin 64) (j : Fin 192) : b1 A5 (ix2 t j) = A5 (ix3 1 t j) := by
  unfold b1
  pointwise
theorem z1_apply : z1 A6 ix0 = A6 (ix1 1) := by
  unfold z1
  pointwise
theorem head1_apply (s : Fin 32) (t d : Fin 64) : head1 A0 A1 A2 A3 A4 A5 A6 (ix3 s t d) = (args A0 A1 A2 A3 A4 A5 A6).head s 1 t d := by
  unfold head1 u1
  rw [attend_apply]
  simp only [logits_apply, rows0_apply, q1_apply, b1_apply, z1_apply]
  rfl

def q2 : FVec Ideal S32x64x64 .f32 := extractStridedSlice S32x64x64 ![0, 0, 128] (wide A0) slices_S32x64x512_S32x64x64_0_0_128
def b2 : FVec Ideal S64x192 .f32 := shapeCast _ (extractStridedSlice S1x64x192 ![2, 0, 0] A5 slices_S8x64x192_S1x64x192_2_0_0) shapeCasts_S1x64x192_S64x192
def z2 : FVec Ideal S_ .f32 := shapeCast _ (extractStridedSlice S1 ![2] A6 slices_S8_S1_2) shapeCasts_S1_S_
def u2 : FVec Ideal S32x64x192 .f32 := logits (q2 A0) (rows0 A1 A3) (b2 A5)
def head2 : FVec Ideal S32x64x64 .f32 := head (weights (u2 A0 A1 A3 A5) (tops (u2 A0 A1 A3 A5) (z2 A6))) (tops (u2 A0 A1 A3 A5) (z2 A6)) (z2 A6) (rows0 A2 A4)

theorem q2_apply (s : Fin 32) (t d : Fin 64) : q2 A0 (ix3 s t d) = A0 (ix3 s t ⟨64 * 2 + d.val, by have := d.isLt; omega⟩) := by
  unfold q2 wide
  pointwise
theorem b2_apply (t : Fin 64) (j : Fin 192) : b2 A5 (ix2 t j) = A5 (ix3 2 t j) := by
  unfold b2
  pointwise
theorem z2_apply : z2 A6 ix0 = A6 (ix1 2) := by
  unfold z2
  pointwise
theorem head2_apply (s : Fin 32) (t d : Fin 64) : head2 A0 A1 A2 A3 A4 A5 A6 (ix3 s t d) = (args A0 A1 A2 A3 A4 A5 A6).head s 2 t d := by
  unfold head2 u2
  rw [attend_apply]
  simp only [logits_apply, rows0_apply, q2_apply, b2_apply, z2_apply]
  rfl

def q3 : FVec Ideal S32x64x64 .f32 := extractStridedSlice S32x64x64 ![0, 0, 192] (wide A0) slices_S32x64x512_S32x64x64_0_0_192
def b3 : FVec Ideal S64x192 .f32 := shapeCast _ (extractStridedSlice S1x64x192 ![3, 0, 0] A5 slices_S8x64x192_S1x64x192_3_0_0) shapeCasts_S1x64x192_S64x192
def z3 : FVec Ideal S_ .f32 := shapeCast _ (extractStridedSlice S1 ![3] A6 slices_S8_S1_3) shapeCasts_S1_S_
def u3 : FVec Ideal S32x64x192 .f32 := logits (q3 A0) (rows0 A1 A3) (b3 A5)
def head3 : FVec Ideal S32x64x64 .f32 := head (weights (u3 A0 A1 A3 A5) (tops (u3 A0 A1 A3 A5) (z3 A6))) (tops (u3 A0 A1 A3 A5) (z3 A6)) (z3 A6) (rows0 A2 A4)

theorem q3_apply (s : Fin 32) (t d : Fin 64) : q3 A0 (ix3 s t d) = A0 (ix3 s t ⟨64 * 3 + d.val, by have := d.isLt; omega⟩) := by
  unfold q3 wide
  pointwise
theorem b3_apply (t : Fin 64) (j : Fin 192) : b3 A5 (ix2 t j) = A5 (ix3 3 t j) := by
  unfold b3
  pointwise
theorem z3_apply : z3 A6 ix0 = A6 (ix1 3) := by
  unfold z3
  pointwise
theorem head3_apply (s : Fin 32) (t d : Fin 64) : head3 A0 A1 A2 A3 A4 A5 A6 (ix3 s t d) = (args A0 A1 A2 A3 A4 A5 A6).head s 3 t d := by
  unfold head3 u3
  rw [attend_apply]
  simp only [logits_apply, rows0_apply, q3_apply, b3_apply, z3_apply]
  rfl

def q4 : FVec Ideal S32x64x64 .f32 := extractStridedSlice S32x64x64 ![0, 0, 256] (wide A0) slices_S32x64x512_S32x64x64_0_0_256
def b4 : FVec Ideal S64x192 .f32 := shapeCast _ (extractStridedSlice S1x64x192 ![4, 0, 0] A5 slices_S8x64x192_S1x64x192_4_0_0) shapeCasts_S1x64x192_S64x192
def z4 : FVec Ideal S_ .f32 := shapeCast _ (extractStridedSlice S1 ![4] A6 slices_S8_S1_4) shapeCasts_S1_S_
def u4 : FVec Ideal S32x64x192 .f32 := logits (q4 A0) (rows1 A1 A3) (b4 A5)
def head4 : FVec Ideal S32x64x64 .f32 := head (weights (u4 A0 A1 A3 A5) (tops (u4 A0 A1 A3 A5) (z4 A6))) (tops (u4 A0 A1 A3 A5) (z4 A6)) (z4 A6) (rows1 A2 A4)

theorem q4_apply (s : Fin 32) (t d : Fin 64) : q4 A0 (ix3 s t d) = A0 (ix3 s t ⟨64 * 4 + d.val, by have := d.isLt; omega⟩) := by
  unfold q4 wide
  pointwise
theorem b4_apply (t : Fin 64) (j : Fin 192) : b4 A5 (ix2 t j) = A5 (ix3 4 t j) := by
  unfold b4
  pointwise
theorem z4_apply : z4 A6 ix0 = A6 (ix1 4) := by
  unfold z4
  pointwise
theorem head4_apply (s : Fin 32) (t d : Fin 64) : head4 A0 A1 A2 A3 A4 A5 A6 (ix3 s t d) = (args A0 A1 A2 A3 A4 A5 A6).head s 4 t d := by
  unfold head4 u4
  rw [attend_apply]
  simp only [logits_apply, rows1_apply, q4_apply, b4_apply, z4_apply]
  rfl

def q5 : FVec Ideal S32x64x64 .f32 := extractStridedSlice S32x64x64 ![0, 0, 320] (wide A0) slices_S32x64x512_S32x64x64_0_0_320
def b5 : FVec Ideal S64x192 .f32 := shapeCast _ (extractStridedSlice S1x64x192 ![5, 0, 0] A5 slices_S8x64x192_S1x64x192_5_0_0) shapeCasts_S1x64x192_S64x192
def z5 : FVec Ideal S_ .f32 := shapeCast _ (extractStridedSlice S1 ![5] A6 slices_S8_S1_5) shapeCasts_S1_S_
def u5 : FVec Ideal S32x64x192 .f32 := logits (q5 A0) (rows1 A1 A3) (b5 A5)
def head5 : FVec Ideal S32x64x64 .f32 := head (weights (u5 A0 A1 A3 A5) (tops (u5 A0 A1 A3 A5) (z5 A6))) (tops (u5 A0 A1 A3 A5) (z5 A6)) (z5 A6) (rows1 A2 A4)

theorem q5_apply (s : Fin 32) (t d : Fin 64) : q5 A0 (ix3 s t d) = A0 (ix3 s t ⟨64 * 5 + d.val, by have := d.isLt; omega⟩) := by
  unfold q5 wide
  pointwise
theorem b5_apply (t : Fin 64) (j : Fin 192) : b5 A5 (ix2 t j) = A5 (ix3 5 t j) := by
  unfold b5
  pointwise
theorem z5_apply : z5 A6 ix0 = A6 (ix1 5) := by
  unfold z5
  pointwise
theorem head5_apply (s : Fin 32) (t d : Fin 64) : head5 A0 A1 A2 A3 A4 A5 A6 (ix3 s t d) = (args A0 A1 A2 A3 A4 A5 A6).head s 5 t d := by
  unfold head5 u5
  rw [attend_apply]
  simp only [logits_apply, rows1_apply, q5_apply, b5_apply, z5_apply]
  rfl

def q6 : FVec Ideal S32x64x64 .f32 := extractStridedSlice S32x64x64 ![0, 0, 384] (wide A0) slices_S32x64x512_S32x64x64_0_0_384
def b6 : FVec Ideal S64x192 .f32 := shapeCast _ (extractStridedSlice S1x64x192 ![6, 0, 0] A5 slices_S8x64x192_S1x64x192_6_0_0) shapeCasts_S1x64x192_S64x192
def z6 : FVec Ideal S_ .f32 := shapeCast _ (extractStridedSlice S1 ![6] A6 slices_S8_S1_6) shapeCasts_S1_S_
def u6 : FVec Ideal S32x64x192 .f32 := logits (q6 A0) (rows1 A1 A3) (b6 A5)
def head6 : FVec Ideal S32x64x64 .f32 := head (weights (u6 A0 A1 A3 A5) (tops (u6 A0 A1 A3 A5) (z6 A6))) (tops (u6 A0 A1 A3 A5) (z6 A6)) (z6 A6) (rows1 A2 A4)

theorem q6_apply (s : Fin 32) (t d : Fin 64) : q6 A0 (ix3 s t d) = A0 (ix3 s t ⟨64 * 6 + d.val, by have := d.isLt; omega⟩) := by
  unfold q6 wide
  pointwise
theorem b6_apply (t : Fin 64) (j : Fin 192) : b6 A5 (ix2 t j) = A5 (ix3 6 t j) := by
  unfold b6
  pointwise
theorem z6_apply : z6 A6 ix0 = A6 (ix1 6) := by
  unfold z6
  pointwise
theorem head6_apply (s : Fin 32) (t d : Fin 64) : head6 A0 A1 A2 A3 A4 A5 A6 (ix3 s t d) = (args A0 A1 A2 A3 A4 A5 A6).head s 6 t d := by
  unfold head6 u6
  rw [attend_apply]
  simp only [logits_apply, rows1_apply, q6_apply, b6_apply, z6_apply]
  rfl

def q7 : FVec Ideal S32x64x64 .f32 := extractStridedSlice S32x64x64 ![0, 0, 448] (wide A0) slices_S32x64x512_S32x64x64_0_0_448
def b7 : FVec Ideal S64x192 .f32 := shapeCast _ (extractStridedSlice S1x64x192 ![7, 0, 0] A5 slices_S8x64x192_S1x64x192_7_0_0) shapeCasts_S1x64x192_S64x192
def z7 : FVec Ideal S_ .f32 := shapeCast _ (extractStridedSlice S1 ![7] A6 slices_S8_S1_7) shapeCasts_S1_S_
def u7 : FVec Ideal S32x64x192 .f32 := logits (q7 A0) (rows1 A1 A3) (b7 A5)
def head7 : FVec Ideal S32x64x64 .f32 := head (weights (u7 A0 A1 A3 A5) (tops (u7 A0 A1 A3 A5) (z7 A6))) (tops (u7 A0 A1 A3 A5) (z7 A6)) (z7 A6) (rows1 A2 A4)

theorem q7_apply (s : Fin 32) (t d : Fin 64) : q7 A0 (ix3 s t d) = A0 (ix3 s t ⟨64 * 7 + d.val, by have := d.isLt; omega⟩) := by
  unfold q7 wide
  pointwise
theorem b7_apply (t : Fin 64) (j : Fin 192) : b7 A5 (ix2 t j) = A5 (ix3 7 t j) := by
  unfold b7
  pointwise
theorem z7_apply : z7 A6 ix0 = A6 (ix1 7) := by
  unfold z7
  pointwise
theorem head7_apply (s : Fin 32) (t d : Fin 64) : head7 A0 A1 A2 A3 A4 A5 A6 (ix3 s t d) = (args A0 A1 A2 A3 A4 A5 A6).head s 7 t d := by
  unfold head7 u7
  rw [attend_apply]
  simp only [logits_apply, rows1_apply, q7_apply, b7_apply, z7_apply]
  rfl

/-- Eight heads side by side. -/
def side (u0 u1 u2 u3 u4 u5 u6 u7 : FVec Ideal S32x64x64 .f32) : FVec Ideal S32x64x512 .f32 :=
  concatenate S32x64x512 2 [⟨S32x64x64, u0⟩, ⟨S32x64x64, u1⟩, ⟨S32x64x64, u2⟩, ⟨S32x64x64, u3⟩, ⟨S32x64x64, u4⟩, ⟨S32x64x64, u5⟩, ⟨S32x64x64, u6⟩, ⟨S32x64x64, u7⟩] concatenates_S32x64x64_S32x64x64_S32x64x64_S32x64x64_S32x64x64_S32x64x64_S32x64x64_S32x64x64_S32x64x512_d2

set_option maxHeartbeats 2000000 in
theorem side_apply (u0 u1 u2 u3 u4 u5 u6 u7 : FVec Ideal S32x64x64 .f32) (a : Fin 8 → Fin 64 → Fin 64 → EReal) (s : Fin 32)
    (h0 : ∀ t d, u0 (ix3 s t d) = a 0 t d)
    (h1 : ∀ t d, u1 (ix3 s t d) = a 1 t d)
    (h2 : ∀ t d, u2 (ix3 s t d) = a 2 t d)
    (h3 : ∀ t d, u3 (ix3 s t d) = a 3 t d)
    (h4 : ∀ t d, u4 (ix3 s t d) = a 4 t d)
    (h5 : ∀ t d, u5 (ix3 s t d) = a 5 t d)
    (h6 : ∀ t d, u6 (ix3 s t d) = a 6 t d)
    (h7 : ∀ t d, u7 (ix3 s t d) = a 7 t d) (t : Fin 64) (q : Fin 512) :
    side u0 u1 u2 u3 u4 u5 u6 u7 (ix3 s t q) = a ⟨q.val / 64, by have := q.isLt; omega⟩ t ⟨q.val % 64, by omega⟩ := by
  have hq := q.isLt
  have cut (i : ℕ) (hi : i < 8) (d : Fin 64) (e : q.val = 64 * i + d.val) : a ⟨i, hi⟩ t d = a ⟨q.val / 64, by omega⟩ t ⟨q.val % 64, by omega⟩ := by
    have := d.isLt
    exact congr (congrFun (congrArg a (Fin.ext (by simp only; omega))) t) (Fin.ext (by simp only; omega))
  unfold side
  pointwise
  split_ifs
  all_goals first
    | contradiction
    | exact (h0 _ _).trans (cut 0 (by omega) _ (by simp only; omega))
    | exact (h1 _ _).trans (cut 1 (by omega) _ (by simp only; omega))
    | exact (h2 _ _).trans (cut 2 (by omega) _ (by simp only; omega))
    | exact (h3 _ _).trans (cut 3 (by omega) _ (by simp only; omega))
    | exact (h4 _ _).trans (cut 4 (by omega) _ (by simp only; omega))
    | exact (h5 _ _).trans (cut 5 (by omega) _ (by simp only; omega))
    | exact (h6 _ _).trans (cut 6 (by omega) _ (by simp only; omega))
    | exact (h7 _ _).trans (cut 7 (by omega) _ (by simp only; omega))

def whole : FVec Ideal S32x64x512 .f32 :=
  side (head0 A0 A1 A2 A3 A4 A5 A6) (head1 A0 A1 A2 A3 A4 A5 A6) (head2 A0 A1 A2 A3 A4 A5 A6) (head3 A0 A1 A2 A3 A4 A5 A6) (head4 A0 A1 A2 A3 A4 A5 A6) (head5 A0 A1 A2 A3 A4 A5 A6) (head6 A0 A1 A2 A3 A4 A5 A6) (head7 A0 A1 A2 A3 A4 A5 A6)

theorem whole_apply (s : Fin 32) (t : Fin 64) (q : Fin 512) :
    (truncf .bf16 (whole A0 A1 A2 A3 A4 A5 A6) bitsLt_bf16_f32 : FVec Ideal S32x64x512 .bf16) (ix3 s t q) = (args A0 A1 A2 A3 A4 A5 A6).out s t q := by
  refine (?_ : _ = whole A0 A1 A2 A3 A4 A5 A6 (ix3 s t q)).trans ?_
  · pointwise
  · exact side_apply _ _ _ _ _ _ _ _ (fun h t d => (args A0 A1 A2 A3 A4 A5 A6).head s h t d) s
      (head0_apply A0 A1 A2 A3 A4 A5 A6 s) (head1_apply A0 A1 A2 A3 A4 A5 A6 s) (head2_apply A0 A1 A2 A3 A4 A5 A6 s) (head3_apply A0 A1 A2 A3 A4 A5 A6 s) (head4_apply A0 A1 A2 A3 A4 A5 A6 s) (head5_apply A0 A1 A2 A3 A4 A5 A6 s) (head6_apply A0 A1 A2 A3 A4 A5 A6 s) (head7_apply A0 A1 A2 A3 A4 A5 A6 s) t q

/-- The reference's result is that term of its arguments. -/
theorem result_eq (W : Valuation τ sig (Elt Ideal)) :
    Value.res_main_v297 W = whole (W (Proc.devRef .tc main_arg0)) (W (Proc.devRef .tc main_arg1)) (W (Proc.devRef .tc main_arg2)) (W (Proc.devRef .tc main_arg3))
      (W (Proc.devRef .tc main_arg4)) (W (Proc.devRef .tc main_arg5)) (W (Proc.devRef .tc main_arg6)) := rfl

end SwaRef

end
-- ==== Proof.SwaPoints.lean ====
/-
  What the attention's body computes from its blocks: the queries of a key head's four query heads are stacked (`stack_apply`), their
  scores taken against the window's three blocks of keys (`scores_apply`), and the output is the values so weighted
  (`attended_apply`). The mask, the window's keys at or after the sequence's first, covers every key: at these shapes a sequence is
  one step, and the step's window begins at the first key (`mask_apply`). The eight heads are stored side by side (`left_apply`).
-/
module

public import proofs.«01_k».proof.Proof.SwaRef
public import proofs.«01_k».proof.Proof.Gen.SwaIdeal.Value
public import Idealize.ShloMosaic.Lib.IdealHost
public import Idealize.ShloMosaic.Lib.Pointwise
public import Idealize.ShloMosaic.Lib.Pipeline.ValueKit
public import Idealize.ShloMosaic.Lib.Pipeline.ReadBack

@[expose] public section

set_option maxRecDepth 16384

noncomputable section

namespace SwaPoints

open Cert.SwaIdeal Cert.SwaIdeal.Gen
open SwaRef (scoresOf topOf attend joined keyHead)
open Idealize.ShloMosaic Idealize.ShloMosaic.TcCoe

/-! ## The body's values -/

section Body

theorem bits_mask : ∀ j : Fin 192, IntOp.cmpi .sge (IntOp.addi (Scalar.addi (Scalar.subi (Scalar.muli (Scalar.addi (Scalar.muli (BitVec.ofNat 32 0) 1#32) 2#32) 64#32) 128#32) 0#32) (BitVec.ofNat 32 j.val)) 0#32 = 1#1 := by
  decide +kernel

theorem mask_apply (w : BitVec 32) (hw : w = Scalar.subi (Scalar.muli (Scalar.addi (Scalar.muli (BitVec.ofNat 32 0) 1#32) 2#32) 64#32) 128#32) (j : Fin 192) :
    k0_pay13 w (iota .tc S1x1x192 32 [2] iota_S1x1x192_d2_w32) (ix3 0 0 j) = 1#1 := by
  subst hw
  refine Eq.trans ?_ (bits_mask j)
  unfold k0_pay13
  pointwise

theorem mask_apply' (w : BitVec 32) (hw : w = Scalar.subi (Scalar.muli (Scalar.addi (Scalar.muli (BitVec.ofNat 32 0) 1#32) 2#32) 64#32) 128#32) (j : Fin 192) :
    k0_pay15 w (iota .tc S1x1x192 32 [2] iota_S1x1x192_d2_w32) (ix3 0 0 j) = 1#1 := by
  subst hw
  refine Eq.trans ?_ (bits_mask j)
  unfold k0_pay15
  pointwise

/-- The scores, where the mask lets them be. -/
def masked (a b : IVec S1x1x192 1) (s : FVec Ideal S2x256x192 .f32) : FVec Ideal S2x256x192 .f32 :=
  select (broadcastTo S2x256x192 (shapeCast S2x1x192 (concatenate S2x1x192 0 [⟨S1x1x192, a⟩, ⟨S1x1x192, b⟩] concatenates_S1x1x192_S1x1x192_S2x1x192_d0) shapeCasts_S2x1x192_S2x1x192) broadcasts_S2x1x192_S2x256x192) s
    (broadcast S2x256x192 (Scalar.ofBits .f32 0xF149F2CA#32))

theorem pair_apply {α : Type} (x y : S1x1x192.Idx → α) (g : Fin 2) (j : Fin 192) :
    concatenate S2x1x192 0 [⟨S1x1x192, x⟩, ⟨S1x1x192, y⟩] concatenates_S1x1x192_S1x1x192_S2x1x192_d0 (ix3 g 0 j) = if h : g.val < 1 then x (ix3 0 0 j) else y (ix3 0 0 j) := by
  pointwise
  split_ifs
  all_goals first
    | contradiction
    | exact congrArg (fun k => x (ix3 k 0 j)) (Subsingleton.elim _ _)
    | exact congrArg (fun k => y (ix3 k 0 j)) (Subsingleton.elim _ _)

theorem spread_apply {α : Type} (w : S2x1x192.Idx → α) (g : Fin 2) (r : Fin 256) (j : Fin 192) :
    broadcastTo S2x256x192 (shapeCast S2x1x192 w shapeCasts_S2x1x192_S2x1x192) broadcasts_S2x1x192_S2x256x192 (ix3 g r j) = w (ix3 g 0 j) := by
  pointwise

theorem masked_eq (a b : IVec S1x1x192 1) (s : FVec Ideal S2x256x192 .f32) (ha : ∀ j, a (ix3 0 0 j) = 1#1) (hb : ∀ j, b (ix3 0 0 j) = 1#1) : masked a b s = s := by
  funext i
  rw [eq_ix3 i]
  generalize i 0 = g, i 1 = r, i 2 = j
  refine if_pos ?_
  refine (spread_apply _ g r j).trans ((pair_apply a b g j).trans ?_)
  split_ifs
  · exact ha j
  · exact hb j

def tops (s : FVec Ideal S2x256x192 .f32) (z : FVec Ideal S2x256x1 .f32) : FVec Ideal S2x256x1 .f32 :=
  maximumf (shapeCast S2x256x1 (multiReduction .maximumf [2] S2x256 s 0xFF800000#32 reduces_S2x256x192_S2x256 (.inl rfl) rfl) shapeCasts_S2x256_S2x256x1) (shapeCast S2x256x1 z shapeCasts_S2x256x1_S2x256x1)

theorem tops_apply (s : FVec Ideal S2x256x192 .f32) (z : FVec Ideal S2x256x1 .f32) (g : Fin 2) (r : Fin 256) :
    tops s z (ix3 g r 0) = topOf (fun j => s (ix3 g r j)) (z (ix3 g r 0)) := by
  unfold tops topOf
  pointwise

def weights (s : FVec Ideal S2x256x192 .f32) (mx : FVec Ideal S2x256x1 .f32) : FVec Ideal S2x256x192 .bf16 :=
  truncf .bf16 (exp (subf s (broadcastTo S2x256x192 mx broadcasts_S2x256x1_S2x256x192))) bitsLt_bf16_f32

theorem weights_apply (s : FVec Ideal S2x256x192 .f32) (mx : FVec Ideal S2x256x1 .f32) (g : Fin 2) (r : Fin 256) (j : Fin 192) :
    weights s mx (ix3 g r j) = Ideal.exp (s (ix3 g r j) - mx (ix3 g r 0)) := by
  unfold weights
  pointwise

def ones : FVec Ideal S2x192x64 .bf16 := broadcast S2x192x64 (Scalar.ofBits .bf16 0x3F80#16)

theorem one_bits : Ideal.ofBits .bf16 0x3F80#16 = 1 := by
  exact Ideal.ofBits_one_bf16

def times (p : FVec Ideal S2x256x192 .bf16) (v : FVec Ideal S2x192x64 .bf16) : FVec Ideal S2x256x64 .f32 :=
  matmul dot_S2x256x192_S2x192x64_S2x256x64_2_1_1_2_0_0 none p v (constant S2x256x64 .f32 0x00000000#32)

theorem times_apply (p : FVec Ideal S2x256x192 .bf16) (v : FVec Ideal S2x192x64 .bf16) (g : Fin 2) (r : Fin 256) (d : Fin 64) :
    times p v (ix3 g r d) = ∑ j, p (ix3 g r j) * v (ix3 g j d) := by
  unfold times
  pointwise

theorem ones_apply (p : FVec Ideal S2x256x192 .bf16) (g : Fin 2) (r : Fin 256) (d : Fin 64) :
    times p ones (ix3 g r d) = ∑ j, p (ix3 g r j) := by
  rw [times_apply]
  refine Finset.sum_congr rfl fun j _ => ?_
  show _ * Ideal.ofBits .bf16 0x3F80#16 = _
  rw [one_bits, mul_one]

def values (a b : FVec Ideal S192x64 .f32) : FVec Ideal S2x192x64 .bf16 :=
  truncf .bf16 (concatenate S2x192x64 0 [⟨S1x192x64, shapeCast S1x192x64 a shapeCasts_S192x64_S1x192x64⟩, ⟨S1x192x64, shapeCast S1x192x64 b shapeCasts_S192x64_S1x192x64⟩] concatenates_S1x192x64_S1x192x64_S2x192x64_d0) bitsLt_bf16_f32

theorem values_apply (a b : FVec Ideal S192x64 .f32) (g : Fin 2) (j : Fin 192) (d : Fin 64) :
    values a b (ix3 g j d) = if g.val < 1 then a (ix2 j d) else b (ix2 j d) := by
  unfold values
  pointwise
  rfl

def weighed (p : FVec Ideal S2x256x192 .bf16) (mx : FVec Ideal S2x256x1 .f32) (z : FVec Ideal S2x256x1 .f32) (v : FVec Ideal S2x192x64 .bf16) : FVec Ideal S2x256x64 .f32 :=
  divf (times p v) (addf (times p ones) (broadcastTo S2x256x64 (exp (subf (shapeCast S2x256x1 z shapeCasts_S2x256x1_S2x256x1) mx)) broadcasts_S2x256x1_S2x256x64))

theorem weighed_apply (p : FVec Ideal S2x256x192 .bf16) (mx : FVec Ideal S2x256x1 .f32) (z : FVec Ideal S2x256x1 .f32) (v : FVec Ideal S2x192x64 .bf16) (g : Fin 2) (r : Fin 256) (d : Fin 64) :
    weighed p mx z v (ix3 g r d) = Ideal.div (∑ j, p (ix3 g r j) * v (ix3 g j d)) ((∑ j, p (ix3 g r j)) + Ideal.exp (z (ix3 g r 0) - mx (ix3 g r 0))) := by
  rw [← times_apply p v g r d, ← ones_apply p g r d]
  unfold weighed
  generalize times p v = a, times p ones = b
  pointwise

theorem attended_eq (v29 v45 : FVec Ideal S192x64 .f32) (v34 v50 : IVec S1x1x192 1) (v60 v62 : FVec Ideal S2x256x192 .f32) (z : FVec Ideal S2x256x1 .f32) :
    k0_pay18 v29 v34 v45 v50 v60 v62 z
      = weighed (weights (masked v34 v50 (addf v60 v62)) (tops (masked v34 v50 (addf v60 v62)) z)) (tops (masked v34 v50 (addf v60 v62)) z) z (values v29 v45) := rfl

theorem attended_apply (v29 v45 : FVec Ideal S192x64 .f32) (v34 v50 : IVec S1x1x192 1) (v60 v62 : FVec Ideal S2x256x192 .f32) (z : FVec Ideal S2x256x1 .f32)
    (ha : ∀ j, v34 (ix3 0 0 j) = 1#1) (hb : ∀ j, v50 (ix3 0 0 j) = 1#1) (g : Fin 2) (r : Fin 256) (d : Fin 64) :
    k0_pay18 v29 v34 v45 v50 v60 v62 z (ix3 g r d)
      = attend (fun j => v60 (ix3 g r j) + v62 (ix3 g r j)) (fun j => if g.val < 1 then v29 (ix2 j d) else v45 (ix2 j d)) (z (ix3 g r 0)) := by
  rw [attended_eq, masked_eq v34 v50 _ ha hb, weighed_apply]
  simp only [weights_apply, tops_apply, values_apply]
  rfl

/-- The rows of three blocks, one under another. -/
theorem band_apply (x y z : Vec Ideal S1x64x128 .f32) (f : Fin 192 → Fin 128 → EReal)
    (hx : ∀ (i : Fin 64) e, x (ix3 0 i e) = f ⟨i.val, by have := i.isLt; omega⟩ e)
    (hy : ∀ (i : Fin 64) e, y (ix3 0 i e) = f ⟨64 + i.val, by have := i.isLt; omega⟩ e)
    (hz : ∀ (i : Fin 64) e, z (ix3 0 i e) = f ⟨128 + i.val, by have := i.isLt; omega⟩ e) (j : Fin 192) (e : Fin 128) :
    k0_pay7 (F := Ideal) x y z (ix2 j e) = f j e := by
  have hj := j.isLt
  unfold k0_pay7
  pointwise
  split_ifs
  all_goals first
    | contradiction
    | exact hx _ _
    | exact (hy _ _).trans (congrArg (f · e) (Fin.ext (by simp only; omega)))
    | exact (hz _ _).trans (congrArg (f · e) (Fin.ext (by simp only; omega)))

/-- One head's queries, `64` columns of the block. -/
theorem load_apply (x : Vec Ideal S1x64x512 .bf16) (o : ℕ) (ho : o + 64 ≤ 512) (inb : ∀ a, (![0, 0, o] : Fin 3 → ℕ) a + S1x64x64.size a ≤ S1x64x512.size a) (i d : Fin 64) :
    View.ld x (Rect.unit (s := S1x64x512) ![0, 0, o] S1x64x64.size inb) (ix3 0 i d) = x (ix3 0 i ⟨o + d.val, by have := d.isLt; omega⟩) := by
  refine congrArg x (funext fun a => Fin.ext (match a with
    | ⟨0, _⟩ => rfl
    | ⟨1, _⟩ => by show 0 + 1 * i.val = i.val; omega
    | ⟨2, _⟩ => by show o + 1 * d.val = o + d.val; omega))

def four (a b c d : FVec Ideal S64x64 .bf16) : FVec Ideal S256x64 .bf16 :=
  concatenate S256x64 0 [⟨S64x64, a⟩, ⟨S64x64, b⟩, ⟨S64x64, c⟩, ⟨S64x64, d⟩] concatenates_S64x64_S64x64_S64x64_S64x64_S256x64_d0

theorem four_apply (a b c e : FVec Ideal S64x64 .bf16) (f : Fin 4 → Fin 64 → Fin 64 → EReal)
    (h0 : ∀ i d, a (ix2 i d) = f 0 i d) (h1 : ∀ i d, b (ix2 i d) = f 1 i d) (h2 : ∀ i d, c (ix2 i d) = f 2 i d) (h3 : ∀ i d, e (ix2 i d) = f 3 i d)
    (r : Fin 256) (d : Fin 64) : four a b c e (ix2 r d) = f ⟨r.val / 64, by have := r.isLt; omega⟩ ⟨r.val % 64, by omega⟩ d := by
  have hr := r.isLt
  have cut (k : ℕ) (hk : k < 4) (i : Fin 64) (e : r.val = 64 * k + i.val) : f ⟨k, hk⟩ i d = f ⟨r.val / 64, by omega⟩ ⟨r.val % 64, by omega⟩ d := by
    have := i.isLt
    exact congrFun (congr (congrArg f (Fin.ext (by simp only; omega))) (Fin.ext (by simp only; omega))) d
  unfold four
  pointwise
  split_ifs
  all_goals first
    | contradiction
    | exact (h0 _ _).trans (cut 0 (by omega) _ (by simp only; omega))
    | exact (h1 _ _).trans (cut 1 (by omega) _ (by simp only; omega))
    | exact (h2 _ _).trans (cut 2 (by omega) _ (by simp only; omega))
    | exact (h3 _ _).trans (cut 3 (by omega) _ (by simp only; omega))

def stack (a b : FVec Ideal S256x64 .bf16) : FVec Ideal S2x256x64 .bf16 :=
  concatenate S2x256x64 0 [⟨S1x256x64, shapeCast S1x256x64 a shapeCasts_S256x64_S1x256x64⟩, ⟨S1x256x64, shapeCast S1x256x64 b shapeCasts_S256x64_S1x256x64⟩] concatenates_S1x256x64_S1x256x64_S2x256x64_d0

theorem stack_apply (a b : FVec Ideal S256x64 .bf16) (g : Fin 2) (r : Fin 256) (d : Fin 64) :
    stack a b (ix3 g r d) = if g.val < 1 then a (ix2 r d) else b (ix2 r d) := by
  unfold stack
  pointwise
  rfl

def against (q : FVec Ideal S2x256x64 .bf16) (k : FVec Ideal S2x192x64 .bf16) : FVec Ideal S2x256x192 .f32 :=
  mulf (matmul dot_S2x256x64_S2x192x64_S2x256x192_2_2_1_1_0_0 none q k (constant S2x256x192 .f32 0x00000000#32)) (broadcast S2x256x192 (Scalar.ofBits .f32 0x3E000000#32))

theorem against_apply (q : FVec Ideal S2x256x64 .bf16) (k : FVec Ideal S2x192x64 .bf16) (g : Fin 2) (r : Fin 256) (j : Fin 192) :
    against q k (ix3 g r j) = (∑ d, q (ix3 g r d) * k (ix3 g j d)) * Ideal.ofBits .f32 0x3E000000#32 := by
  unfold against
  pointwise

/-- The left and the right half of a band's columns. -/
theorem left_half (v : FVec Ideal S192x128 .f32) (j : Fin 192) (d : Fin 64) : k0_pay12 (F := Ideal) v (ix2 j d) = v (ix2 j ⟨d.val, by have := d.isLt; omega⟩) := by
  unfold k0_pay12
  pointwise
theorem right_half (v : FVec Ideal S192x128 .f32) (j : Fin 192) (d : Fin 64) : k0_pay14 (F := Ideal) v (ix2 j d) = v (ix2 j ⟨64 + d.val, by have := d.isLt; omega⟩) := by
  unfold k0_pay14
  pointwise
theorem halves (v : FVec Ideal S192x128 .f32) (g : Fin 2) (j : Fin 192) (d : Fin 64) :
    (if g.val < 1 then k0_pay12 (F := Ideal) v (ix2 j d) else k0_pay14 (F := Ideal) v (ix2 j d)) = v (ix2 j ⟨64 * g.val + d.val, by have := g.isLt; have := d.isLt; omega⟩) := by
  have hg := g.isLt
  split_ifs with h
  · exact (left_half v j d).trans (congrArg (fun k => v (ix2 j k)) (Fin.ext (by simp only; omega)))
  · exact (right_half v j d).trans (congrArg (fun k => v (ix2 j k)) (Fin.ext (by simp only; omega)))

theorem scores_eq (v6 : FVec Ideal S192x128 .f32) (v20 v22 v24 : FVec Ideal S64x64 .bf16) (v25 v35 v37 v39 v41 : Vec Ideal S1x64x64 .bf16) :
    k0_pay16 v6 v20 v22 v24 v25 v35 v37 v39 v41
      = against (stack (four v20 v22 v24 (k0_pay9 v25)) (four (k0_pay9 v35) (k0_pay9 v37) (k0_pay9 v39) (k0_pay9 v41))) (values (k0_pay12 v6) (k0_pay14 v6)) := rfl

theorem flat_apply (v : Vec Ideal S1x64x64 .bf16) (i d : Fin 64) : k0_pay9 (F := Ideal) v (ix2 i d) = v (ix3 0 i d) := by
  unfold k0_pay9
  pointwise

theorem scores_apply (v6 : FVec Ideal S192x128 .f32) (x : Vec Ideal S1x64x512 .bf16) (g : Fin 2) (r : Fin 256) (j : Fin 192) :
    k0_pay16 (F := Ideal) v6 (k0_pay9 (View.ld x r0_1)) (k0_pay10 (View.ld x r0_2)) (k0_pay11 (View.ld x r0_3)) (View.ld x r0_4) (View.ld x r0_5) (View.ld x r0_6) (View.ld x r0_7) (View.ld x r0_8) (ix3 g r j)
      = (∑ d : Fin 64, x (ix3 0 ⟨r.val % 64, by omega⟩ ⟨64 * (4 * g.val + r.val / 64) + d.val, by have := g.isLt; have := r.isLt; have := d.isLt; omega⟩)
          * v6 (ix2 j ⟨64 * g.val + d.val, by have := g.isLt; have := d.isLt; omega⟩)) * Ideal.ofBits .f32 0x3E000000#32 := by
  have hg := g.isLt
  have hr := r.isLt
  refine (congrFun (scores_eq v6 _ _ _ _ _ _ _ _) (ix3 g r j)).trans ?_
  rw [against_apply]
  refine congrArg (· * _) (Finset.sum_congr rfl fun d _ => ?_)
  have hd := d.isLt
  rw [values_apply, halves, stack_apply]
  refine congrArg (· * _) ?_
  have lo := four_apply (k0_pay9 (View.ld x r0_1)) (k0_pay10 (View.ld x r0_2)) (k0_pay11 (View.ld x r0_3)) (k0_pay9 (View.ld x r0_4))
    (fun k i d => x (ix3 0 i ⟨64 * k.val + d.val, by have := k.isLt; have := d.isLt; omega⟩))
    (fun i d => (flat_apply _ i d).trans (load_apply x 0 (by omega) _ i d)) (fun i d => (flat_apply _ i d).trans (load_apply x 64 (by omega) _ i d))
    (fun i d => (flat_apply _ i d).trans (load_apply x 128 (by omega) _ i d)) (fun i d => (flat_apply _ i d).trans (load_apply x 192 (by omega) _ i d)) r d
  have hi := four_apply (k0_pay9 (View.ld x r0_5)) (k0_pay9 (View.ld x r0_6)) (k0_pay9 (View.ld x r0_7)) (k0_pay9 (View.ld x r0_8))
    (fun k i d => x (ix3 0 i ⟨256 + 64 * k.val + d.val, by have := k.isLt; have := d.isLt; omega⟩))
    (fun i d => (flat_apply _ i d).trans (load_apply x 256 (by omega) _ i d)) (fun i d => (flat_apply _ i d).trans (load_apply x 320 (by omega) _ i d))
    (fun i d => (flat_apply _ i d).trans (load_apply x 384 (by omega) _ i d)) (fun i d => (flat_apply _ i d).trans (load_apply x 448 (by omega) _ i d)) r d
  split_ifs with h
  · exact lo.trans (congrArg (fun k => x (ix3 0 _ k)) (Fin.ext (by simp only; omega)))
  · exact hi.trans (congrArg (fun k => x (ix3 0 _ k)) (Fin.ext (by simp only; omega)))

/-! ### The stores -/

theorem canon_cols (o : ℕ) (inb : ∀ a, (![0, 0, o] : Fin 3 → ℕ) a + S1x64x64.size a ≤ S1x64x512.size a)
    (w : (Rect.unit (s := S1x64x512) ![0, 0, o] S1x64x64.size inb).shape.Idx → EReal) (L : List (View.Piece (Elt Ideal) S1x64x512 .bf16)) (i : Fin 64) (q : Fin 512) (l : Fin 64) (h : q.val = o + l.val) :
    View.canon (Val := Elt Ideal) (s := S1x64x512) (e := .bf16) (⟨Rect.unit (s := S1x64x512) ![0, 0, o] S1x64x64.size inb, w⟩ :: L) (ix3 0 i q) = w (ix3 0 i l) := by
  have e : (Rect.unit (s := S1x64x512) ![0, 0, o] S1x64x64.size inb).emb (ix3 0 i l) = (ix3 0 i q : S1x64x512.Idx) := funext fun a => Fin.ext (match a with
    | ⟨0, _⟩ => rfl
    | ⟨1, _⟩ => by show 0 + 1 * i.val = i.val; omega
    | ⟨2, _⟩ => by show o + 1 * l.val = q.val; omega)
  rw [← e]
  exact View.canon_cons_emb (Val := Elt Ideal) (s := S1x64x512) (e := .bf16) _ w L _

theorem canon_skip (o : ℕ) (inb : ∀ a, (![0, 0, o] : Fin 3 → ℕ) a + S1x64x64.size a ≤ S1x64x512.size a)
    (w : (Rect.unit (s := S1x64x512) ![0, 0, o] S1x64x64.size inb).shape.Idx → EReal) (L : List (View.Piece (Elt Ideal) S1x64x512 .bf16)) (i : Fin 64) (q : Fin 512) (h : q.val < o ∨ o + 64 ≤ q.val) :
    View.canon (Val := Elt Ideal) (s := S1x64x512) (e := .bf16) (⟨Rect.unit (s := S1x64x512) ![0, 0, o] S1x64x64.size inb, w⟩ :: L) (ix3 0 i q) = View.canon (Val := Elt Ideal) L (ix3 0 i q) := by
  refine View.canon_cons_of_not_mem (Val := Elt Ideal) (s := S1x64x512) (e := .bf16) _ L fun hm => ?_
  have h2 : o ≤ q.val ∧ q.val < o + 64 := (Rect.mem_set_unit (inb := inb).mp hm) 2
  omega

/-- Eight blocks of columns, side by side. -/
theorem eight_apply (w0 w1 w2 w3 w4 w5 w6 w7 : (S1x64x64.Idx → EReal)) (f : Fin 8 → Fin 64 → Fin 64 → EReal)
    (h0 : ∀ i l, w0 (ix3 0 i l) = f 0 i l)
    (h1 : ∀ i l, w1 (ix3 0 i l) = f 1 i l)
    (h2 : ∀ i l, w2 (ix3 0 i l) = f 2 i l)
    (h3 : ∀ i l, w3 (ix3 0 i l) = f 3 i l)
    (h4 : ∀ i l, w4 (ix3 0 i l) = f 4 i l)
    (h5 : ∀ i l, w5 (ix3 0 i l) = f 5 i l)
    (h6 : ∀ i l, w6 (ix3 0 i l) = f 6 i l)
    (h7 : ∀ i l, w7 (ix3 0 i l) = f 7 i l)
    (i : Fin 64) (q : Fin 512) :
    View.canon (Val := Elt Ideal) (s := S1x64x512) (e := .bf16) [⟨r0_8, w7⟩, ⟨r0_7, w6⟩, ⟨r0_6, w5⟩, ⟨r0_5, w4⟩, ⟨r0_4, w3⟩, ⟨r0_3, w2⟩, ⟨r0_2, w1⟩, ⟨r0_1, w0⟩] (ix3 0 i q)
      = f ⟨q.val / 64, by have := q.isLt; omega⟩ i ⟨q.val % 64, by omega⟩ := by
  have hq := q.isLt
  have cut (k : ℕ) (hk : k < 8) (l : Fin 64) (e : q.val = 64 * k + l.val) : f ⟨k, hk⟩ i l = f ⟨q.val / 64, by omega⟩ i ⟨q.val % 64, by omega⟩ := by
    have := l.isLt
    exact congr (congrFun (congrArg f (Fin.ext (by simp only; omega))) i) (Fin.ext (by simp only; omega))
  by_cases c7 : 448 ≤ q.val
  · exact (canon_cols 448 _ _ _ i q ⟨q.val - 448, by omega⟩ (by simp only; omega)).trans ((h7 _ _).trans (cut 7 (by omega) _ (by simp only; omega)))
  by_cases c6 : 384 ≤ q.val
  · exact (canon_skip 448 _ _ _ i q (.inl (by omega))).trans ((canon_cols 384 _ _ _ i q ⟨q.val - 384, by omega⟩ (by simp only; omega)).trans ((h6 _ _).trans (cut 6 (by omega) _ (by simp only; omega))))
  by_cases c5 : 320 ≤ q.val
  · exact (canon_skip 448 _ _ _ i q (.inl (by omega))).trans ((canon_skip 384 _ _ _ i q (.inl (by omega))).trans ((canon_cols 320 _ _ _ i q ⟨q.val - 320, by omega⟩ (by simp only; omega)).trans ((h5 _ _).trans (cut 5 (by omega) _ (by simp only; omega)))))
  by_cases c4 : 256 ≤ q.val
  · exact (canon_skip 448 _ _ _ i q (.inl (by omega))).trans ((canon_skip 384 _ _ _ i q (.inl (by omega))).trans ((canon_skip 320 _ _ _ i q (.inl (by omega))).trans ((canon_cols 256 _ _ _ i q ⟨q.val - 256, by omega⟩ (by simp only; omega)).trans ((h4 _ _).trans (cut 4 (by omega) _ (by simp only; omega))))))
  by_cases c3 : 192 ≤ q.val
  · exact (canon_skip 448 _ _ _ i q (.inl (by omega))).trans ((canon_skip 384 _ _ _ i q (.inl (by omega))).trans ((canon_skip 320 _ _ _ i q (.inl (by omega))).trans ((canon_skip 256 _ _ _ i q (.inl (by omega))).trans ((canon_cols 192 _ _ _ i q ⟨q.val - 192, by omega⟩ (by simp only; omega)).trans ((h3 _ _).trans (cut 3 (by omega) _ (by simp only; omega)))))))
  by_cases c2 : 128 ≤ q.val
  · exact (canon_skip 448 _ _ _ i q (.inl (by omega))).trans ((canon_skip 384 _ _ _ i q (.inl (by omega))).trans ((canon_skip 320 _ _ _ i q (.inl (by omega))).trans ((canon_skip 256 _ _ _ i q (.inl (by omega))).trans ((canon_skip 192 _ _ _ i q (.inl (by omega))).trans ((canon_cols 128 _ _ _ i q ⟨q.val - 128, by omega⟩ (by simp only; omega)).trans ((h2 _ _).trans (cut 2 (by omega) _ (by simp only; omega))))))))
  by_cases c1 : 64 ≤ q.val
  · exact (canon_skip 448 _ _ _ i q (.inl (by omega))).trans ((canon_skip 384 _ _ _ i q (.inl (by omega))).trans ((canon_skip 320 _ _ _ i q (.inl (by omega))).trans ((canon_skip 256 _ _ _ i q (.inl (by omega))).trans ((canon_skip 192 _ _ _ i q (.inl (by omega))).trans ((canon_skip 128 _ _ _ i q (.inl (by omega))).trans ((canon_cols 64 _ _ _ i q ⟨q.val - 64, by omega⟩ (by simp only; omega)).trans ((h1 _ _).trans (cut 1 (by omega) _ (by simp only; omega)))))))))
  exact (canon_skip 448 _ _ _ i q (.inl (by omega))).trans ((canon_skip 384 _ _ _ i q (.inl (by omega))).trans ((canon_skip 320 _ _ _ i q (.inl (by omega))).trans ((canon_skip 256 _ _ _ i q (.inl (by omega))).trans ((canon_skip 192 _ _ _ i q (.inl (by omega))).trans ((canon_skip 128 _ _ _ i q (.inl (by omega))).trans ((canon_skip 64 _ _ _ i q (.inl (by omega))).trans ((canon_cols 0 _ _ _ i q ⟨q.val - 0, by omega⟩ (by simp only; omega)).trans ((h0 _ _).trans (cut 0 (by omega) _ (by simp only; omega))))))))))

variable (y : FVec Ideal S2x256x64 .f32)

theorem part3_apply (i l : Fin 64) : k0_pay2 (F := Ideal) y (ix3 0 i l) = y (ix3 0 ⟨192 + i.val, by have := i.isLt; omega⟩ l) := by
  unfold k0_pay2
  pointwise
theorem part4_apply (i l : Fin 64) : k0_pay3 (F := Ideal) y (ix3 0 i l) = y (ix3 1 ⟨0 + i.val, by have := i.isLt; omega⟩ l) := by
  unfold k0_pay3
  pointwise
theorem part5_apply (i l : Fin 64) : k0_pay4 (F := Ideal) y (ix3 0 i l) = y (ix3 1 ⟨64 + i.val, by have := i.isLt; omega⟩ l) := by
  unfold k0_pay4
  pointwise
theorem part6_apply (i l : Fin 64) : k0_pay5 (F := Ideal) y (ix3 0 i l) = y (ix3 1 ⟨128 + i.val, by have := i.isLt; omega⟩ l) := by
  unfold k0_pay5
  pointwise
theorem part7_apply (i l : Fin 64) : k0_pay6 (F := Ideal) y (ix3 0 i l) = y (ix3 1 ⟨192 + i.val, by have := i.isLt; omega⟩ l) := by
  unfold k0_pay6
  pointwise
theorem part0_apply (v29 v45 : FVec Ideal S192x64 .f32) (v34 v50 : IVec S1x1x192 1) (v60 v62 : FVec Ideal S2x256x192 .f32) (z : FVec Ideal S2x256x1 .f32) (i l : Fin 64) :
    k0_pay19 (F := Ideal) v29 v34 v45 v50 v60 v62 z (ix3 0 i l) = k0_pay18 v29 v34 v45 v50 v60 v62 z (ix3 0 ⟨0 + i.val, by have := i.isLt; omega⟩ l) := by
  unfold k0_pay19
  generalize k0_pay18 v29 v34 v45 v50 v60 v62 z = y
  pointwise
theorem part1_apply (v29 v45 : FVec Ideal S192x64 .f32) (v34 v50 : IVec S1x1x192 1) (v60 v62 : FVec Ideal S2x256x192 .f32) (z : FVec Ideal S2x256x1 .f32) (i l : Fin 64) :
    k0_pay20 (F := Ideal) v29 v34 v45 v50 v60 v62 z (ix3 0 i l) = k0_pay18 v29 v34 v45 v50 v60 v62 z (ix3 0 ⟨64 + i.val, by have := i.isLt; omega⟩ l) := by
  unfold k0_pay20
  generalize k0_pay18 v29 v34 v45 v50 v60 v62 z = y
  pointwise
theorem part2_apply (v29 v45 : FVec Ideal S192x64 .f32) (v34 v50 : IVec S1x1x192 1) (v60 v62 : FVec Ideal S2x256x192 .f32) (z : FVec Ideal S2x256x1 .f32) (i l : Fin 64) :
    k0_pay1 (F := Ideal) (k0_pay21 v29 v34 v45 v50 v60 v62 z) (ix3 0 i l) = k0_pay18 v29 v34 v45 v50 v60 v62 z (ix3 0 ⟨128 + i.val, by have := i.isLt; omega⟩ l) := by
  unfold k0_pay1 k0_pay21
  generalize k0_pay18 v29 v34 v45 v50 v60 v62 z = y
  pointwise

end Body

end SwaPoints

end
-- ==== Proof.SwaBlocks.lean ====
/-
  The blocks the attention's body is handed at a grid point, and so what it leaves there: point `t` is sequence `t`, its six blocks of
  keys and values are the three thirds of the sequence's `192` rows, cached and then new, and the block it leaves is the reference's
  (`out_at`).
-/
module

public import proofs.«01_k».proof.Proof.SwaPoints

@[expose] public section

set_option maxRecDepth 16384

noncomputable section

namespace SwaBlocks

open Cert.SwaIdeal Cert.SwaIdeal.Gen
open SwaRef (scoresOf topOf attend joined keyHead)
open SwaPoints
open Idealize.ShloMosaic Idealize.ShloMosaic.TcCoe

variable (m : (ℓ : Loc nD τ sig) → Buf (Elt Ideal) ℓ) (c : Dev nD)

abbrev A0 : FVec Ideal S32x64x512 .bf16 := m ((c : Thread nD τ).loc main_arg0)
abbrev A1 : FVec Ideal S32x128x2x64 .f32 := m ((c : Thread nD τ).loc main_arg1)
abbrev A2 : FVec Ideal S32x128x2x64 .f32 := m ((c : Thread nD τ).loc main_arg2)
abbrev A3 : FVec Ideal S32x64x128 .f32 := m ((c : Thread nD τ).loc main_arg3)
abbrev A4 : FVec Ideal S32x64x128 .f32 := m ((c : Thread nD τ).loc main_arg4)
abbrev A5 : FVec Ideal S8x64x192 .f32 := m ((c : Thread nD τ).loc main_arg5)
abbrev A6 : FVec Ideal S8 .f32 := m ((c : Thread nD τ).loc main_arg6)

/-- The kernel's arguments. -/
def args : SwaRef.Args where
  q s t k := A0 m c (ix3 s t k)
  ck s j g d := A1 m c (ix4 s j g d)
  cv s j g d := A2 m c (ix4 s j g d)
  k s t k := A3 m c (ix3 s t k)
  v s t k := A4 m c (ix3 s t k)
  bias h t j := A5 m c (ix3 h t j)
  sink h := A6 m c (ix1 h)

theorem points (t : Fin cfg0.N) : t.val < 32 := lt_of_lt_of_eq t.isLt N_0

/-- The sequence a point works on. -/
abbrev seqOf (t : Fin cfg0.N) : Fin 32 := ⟨t.val, points t⟩

theorem index0 : ∀ t : Fin cfg0.N, win0_0.index t = ![t.val, 0, 0] := (by decide +kernel : ∀ t : Fin grid0.N, _)
theorem index1 : ∀ t : Fin cfg0.N, win0_1.index t = ![t.val, 0, 0] := (by decide +kernel : ∀ t : Fin grid0.N, _)
theorem index2 : ∀ t : Fin cfg0.N, win0_2.index t = ![t.val, 1, 0] := (by decide +kernel : ∀ t : Fin grid0.N, _)
theorem index3 : ∀ t : Fin cfg0.N, win0_3.index t = ![t.val, 2, 0] := (by decide +kernel : ∀ t : Fin grid0.N, _)
theorem index4 : ∀ t : Fin cfg0.N, win0_4.index t = ![t.val, 0, 0] := (by decide +kernel : ∀ t : Fin grid0.N, _)
theorem index5 : ∀ t : Fin cfg0.N, win0_5.index t = ![t.val, 1, 0] := (by decide +kernel : ∀ t : Fin grid0.N, _)
theorem index6 : ∀ t : Fin cfg0.N, win0_6.index t = ![t.val, 2, 0] := (by decide +kernel : ∀ t : Fin grid0.N, _)
theorem index7 : ∀ t : Fin cfg0.N, win0_7.index t = ![0, 0, 0] := (by decide +kernel : ∀ t : Fin grid0.N, _)
theorem index8 : ∀ t : Fin cfg0.N, win0_8.index t = ![0, 0, 0] := (by decide +kernel : ∀ t : Fin grid0.N, _)
theorem index9 : ∀ t : Fin cfg0.N, win0_9.index t = ![t.val, 0, 0] := (by decide +kernel : ∀ t : Fin grid0.N, _)
theorem flush9 : ∀ t : Fin cfg0.N, (cfg0.win 9).flush t = true := (by decide +kernel : ∀ t : Fin grid0.N, win0_9.flush t = true)

/-! ## The arrays the host prepares -/

theorem V_keys (s : Fin 32) (j : Fin 192) (e : Fin 128) :
    V m c main_v1 (ix3 s j e) = if h : j.val < 128 then A1 m c (ix4 s ⟨j.val, h⟩ ⟨e.val / 64, by have := e.isLt; omega⟩ ⟨e.val % 64, by omega⟩)
      else A3 m c (ix3 s ⟨j.val - 128, by have := j.isLt; omega⟩ e) := by
  entry_read
  pointwise
theorem V_values (s : Fin 32) (j : Fin 192) (e : Fin 128) :
    V m c main_v3 (ix3 s j e) = if h : j.val < 128 then A2 m c (ix4 s ⟨j.val, h⟩ ⟨e.val / 64, by have := e.isLt; omega⟩ ⟨e.val % 64, by omega⟩)
      else A4 m c (ix3 s ⟨j.val - 128, by have := j.isLt; omega⟩ e) := by
  entry_read
  pointwise

/-- An array broadcast over its own axes is itself. -/
theorem same_bias {α : Type} (x : S1x2x1x256x1x192.Idx → α) :
    broadcastInDim S1x2x1x256x1x192 ![0, 1, 2, 3, 4, 5] bcast_S1x2x1x256x1x192_S1x2x1x256x1x192_0_1_2_3_4_5 x = x :=
  funext fun j => congrArg x (funext fun a => Fin.ext (match a with
    | ⟨0, _⟩ => (Nat.lt_one_iff.mp (j 0).isLt).symm
    | ⟨1, _⟩ => rfl
    | ⟨2, _⟩ => (Nat.lt_one_iff.mp (j 2).isLt).symm
    | ⟨3, _⟩ => rfl
    | ⟨4, _⟩ => (Nat.lt_one_iff.mp (j 4).isLt).symm
    | ⟨5, _⟩ => rfl))
theorem same_sink {α : Type} (x : S1x2x1x256x1x1.Idx → α) :
    broadcastInDim S1x2x1x256x1x1 ![0, 1, 2, 3, 4, 5] bcast_S1x2x1x256x1x1_S1x2x1x256x1x1_0_1_2_3_4_5 x = x :=
  funext fun j => congrArg x (funext fun a => Fin.ext (match a with
    | ⟨0, _⟩ => (Nat.lt_one_iff.mp (j 0).isLt).symm
    | ⟨1, _⟩ => rfl
    | ⟨2, _⟩ => (Nat.lt_one_iff.mp (j 2).isLt).symm
    | ⟨3, _⟩ => rfl
    | ⟨4, _⟩ => (Nat.lt_one_iff.mp (j 4).isLt).symm
    | ⟨5, _⟩ => (Nat.lt_one_iff.mp (j 5).isLt).symm))

theorem V_bias (g : Fin 2) (r : Fin 256) (j : Fin 192) :
    V m c main_v10 (ix3 g r j) = A5 m c (ix3 ⟨4 * g.val + r.val / 64, by have := g.isLt; have := r.isLt; omega⟩ ⟨r.val % 64, by omega⟩ j) := by
  entry_read
  rw [same_bias]
  show shapeCast S2x256x192 (shapeCast S1x2x1x256x1x192 (shapeCast S2x256x192 (A5 m c) shapeCasts_S8x64x192_S2x256x192) shapeCasts_S2x256x192_S1x2x1x256x1x192) shapeCasts_S1x2x1x256x1x192_S2x256x192 (ix3 g r j) = _
  rw [shapeCast_shapeCast]
  pointwise
  exact congrArg (fun h => A5 m c (ix3 h _ j)) (Fin.ext (congrArg (· + r.val / 64) (Nat.mul_comm g.val 4)))
theorem V_sink (g : Fin 2) (r : Fin 256) :
    V m c main_v13 (ix3 g r 0) = A6 m c (ix1 ⟨4 * g.val + r.val / 64, by have := g.isLt; have := r.isLt; omega⟩) := by
  entry_read
  rw [same_sink]
  show shapeCast S2x256x1 (shapeCast S1x2x1x256x1x1 (shapeCast S2x256x1 (shapeCast S512 (broadcastInDim S8x64 ![0] bcast_S8_S8x64_0 (A6 m c)) shapeCasts_S8x64_S512) shapeCasts_S512_S2x256x1) shapeCasts_S2x256x1_S1x2x1x256x1x1) shapeCasts_S1x2x1x256x1x1_S2x256x1 (ix3 g r 0) = _
  rw [shapeCast_shapeCast]
  pointwise
  exact congrArg (fun h => A6 m c (ix1 h)) (Fin.ext (congrArg (· + r.val / 64) (Nat.mul_comm g.val 4)))

/-! ## The blocks -/

variable (t : Fin cfg0.N)

theorem q_apply (i : Fin 64) (k : Fin 512) : iblk m c 0 t (ix3 0 i k) = (args m c).q (seqOf t) i k := by
  show _ = A0 m c (ix3 _ _ k)
  blk_ext [iblk, V_main_arg0, index0 t]

theorem k1_apply (i : Fin 64) (e : Fin 128) : iblk m c 1 t (ix3 0 i e) = V m c main_v1 (ix3 (seqOf t) ⟨i.val, by have := i.isLt; omega⟩ e) := by
  blk_ext [iblk, index1 t]
theorem k2_apply (i : Fin 64) (e : Fin 128) : iblk m c 2 t (ix3 0 i e) = V m c main_v1 (ix3 (seqOf t) ⟨64 + i.val, by have := i.isLt; omega⟩ e) := by
  blk_ext [iblk, index2 t]
theorem k3_apply (i : Fin 64) (e : Fin 128) : iblk m c 3 t (ix3 0 i e) = V m c main_v1 (ix3 (seqOf t) ⟨128 + i.val, by have := i.isLt; omega⟩ e) := by
  blk_ext [iblk, index3 t]
theorem v1_apply (i : Fin 64) (e : Fin 128) : iblk m c 4 t (ix3 0 i e) = V m c main_v3 (ix3 (seqOf t) ⟨i.val, by have := i.isLt; omega⟩ e) := by
  blk_ext [iblk, index4 t]
theorem v2_apply (i : Fin 64) (e : Fin 128) : iblk m c 5 t (ix3 0 i e) = V m c main_v3 (ix3 (seqOf t) ⟨64 + i.val, by have := i.isLt; omega⟩ e) := by
  blk_ext [iblk, index5 t]
theorem v3_apply (i : Fin 64) (e : Fin 128) : iblk m c 6 t (ix3 0 i e) = V m c main_v3 (ix3 (seqOf t) ⟨128 + i.val, by have := i.isLt; omega⟩ e) := by
  blk_ext [iblk, index6 t]
theorem bias_apply (g : Fin 2) (r : Fin 256) (j : Fin 192) :
    iblk m c 7 t (ix3 g r j) = (args m c).bias ⟨4 * g.val + r.val / 64, by have := g.isLt; have := r.isLt; omega⟩ ⟨r.val % 64, by omega⟩ j := by
  refine Eq.trans ?_ (V_bias m c g r j)
  blk_ext [iblk, index7 t]
theorem sink_apply (g : Fin 2) (r : Fin 256) :
    iblk m c 8 t (ix3 g r 0) = (args m c).sink ⟨4 * g.val + r.val / 64, by have := g.isLt; have := r.isLt; omega⟩ := by
  refine Eq.trans ?_ (V_sink m c g r)
  blk_ext [iblk, index8 t]

/-- A load of a whole block is the block. -/
theorem whole_rows (x : Vec Ideal S1x64x128 .f32) : View.ld x r0_0 = x :=
  funext fun j => congrArg x (funext fun a => Fin.ext (match a with
    | ⟨0, _⟩ => by show 0 + 1 * (j 0).val = (j 0).val; omega
    | ⟨1, _⟩ => by show 0 + 1 * (j 1).val = (j 1).val; omega
    | ⟨2, _⟩ => by show 0 + 1 * (j 2).val = (j 2).val; omega))
theorem whole_bias (x : Vec Ideal S2x256x192 .f32) : View.ld x r0_9 = x :=
  funext fun j => congrArg x (funext fun a => Fin.ext (match a with
    | ⟨0, _⟩ => by show 0 + 1 * (j 0).val = (j 0).val; omega
    | ⟨1, _⟩ => by show 0 + 1 * (j 1).val = (j 1).val; omega
    | ⟨2, _⟩ => by show 0 + 1 * (j 2).val = (j 2).val; omega))
theorem whole_sink (x : Vec Ideal S2x256x1 .f32) : View.ld x r0_10 = x :=
  funext fun j => congrArg x (funext fun a => Fin.ext (match a with
    | ⟨0, _⟩ => by show 0 + 1 * (j 0).val = (j 0).val; omega
    | ⟨1, _⟩ => by show 0 + 1 * (j 1).val = (j 1).val; omega
    | ⟨2, _⟩ => by show 0 + 1 * (j 2).val = (j 2).val; omega))

/-- The keys and the values of a point, row by row. -/
abbrev keysOf : FVec Ideal S192x128 .f32 := k0_pay7 (F := Ideal) (View.ld (iblk m c 1 t) r0_0) (View.ld (iblk m c 2 t) r0_0) (View.ld (iblk m c 3 t) r0_0)
abbrev valuesOf : FVec Ideal S192x128 .f32 := k0_pay8 (F := Ideal) (View.ld (iblk m c 4 t) r0_0) (View.ld (iblk m c 5 t) r0_0) (View.ld (iblk m c 6 t) r0_0)

/-- A row of an array that is the cached rows and then the new ones, at a key head's columns. -/
theorem row_eq (a : Fin 128 → Fin 2 → Fin 64 → EReal) (b : Fin 64 → Fin 128 → EReal) (g : Fin 2) (j : Fin 192) (d : Fin 64) (e : Fin 128) (he : e.val = 64 * g.val + d.val) :
    (if h : j.val < 128 then a ⟨j.val, h⟩ ⟨e.val / 64, by have := e.isLt; omega⟩ ⟨e.val % 64, by omega⟩ else b ⟨j.val - 128, by have := j.isLt; omega⟩ e) = joined a b g j d := by
  have hd := d.isLt
  have e1 : (⟨e.val / 64, by have := e.isLt; omega⟩ : Fin 2) = g := Fin.ext (by simp only; omega)
  have e2 : (⟨e.val % 64, by omega⟩ : Fin 64) = d := Fin.ext (by simp only; omega)
  have e3 : e = ⟨64 * g.val + d.val, by have := g.isLt; omega⟩ := Fin.ext he
  unfold joined
  rw [e1, e2]
  split_ifs
  · rfl
  · exact congrArg (b _) e3

theorem keys_apply (g : Fin 2) (j : Fin 192) (d : Fin 64) (e : Fin 128) (he : e.val = 64 * g.val + d.val) :
    keysOf m c t (ix2 j e) = joined ((args m c).ck (seqOf t)) ((args m c).k (seqOf t)) g j d := by
  unfold keysOf
  rw [whole_rows, whole_rows, whole_rows]
  refine (band_apply (iblk m c 1 t) (iblk m c 2 t) (iblk m c 3 t) (fun j e => V m c main_v1 (ix3 (seqOf t) j e)) (k1_apply m c t) (k2_apply m c t) (k3_apply m c t) j e).trans ?_
  exact (V_keys m c (seqOf t) j e).trans (row_eq ((args m c).ck (seqOf t)) ((args m c).k (seqOf t)) g j d e he)

theorem values_at (g : Fin 2) (j : Fin 192) (d : Fin 64) (e : Fin 128) (he : e.val = 64 * g.val + d.val) :
    valuesOf m c t (ix2 j e) = joined ((args m c).cv (seqOf t)) ((args m c).v (seqOf t)) g j d := by
  unfold valuesOf
  rw [whole_rows, whole_rows, whole_rows]
  refine (band_apply (iblk m c 4 t) (iblk m c 5 t) (iblk m c 6 t) (fun j e => V m c main_v3 (ix3 (seqOf t) j e)) (v1_apply m c t) (v2_apply m c t) (v3_apply m c t) j e).trans ?_
  exact (V_values m c (seqOf t) j e).trans (row_eq ((args m c).cv (seqOf t)) ((args m c).v (seqOf t)) g j d e he)

/-! ## What a point leaves -/

/-- The second grid coordinate, of an axis with one step. -/
theorem step_zero (i : grid0.Coords) : (i 1).val = 0 := Nat.lt_one_iff.mp (i 1).isLt

abbrev outputs : FVec Ideal S2x256x64 .f32 :=
  k0_pay30 (F := Ideal) (grid0.coords t) (iblk m c 0 t) (iblk m c 1 t) (iblk m c 2 t) (iblk m c 3 t) (iblk m c 4 t) (iblk m c 5 t) (iblk m c 6 t) (iblk m c 7 t) (iblk m c 8 t)

/-- The query head of a row of the stack. -/
abbrev headOf (g : Fin 2) (r : Fin 256) : Fin 8 := ⟨4 * g.val + r.val / 64, by have := g.isLt; have := r.isLt; omega⟩

theorem key_head (g : Fin 2) (r : Fin 256) : keyHead (headOf g r) = g := Fin.ext (by have := r.isLt; simp only; omega)

theorem outputs_apply (g : Fin 2) (r : Fin 256) (d : Fin 64) :
    outputs m c t (ix3 g r d) = (args m c).head (seqOf t) (headOf g r) ⟨r.val % 64, by omega⟩ d := by
  have hg := g.isLt
  have hr := r.isLt
  unfold outputs k0_pay30
  refine (attended_apply _ _ _ _ _ _ _ (fun j => ?_) (fun j => ?_) g r d).trans ?_
  · unfold k0_pay25 k0_pay22
    exact mask_apply _ (by rw [step_zero]) j
  · unfold k0_pay27 k0_pay22
    exact mask_apply' _ (by rw [step_zero]) j
  unfold SwaRef.Args.head
  rw [key_head]
  have hs : (fun j => k0_pay28 (F := Ideal) (grid0.coords t) (iblk m c 0 t) (iblk m c 1 t) (iblk m c 2 t) (iblk m c 3 t) (iblk m c 4 t) (iblk m c 5 t) (iblk m c 6 t) (iblk m c 7 t) (iblk m c 8 t) (ix3 g r j)
      + k0_pay29 (F := Ideal) (grid0.coords t) (iblk m c 0 t) (iblk m c 1 t) (iblk m c 2 t) (iblk m c 3 t) (iblk m c 4 t) (iblk m c 5 t) (iblk m c 6 t) (iblk m c 7 t) (iblk m c 8 t) (ix3 g r j))
      = (args m c).score (seqOf t) (headOf g r) ⟨r.val % 64, by omega⟩ := by
    funext j
    unfold SwaRef.Args.score scoresOf
    rw [key_head]
    refine congrArg₂ (· + ·) ?_ ?_
    · unfold k0_pay28
      refine (scores_apply (keysOf m c t) (iblk m c 0 t) g r j).trans (congrArg (· * _) (Finset.sum_congr rfl fun d _ => ?_))
      exact congrArg₂ (· * ·) (q_apply m c t _ _) (keys_apply m c t g j d _ rfl)
    · unfold k0_pay29 k0_pay17
      rw [whole_bias, shapeCast_self]
      exact bias_apply m c t g r j
  have hv : (fun j => if g.val < 1 then k0_pay24 (F := Ideal) (grid0.coords t) (iblk m c 0 t) (iblk m c 1 t) (iblk m c 2 t) (iblk m c 3 t) (iblk m c 4 t) (iblk m c 5 t) (iblk m c 6 t) (iblk m c 7 t) (iblk m c 8 t) (ix2 j d)
      else k0_pay26 (F := Ideal) (grid0.coords t) (iblk m c 0 t) (iblk m c 1 t) (iblk m c 2 t) (iblk m c 3 t) (iblk m c 4 t) (iblk m c 5 t) (iblk m c 6 t) (iblk m c 7 t) (iblk m c 8 t) (ix2 j d))
      = fun j => joined ((args m c).cv (seqOf t)) ((args m c).v (seqOf t)) g j d := by
    funext j
    unfold k0_pay24 k0_pay26 k0_pay23
    exact (halves (valuesOf m c t) g j d).trans (values_at m c t g j d _ rfl)
  have hz : View.ld (iblk m c 8 t) r0_10 (ix3 g r 0) = (args m c).sink (headOf g r) := by
    rw [whole_sink]
    exact sink_apply m c t g r
  exact (congrArg₂ (fun a b => attend a b _) hs hv).trans (congrArg _ hz)

theorem part_at (h : Fin 8) (i l : Fin 64) (g : Fin 2) (r : Fin 256) (e : h.val = 4 * g.val + r.val / 64) (f : i.val = r.val % 64) :
    outputs m c t (ix3 g r l) = (args m c).head (seqOf t) h i l := by
  rw [outputs_apply]
  have e1 : headOf g r = h := Fin.ext e.symm
  have e2 : (⟨r.val % 64, by omega⟩ : Fin 64) = i := Fin.ext f.symm
  rw [e1, e2]

theorem out_at (i : Fin 64) (q : Fin 512) :
    out0_9 (F := Ideal) (grid0.coords t) (iblk m c 0 t) (iblk m c 1 t) (iblk m c 2 t) (iblk m c 3 t) (iblk m c 4 t) (iblk m c 5 t) (iblk m c 6 t) (iblk m c 7 t) (iblk m c 8 t) (ix3 0 i q)
      = (args m c).out (seqOf t) i q := by
  unfold out0_9
  refine eight_apply _ _ _ _ _ _ _ _ (fun h i l => (args m c).head (seqOf t) h i l) (fun i l => ?_) (fun i l => ?_) (fun i l => ?_) (fun i l => ?_) (fun i l => ?_) (fun i l => ?_) (fun i l => ?_) (fun i l => ?_) i q
  · exact (part0_apply _ _ _ _ _ _ _ i l).trans (part_at m c t 0 i l 0 _ (by have := i.isLt; simp <;> omega) (by have := i.isLt; simp only; omega))
  · exact (part1_apply _ _ _ _ _ _ _ i l).trans (part_at m c t 1 i l 0 _ (by have := i.isLt; simp <;> omega) (by have := i.isLt; simp only; omega))
  · exact (part2_apply _ _ _ _ _ _ _ i l).trans (part_at m c t 2 i l 0 _ (by have := i.isLt; simp <;> omega) (by have := i.isLt; simp only; omega))
  · exact (part3_apply _ i l).trans (part_at m c t 3 i l 0 _ (by have := i.isLt; simp <;> omega) (by have := i.isLt; simp only; omega))
  · exact (part4_apply _ i l).trans (part_at m c t 4 i l 1 _ (by have := i.isLt; simp <;> omega) (by have := i.isLt; simp only; omega))
  · exact (part5_apply _ i l).trans (part_at m c t 5 i l 1 _ (by have := i.isLt; simp <;> omega) (by have := i.isLt; simp only; omega))
  · exact (part6_apply _ i l).trans (part_at m c t 6 i l 1 _ (by have := i.isLt; simp <;> omega) (by have := i.isLt; simp only; omega))
  · exact (part7_apply _ i l).trans (part_at m c t 7 i l 1 _ (by have := i.isLt; simp <;> omega) (by have := i.isLt; simp only; omega))

/-- The result array. -/
abbrev result : FVec Ideal S32x64x512 .bf16 := (dats m 0 c).arrAt 9 cfg0.N

theorem read_apply (X : FVec Ideal S32x64x512 .bf16) (i : Fin 64) (q : Fin 512) :
    ((cfg0.win 9).blk t).view.read (Elt Ideal) X (ix3 0 i q) = X (ix3 (seqOf t) i q) := by
  blk_ext [index9 t]

theorem result_apply (s : Fin 32) (i : Fin 64) (q : Fin 512) : result m c (ix3 s i q) = (args m c).out s i q := by
  obtain ⟨t, rfl⟩ : ∃ t : Fin cfg0.N, seqOf t = s := ⟨⟨s.val, lt_of_lt_of_eq s.isLt N_0.symm⟩, rfl⟩
  refine (read_apply t (result m c) i q).symm.trans ?_
  refine (congrFun (Value.blocks9 m c t (flush9 t)) (ix3 0 i q)).trans ?_
  refine (congrFun (Value.flushed9 m c t) (ix3 0 i q)).trans ?_
  exact out_at m c t i q

end SwaBlocks

end
-- ==== Proof.SwaClaims.lean ====
/-
  The attention's claims: the result array of the kernel's run, read where the point that wrote the entry left it, is the reference's
  (`SwaBlocks.result_apply`); the reference's term is the same function of the arguments (`algebraic`).
-/
module

public import proofs.«01_k».proof.Proof.SwaBlocks
public import proofs.«01_k».proof.Proof.Gen.Swa.Frame
public import proofs.«01_k».proof.Proof.Gen.SwaIdeal.Value
public import proofs.«01_k».proof.Defs
public import Idealize.ShloMosaic.Lib.Quiescent

@[expose] public section

set_option maxRecDepth 16384

noncomputable section

namespace SwaClaims

open SwaBlocks
open Idealize.ShloMosaic Idealize.ShloMosaic.TcCoe

theorem frame_kernel : Cert.quiescent_Swa := fun m ρ _ => Cert.Swa.Gen.frame m ρ

theorem frame_ideal : Cert.quiescent_SwaIdeal := fun m ρ _ => Cert.SwaIdeal.Gen.frame m ρ

theorem frame_reference : Cert.quiescent_SwaRefIdeal := fun m ρ _ =>
  (θ_run Cert.SwaRefIdeal.defs _ _).mono (fun r h => ⟨fun c => (h c).2, sem_eq_zero_of_no_sems (by decide) r.2⟩)
    (Cert.SwaRefIdeal.Value.run (F := Ideal) m ρ)

theorem ext3 {α : Type} {d0 d1 d2 : ℕ} {f g : (⟨3, ![d0, d1, d2]⟩ : Shape).Idx → α} (h : ∀ a b e, f (ix3 a b e) = g (ix3 a b e)) : f = g :=
  funext fun i => by rw [eq_ix3 i]; exact h _ _ _

/-- Where the arrays are the kernel's arguments, so are their entries. -/
theorem args_eq (m : (ℓ : Loc Cert.SwaIdeal.nD Cert.SwaIdeal.τ Cert.SwaIdeal.sig) → Buf (Elt Ideal) ℓ) (c : Dev Cert.SwaIdeal.nD)
    {B0 : FVec Ideal Cert.SwaRefIdeal.S32x64x512 .bf16} {B1 B2 : FVec Ideal Cert.SwaRefIdeal.S32x128x2x64 .f32} {B3 B4 : FVec Ideal Cert.SwaRefIdeal.S32x64x128 .f32}
    {B5 : FVec Ideal Cert.SwaRefIdeal.S8x64x192 .f32} {B6 : FVec Ideal Cert.SwaRefIdeal.S8 .f32}
    (h0 : B0 = A0 m c) (h1 : B1 = A1 m c) (h2 : B2 = A2 m c) (h3 : B3 = A3 m c) (h4 : B4 = A4 m c) (h5 : B5 = A5 m c) (h6 : B6 = A6 m c) :
    SwaRef.args B0 B1 B2 B3 B4 B5 B6 = args m c := by
  unfold SwaRef.args args
  rw [h0, h1, h2, h3, h4, h5, h6]

theorem algebraic : Cert.algebraic_SwaIdeal_SwaRefIdeal := by
  intro m ρ m' ρ' _ hargs
  refine ⟨fun c => result m c, Cert.SwaIdeal.Value.run_blocks m ρ, ?_⟩
  refine (θ_run Cert.SwaRefIdeal.defs _ _).mono (fun r h c => ?_) (Cert.SwaRefIdeal.Value.run (F := Ideal) m' ρ')
  obtain ⟨a0, a1, a2, a3, a4, a5, a6⟩ := hargs c
  have e := args_eq m c a0 a1 a2 a3 a4 a5 a6
  obtain ⟨h0, kept⟩ := h c
  refine ⟨h0.trans ?_, kept⟩
  refine (congrArg (fun z => truncf .bf16 z Cert.SwaRefIdeal.Facts₀.bitsLt_bf16_f32) (SwaRef.result_eq _)).trans ?_
  exact ext3 fun s t q => (SwaRef.whole_apply _ _ _ _ _ _ _ s t q).trans
    ((congrFun (congrFun (congrFun (congrArg SwaRef.Args.out e) s) t) q).trans (result_apply m c s t q).symm)

end SwaClaims

end
-- ==== Proof.FinalRef.lean ====
/-
  What the combination's reference computes, entry by entry: the four experts' rows of a token, weighted by its gates and summed; the
  stream plus the modulated sum (`Args.x2`); and its row, normalised (`Args.out`).
-/
module

public import proofs.«01_k».proof.Proof.Gen.FinalRefIdeal.Run
public import proofs.«01_k».proof.Proof.Unpack
public import Idealize.ShloMosaic.Lib.Pointwise
public import Idealize.ShloMosaic.Lib.Pipeline.Value

@[expose] public section

set_option maxRecDepth 16384

noncomputable section

namespace FinalRef

open Cert.FinalRefIdeal Cert.FinalRefIdeal.Facts₀
open Unpack (unpack)
open Idealize.ShloMosaic Idealize.ShloMosaic.TcCoe Idealize.ShloMosaic.StableHlo

/-! ## The values -/

/-- The arguments, as functions of their coordinates. -/
structure Args where
  x : Fin 32 → Fin 64 → Fin 1024 → EReal
  y : Fin 4 → Fin 34816 → Fin 512 → BitVec 32
  route : Fin 32 → Fin 64 → Fin 128 → EReal
  g2 : Fin 32 → Fin 1024 → EReal
  nw : Fin 1024 → EReal

/-- A token's row, normalised. -/
def normed (x nw : Fin 1024 → EReal) (q : Fin 1024) : EReal :=
  x q * Ideal.rsqrt (Ideal.div (∑ l, x l * x l) (Ideal.ofBits .f32 0x44800000#32) + Ideal.ofBits .f32 0x358637BD#32) * nw q

/-- The row of the gathered outputs that is a token's. -/
abbrev rowOf (s : Fin 32) (t : Fin 64) : Fin 34816 := ⟨s.val * 64 + t.val, by have := s.isLt; have := t.isLt; omega⟩

/-- The lane of the routes that has a token's `k`-th gate. -/
abbrev lane (k : Fin 4) : Fin 128 := ⟨8 + k.val, by have := k.isLt; omega⟩

def Args.moe (a : Args) (s : Fin 32) (t : Fin 64) (q : Fin 1024) : EReal :=
  ∑ k : Fin 4, unpack (a.y k (rowOf s t)) q * a.route s t (lane k)

def Args.x2 (a : Args) (s : Fin 32) (t : Fin 64) (q : Fin 1024) : EReal :=
  a.x s t q + a.g2 s q * a.moe s t q

def Args.out (a : Args) (s : Fin 32) (t : Fin 64) (q : Fin 1024) : EReal :=
  normed (a.x2 s t) a.nw q

/-! ## The reference's terms -/

variable (A0 : FVec Ideal S32x64x1024 .f32) (A1 : IVec S4x34816x512 32) (A2 : FVec Ideal S32x64x128 .f32) (A3 : FVec Ideal S32x1024 .f32) (A4 : FVec Ideal S1024 .f32)

/-- The reference's arguments. -/
def args : Args where
  x s t k := A0 (ix3 s t k)
  y k i q := A1 (ix3 k i q)
  route s t k := A2 (ix3 s t k)
  g2 s k := A3 (ix2 s k)
  nw k := A4 (ix1 k)

/-- The words, read. -/
def numbers : FVec Ideal S4x34816x1024 .f32 :=
  concatenate S4x34816x1024 2 [⟨S4x34816x512, (bitcastToFloat (F := Ideal) .f32 (Host.shli A1 (broadcastInDim S4x34816x512 ![] bcast_S_S4x34816x512 (constantI S_ 32 16#32))))⟩, ⟨S4x34816x512, (bitcastToFloat (F := Ideal) .f32 (andi A1 (broadcastInDim S4x34816x512 ![] bcast_S_S4x34816x512 (constantI S_ 32 4294901760#32))))⟩] concatenates_S4x34816x512_S4x34816x512_S4x34816x1024_d2

theorem numbers_apply (k : Fin 4) (i : Fin 34816) (q : Fin 1024) : numbers A1 (ix3 k i q) = unpack (fun l => A1 (ix3 k i l)) q := by
  unfold numbers unpack
  pointwise
  split_ifs
  all_goals first | rfl | exact absurd rfl ‹_›

/-- The weighted rows' sum. -/
def blend : FVec Ideal S32x64x1024 .f32 :=
  Host.reduceAdd (mulf (shapeCast _ (extractStridedSlice S4x2048x1024 ![0, 0, 0] (numbers A1) slices_S4x34816x1024_S4x2048x1024_0_0_0) shapeCasts_S4x2048x1024_S4x32x64x1024) (broadcastInDim S4x32x64x1024 ![0, 1, 2, 3] bcast_S4x32x64x1_S4x32x64x1024_0_1_2_3 (broadcastInDim S4x32x64x1 ![0, 1, 2] bcast_S4x32x64_S4x32x64x1_0_1_2 (transpose S4x32x64 [2, 0, 1] (extractStridedSlice S32x64x4 ![0, 0, 8] A2 slices_S32x64x128_S32x64x4_0_0_8) transposes_S32x64x4_S4x32x64_2_0_1)))) (constant S_ .f32 0x00000000#32) reducesTo_S4x32x64x1024_S32x64x1024_d0 h_S_

theorem blend_apply (s : Fin 32) (t : Fin 64) (q : Fin 1024) :
    blend A1 A2 (ix3 s t q) = (args A0 A1 A2 A3 A4).moe s t q := by
  unfold Args.moe
  have e (k : Fin 4) : unpack ((args A0 A1 A2 A3 A4).y k (rowOf s t)) q = numbers A1 (ix3 k (rowOf s t) q) := (numbers_apply A1 k (rowOf s t) q).symm
  simp only [e]
  unfold blend args
  generalize numbers A1 = y
  pointwise

/-- The stream. -/
def stream : FVec Ideal S32x64x1024 .f32 :=
  addf A0 (mulf (broadcastInDim S32x64x1024 ![0, 1, 2] bcast_S32x1x1024_S32x64x1024_0_1_2 (broadcastInDim S32x1x1024 ![0, 2] bcast_S32x1024_S32x1x1024_0_2 A3)) (blend A1 A2))

theorem stream_apply (s : Fin 32) (t : Fin 64) (q : Fin 1024) :
    stream A0 A1 A2 A3 (ix3 s t q) = (args A0 A1 A2 A3 A4).x2 s t q := by
  unfold Args.x2
  rw [← blend_apply A0 A1 A2 A3 A4]
  unfold stream args
  generalize blend A1 A2 = y
  pointwise

/-- A stream's rows, normalised. -/
def rows (y : FVec Ideal S32x64x1024 .f32) : FVec Ideal S32x64x1024 .f32 :=
  mulf (mulf y (broadcastInDim S32x64x1024 ![0, 1, 2] bcast_S32x64x1_S32x64x1024_0_1_2 (Host.rsqrt (addf (Host.divf (broadcastInDim S32x64x1 ![0, 1] bcast_S32x64_S32x64x1_0_1 (Host.reduceAdd (mulf y y) (constant S_ .f32 0x00000000#32) reducesTo_S32x64x1024_S32x64_d2 h_S_)) (broadcastInDim S32x64x1 ![] bcast_S_S32x64x1 (constant S_ .f32 0x44800000#32))) (broadcastInDim S32x64x1 ![] bcast_S_S32x64x1 (constant S_ .f32 0x358637BD#32)))))) (broadcastInDim S32x64x1024 ![0, 1, 2] bcast_S1x1x1024_S32x64x1024_0_1_2 (broadcastInDim S1x1x1024 ![2] bcast_S1024_S1x1x1024_2 A4))

theorem rows_apply (y : FVec Ideal S32x64x1024 .f32) (s : Fin 32) (t : Fin 64) (q : Fin 1024) :
    rows A4 y (ix3 s t q) = normed (fun k => y (ix3 s t k)) (fun k => A4 (ix1 k)) q := by
  unfold rows normed
  pointwise

theorem out_apply (s : Fin 32) (t : Fin 64) (q : Fin 1024) :
    rows A4 (stream A0 A1 A2 A3) (ix3 s t q) = (args A0 A1 A2 A3 A4).out s t q := by
  rw [rows_apply]
  unfold Args.out
  simp only [stream_apply A0 A1 A2 A3 A4]
  rfl

end FinalRef

end
-- ==== Proof.FinalPoints.lean ====
/-
  What the combination's body computes from its blocks (`numbers_apply`, `stream_apply`, `rows_apply`), the blocks it is handed at a grid point, what it
  leaves there, and so the result: point `t` has sequences `8 t` to `8 t + 7`, of 64 tokens each, and the result array is the
  reference's (`result_apply`).
-/
module

public import proofs.«01_k».proof.Proof.FinalRef
public import proofs.«01_k».proof.Proof.Gen.FinalIdeal.Frame
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384

noncomputable section

namespace FinalPoints

open Cert.FinalIdeal Cert.FinalIdeal.Gen
open FinalRef (normed)
open Unpack (unpack)
open Idealize.ShloMosaic Idealize.ShloMosaic.TcCoe Idealize.SL.Sem

/-! ## The body's values -/

section Body

variable (rt : Vec Ideal S8x64x128 .f32) (y0 y1 y2 y3 w : Vec Ideal S1x512x512 .i32) (x : Vec Ideal S8x64x1024 .f32) (g : Vec Ideal S8x1x1024 .f32)

/-- The row of a tile's experts' outputs that is token `r` of its sequence `i`. -/
abbrev flat (i : Fin 8) (r : Fin 64) : Fin 512 := ⟨i.val * 64 + r.val, by have := i.isLt; have := r.isLt; omega⟩

/-- A tile's words, read. -/
def numbers : FVec Ideal S512x1024 .f32 :=
  concatenate S512x1024 1 [⟨S512x512, bitcastToFloat (F := Ideal) .f32 (shli (shapeCast S512x512 w shapeCasts_S1x512x512_S512x512) (broadcast S512x512 16#32))⟩,
    ⟨S512x512, bitcastToFloat (F := Ideal) .f32 (andi (shapeCast S512x512 w shapeCasts_S1x512x512_S512x512) (broadcast S512x512 4294901760#32))⟩] concatenates_S512x512_S512x512_S512x1024_d1

theorem numbers_apply (j : Fin 512) (q : Fin 1024) : numbers w (ix2 j q) = unpack (fun l => w (ix3 0 j l)) q := by
  unfold numbers unpack
  pointwise
  split_ifs
  all_goals first | rfl | exact absurd rfl ‹_›

/-- The sum of the four weighted rows, over arrays of numbers. -/
def blend (z0 z1 z2 z3 : FVec Ideal S512x1024 .f32) : FVec Ideal S512x1024 .f32 :=
  addf (addf (addf (mulf z0 (broadcastTo S512x1024 (extractStridedSlice S512x1 ![0, 8] (k0_pay2 rt) slices_S512x128_o0_8_S512x1) broadcasts_S512x1_S512x1024))
    (mulf z1 (broadcastTo S512x1024 (extractStridedSlice S512x1 ![0, 9] (k0_pay2 rt) slices_S512x128_o0_9_S512x1) broadcasts_S512x1_S512x1024)))
    (mulf z2 (broadcastTo S512x1024 (extractStridedSlice S512x1 ![0, 10] (k0_pay2 rt) slices_S512x128_o0_10_S512x1) broadcasts_S512x1_S512x1024)))
    (mulf z3 (broadcastTo S512x1024 (extractStridedSlice S512x1 ![0, 11] (k0_pay2 rt) slices_S512x128_o0_11_S512x1) broadcasts_S512x1_S512x1024))

/-- The stream, over arrays of numbers. -/
def stream (z0 z1 z2 z3 : FVec Ideal S512x1024 .f32) : FVec Ideal S8x64x1024 .f32 :=
  addf x (mulf (broadcastTo S8x64x1024 (shapeCast S8x1x1024 g shapeCasts_S8x1x1024_S8x1x1024) broadcasts_S8x1x1024_S8x64x1024)
    (shapeCast S8x64x1024 (blend rt z0 z1 z2 z3) shapeCasts_S512x1024_S8x64x1024))

theorem stream_apply (z0 z1 z2 z3 : FVec Ideal S512x1024 .f32) (i : Fin 8) (r : Fin 64) (q : Fin 1024) :
    stream rt x g z0 z1 z2 z3 (ix3 i r q)
      = x (ix3 i r q) + g (ix3 i 0 q) * (z0 (ix2 (flat i r) q) * rt (ix3 i r 8) + z1 (ix2 (flat i r) q) * rt (ix3 i r 9)
        + z2 (ix2 (flat i r) q) * rt (ix3 i r 10) + z3 (ix2 (flat i r) q) * rt (ix3 i r 11)) := by
  have hi := i.isLt
  have hr := r.isLt
  unfold stream blend k0_pay2
  pointwise

variable (y : FVec Ideal S8x64x1024 .f32) (nw : Vec Ideal S1x1024 .f32)

/-- A stream's rows, normalised. -/
def rows : FVec Ideal S8x64x1024 .f32 :=
  mulf (mulf y (broadcastTo S8x64x1024 (rsqrt (addf (divf (shapeCast S8x64x1 (multiReduction .add [2] S8x64 (mulf y y) 0x00000000#32 reduces_S8x64x1024_S8x64 (.inl rfl) rfl) shapeCasts_S8x64_S8x64x1)
      (broadcast S8x64x1 (Scalar.ofBits .f32 0x44800000#32))) (broadcast S8x64x1 (Scalar.ofBits .f32 0x358637BD#32)))) broadcasts_S8x64x1_S8x64x1024))
    (broadcastTo S8x64x1024 (shapeCast S1x1x1024 (shapeCast S1x1024 nw shapeCasts_S1x1024_S1x1024) shapeCasts_S1x1024_S1x1x1024) broadcasts_S1x1x1024_S8x64x1024)

theorem rows_apply (i : Fin 8) (r : Fin 64) (q : Fin 1024) :
    rows y nw (ix3 i r q) = normed (fun k => y (ix3 i r k)) (fun k => nw (ix2 0 k)) q := by
  unfold rows normed
  pointwise

theorem body_eq : k0_pay1 (F := Ideal) (k0_pay2 rt) (k0_pay3 rt y0 y1 y2) y3 x g nw
    = rows (stream rt x g (numbers y0) (numbers y1) (numbers y2) (numbers y3)) nw := rfl

end Body

/-! ## The grid and the blocks -/

variable (m : (ℓ : Loc nD τ sig) → Buf (Elt Ideal) ℓ) (ρ : Dev nD → PrngReg) (c : Dev nD)

abbrev A0 : FVec Ideal S32x64x1024 .f32 := m ((c : Thread nD τ).loc main_arg0)
abbrev A1 : IVec S4x34816x512 32 := m ((c : Thread nD τ).loc main_arg1)
abbrev A2 : FVec Ideal S32x64x128 .f32 := m ((c : Thread nD τ).loc main_arg2)
abbrev A3 : FVec Ideal S32x1024 .f32 := m ((c : Thread nD τ).loc main_arg3)
abbrev A4 : FVec Ideal S1024 .f32 := m ((c : Thread nD τ).loc main_arg4)

/-- The kernel's arguments. -/
def args : FinalRef.Args where
  x s t k := A0 m c (ix3 s t k)
  y k i q := A1 m c (ix3 k i q)
  route s t k := A2 m c (ix3 s t k)
  g2 s k := A3 m c (ix2 s k)
  nw k := A4 m c (ix1 k)

theorem points (t : Fin cfg0.N) : t.val < 4 := lt_of_lt_of_eq t.isLt N_0

/-- A sequence a point works on. -/
abbrev seqOf (t : Fin cfg0.N) (i : Fin 8) : Fin 32 := ⟨8 * t.val + i.val, by have := points t; have := i.isLt; omega⟩

theorem index0 : ∀ t : Fin cfg0.N, win0_0.index t = ![t.val, 0, 0] := (by decide +kernel : ∀ t : Fin grid0.N, _)
theorem index1 : ∀ t : Fin cfg0.N, win0_1.index t = ![0, t.val, 0] := (by decide +kernel : ∀ t : Fin grid0.N, _)
theorem index2 : ∀ t : Fin cfg0.N, win0_2.index t = ![t.val, 0, 0] := (by decide +kernel : ∀ t : Fin grid0.N, _)
theorem index3 : ∀ t : Fin cfg0.N, win0_3.index t = ![t.val, 0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0, 0] := (by decide +kernel : ∀ t : Fin grid0.N, _)
theorem flush5 : ∀ t : Fin cfg0.N, (cfg0.win 5).flush t = true := (by decide +kernel : ∀ t : Fin grid0.N, win0_5.flush t = true)

theorem V_g (s : Fin 32) (k : Fin 1024) : V m c main_v0 (ix3 s 0 k) = (args m c).g2 s k := by
  show _ = A3 m c (ix2 s k)
  entry_read
  pointwise
theorem V_nw (k : Fin 1024) : V m c main_v1 (ix2 0 k) = (args m c).nw k := by
  show _ = A4 m c (ix1 k)
  entry_read
  pointwise

variable (t : Fin cfg0.N)

theorem x_apply (i : Fin 8) (r : Fin 64) (k : Fin 1024) : iblk m c 0 t (ix3 i r k) = (args m c).x (seqOf t i) r k := by
  show _ = A0 m c (ix3 _ _ k)
  blk_ext [iblk, V_main_arg0, index0 t]
theorem y_apply (j : Fin 4) (i : Fin 8) (r : Fin 64) (k : Fin 512) :
    iblk m c 1 t (ix3 j (flat i r) k) = (args m c).y j (FinalRef.rowOf (seqOf t i) r) k := by
  show _ = A1 m c (ix3 _ _ k)
  blk_ext [iblk, V_main_arg1, index1 t]
theorem route_apply (i : Fin 8) (r : Fin 64) (k : Fin 128) : iblk m c 2 t (ix3 i r k) = (args m c).route (seqOf t i) r k := by
  show _ = A2 m c (ix3 _ _ k)
  blk_ext [iblk, V_main_arg2, index2 t]
theorem g_apply (i : Fin 8) (k : Fin 1024) : iblk m c 3 t (ix3 i 0 k) = (args m c).g2 (seqOf t i) k := by
  refine Eq.trans ?_ (V_g m c (seqOf t i) k)
  blk_ext [iblk, index3 t]
theorem nw_apply (k : Fin 1024) : iblk m c 4 t (ix2 0 k) = (args m c).nw k := by
  refine Eq.trans ?_ (V_nw m c k)
  blk_ext [iblk, index4 t]

/-! ## The loads -/

/-- A load of a whole block is the block. -/
theorem whole_route (x : Vec Ideal S8x64x128 .f32) : View.ld x r0_0 = x :=
  funext fun j => congrArg x (funext fun a => Fin.ext (match a with
    | ⟨0, _⟩ => by show 0 + 1 * (j 0).val = (j 0).val; omega
    | ⟨1, _⟩ => by show 0 + 1 * (j 1).val = (j 1).val; omega
    | ⟨2, _⟩ => by show 0 + 1 * (j 2).val = (j 2).val; omega))
theorem whole_x (x : Vec Ideal S8x64x1024 .f32) : View.ld x r0_5 = x :=
  funext fun j => congrArg x (funext fun a => Fin.ext (match a with
    | ⟨0, _⟩ => by show 0 + 1 * (j 0).val = (j 0).val; omega
    | ⟨1, _⟩ => by show 0 + 1 * (j 1).val = (j 1).val; omega
    | ⟨2, _⟩ => by show 0 + 1 * (j 2).val = (j 2).val; omega))
theorem whole_g (x : Vec Ideal S8x1x1024 .f32) : View.ld x r0_6 = x :=
  funext fun j => congrArg x (funext fun a => Fin.ext (match a with
    | ⟨0, _⟩ => by show 0 + 1 * (j 0).val = (j 0).val; omega
    | ⟨1, _⟩ => by show 0 + 1 * (j 1).val = (j 1).val; omega
    | ⟨2, _⟩ => by show 0 + 1 * (j 2).val = (j 2).val; omega))
theorem whole_nw (x : Vec Ideal S1x1024 .f32) : View.ld x r0_7 = x :=
  funext fun j => congrArg x (funext fun a => Fin.ext (match a with
    | ⟨0, _⟩ => by show 0 + 1 * (j 0).val = (j 0).val; omega
    | ⟨1, _⟩ => by show 0 + 1 * (j 1).val = (j 1).val; omega))

/-- A load of one expert's rows. -/
theorem slab0 (x : Vec Ideal S4x512x512 .i32) (i q : Fin 512) : View.ld x r0_1 (ix3 0 i q) = x (ix3 0 i q) :=
  congrArg x (funext fun a => Fin.ext (match a with
    | ⟨0, _⟩ => by show 0 + 1 * 0 = 0; omega
    | ⟨1, _⟩ => by show 0 + 1 * i.val = i.val; omega
    | ⟨2, _⟩ => by show 0 + 1 * q.val = q.val; omega))
theorem slab1 (x : Vec Ideal S4x512x512 .i32) (i q : Fin 512) : View.ld x r0_2 (ix3 0 i q) = x (ix3 1 i q) :=
  congrArg x (funext fun a => Fin.ext (match a with
    | ⟨0, _⟩ => by show 1 + 1 * 0 = 1; omega
    | ⟨1, _⟩ => by show 0 + 1 * i.val = i.val; omega
    | ⟨2, _⟩ => by show 0 + 1 * q.val = q.val; omega))
theorem slab2 (x : Vec Ideal S4x512x512 .i32) (i q : Fin 512) : View.ld x r0_3 (ix3 0 i q) = x (ix3 2 i q) :=
  congrArg x (funext fun a => Fin.ext (match a with
    | ⟨0, _⟩ => by show 2 + 1 * 0 = 2; omega
    | ⟨1, _⟩ => by show 0 + 1 * i.val = i.val; omega
    | ⟨2, _⟩ => by show 0 + 1 * q.val = q.val; omega))
theorem slab3 (x : Vec Ideal S4x512x512 .i32) (i q : Fin 512) : View.ld x r0_4 (ix3 0 i q) = x (ix3 3 i q) :=
  congrArg x (funext fun a => Fin.ext (match a with
    | ⟨0, _⟩ => by show 3 + 1 * 0 = 3; omega
    | ⟨1, _⟩ => by show 0 + 1 * i.val = i.val; omega
    | ⟨2, _⟩ => by show 0 + 1 * q.val = q.val; omega))

/-! ## What a point leaves -/

/-- One expert's words of a token, as the point is handed them. -/
theorem slab_words (j : Fin 4) (w : Vec Ideal S1x512x512 .i32) (h : ∀ i q : Fin 512, w (ix3 0 i q) = iblk m c 1 t (ix3 j i q)) (i : Fin 8) (r : Fin 64) (q : Fin 1024) :
    numbers w (ix2 (flat i r) q) = unpack ((args m c).y j (FinalRef.rowOf (seqOf t i) r)) q :=
  (numbers_apply w (flat i r) q).trans (congrArg (fun f => unpack f q) (funext fun l => (h (flat i r) l).trans (y_apply m c t j i r l)))

/-- The stream's block at a point. -/
abbrev blockOf : FVec Ideal S8x64x1024 .f32 :=
  stream (iblk m c 2 t) (iblk m c 0 t) (iblk m c 3 t) (numbers (View.ld (iblk m c 1 t) r0_1)) (numbers (View.ld (iblk m c 1 t) r0_2))
    (numbers (View.ld (iblk m c 1 t) r0_3)) (numbers (View.ld (iblk m c 1 t) r0_4))

theorem block_apply (i : Fin 8) (r : Fin 64) (q : Fin 1024) : blockOf m c t (ix3 i r q) = (args m c).x2 (seqOf t i) r q := by
  refine (stream_apply _ _ _ _ _ _ _ i r q).trans ?_
  rw [x_apply, g_apply, route_apply, route_apply, route_apply, route_apply]
  unfold FinalRef.Args.x2 FinalRef.Args.moe
  rw [Fin.sum_univ_four]
  refine congrArg (_ + _ * ·) (congrArg₂ (· + ·) (congrArg₂ (· + ·) (congrArg₂ (· + ·) ?_ ?_) ?_) ?_)
  · exact congrArg (· * _) (slab_words m c t 0 _ (slab0 _) i r q)
  · exact congrArg (· * _) (slab_words m c t 1 _ (slab1 _) i r q)
  · exact congrArg (· * _) (slab_words m c t 2 _ (slab2 _) i r q)
  · exact congrArg (· * _) (slab_words m c t 3 _ (slab3 _) i r q)

theorem out_at (i : Fin 8) (r : Fin 64) (q : Fin 1024) :
    out0_5 (F := Ideal) (iblk m c 0 t) (iblk m c 1 t) (iblk m c 2 t) (iblk m c 3 t) (iblk m c 4 t) (ix3 i r q) = (args m c).out (seqOf t i) r q := by
  unfold out0_5
  rw [whole_route, whole_x, whole_g, whole_nw, body_eq]
  frame_out
  refine (rows_apply (blockOf m c t) (iblk m c 4 t) i r q).trans ?_
  have hx : (fun k => blockOf m c t (ix3 i r k)) = (args m c).x2 (seqOf t i) r := funext fun k => block_apply m c t i r k
  have hn : (fun k => iblk m c 4 t (ix2 0 k)) = (args m c).nw := funext fun k => nw_apply m c t k
  rw [hx, hn]
  rfl

/-! ## The result -/

/-- The result array. -/
abbrev result : FVec Ideal S32x64x1024 .f32 := (dats m 0 c).arrAt 5 cfg0.N

theorem written : (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

theorem apart : ∀ t t' : Fin cfg0.N, win0_5.index t = win0_5.index t' → t = t' :=
  (by decide +kernel : ∀ t t' : Fin grid0.N, win0_5.index t = win0_5.index t' → t = t')

/-- No other point writes where a point wrote. -/
theorem left : ((cfg0.win 5).blk t).view.read (Elt Ideal) (result m c) = (dats m 0 c).flushed 5 t :=
  (dats m 0 c).read_blk_arrAt_eq_flushed 5 (fun t t' _ _ h => (cfg0.win 5).disjoint_blk fun e => h (apart t t' e)) cfg0.N t t.isLt (flush5 t)

theorem read_apply (X : FVec Ideal S32x64x1024 .f32) (i : Fin 8) (r : Fin 64) (q : Fin 1024) :
    ((cfg0.win 5).blk t).view.read (Elt Ideal) X (ix3 i r q) = X (ix3 (seqOf t i) r q) := by
  blk_ext [index5 t]

theorem result_apply (s : Fin 32) (r : Fin 64) (q : Fin 1024) : result m c (ix3 s r q) = (args m c).out s r q := by
  obtain ⟨t, i, rfl⟩ : ∃ (t : Fin cfg0.N) (i : Fin 8), seqOf t i = s :=
    ⟨⟨s.val / 8, lt_of_lt_of_eq (by have := s.isLt; omega : s.val / 8 < 4) N_0.symm⟩, ⟨s.val % 8, by omega⟩, Fin.ext (Nat.div_add_mod s.val 8)⟩
  refine (read_apply t (result m c) i r q).symm.trans ?_
  refine (congrFun (left m c t) (ix3 i r q)).trans ?_
  refine (congrFun (written m c t) (ix3 i r q)).trans ?_
  exact out_at m c t i r q

/-- The run, with the result array named and the arguments as they were. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end FinalPoints

end
-- ==== Proof.FinalClaims.lean ====
/-
  The combination's claims: the result array of the kernel's run, read where the point that wrote the entry left it, is the reference's
  (`FinalPoints.result_apply`); the reference's term is the same function of the arguments (`algebraic`).
-/
module

public import proofs.«01_k».proof.Proof.FinalPoints
public import proofs.«01_k».proof.Proof.Gen.Final.Frame
public import proofs.«01_k».proof.Defs
public import Idealize.ShloMosaic.Lib.Quiescent

@[expose] public section

set_option maxRecDepth 16384

noncomputable section

namespace FinalClaims

open FinalPoints
open Idealize.ShloMosaic Idealize.ShloMosaic.TcCoe

theorem frame_kernel : Cert.quiescent_Final := fun m ρ _ => Cert.Final.Gen.frame m ρ

theorem frame_ideal : Cert.quiescent_FinalIdeal := fun m ρ _ => Cert.FinalIdeal.Gen.frame m ρ

theorem frame_reference : Cert.quiescent_FinalRefIdeal := fun m ρ _ =>
  (θ_run Cert.FinalRefIdeal.defs _ _).mono (fun r h => ⟨fun c => (h c).2, sem_eq_zero_of_no_sems (by decide) r.2⟩)
    (Cert.FinalRefIdeal.Value.run (F := Ideal) m ρ)

theorem ext3 {α : Type} {d0 d1 d2 : ℕ} {f g : (⟨3, ![d0, d1, d2]⟩ : Shape).Idx → α} (h : ∀ a b e, f (ix3 a b e) = g (ix3 a b e)) : f = g :=
  funext fun i => by rw [eq_ix3 i]; exact h _ _ _

/-- Where the arrays are the kernel's arguments, so are their entries. -/
theorem args_eq (m : (ℓ : Loc Cert.FinalIdeal.nD Cert.FinalIdeal.τ Cert.FinalIdeal.sig) → Buf (Elt Ideal) ℓ) (c : Dev Cert.FinalIdeal.nD)
    {B0 : FVec Ideal Cert.FinalRefIdeal.S32x64x1024 .f32} {B1 : IVec Cert.FinalRefIdeal.S4x34816x512 32} {B2 : FVec Ideal Cert.FinalRefIdeal.S32x64x128 .f32}
    {B3 : FVec Ideal Cert.FinalRefIdeal.S32x1024 .f32} {B4 : FVec Ideal Cert.FinalRefIdeal.S1024 .f32}
    (h0 : B0 = A0 m c) (h1 : B1 = A1 m c) (h2 : B2 = A2 m c) (h3 : B3 = A3 m c) (h4 : B4 = A4 m c) :
    FinalRef.args B0 B1 B2 B3 B4 = args m c := by
  unfold FinalRef.args args
  rw [h0, h1, h2, h3, h4]

theorem algebraic : Cert.algebraic_FinalIdeal_FinalRefIdeal := by
  intro m ρ m' ρ' _ hargs
  refine ⟨fun c => result m c, run m ρ, ?_⟩
  refine (θ_run Cert.FinalRefIdeal.defs _ _).mono (fun r h c => ?_) (Cert.FinalRefIdeal.Value.run (F := Ideal) m' ρ')
  obtain ⟨a0, a1, a2, a3, a4⟩ := hargs c
  have e := args_eq m c a0 a1 a2 a3 a4
  obtain ⟨h0, kept⟩ := h c
  refine ⟨h0.trans ?_, kept⟩
  exact ext3 fun s t q => (FinalRef.out_apply _ _ _ _ _ s t q).trans
    ((congrFun (congrFun (congrFun (congrArg FinalRef.Args.out e) s) t) q).trans (result_apply m c s t q).symm)

end FinalClaims

end
-- ==== Proof.HalfRef.lean ====
/-
  What the reference of the combination's second call for the prompt computes, entry by entry: the rows of sequences 16 to 31 are the normalised rows of
  their stream plus the modulated sum of the four experts' weighted rows (`Args.out`); those of sequences 0 to 15 are the given
  ones (`Args.whole`).
-/
module

public import proofs.«01_k».proof.Proof.Gen.HalfRefIdeal.Run
public import proofs.«01_k».proof.Proof.FinalRef
public import Idealize.ShloMosaic.Lib.Pointwise
public import Idealize.ShloMosaic.Lib.Pipeline.Value

@[expose] public section

set_option maxRecDepth 16384

noncomputable section

namespace HalfRef

open Cert.HalfRefIdeal Cert.HalfRefIdeal.Facts₀
open Unpack (unpack)
open FinalRef (normed lane)
open Idealize.ShloMosaic Idealize.ShloMosaic.TcCoe Idealize.ShloMosaic.StableHlo

/-! ## The values -/

/-- The arguments, as functions of their coordinates. -/
structure Args where
  x : Fin 16 → Fin 2048 → Fin 1024 → EReal
  y : Fin 4 → Fin 32768 → Fin 512 → BitVec 32
  route : Fin 16 → Fin 2048 → Fin 128 → EReal
  g2 : Fin 32 → Fin 1024 → EReal
  nw : Fin 1024 → EReal
  prev : Fin 32 → Fin 2048 → Fin 1024 → EReal

/-- The row of the gathered outputs that is a token's. -/
abbrev rowOf (s : Fin 16) (t : Fin 2048) : Fin 32768 := ⟨s.val * 2048 + t.val, by have := s.isLt; have := t.isLt; omega⟩

/-- A sequence's place in the prompt. -/
abbrev place (s : Fin 16) : Fin 32 := ⟨16 + s.val, by have := s.isLt; omega⟩

def Args.moe (a : Args) (s : Fin 16) (t : Fin 2048) (q : Fin 1024) : EReal :=
  ∑ k : Fin 4, unpack (a.y k (rowOf s t)) q * a.route s t (lane k)

def Args.x2 (a : Args) (s : Fin 16) (t : Fin 2048) (q : Fin 1024) : EReal :=
  a.x s t q + a.g2 (place s) q * a.moe s t q

def Args.out (a : Args) (s : Fin 16) (t : Fin 2048) (q : Fin 1024) : EReal :=
  normed (a.x2 s t) a.nw q

def Args.whole (a : Args) (s : Fin 32) (t : Fin 2048) (q : Fin 1024) : EReal :=
  if h : s.val < 16 then a.prev s t q else a.out ⟨s.val - 16, by have := s.isLt; omega⟩ t q

/-! ## The reference's terms -/

variable (A0 : FVec Ideal S16x2048x1024 .f32) (A1 : IVec S4x32768x512 32) (A2 : FVec Ideal S16x2048x128 .f32) (A3 : FVec Ideal S32x1024 .f32) (A4 : FVec Ideal S1024 .f32)
  (A5 : FVec Ideal S32x2048x1024 .f32)

/-- The reference's arguments. -/
def args : Args where
  x s t k := A0 (ix3 s t k)
  y k i q := A1 (ix3 k i q)
  route s t k := A2 (ix3 s t k)
  g2 s k := A3 (ix2 s k)
  nw k := A4 (ix1 k)
  prev s t k := A5 (ix3 s t k)

/-- The words, read. -/
def numbers : FVec Ideal S4x32768x1024 .f32 :=
  concatenate S4x32768x1024 2 [⟨S4x32768x512, (bitcastToFloat (F := Ideal) .f32 (Host.shli A1 (broadcastInDim S4x32768x512 ![] bcast_S_S4x32768x512 (constantI S_ 32 16#32))))⟩, ⟨S4x32768x512, (bitcastToFloat (F := Ideal) .f32 (andi A1 (broadcastInDim S4x32768x512 ![] bcast_S_S4x32768x512 (constantI S_ 32 4294901760#32))))⟩] concatenates_S4x32768x512_S4x32768x512_S4x32768x1024_d2

theorem numbers_apply (k : Fin 4) (i : Fin 32768) (q : Fin 1024) : numbers A1 (ix3 k i q) = unpack (fun l => A1 (ix3 k i l)) q := by
  unfold numbers unpack
  pointwise
  split_ifs
  all_goals first | rfl | exact absurd rfl ‹_›

/-- The weighted rows' sum, over an array of numbers. -/
def blendOf (y : FVec Ideal S4x32768x1024 .f32) : FVec Ideal S16x2048x1024 .f32 :=
  Host.reduceAdd (mulf (shapeCast S4x16x2048x1024 y shapeCasts_S4x32768x1024_S4x16x2048x1024) (broadcastInDim S4x16x2048x1024 ![0, 1, 2, 3] bcast_S4x16x2048x1_S4x16x2048x1024_0_1_2_3 (broadcastInDim S4x16x2048x1 ![0, 1, 2] bcast_S4x16x2048_S4x16x2048x1_0_1_2 (transpose S4x16x2048 [2, 0, 1] (extractStridedSlice S16x2048x4 ![0, 0, 8] A2 slices_S16x2048x128_S16x2048x4_0_0_8) transposes_S16x2048x4_S4x16x2048_2_0_1)))) (constant S_ .f32 0x00000000#32) reducesTo_S4x16x2048x1024_S16x2048x1024_d0 h_S_

theorem blendOf_apply (y : FVec Ideal S4x32768x1024 .f32) (s : Fin 16) (t : Fin 2048) (q : Fin 1024) :
    blendOf A2 y (ix3 s t q) = ∑ k : Fin 4, y (ix3 k (rowOf s t) q) * A2 (ix3 s t (lane k)) := by
  unfold blendOf
  pointwise

theorem blend_apply (s : Fin 16) (t : Fin 2048) (q : Fin 1024) :
    blendOf A2 (numbers A1) (ix3 s t q) = (args A0 A1 A2 A3 A4 A5).moe s t q :=
  (blendOf_apply A2 (numbers A1) s t q).trans (Finset.sum_congr rfl fun k _ => congrArg (· * _) (numbers_apply A1 k (rowOf s t) q))

/-- The stream, over an array of weighted sums. -/
def stream (y : FVec Ideal S16x2048x1024 .f32) : FVec Ideal S16x2048x1024 .f32 :=
  addf A0 (mulf (broadcastInDim S16x2048x1024 ![0, 1, 2] bcast_S16x1x1024_S16x2048x1024_0_1_2 (broadcastInDim S16x1x1024 ![0, 2] bcast_S16x1024_S16x1x1024_0_2 (extractStridedSlice S16x1024 ![16, 0] A3 slices_S32x1024_S16x1024_16_0))) y)

theorem streamOf_apply (y : FVec Ideal S16x2048x1024 .f32) (s : Fin 16) (t : Fin 2048) (q : Fin 1024) :
    stream A0 A3 y (ix3 s t q) = A0 (ix3 s t q) + A3 (ix2 (place s) q) * y (ix3 s t q) := by
  unfold stream
  pointwise

theorem stream_apply (s : Fin 16) (t : Fin 2048) (q : Fin 1024) :
    stream A0 A3 (blendOf A2 (numbers A1)) (ix3 s t q) = (args A0 A1 A2 A3 A4 A5).x2 s t q :=
  (streamOf_apply A0 A3 _ s t q).trans (congrArg (_ + _ * ·) (blend_apply A0 A1 A2 A3 A4 A5 s t q))

/-- A stream's rows, normalised. -/
def rows (y : FVec Ideal S16x2048x1024 .f32) : FVec Ideal S16x2048x1024 .f32 :=
  mulf (mulf y (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf y y) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 A4))

theorem rows_apply (y : FVec Ideal S16x2048x1024 .f32) (s : Fin 16) (t : Fin 2048) (q : Fin 1024) :
    rows A4 y (ix3 s t q) = normed (fun k => y (ix3 s t k)) (fun k => A4 (ix1 k)) q := by
  unfold rows normed
  pointwise

theorem out_apply (s : Fin 16) (t : Fin 2048) (q : Fin 1024) :
    rows A4 (stream A0 A3 (blendOf A2 (numbers A1))) (ix3 s t q) = (args A0 A1 A2 A3 A4 A5).out s t q :=
  (rows_apply A4 _ s t q).trans (congrArg (fun f => normed f (args A0 A1 A2 A3 A4 A5).nw q) (funext fun k => stream_apply A0 A1 A2 A3 A4 A5 s t k))

/-- The given rows of the first half, then the rows of the second. -/
def joined (y : FVec Ideal S16x2048x1024 .f32) : FVec Ideal S32x2048x1024 .f32 :=
  concatenate S32x2048x1024 0 [⟨S16x2048x1024, (extractStridedSlice S16x2048x1024 ![0, 0, 0] A5 slices_S32x2048x1024_S16x2048x1024_0_0_0)⟩, ⟨S16x2048x1024, y⟩] concatenates_S16x2048x1024_S16x2048x1024_S32x2048x1024_d0

theorem joined_apply (y : FVec Ideal S16x2048x1024 .f32) (s : Fin 32) (t : Fin 2048) (q : Fin 1024) :
    joined A5 y (ix3 s t q) = if h : s.val < 16 then A5 (ix3 s t q) else y (ix3 ⟨s.val - 16, by have := s.isLt; omega⟩ t q) := by
  unfold joined
  pointwise

theorem whole_apply (s : Fin 32) (t : Fin 2048) (q : Fin 1024) :
    joined A5 (rows A4 (stream A0 A3 (blendOf A2 (numbers A1)))) (ix3 s t q) = (args A0 A1 A2 A3 A4 A5).whole s t q := by
  refine (joined_apply A5 _ s t q).trans ?_
  unfold Args.whole
  split_ifs
  · rfl
  · exact out_apply A0 A1 A2 A3 A4 A5 _ t q

variable (m : (ℓ : Loc nD τ sig) → Buf (Elt Ideal) ℓ) (c : Dev nD)

theorem result_eq : Value.res_main_v33 (F := Ideal) m c
    = joined (m ((c.tc : Thread nD τ).loc main_arg5)) (rows (m ((c.tc : Thread nD τ).loc main_arg4)) (stream (m ((c.tc : Thread nD τ).loc main_arg0)) (m ((c.tc : Thread nD τ).loc main_arg3))
        (blendOf (m ((c.tc : Thread nD τ).loc main_arg2)) (numbers (m ((c.tc : Thread nD τ).loc main_arg1)))))) := by
  unfold Value.res_main_v33 joined rows stream blendOf numbers
  rfl

end HalfRef

end
-- ==== Proof.HalfPoints.lean ====
/-
  The combination's second call for the prompt: what its body computes from its blocks (`numbers_apply`, `stream_apply`, `rows_apply`), the blocks it is
  handed at a grid point, what it leaves there, and so the result. Point `t` has half of sequence `t / 2` of the second sixteen, 1024 tokens;
  no point writes the first sixteen sequences, which stay as given (`kept`).
-/
module

public import proofs.«01_k».proof.Proof.HalfRef
public import proofs.«01_k».proof.Proof.Gen.HalfIdeal.Frame
public import Idealize.ShloMosaic.Lib.Pointwise
public import Idealize.ShloMosaic.Lib.Pipeline.Value
public import Idealize.ShloMosaic.Lib.Pipeline.ValueKit
public import Idealize.ShloMosaic.Lib.Pipeline.ValueKit.Partial
public import Idealize.ShloMosaic.Lib.Pipeline.ReadBack

@[expose] public section

set_option maxRecDepth 16384

noncomputable section

namespace HalfPoints

open Cert.HalfIdeal Cert.HalfIdeal.Gen
open FinalRef (normed)
open Unpack (unpack)
open Idealize.ShloMosaic Idealize.ShloMosaic.TcCoe Idealize.SL.Sem

/-! ## The body's values -/

section Body

variable (rt : Vec Ideal S1x1024x128 .f32) (y0 y1 y2 y3 w : Vec Ideal S1x1024x512 .i32) (x : Vec Ideal S1x1024x1024 .f32) (g : Vec Ideal S1x1x1024 .f32)

/-- A tile's words, read. -/
def numbers : FVec Ideal S1024x1024 .f32 :=
  concatenate S1024x1024 1 [⟨S1024x512, bitcastToFloat (F := Ideal) .f32 (shli (shapeCast S1024x512 w shapeCasts_S1x1024x512_S1024x512) (broadcast S1024x512 16#32))⟩,
    ⟨S1024x512, bitcastToFloat (F := Ideal) .f32 (andi (shapeCast S1024x512 w shapeCasts_S1x1024x512_S1024x512) (broadcast S1024x512 4294901760#32))⟩] concatenates_S1024x512_S1024x512_S1024x1024_d1

theorem numbers_apply (j : Fin 1024) (q : Fin 1024) : numbers w (ix2 j q) = unpack (fun l => w (ix3 0 j l)) q := by
  unfold numbers unpack
  pointwise
  split_ifs
  all_goals first | rfl | exact absurd rfl ‹_›

/-- The sum of the four weighted rows, over arrays of numbers. -/
def blend (z0 z1 z2 z3 : FVec Ideal S1024x1024 .f32) : FVec Ideal S1024x1024 .f32 :=
  addf (addf (addf (mulf z0 (broadcastTo S1024x1024 (extractStridedSlice S1024x1 ![0, 8] (k0_pay2 rt) slices_S1024x128_o0_8_S1024x1) broadcasts_S1024x1_S1024x1024))
    (mulf z1 (broadcastTo S1024x1024 (extractStridedSlice S1024x1 ![0, 9] (k0_pay2 rt) slices_S1024x128_o0_9_S1024x1) broadcasts_S1024x1_S1024x1024)))
    (mulf z2 (broadcastTo S1024x1024 (extractStridedSlice S1024x1 ![0, 10] (k0_pay2 rt) slices_S1024x128_o0_10_S1024x1) broadcasts_S1024x1_S1024x1024)))
    (mulf z3 (broadcastTo S1024x1024 (extractStridedSlice S1024x1 ![0, 11] (k0_pay2 rt) slices_S1024x128_o0_11_S1024x1) broadcasts_S1024x1_S1024x1024))

/-- The stream, over arrays of numbers. -/
def stream (z0 z1 z2 z3 : FVec Ideal S1024x1024 .f32) : FVec Ideal S1x1024x1024 .f32 :=
  addf x (mulf (broadcastTo S1x1024x1024 (shapeCast S1x1x1024 g shapeCasts_S1x1x1024_S1x1x1024) broadcasts_S1x1x1024_S1x1024x1024)
    (shapeCast S1x1024x1024 (blend rt z0 z1 z2 z3) shapeCasts_S1024x1024_S1x1024x1024))

theorem stream_apply (z0 z1 z2 z3 : FVec Ideal S1024x1024 .f32) (r : Fin 1024) (q : Fin 1024) :
    stream rt x g z0 z1 z2 z3 (ix3 0 r q)
      = x (ix3 0 r q) + g (ix3 0 0 q) * (z0 (ix2 r q) * rt (ix3 0 r 8) + z1 (ix2 r q) * rt (ix3 0 r 9)
        + z2 (ix2 r q) * rt (ix3 0 r 10) + z3 (ix2 r q) * rt (ix3 0 r 11)) := by
  unfold stream blend k0_pay2
  pointwise

variable (y : FVec Ideal S1x1024x1024 .f32) (nw : Vec Ideal S1x1024 .f32)

/-- A stream's rows, normalised. -/
def rows : FVec Ideal S1x1024x1024 .f32 :=
  mulf (mulf y (broadcastTo S1x1024x1024 (rsqrt (addf (divf (shapeCast S1x1024x1 (multiReduction .add [2] S1x1024 (mulf y y) 0x00000000#32 reduces_S1x1024x1024_S1x1024 (.inl rfl) rfl) shapeCasts_S1x1024_S1x1024x1)
      (broadcast S1x1024x1 (Scalar.ofBits .f32 0x44800000#32))) (broadcast S1x1024x1 (Scalar.ofBits .f32 0x358637BD#32)))) broadcasts_S1x1024x1_S1x1024x1024))
    (broadcastTo S1x1024x1024 (shapeCast S1x1x1024 (shapeCast S1x1024 nw shapeCasts_S1x1024_S1x1024) shapeCasts_S1x1024_S1x1x1024) broadcasts_S1x1x1024_S1x1024x1024)

theorem rows_apply (r : Fin 1024) (q : Fin 1024) :
    rows y nw (ix3 0 r q) = normed (fun k => y (ix3 0 r k)) (fun k => nw (ix2 0 k)) q := by
  unfold rows normed
  pointwise

theorem body_eq : k0_pay1 (F := Ideal) (k0_pay2 rt) (k0_pay3 rt y0 y1 y2) y3 x g nw
    = rows (stream rt x g (numbers y0) (numbers y1) (numbers y2) (numbers y3)) nw := rfl

end Body

/-! ## The grid and the blocks -/

variable (m : (ℓ : Loc nD τ sig) → Buf (Elt Ideal) ℓ) (ρ : Dev nD → PrngReg) (c : Dev nD)

abbrev A0 : FVec Ideal S16x2048x1024 .f32 := m ((c : Thread nD τ).loc main_arg0)
abbrev A1 : IVec S4x32768x512 32 := m ((c : Thread nD τ).loc main_arg1)
abbrev A2 : FVec Ideal S16x2048x128 .f32 := m ((c : Thread nD τ).loc main_arg2)
abbrev A3 : FVec Ideal S32x1024 .f32 := m ((c : Thread nD τ).loc main_arg3)
abbrev A4 : FVec Ideal S1024 .f32 := m ((c : Thread nD τ).loc main_arg4)
abbrev A5 : FVec Ideal S32x2048x1024 .f32 := m ((c : Thread nD τ).loc main_arg5)

/-- The kernel's arguments. -/
def args : HalfRef.Args where
  x s t k := A0 m c (ix3 s t k)
  y k i q := A1 m c (ix3 k i q)
  route s t k := A2 m c (ix3 s t k)
  g2 s k := A3 m c (ix2 s k)
  nw k := A4 m c (ix1 k)
  prev s t k := A5 m c (ix3 s t k)

theorem points (t : Fin cfg0.N) : t.val < 32 := lt_of_lt_of_eq t.isLt N_0

/-- The sequence and the tokens a point works on. -/
abbrev seqOf (t : Fin cfg0.N) : Fin 16 := ⟨t.val / 2, by have := points t; omega⟩
abbrev tokOf (t : Fin cfg0.N) (r : Fin 1024) : Fin 2048 := ⟨t.val % 2 * 1024 + r.val, by have := r.isLt; omega⟩

theorem index0 : ∀ t : Fin cfg0.N, win0_0.index t = ![t.val / 2, t.val % 2, 0] := (by decide +kernel : ∀ t : Fin grid0.N, _)
theorem index1 : ∀ t : Fin cfg0.N, win0_1.index t = ![0, t.val, 0] := (by decide +kernel : ∀ t : Fin grid0.N, _)
theorem index2 : ∀ t : Fin cfg0.N, win0_2.index t = ![t.val / 2, t.val % 2, 0] := (by decide +kernel : ∀ t : Fin grid0.N, _)
theorem index3 : ∀ t : Fin cfg0.N, win0_3.index t = ![16 + t.val / 2, 0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![16 + t.val / 2, t.val % 2, 0] := (by decide +kernel : ∀ t : Fin grid0.N, _)
theorem flush5 : ∀ t : Fin cfg0.N, (cfg0.win 5).flush t = true := (by decide +kernel : ∀ t : Fin grid0.N, win0_5.flush t = true)

theorem V_g (s : Fin 32) (k : Fin 1024) : V m c main_v0 (ix3 s 0 k) = (args m c).g2 s k := by
  show _ = A3 m c (ix2 s k)
  entry_read
  pointwise
theorem V_nw (k : Fin 1024) : V m c main_v1 (ix2 0 k) = (args m c).nw k := by
  show _ = A4 m c (ix1 k)
  entry_read
  pointwise
theorem V_prev (s : Fin 32) (r : Fin 2048) (k : Fin 1024) : V m c main_v2 (ix3 s r k) = (args m c).prev s r k := by
  show _ = A5 m c (ix3 s r k)
  entry_read
  rfl

variable (t : Fin cfg0.N)

theorem x_apply (r : Fin 1024) (k : Fin 1024) : iblk m c 0 t (ix3 0 r k) = (args m c).x (seqOf t) (tokOf t r) k := by
  show _ = A0 m c (ix3 _ _ k)
  blk_ext [iblk, V_main_arg0, index0 t]
theorem y_apply (j : Fin 4) (r : Fin 1024) (k : Fin 512) :
    iblk m c 1 t (ix3 j r k) = (args m c).y j (HalfRef.rowOf (seqOf t) (tokOf t r)) k := by
  show _ = A1 m c (ix3 _ _ k)
  blk_ext [iblk, V_main_arg1, index1 t]
theorem route_apply (r : Fin 1024) (k : Fin 128) : iblk m c 2 t (ix3 0 r k) = (args m c).route (seqOf t) (tokOf t r) k := by
  show _ = A2 m c (ix3 _ _ k)
  blk_ext [iblk, V_main_arg2, index2 t]
theorem g_apply (k : Fin 1024) : iblk m c 3 t (ix3 0 0 k) = (args m c).g2 (HalfRef.place (seqOf t)) k := by
  refine Eq.trans ?_ (V_g m c (HalfRef.place (seqOf t)) k)
  blk_ext [iblk, index3 t]
theorem nw_apply (k : Fin 1024) : iblk m c 4 t (ix2 0 k) = (args m c).nw k := by
  refine Eq.trans ?_ (V_nw m c k)
  blk_ext [iblk, index4 t]

/-! ## The loads -/

/-- A load of one expert's rows. -/
abbrev slab0 : Rect S4x1024x512 := Rect.unit (s := S4x1024x512) ![0, 0, 0] S1x1024x512.size inb_S4x1024x512_S1x1024x512_0_0_0
abbrev slab1 : Rect S4x1024x512 := Rect.unit (s := S4x1024x512) ![1, 0, 0] S1x1024x512.size inb_S4x1024x512_S1x1024x512_1_0_0
abbrev slab2 : Rect S4x1024x512 := Rect.unit (s := S4x1024x512) ![2, 0, 0] S1x1024x512.size inb_S4x1024x512_S1x1024x512_2_0_0
abbrev slab3 : Rect S4x1024x512 := Rect.unit (s := S4x1024x512) ![3, 0, 0] S1x1024x512.size inb_S4x1024x512_S1x1024x512_3_0_0

theorem slab0_apply (x : Vec Ideal S4x1024x512 .i32) (i : Fin 1024) (q : Fin 512) : View.ld x slab0 (ix3 0 i q) = x (ix3 0 i q) :=
  congrArg x (funext fun a => Fin.ext (match a with
    | ⟨0, _⟩ => by show 0 + 1 * 0 = 0; omega
    | ⟨1, _⟩ => by show 0 + 1 * i.val = i.val; omega
    | ⟨2, _⟩ => by show 0 + 1 * q.val = q.val; omega))
theorem slab1_apply (x : Vec Ideal S4x1024x512 .i32) (i : Fin 1024) (q : Fin 512) : View.ld x slab1 (ix3 0 i q) = x (ix3 1 i q) :=
  congrArg x (funext fun a => Fin.ext (match a with
    | ⟨0, _⟩ => by show 1 + 1 * 0 = 1; omega
    | ⟨1, _⟩ => by show 0 + 1 * i.val = i.val; omega
    | ⟨2, _⟩ => by show 0 + 1 * q.val = q.val; omega))
theorem slab2_apply (x : Vec Ideal S4x1024x512 .i32) (i : Fin 1024) (q : Fin 512) : View.ld x slab2 (ix3 0 i q) = x (ix3 2 i q) :=
  congrArg x (funext fun a => Fin.ext (match a with
    | ⟨0, _⟩ => by show 2 + 1 * 0 = 2; omega
    | ⟨1, _⟩ => by show 0 + 1 * i.val = i.val; omega
    | ⟨2, _⟩ => by show 0 + 1 * q.val = q.val; omega))
theorem slab3_apply (x : Vec Ideal S4x1024x512 .i32) (i : Fin 1024) (q : Fin 512) : View.ld x slab3 (ix3 0 i q) = x (ix3 3 i q) :=
  congrArg x (funext fun a => Fin.ext (match a with
    | ⟨0, _⟩ => by show 3 + 1 * 0 = 3; omega
    | ⟨1, _⟩ => by show 0 + 1 * i.val = i.val; omega
    | ⟨2, _⟩ => by show 0 + 1 * q.val = q.val; omega))

/-! ## What a point leaves -/

/-- One expert's words of a token, as the point is handed them. -/
theorem slab_words (j : Fin 4) (w : Vec Ideal S1x1024x512 .i32) (h : ∀ (i : Fin 1024) (q : Fin 512), w (ix3 0 i q) = iblk m c 1 t (ix3 j i q)) (r : Fin 1024) (q : Fin 1024) :
    numbers w (ix2 r q) = unpack ((args m c).y j (HalfRef.rowOf (seqOf t) (tokOf t r))) q :=
  (numbers_apply w r q).trans (congrArg (fun f => unpack f q) (funext fun l => (h r l).trans (y_apply m c t j r l)))

/-- The stream's block at a point. -/
abbrev blockOf : FVec Ideal S1x1024x1024 .f32 :=
  stream (iblk m c 2 t) (iblk m c 0 t) (iblk m c 3 t) (numbers (View.ld (iblk m c 1 t) slab0)) (numbers (View.ld (iblk m c 1 t) slab1))
    (numbers (View.ld (iblk m c 1 t) slab2)) (numbers (View.ld (iblk m c 1 t) slab3))

theorem block_apply (r : Fin 1024) (q : Fin 1024) : blockOf m c t (ix3 0 r q) = (args m c).x2 (seqOf t) (tokOf t r) q := by
  refine (stream_apply _ _ _ _ _ _ _ r q).trans ?_
  rw [x_apply, g_apply, route_apply, route_apply, route_apply, route_apply]
  unfold HalfRef.Args.x2 HalfRef.Args.moe
  rw [Fin.sum_univ_four]
  refine congrArg (_ + _ * ·) (congrArg₂ (· + ·) (congrArg₂ (· + ·) (congrArg₂ (· + ·) ?_ ?_) ?_) ?_)
  · exact congrArg (· * _) (slab_words m c t 0 _ (slab0_apply _) r q)
  · exact congrArg (· * _) (slab_words m c t 1 _ (slab1_apply _) r q)
  · exact congrArg (· * _) (slab_words m c t 2 _ (slab2_apply _) r q)
  · exact congrArg (· * _) (slab_words m c t 3 _ (slab3_apply _) r q)

theorem out_at (r : Fin 1024) (q : Fin 1024) :
    outsAt0 (F := Ideal) m c t (ix3 0 r q) = (args m c).out (seqOf t) (tokOf t r) q := by
  have e : outsAt0 (F := Ideal) m c t = rows (blockOf m c t) (iblk m c 4 t) := by
    unfold outsAt0 out0_A_5
    frame_out
    exact body_eq _ _ _ _ _ _ _ _
  rw [e]
  refine (rows_apply (blockOf m c t) (iblk m c 4 t) r q).trans ?_
  have hx : (fun k => blockOf m c t (ix3 0 r k)) = (args m c).x2 (seqOf t) (tokOf t r) := funext fun k => block_apply m c t r k
  have hn : (fun k => iblk m c 4 t (ix2 0 k)) = (args m c).nw := funext fun k => nw_apply m c t k
  rw [hx, hn]
  rfl

/-! ## The result -/

/-- The result array. -/
abbrev result : FVec Ideal S32x2048x1024 .f32 := (dats m 0 c).arrAt 5 cfg0.N

theorem written : (dats m 0 c).flushed 5 t = (cfg0.win 5).cut (grid0.coords t) (outsAt0 m c t) := by
  show (cfg0.win 5).cut (grid0.coords t) ((dats m 0 c).after 5 t) = _
  rw [after0_5]

theorem apart : ∀ t t' : Fin cfg0.N, win0_5.index t = win0_5.index t' → t = t' :=
  (by decide +kernel : ∀ t t' : Fin grid0.N, win0_5.index t = win0_5.index t' → t = t')

/-- No other point writes where a point wrote. -/
theorem left : ((cfg0.win 5).blk t).view.read (Elt Ideal) (result m c) = (dats m 0 c).flushed 5 t :=
  (dats m 0 c).read_blk_arrAt_eq_flushed 5 (fun t t' _ _ h => (cfg0.win 5).disjoint_blk fun e => h (apart t t' e)) cfg0.N t t.isLt (flush5 t)

theorem read_apply (X : FVec Ideal S32x2048x1024 .f32) (r : Fin 1024) (q : Fin 1024) :
    ((cfg0.win 5).blk t).view.read (Elt Ideal) X (ix3 0 r q) = X (ix3 (HalfRef.place (seqOf t)) (tokOf t r) q) := by
  blk_ext [index5 t]

theorem result_apply (s : Fin 16) (r : Fin 2048) (q : Fin 1024) : result m c (ix3 (HalfRef.place s) r q) = (args m c).out s r q := by
  obtain ⟨t, r, rfl, rfl⟩ : ∃ (t : Fin cfg0.N) (i : Fin 1024), seqOf t = s ∧ tokOf t i = r :=
    ⟨⟨2 * s.val + r.val / 1024, lt_of_lt_of_eq (by have := s.isLt; have := r.isLt; omega : 2 * s.val + r.val / 1024 < 32) N_0.symm⟩, ⟨r.val % 1024, by omega⟩,
      Fin.ext (by have := r.isLt; show (2 * s.val + r.val / 1024) / 2 = s.val; omega),
      Fin.ext (by have := r.isLt; show (2 * s.val + r.val / 1024) % 2 * 1024 + r.val % 1024 = r.val; omega)⟩
  refine (read_apply t (result m c) r q).symm.trans ?_
  refine (congrFun (left m c t) (ix3 0 r q)).trans ?_
  refine (congrFun (written m c t) (ix3 0 r q)).trans ?_
  exact out_at m c t r q

theorem covers : win0_5.CoversWhere (fun β => 16 ≤ β (0 : Fin 3)) := by decide +kernel

/-- The first sixteen sequences' rows are the given ones. -/
theorem kept (s : Fin 32) (h : s.val < 16) (r : Fin 2048) (q : Fin 1024) : result m c (ix3 s r q) = (args m c).prev s r q := by
  have e := (dats m 0 c).arrAt_emb_eq_entry 5 (fun β => 16 ≤ β (0 : Fin 3)) covers (ix3 s r q)
    (by show ¬ 16 ≤ s.val / 1; omega)
  exact e.trans ((congrFun (A_eq m c 5) (ix3 s r q)).trans (V_prev m c s r q))

theorem whole_apply (s : Fin 32) (r : Fin 2048) (q : Fin 1024) : result m c (ix3 s r q) = (args m c).whole s r q := by
  unfold HalfRef.Args.whole
  split_ifs with h
  · exact kept m c s h r q
  · have e : HalfRef.place ⟨s.val - 16, by have := s.isLt; omega⟩ = s := Fin.ext (by show 16 + (s.val - 16) = s.val; omega)
    exact (congrArg (fun s => result m c (ix3 s r q)) e.symm).trans (result_apply m c _ r q)

/-- The run, with the result array named and the arguments as they were. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end HalfPoints

end
-- ==== Proof.HalfClaims.lean ====
/-
  The claims of the combination's second call for the prompt: the result array of the kernel's run, read where the point that wrote the entry left it, is the reference's
  (`HalfPoints.whole_apply`); the reference's term is the same function of the arguments (`algebraic`).
-/
module

public import proofs.«01_k».proof.Proof.HalfPoints
public import proofs.«01_k».proof.Proof.Gen.Half.Frame
public import proofs.«01_k».proof.Defs
public import Idealize.ShloMosaic.Lib.Quiescent

@[expose] public section

set_option maxRecDepth 16384

noncomputable section

namespace HalfClaims

open HalfPoints
open Idealize.ShloMosaic Idealize.ShloMosaic.TcCoe

theorem frame_kernel : Cert.quiescent_Half := fun m ρ _ => Cert.Half.Gen.frame m ρ

theorem frame_ideal : Cert.quiescent_HalfIdeal := fun m ρ _ => Cert.HalfIdeal.Gen.frame m ρ

theorem frame_reference : Cert.quiescent_HalfRefIdeal := fun m ρ _ =>
  (θ_run Cert.HalfRefIdeal.defs _ _).mono (fun r h => ⟨fun c => (h c).2, sem_eq_zero_of_no_sems (by decide) r.2⟩)
    (Cert.HalfRefIdeal.Value.run (F := Ideal) m ρ)

theorem ext3 {α : Type} {d0 d1 d2 : ℕ} {f g : (⟨3, ![d0, d1, d2]⟩ : Shape).Idx → α} (h : ∀ a b e, f (ix3 a b e) = g (ix3 a b e)) : f = g :=
  funext fun i => by rw [eq_ix3 i]; exact h _ _ _

/-- Where the arrays are the kernel's arguments, so are their entries. -/
theorem args_eq (m : (ℓ : Loc Cert.HalfIdeal.nD Cert.HalfIdeal.τ Cert.HalfIdeal.sig) → Buf (Elt Ideal) ℓ) (c : Dev Cert.HalfIdeal.nD)
    {B0 : FVec Ideal Cert.HalfRefIdeal.S16x2048x1024 .f32} {B1 : IVec Cert.HalfRefIdeal.S4x32768x512 32} {B2 : FVec Ideal Cert.HalfRefIdeal.S16x2048x128 .f32}
    {B3 : FVec Ideal Cert.HalfRefIdeal.S32x1024 .f32} {B4 : FVec Ideal Cert.HalfRefIdeal.S1024 .f32} {B5 : FVec Ideal Cert.HalfRefIdeal.S32x2048x1024 .f32}
    (h0 : B0 = A0 m c) (h1 : B1 = A1 m c) (h2 : B2 = A2 m c) (h3 : B3 = A3 m c) (h4 : B4 = A4 m c) (h5 : B5 = A5 m c) :
    HalfRef.args B0 B1 B2 B3 B4 B5 = args m c := by
  unfold HalfRef.args args
  rw [h0, h1, h2, h3, h4, h5]

theorem algebraic : Cert.algebraic_HalfIdeal_HalfRefIdeal := by
  intro m ρ m' ρ' _ hargs
  refine ⟨fun c => result m c, run m ρ, ?_⟩
  refine (θ_run Cert.HalfRefIdeal.defs _ _).mono (fun r h c => ?_) (Cert.HalfRefIdeal.Value.run (F := Ideal) m' ρ')
  obtain ⟨a0, a1, a2, a3, a4, a5⟩ := hargs c
  have e := args_eq m c a0 a1 a2 a3 a4 a5
  obtain ⟨h0, kept⟩ := h c
  refine ⟨h0.trans ((HalfRef.result_eq m' c).trans ?_), kept⟩
  exact ext3 fun s t q => (HalfRef.whole_apply _ _ _ _ _ _ s t q).trans
    ((congrFun (congrFun (congrFun (congrArg HalfRef.Args.whole e) s) t) q).trans (whole_apply m c s t q).symm)

end HalfClaims

end
-- ==== Proof.LeadRef.lean ====
/-
  What the reference of the combination's first call for the prompt computes, entry by entry: the rows of sequences 0 to 15 are the normalised rows of
  their stream plus the modulated sum of the four experts' weighted rows (`Args.out`).
-/
module

public import proofs.«01_k».proof.Proof.Gen.LeadRefIdeal.Run
public import proofs.«01_k».proof.Proof.FinalRef
public import Idealize.ShloMosaic.Lib.Pointwise
public import Idealize.ShloMosaic.Lib.Pipeline.Value

@[expose] public section

set_option maxRecDepth 16384

noncomputable section

namespace LeadRef

open Cert.LeadRefIdeal Cert.LeadRefIdeal.Facts₀
open Unpack (unpack)
open FinalRef (normed lane)
open Idealize.ShloMosaic Idealize.ShloMosaic.TcCoe Idealize.ShloMosaic.StableHlo

/-! ## The values -/

/-- The arguments, as functions of their coordinates. -/
structure Args where
  x : Fin 16 → Fin 2048 → Fin 1024 → EReal
  y : Fin 4 → Fin 34816 → Fin 512 → BitVec 32
  route : Fin 16 → Fin 2048 → Fin 128 → EReal
  g2 : Fin 32 → Fin 1024 → EReal
  nw : Fin 1024 → EReal

/-- The row of the gathered outputs that is a token's. -/
abbrev rowOf (s : Fin 16) (t : Fin 2048) : Fin 34816 := ⟨2048 + (s.val * 2048 + t.val), by have := s.isLt; have := t.isLt; omega⟩

/-- A sequence's place in the prompt. -/
abbrev place (s : Fin 16) : Fin 32 := ⟨s.val, by have := s.isLt; omega⟩

def Args.moe (a : Args) (s : Fin 16) (t : Fin 2048) (q : Fin 1024) : EReal :=
  ∑ k : Fin 4, unpack (a.y k (rowOf s t)) q * a.route s t (lane k)

def Args.x2 (a : Args) (s : Fin 16) (t : Fin 2048) (q : Fin 1024) : EReal :=
  a.x s t q + a.g2 (place s) q * a.moe s t q

def Args.out (a : Args) (s : Fin 16) (t : Fin 2048) (q : Fin 1024) : EReal :=
  normed (a.x2 s t) a.nw q

/-! ## The reference's terms -/

variable (A0 : FVec Ideal S16x2048x1024 .f32) (A1 : IVec S4x34816x512 32) (A2 : FVec Ideal S16x2048x128 .f32) (A3 : FVec Ideal S32x1024 .f32) (A4 : FVec Ideal S1024 .f32)

/-- The reference's arguments. -/
def args : Args where
  x s t k := A0 (ix3 s t k)
  y k i q := A1 (ix3 k i q)
  route s t k := A2 (ix3 s t k)
  g2 s k := A3 (ix2 s k)
  nw k := A4 (ix1 k)

/-- The words, read. -/
def numbers : FVec Ideal S4x34816x1024 .f32 :=
  concatenate S4x34816x1024 2 [⟨S4x34816x512, (bitcastToFloat (F := Ideal) .f32 (Host.shli A1 (broadcastInDim S4x34816x512 ![] bcast_S_S4x34816x512 (constantI S_ 32 16#32))))⟩, ⟨S4x34816x512, (bitcastToFloat (F := Ideal) .f32 (andi A1 (broadcastInDim S4x34816x512 ![] bcast_S_S4x34816x512 (constantI S_ 32 4294901760#32))))⟩] concatenates_S4x34816x512_S4x34816x512_S4x34816x1024_d2

theorem numbers_apply (k : Fin 4) (i : Fin 34816) (q : Fin 1024) : numbers A1 (ix3 k i q) = unpack (fun l => A1 (ix3 k i l)) q := by
  unfold numbers unpack
  pointwise
  split_ifs
  all_goals first | rfl | exact absurd rfl ‹_›

/-- The weighted rows' sum, over an array of numbers. -/
def blendOf (y : FVec Ideal S4x34816x1024 .f32) : FVec Ideal S16x2048x1024 .f32 :=
  Host.reduceAdd (mulf (shapeCast S4x16x2048x1024 (extractStridedSlice S4x32768x1024 ![0, 2048, 0] y slices_S4x34816x1024_S4x32768x1024_0_2048_0) shapeCasts_S4x32768x1024_S4x16x2048x1024) (broadcastInDim S4x16x2048x1024 ![0, 1, 2, 3] bcast_S4x16x2048x1_S4x16x2048x1024_0_1_2_3 (broadcastInDim S4x16x2048x1 ![0, 1, 2] bcast_S4x16x2048_S4x16x2048x1_0_1_2 (transpose S4x16x2048 [2, 0, 1] (extractStridedSlice S16x2048x4 ![0, 0, 8] A2 slices_S16x2048x128_S16x2048x4_0_0_8) transposes_S16x2048x4_S4x16x2048_2_0_1)))) (constant S_ .f32 0x00000000#32) reducesTo_S4x16x2048x1024_S16x2048x1024_d0 h_S_

theorem blendOf_apply (y : FVec Ideal S4x34816x1024 .f32) (s : Fin 16) (t : Fin 2048) (q : Fin 1024) :
    blendOf A2 y (ix3 s t q) = ∑ k : Fin 4, y (ix3 k (rowOf s t) q) * A2 (ix3 s t (lane k)) := by
  unfold blendOf
  pointwise

theorem blend_apply (s : Fin 16) (t : Fin 2048) (q : Fin 1024) :
    blendOf A2 (numbers A1) (ix3 s t q) = (args A0 A1 A2 A3 A4).moe s t q :=
  (blendOf_apply A2 (numbers A1) s t q).trans (Finset.sum_congr rfl fun k _ => congrArg (· * _) (numbers_apply A1 k (rowOf s t) q))

/-- The stream, over an array of weighted sums. -/
def stream (y : FVec Ideal S16x2048x1024 .f32) : FVec Ideal S16x2048x1024 .f32 :=
  addf A0 (mulf (broadcastInDim S16x2048x1024 ![0, 1, 2] bcast_S16x1x1024_S16x2048x1024_0_1_2 (broadcastInDim S16x1x1024 ![0, 2] bcast_S16x1024_S16x1x1024_0_2 (extractStridedSlice S16x1024 ![0, 0] A3 slices_S32x1024_S16x1024_0_0))) y)

theorem streamOf_apply (y : FVec Ideal S16x2048x1024 .f32) (s : Fin 16) (t : Fin 2048) (q : Fin 1024) :
    stream A0 A3 y (ix3 s t q) = A0 (ix3 s t q) + A3 (ix2 (place s) q) * y (ix3 s t q) := by
  unfold stream
  pointwise

theorem stream_apply (s : Fin 16) (t : Fin 2048) (q : Fin 1024) :
    stream A0 A3 (blendOf A2 (numbers A1)) (ix3 s t q) = (args A0 A1 A2 A3 A4).x2 s t q :=
  (streamOf_apply A0 A3 _ s t q).trans (congrArg (_ + _ * ·) (blend_apply A0 A1 A2 A3 A4 s t q))

/-- A stream's rows, normalised. -/
def rows (y : FVec Ideal S16x2048x1024 .f32) : FVec Ideal S16x2048x1024 .f32 :=
  mulf (mulf y (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf y y) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 A4))

theorem rows_apply (y : FVec Ideal S16x2048x1024 .f32) (s : Fin 16) (t : Fin 2048) (q : Fin 1024) :
    rows A4 y (ix3 s t q) = normed (fun k => y (ix3 s t k)) (fun k => A4 (ix1 k)) q := by
  unfold rows normed
  pointwise

theorem out_apply (s : Fin 16) (t : Fin 2048) (q : Fin 1024) :
    rows A4 (stream A0 A3 (blendOf A2 (numbers A1))) (ix3 s t q) = (args A0 A1 A2 A3 A4).out s t q :=
  (rows_apply A4 _ s t q).trans (congrArg (fun f => normed f (args A0 A1 A2 A3 A4).nw q) (funext fun k => stream_apply A0 A1 A2 A3 A4 s t k))

/-- The rows of the first half, then zeros. -/
def joined (y : FVec Ideal S16x2048x1024 .f32) : FVec Ideal S32x2048x1024 .f32 :=
  concatenate S32x2048x1024 0 [⟨S16x2048x1024, y⟩, ⟨S16x2048x1024, (broadcastInDim S16x2048x1024 ![] bcast_S_S16x2048x1024 (constant S_ .f32 0x00000000#32))⟩] concatenates_S16x2048x1024_S16x2048x1024_S32x2048x1024_d0

theorem joined_apply (y : FVec Ideal S16x2048x1024 .f32) (s : Fin 16) (t : Fin 2048) (q : Fin 1024) :
    joined y (ix3 (place s) t q) = y (ix3 s t q) := by
  have hs := s.isLt
  unfold joined
  pointwise

theorem whole_apply (s : Fin 16) (t : Fin 2048) (q : Fin 1024) :
    joined (rows A4 (stream A0 A3 (blendOf A2 (numbers A1)))) (ix3 (place s) t q) = (args A0 A1 A2 A3 A4).out s t q :=
  (joined_apply _ s t q).trans (out_apply A0 A1 A2 A3 A4 s t q)

variable (m : (ℓ : Loc nD τ sig) → Buf (Elt Ideal) ℓ) (c : Dev nD)

theorem result_eq : Value.res_main_v34 (F := Ideal) m c
    = joined (rows (m ((c.tc : Thread nD τ).loc main_arg4)) (stream (m ((c.tc : Thread nD τ).loc main_arg0)) (m ((c.tc : Thread nD τ).loc main_arg3))
        (blendOf (m ((c.tc : Thread nD τ).loc main_arg2)) (numbers (m ((c.tc : Thread nD τ).loc main_arg1)))))) := by
  unfold Value.res_main_v34 joined rows stream blendOf numbers
  rfl

end LeadRef

end
-- ==== Proof.LeadPoints.lean ====
/-
  The combination's first call for the prompt: what its body computes from its blocks (`numbers_apply`, `stream_apply`, `rows_apply`), the blocks it is
  handed at a grid point, what it leaves there, and so the first sixteen sequences of the result. Point `t` has half of sequence `t / 2`,
  1024 tokens; no point writes the other sequences.
-/
module

public import proofs.«01_k».proof.Proof.LeadRef
public import proofs.«01_k».proof.Proof.Gen.LeadIdeal.Frame
public import Idealize.ShloMosaic.Lib.Pointwise
public import Idealize.ShloMosaic.Lib.Pipeline.Value
public import Idealize.ShloMosaic.Lib.Pipeline.ValueKit
public import Idealize.ShloMosaic.Lib.Pipeline.ReadBack

@[expose] public section

set_option maxRecDepth 16384

noncomputable section

namespace LeadPoints

open Cert.LeadIdeal Cert.LeadIdeal.Gen
open FinalRef (normed)
open Unpack (unpack)
open Idealize.ShloMosaic Idealize.ShloMosaic.TcCoe Idealize.SL.Sem

/-! ## The body's values -/

section Body

variable (rt : Vec Ideal S1x1024x128 .f32) (y0 y1 y2 y3 w : Vec Ideal S1x1024x512 .i32) (x : Vec Ideal S1x1024x1024 .f32) (g : Vec Ideal S1x1x1024 .f32)

/-- A tile's words, read. -/
def numbers : FVec Ideal S1024x1024 .f32 :=
  concatenate S1024x1024 1 [⟨S1024x512, bitcastToFloat (F := Ideal) .f32 (shli (shapeCast S1024x512 w shapeCasts_S1x1024x512_S1024x512) (broadcast S1024x512 16#32))⟩,
    ⟨S1024x512, bitcastToFloat (F := Ideal) .f32 (andi (shapeCast S1024x512 w shapeCasts_S1x1024x512_S1024x512) (broadcast S1024x512 4294901760#32))⟩] concatenates_S1024x512_S1024x512_S1024x1024_d1

theorem numbers_apply (j : Fin 1024) (q : Fin 1024) : numbers w (ix2 j q) = unpack (fun l => w (ix3 0 j l)) q := by
  unfold numbers unpack
  pointwise
  split_ifs
  all_goals first | rfl | exact absurd rfl ‹_›

/-- The sum of the four weighted rows, over arrays of numbers. -/
def blend (z0 z1 z2 z3 : FVec Ideal S1024x1024 .f32) : FVec Ideal S1024x1024 .f32 :=
  addf (addf (addf (mulf z0 (broadcastTo S1024x1024 (extractStridedSlice S1024x1 ![0, 8] (k0_pay2 rt) slices_S1024x128_o0_8_S1024x1) broadcasts_S1024x1_S1024x1024))
    (mulf z1 (broadcastTo S1024x1024 (extractStridedSlice S1024x1 ![0, 9] (k0_pay2 rt) slices_S1024x128_o0_9_S1024x1) broadcasts_S1024x1_S1024x1024)))
    (mulf z2 (broadcastTo S1024x1024 (extractStridedSlice S1024x1 ![0, 10] (k0_pay2 rt) slices_S1024x128_o0_10_S1024x1) broadcasts_S1024x1_S1024x1024)))
    (mulf z3 (broadcastTo S1024x1024 (extractStridedSlice S1024x1 ![0, 11] (k0_pay2 rt) slices_S1024x128_o0_11_S1024x1) broadcasts_S1024x1_S1024x1024))

/-- The stream, over arrays of numbers. -/
def stream (z0 z1 z2 z3 : FVec Ideal S1024x1024 .f32) : FVec Ideal S1x1024x1024 .f32 :=
  addf x (mulf (broadcastTo S1x1024x1024 (shapeCast S1x1x1024 g shapeCasts_S1x1x1024_S1x1x1024) broadcasts_S1x1x1024_S1x1024x1024)
    (shapeCast S1x1024x1024 (blend rt z0 z1 z2 z3) shapeCasts_S1024x1024_S1x1024x1024))

theorem stream_apply (z0 z1 z2 z3 : FVec Ideal S1024x1024 .f32) (r : Fin 1024) (q : Fin 1024) :
    stream rt x g z0 z1 z2 z3 (ix3 0 r q)
      = x (ix3 0 r q) + g (ix3 0 0 q) * (z0 (ix2 r q) * rt (ix3 0 r 8) + z1 (ix2 r q) * rt (ix3 0 r 9)
        + z2 (ix2 r q) * rt (ix3 0 r 10) + z3 (ix2 r q) * rt (ix3 0 r 11)) := by
  unfold stream blend k0_pay2
  pointwise

variable (y : FVec Ideal S1x1024x1024 .f32) (nw : Vec Ideal S1x1024 .f32)

/-- A stream's rows, normalised. -/
def rows : FVec Ideal S1x1024x1024 .f32 :=
  mulf (mulf y (broadcastTo S1x1024x1024 (rsqrt (addf (divf (shapeCast S1x1024x1 (multiReduction .add [2] S1x1024 (mulf y y) 0x00000000#32 reduces_S1x1024x1024_S1x1024 (.inl rfl) rfl) shapeCasts_S1x1024_S1x1024x1)
      (broadcast S1x1024x1 (Scalar.ofBits .f32 0x44800000#32))) (broadcast S1x1024x1 (Scalar.ofBits .f32 0x358637BD#32)))) broadcasts_S1x1024x1_S1x1024x1024))
    (broadcastTo S1x1024x1024 (shapeCast S1x1x1024 (shapeCast S1x1024 nw shapeCasts_S1x1024_S1x1024) shapeCasts_S1x1024_S1x1x1024) broadcasts_S1x1x1024_S1x1024x1024)

theorem rows_apply (r : Fin 1024) (q : Fin 1024) :
    rows y nw (ix3 0 r q) = normed (fun k => y (ix3 0 r k)) (fun k => nw (ix2 0 k)) q := by
  unfold rows normed
  pointwise

theorem body_eq : k0_pay1 (F := Ideal) (k0_pay2 rt) (k0_pay3 rt y0 y1 y2) y3 x g nw
    = rows (stream rt x g (numbers y0) (numbers y1) (numbers y2) (numbers y3)) nw := rfl

end Body

/-! ## The grid and the blocks -/

variable (m : (ℓ : Loc nD τ sig) → Buf (Elt Ideal) ℓ) (ρ : Dev nD → PrngReg) (c : Dev nD)

abbrev A0 : FVec Ideal S16x2048x1024 .f32 := m ((c : Thread nD τ).loc main_arg0)
abbrev A1 : IVec S4x34816x512 32 := m ((c : Thread nD τ).loc main_arg1)
abbrev A2 : FVec Ideal S16x2048x128 .f32 := m ((c : Thread nD τ).loc main_arg2)
abbrev A3 : FVec Ideal S32x1024 .f32 := m ((c : Thread nD τ).loc main_arg3)
abbrev A4 : FVec Ideal S1024 .f32 := m ((c : Thread nD τ).loc main_arg4)

/-- The kernel's arguments. -/
def args : LeadRef.Args where
  x s t k := A0 m c (ix3 s t k)
  y k i q := A1 m c (ix3 k i q)
  route s t k := A2 m c (ix3 s t k)
  g2 s k := A3 m c (ix2 s k)
  nw k := A4 m c (ix1 k)

theorem points (t : Fin cfg0.N) : t.val < 32 := lt_of_lt_of_eq t.isLt N_0

/-- The sequence and the tokens a point works on. -/
abbrev seqOf (t : Fin cfg0.N) : Fin 16 := ⟨t.val / 2, by have := points t; omega⟩
abbrev tokOf (t : Fin cfg0.N) (r : Fin 1024) : Fin 2048 := ⟨t.val % 2 * 1024 + r.val, by have := r.isLt; omega⟩

theorem index0 : ∀ t : Fin cfg0.N, win0_0.index t = ![t.val / 2, t.val % 2, 0] := (by decide +kernel : ∀ t : Fin grid0.N, _)
theorem index1 : ∀ t : Fin cfg0.N, win0_1.index t = ![0, 2 + t.val, 0] := (by decide +kernel : ∀ t : Fin grid0.N, _)
theorem index2 : ∀ t : Fin cfg0.N, win0_2.index t = ![t.val / 2, t.val % 2, 0] := (by decide +kernel : ∀ t : Fin grid0.N, _)
theorem index3 : ∀ t : Fin cfg0.N, win0_3.index t = ![t.val / 2, 0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val / 2, t.val % 2, 0] := (by decide +kernel : ∀ t : Fin grid0.N, _)
theorem flush5 : ∀ t : Fin cfg0.N, (cfg0.win 5).flush t = true := (by decide +kernel : ∀ t : Fin grid0.N, win0_5.flush t = true)

theorem V_g (s : Fin 32) (k : Fin 1024) : V m c main_v0 (ix3 s 0 k) = (args m c).g2 s k := by
  show _ = A3 m c (ix2 s k)
  entry_read
  pointwise
theorem V_nw (k : Fin 1024) : V m c main_v1 (ix2 0 k) = (args m c).nw k := by
  show _ = A4 m c (ix1 k)
  entry_read
  pointwise
variable (t : Fin cfg0.N)

theorem x_apply (r : Fin 1024) (k : Fin 1024) : iblk m c 0 t (ix3 0 r k) = (args m c).x (seqOf t) (tokOf t r) k := by
  show _ = A0 m c (ix3 _ _ k)
  blk_ext [iblk, V_main_arg0, index0 t]
theorem y_apply (j : Fin 4) (r : Fin 1024) (k : Fin 512) :
    iblk m c 1 t (ix3 j r k) = (args m c).y j (LeadRef.rowOf (seqOf t) (tokOf t r)) k := by
  show _ = A1 m c (ix3 _ _ k)
  blk_ext [iblk, V_main_arg1, index1 t]
theorem route_apply (r : Fin 1024) (k : Fin 128) : iblk m c 2 t (ix3 0 r k) = (args m c).route (seqOf t) (tokOf t r) k := by
  show _ = A2 m c (ix3 _ _ k)
  blk_ext [iblk, V_main_arg2, index2 t]
theorem g_apply (k : Fin 1024) : iblk m c 3 t (ix3 0 0 k) = (args m c).g2 (LeadRef.place (seqOf t)) k := by
  refine Eq.trans ?_ (V_g m c (LeadRef.place (seqOf t)) k)
  blk_ext [iblk, index3 t]
theorem nw_apply (k : Fin 1024) : iblk m c 4 t (ix2 0 k) = (args m c).nw k := by
  refine Eq.trans ?_ (V_nw m c k)
  blk_ext [iblk, index4 t]

/-! ## The loads -/

/-- A load of a whole block is the block. -/
theorem whole_route (x : Vec Ideal S1x1024x128 .f32) : View.ld x r0_0 = x :=
  funext fun j => congrArg x (funext fun a => Fin.ext (match a with
    | ⟨0, _⟩ => by show 0 + 1 * (j 0).val = (j 0).val; omega
    | ⟨1, _⟩ => by show 0 + 1 * (j 1).val = (j 1).val; omega
    | ⟨2, _⟩ => by show 0 + 1 * (j 2).val = (j 2).val; omega))
theorem whole_x (x : Vec Ideal S1x1024x1024 .f32) : View.ld x r0_5 = x :=
  funext fun j => congrArg x (funext fun a => Fin.ext (match a with
    | ⟨0, _⟩ => by show 0 + 1 * (j 0).val = (j 0).val; omega
    | ⟨1, _⟩ => by show 0 + 1 * (j 1).val = (j 1).val; omega
    | ⟨2, _⟩ => by show 0 + 1 * (j 2).val = (j 2).val; omega))
theorem whole_g (x : Vec Ideal S1x1x1024 .f32) : View.ld x r0_6 = x :=
  funext fun j => congrArg x (funext fun a => Fin.ext (match a with
    | ⟨0, _⟩ => by show 0 + 1 * (j 0).val = (j 0).val; omega
    | ⟨1, _⟩ => by show 0 + 1 * (j 1).val = (j 1).val; omega
    | ⟨2, _⟩ => by show 0 + 1 * (j 2).val = (j 2).val; omega))
theorem whole_nw (x : Vec Ideal S1x1024 .f32) : View.ld x r0_7 = x :=
  funext fun j => congrArg x (funext fun a => Fin.ext (match a with
    | ⟨0, _⟩ => by show 0 + 1 * (j 0).val = (j 0).val; omega
    | ⟨1, _⟩ => by show 0 + 1 * (j 1).val = (j 1).val; omega))

/-- A load of one expert's rows. -/
theorem slab0_apply (x : Vec Ideal S4x1024x512 .i32) (i : Fin 1024) (q : Fin 512) : View.ld x r0_1 (ix3 0 i q) = x (ix3 0 i q) :=
  congrArg x (funext fun a => Fin.ext (match a with
    | ⟨0, _⟩ => by show 0 + 1 * 0 = 0; omega
    | ⟨1, _⟩ => by show 0 + 1 * i.val = i.val; omega
    | ⟨2, _⟩ => by show 0 + 1 * q.val = q.val; omega))
theorem slab1_apply (x : Vec Ideal S4x1024x512 .i32) (i : Fin 1024) (q : Fin 512) : View.ld x r0_2 (ix3 0 i q) = x (ix3 1 i q) :=
  congrArg x (funext fun a => Fin.ext (match a with
    | ⟨0, _⟩ => by show 1 + 1 * 0 = 1; omega
    | ⟨1, _⟩ => by show 0 + 1 * i.val = i.val; omega
    | ⟨2, _⟩ => by show 0 + 1 * q.val = q.val; omega))
theorem slab2_apply (x : Vec Ideal S4x1024x512 .i32) (i : Fin 1024) (q : Fin 512) : View.ld x r0_3 (ix3 0 i q) = x (ix3 2 i q) :=
  congrArg x (funext fun a => Fin.ext (match a with
    | ⟨0, _⟩ => by show 2 + 1 * 0 = 2; omega
    | ⟨1, _⟩ => by show 0 + 1 * i.val = i.val; omega
    | ⟨2, _⟩ => by show 0 + 1 * q.val = q.val; omega))
theorem slab3_apply (x : Vec Ideal S4x1024x512 .i32) (i : Fin 1024) (q : Fin 512) : View.ld x r0_4 (ix3 0 i q) = x (ix3 3 i q) :=
  congrArg x (funext fun a => Fin.ext (match a with
    | ⟨0, _⟩ => by show 3 + 1 * 0 = 3; omega
    | ⟨1, _⟩ => by show 0 + 1 * i.val = i.val; omega
    | ⟨2, _⟩ => by show 0 + 1 * q.val = q.val; omega))

/-! ## What a point leaves -/

/-- One expert's words of a token, as the point is handed them. -/
theorem slab_words (j : Fin 4) (w : Vec Ideal S1x1024x512 .i32) (h : ∀ (i : Fin 1024) (q : Fin 512), w (ix3 0 i q) = iblk m c 1 t (ix3 j i q)) (r : Fin 1024) (q : Fin 1024) :
    numbers w (ix2 r q) = unpack ((args m c).y j (LeadRef.rowOf (seqOf t) (tokOf t r))) q :=
  (numbers_apply w r q).trans (congrArg (fun f => unpack f q) (funext fun l => (h r l).trans (y_apply m c t j r l)))

/-- The stream's block at a point. -/
abbrev blockOf : FVec Ideal S1x1024x1024 .f32 :=
  stream (iblk m c 2 t) (iblk m c 0 t) (iblk m c 3 t) (numbers (View.ld (iblk m c 1 t) r0_1)) (numbers (View.ld (iblk m c 1 t) r0_2))
    (numbers (View.ld (iblk m c 1 t) r0_3)) (numbers (View.ld (iblk m c 1 t) r0_4))

theorem block_apply (r : Fin 1024) (q : Fin 1024) : blockOf m c t (ix3 0 r q) = (args m c).x2 (seqOf t) (tokOf t r) q := by
  refine (stream_apply _ _ _ _ _ _ _ r q).trans ?_
  rw [x_apply, g_apply, route_apply, route_apply, route_apply, route_apply]
  unfold LeadRef.Args.x2 LeadRef.Args.moe
  rw [Fin.sum_univ_four]
  refine congrArg (_ + _ * ·) (congrArg₂ (· + ·) (congrArg₂ (· + ·) (congrArg₂ (· + ·) ?_ ?_) ?_) ?_)
  · exact congrArg (· * _) (slab_words m c t 0 _ (slab0_apply _) r q)
  · exact congrArg (· * _) (slab_words m c t 1 _ (slab1_apply _) r q)
  · exact congrArg (· * _) (slab_words m c t 2 _ (slab2_apply _) r q)
  · exact congrArg (· * _) (slab_words m c t 3 _ (slab3_apply _) r q)

theorem out_at (r : Fin 1024) (q : Fin 1024) :
    out0_5 (F := Ideal) (iblk m c 0 t) (iblk m c 1 t) (iblk m c 2 t) (iblk m c 3 t) (iblk m c 4 t) (ix3 0 r q) = (args m c).out (seqOf t) (tokOf t r) q := by
  unfold out0_5
  rw [whole_route, whole_x, whole_g, whole_nw, body_eq]
  frame_out
  refine (rows_apply (blockOf m c t) (iblk m c 4 t) r q).trans ?_
  have hx : (fun k => blockOf m c t (ix3 0 r k)) = (args m c).x2 (seqOf t) (tokOf t r) := funext fun k => block_apply m c t r k
  have hn : (fun k => iblk m c 4 t (ix2 0 k)) = (args m c).nw := funext fun k => nw_apply m c t k
  rw [hx, hn]
  rfl

/-! ## The result -/

/-- The result array. -/
abbrev result : FVec Ideal S32x2048x1024 .f32 := (dats m 0 c).arrAt 5 cfg0.N

theorem written : (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

theorem apart : ∀ t t' : Fin cfg0.N, win0_5.index t = win0_5.index t' → t = t' :=
  (by decide +kernel : ∀ t t' : Fin grid0.N, win0_5.index t = win0_5.index t' → t = t')

/-- No other point writes where a point wrote. -/
theorem left : ((cfg0.win 5).blk t).view.read (Elt Ideal) (result m c) = (dats m 0 c).flushed 5 t :=
  (dats m 0 c).read_blk_arrAt_eq_flushed 5 (fun t t' _ _ h => (cfg0.win 5).disjoint_blk fun e => h (apart t t' e)) cfg0.N t t.isLt (flush5 t)

theorem read_apply (X : FVec Ideal S32x2048x1024 .f32) (r : Fin 1024) (q : Fin 1024) :
    ((cfg0.win 5).blk t).view.read (Elt Ideal) X (ix3 0 r q) = X (ix3 (LeadRef.place (seqOf t)) (tokOf t r) q) := by
  blk_ext [index5 t]

theorem result_apply (s : Fin 16) (r : Fin 2048) (q : Fin 1024) : result m c (ix3 (LeadRef.place s) r q) = (args m c).out s r q := by
  obtain ⟨t, r, rfl, rfl⟩ : ∃ (t : Fin cfg0.N) (i : Fin 1024), seqOf t = s ∧ tokOf t i = r :=
    ⟨⟨2 * s.val + r.val / 1024, lt_of_lt_of_eq (by have := s.isLt; have := r.isLt; omega : 2 * s.val + r.val / 1024 < 32) N_0.symm⟩, ⟨r.val % 1024, by omega⟩,
      Fin.ext (by have := r.isLt; show (2 * s.val + r.val / 1024) / 2 = s.val; omega),
      Fin.ext (by have := r.isLt; show (2 * s.val + r.val / 1024) % 2 * 1024 + r.val % 1024 = r.val; omega)⟩
  refine (read_apply t (result m c) r q).symm.trans ?_
  refine (congrFun (left m c t) (ix3 0 r q)).trans ?_
  refine (congrFun (written m c t) (ix3 0 r q)).trans ?_
  exact out_at m c t r q

/-- The run, with the result array named and the arguments as they were. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end LeadPoints

end
-- ==== Proof.LeadClaims.lean ====
/-
  The claims of the combination's first call for the prompt: on the sequences that the mask selects, the first sixteen (`below`), the result array of the
  kernel's run, read where the point that wrote the entry left it, is the reference's (`LeadPoints.result_apply`).
-/
module

public import proofs.«01_k».proof.Proof.LeadPoints
public import proofs.«01_k».proof.Proof.Gen.Lead.Frame
public import proofs.«01_k».proof.Defs
public import Idealize.ShloMosaic.Lib.Quiescent

@[expose] public section

set_option maxRecDepth 16384

noncomputable section

namespace LeadClaims

open LeadPoints
open Idealize.ShloMosaic Idealize.ShloMosaic.TcCoe

theorem frame_kernel : Cert.quiescent_Lead := fun m ρ _ => Cert.Lead.Gen.frame m ρ

theorem frame_ideal : Cert.quiescent_LeadIdeal := fun m ρ _ => Cert.LeadIdeal.Gen.frame m ρ

theorem frame_reference : Cert.quiescent_LeadRefIdeal := fun m ρ _ =>
  (θ_run Cert.LeadRefIdeal.defs _ _).mono (fun r h => ⟨fun c => (h c).2, sem_eq_zero_of_no_sems (by decide) r.2⟩)
    (Cert.LeadRefIdeal.Value.run (F := Ideal) m ρ)

theorem ext3 {α : Type} {d0 d1 d2 : ℕ} {f g : (⟨3, ![d0, d1, d2]⟩ : Shape).Idx → α} (h : ∀ a b e, f (ix3 a b e) = g (ix3 a b e)) : f = g :=
  funext fun i => by rw [eq_ix3 i]; exact h _ _ _

/-- Where the arrays are the kernel's arguments, so are their entries. -/
theorem args_eq (m : (ℓ : Loc Cert.LeadIdeal.nD Cert.LeadIdeal.τ Cert.LeadIdeal.sig) → Buf (Elt Ideal) ℓ) (c : Dev Cert.LeadIdeal.nD)
    {B0 : FVec Ideal Cert.LeadRefIdeal.S16x2048x1024 .f32} {B1 : IVec Cert.LeadRefIdeal.S4x34816x512 32} {B2 : FVec Ideal Cert.LeadRefIdeal.S16x2048x128 .f32}
    {B3 : FVec Ideal Cert.LeadRefIdeal.S32x1024 .f32} {B4 : FVec Ideal Cert.LeadRefIdeal.S1024 .f32}
    (h0 : B0 = A0 m c) (h1 : B1 = A1 m c) (h2 : B2 = A2 m c) (h3 : B3 = A3 m c) (h4 : B4 = A4 m c) :
    LeadRef.args B0 B1 B2 B3 B4 = args m c := by
  unfold LeadRef.args args
  rw [h0, h1, h2, h3, h4]

instance mask_facts : Cert.On_first_half.Facts := ⟨by decide⟩

/-- A sequence that the mask selects is one of the first sixteen. -/
theorem below (X0 : FVec Ideal Cert.On_first_half.S16x2048x1024 .f32) (X1 : IVec Cert.On_first_half.S4x34816x512 32) (X2 : FVec Ideal Cert.On_first_half.S16x2048x128 .f32)
    (X3 : FVec Ideal Cert.On_first_half.S32x1024 .f32) (X4 : FVec Ideal Cert.On_first_half.S1024 .f32) (s : Fin 32) (t : Fin 2048) (q : Fin 1024)
    (h : Cert.On_first_half.fn (F := Ideal) X0 X1 X2 X3 X4 (ix3 s t q) = 1#1) : s.val < 16 := by
  have e : IntOp.cmpi .slt (BitVec.ofNat 32 s.val) 16#32 = 1#1 := h
  exact (by decide : ∀ s : Fin 32, IntOp.cmpi .slt (BitVec.ofNat 32 s.val) 16#32 = 1#1 → s.val < 16) s e

theorem algebraic : Cert.algebraic_LeadIdeal_LeadRefIdeal_on_first_half := by
  intro m ρ m' ρ' _ hargs
  refine ⟨fun c => result m c, (θ_run Cert.LeadIdeal.defs _ _).mono (fun _ h c => ⟨fun i _ => congrFun (h c).1 i, (h c).2⟩) (run m ρ), ?_⟩
  refine (θ_run Cert.LeadRefIdeal.defs _ _).mono (fun r h c => ⟨fun i hi => (congrFun (h c).1 i).trans ?_, (h c).2⟩) (Cert.LeadRefIdeal.Value.run (F := Ideal) m' ρ')
  obtain ⟨s, t, q, rfl⟩ : ∃ (s : Fin 32) (t : Fin 2048) (q : Fin 1024), i = ix3 s t q := ⟨i 0, i 1, i 2, eq_ix3 i⟩
  obtain ⟨s, rfl⟩ : ∃ s' : Fin 16, LeadRef.place s' = s := ⟨⟨s.val, below _ _ _ _ _ s t q hi⟩, rfl⟩
  obtain ⟨a0, a1, a2, a3, a4⟩ := hargs c
  have e := args_eq m c a0 a1 a2 a3 a4
  refine (congrFun (LeadRef.result_eq m' c) _).trans ((LeadRef.whole_apply _ _ _ _ _ s t q).trans ?_)
  exact (congrFun (congrFun (congrFun (congrArg LeadRef.Args.out e) s) t) q).trans (result_apply m c s t q).symm

end LeadClaims

end
-- ==== Proof.lean ====
/-
  The certificate of the row gather, of the experts' call, of the projections, of the output projection, of the attention and of the combination. The gather's run (`RowGather.run_main`, Proof/Launch.lean) is proved once, for the
  idealization's text at any float values: from positions all below 172032, every execution ends with the result at the
  gathered rows folded to the positions' shape, both arguments as they were and every counter at zero. The kernel's own text is the same
  text, so its claims are that run at `Bits`. The reference's run is the generated one; both values are the table's rows at the
  positions (`folded_gathered`, `indexed`: Proof/Rows.lean). The experts' call is proved in the same way: one run at any float values
  (Proof/ExpertsRun.lean), its value and the reference's (Proof/ExpertsValue.lean, Proof/ExpertsRef.lean), and the claims from
  them (Proof/ExpertsClaims.lean). The projections' claims are in Proof/InprojClaims.lean, the output projection's in
  Proof/OutprojClaims.lean, the attention's in Proof/SwaClaims.lean, and the combination's in Proof/FinalClaims.lean, Proof/HalfClaims.lean and Proof/LeadClaims.lean, all
  from the generated runs.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.Inproj
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.Outproj
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Frame
public import proofs.«01_k».proof.Proof.Gen.OutprojIdeal.Value
public import proofs.«01_k».proof.Proof.Gen.OutprojRefIdeal
public import proofs.«01_k».proof.Proof.Gen.OutprojRefIdeal.Run
public import proofs.«01_k».proof.Proof.Gen.Swa
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Frame
public import proofs.«01_k».proof.Proof.Gen.SwaIdeal.Value
public import proofs.«01_k».proof.Proof.Gen.SwaRefIdeal
public import proofs.«01_k».proof.Proof.Gen.SwaRefIdeal.Run
public import proofs.«01_k».proof.Proof.Gen.Final
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Frame
public import proofs.«01_k».proof.Proof.Gen.FinalRefIdeal
public import proofs.«01_k».proof.Proof.Gen.FinalRefIdeal.Run
public import proofs.«01_k».proof.Proof.Gen.Half
public import proofs.«01_k».proof.Proof.Gen.Half.Frame
public import proofs.«01_k».proof.Proof.Gen.HalfIdeal
public import proofs.«01_k».proof.Proof.Gen.HalfIdeal.Skeleton
public import proofs.«01_k».proof.Proof.Gen.HalfIdeal.Frame
public import proofs.«01_k».proof.Proof.Gen.HalfRefIdeal
public import proofs.«01_k».proof.Proof.Gen.HalfRefIdeal.Run
public import proofs.«01_k».proof.Proof.Gen.Lead
public import proofs.«01_k».proof.Proof.Gen.Lead.Frame
public import proofs.«01_k».proof.Proof.Gen.LeadIdeal
public import proofs.«01_k».proof.Proof.Gen.LeadIdeal.Skeleton
public import proofs.«01_k».proof.Proof.Gen.LeadIdeal.Frame
public import proofs.«01_k».proof.Proof.Gen.LeadRefIdeal
public import proofs.«01_k».proof.Proof.Gen.LeadRefIdeal.Run
public import proofs.«01_k».proof.Proof.Launch
public import proofs.«01_k».proof.Proof.Rows
public import proofs.«01_k».proof.Proof.ExpertsClaims
public import proofs.«01_k».proof.Proof.InprojClaims
public import proofs.«01_k».proof.Proof.OutprojClaims
public import proofs.«01_k».proof.Proof.SwaClaims
public import proofs.«01_k».proof.Proof.FinalClaims
public import proofs.«01_k».proof.Proof.HalfClaims
public import proofs.«01_k».proof.Proof.LeadClaims
public import Idealize.ShloMosaic.Lib.Quiescent

@[expose] public section

noncomputable section

namespace Cert.Proof

open Idealize.ShloMosaic Idealize.SL.Sem

instance pre_facts : Cert.Pre_pos_in_rows.Facts := ⟨by decide⟩

variable {F : FTy → Type} [FloatOps F]

/-- The precondition on the launch's arguments bounds every position. -/
theorem inRows (m : (ℓ : Loc Cert.KernelIdeal.nD Cert.KernelIdeal.τ Cert.KernelIdeal.sig) → Buf (Elt F) ℓ)
    (h : ∀ d, Cert.Pre_pos_in_rows.fn (F := F) (RowGather.Xm m d) (RowGather.Pm m d) = fun _ => 1#1) : RowGather.InRows m :=
  fun d y => RowGather.small_of_pre (congrFun (h d) y)

theorem frame_ideal : Cert.quiescent_KernelIdeal := fun m ρ hpre =>
  (θ_run Cert.KernelIdeal.defs _ _).mono (fun _ h => ⟨fun c => (h.1 c).2, h.2⟩) (RowGather.run_main (F := Ideal) m ρ (inRows m hpre))

theorem frame_kernel : Cert.quiescent_Kernel := fun m ρ hpre =>
  (θ_run Cert.KernelIdeal.defs _ _).mono (fun _ h => ⟨fun c => (h.1 c).2, h.2⟩) (RowGather.run_main (F := Bits) m ρ (inRows m hpre))

theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

theorem algebraic : Cert.algebraic_KernelIdeal_ReferenceIdeal := by
  intro m ρ m' ρ' hpre hargs
  have hm := inRows m hpre
  refine ⟨fun c => RowGather.Rm m c, (θ_run Cert.KernelIdeal.defs _ _).mono (fun _ h c => h.1 c) (RowGather.run_main (F := Ideal) m ρ hm), ?_⟩
  refine (θ_run Cert.ReferenceIdeal.defs _ _).mono (fun r h c => ⟨(h c).1.trans ?_, (h c).2⟩) (Cert.ReferenceIdeal.Value.run (F := Ideal) m' ρ')
  rw [(hargs c).1, (hargs c).2]
  exact (RowGather.indexed (RowGather.Xm m c) (RowGather.Pm m c) (hm c)).trans (RowGather.folded_gathered _ _).symm

theorem bitexact : Cert.bitexact_Kernel_Reference := by
  intro m ρ m' ρ' hpre hargs
  have hm := inRows (F := Bits) m hpre
  refine ⟨fun c => RowGather.Rm (F := Bits) m c, (θ_run Cert.KernelIdeal.defs _ _).mono (fun _ h c => h.1 c) (RowGather.run_main (F := Bits) m ρ hm), ?_⟩
  refine (θ_run Cert.Reference.defs _ _).mono (fun r h c => ⟨(h c).1.trans ?_, (h c).2⟩) (Cert.Reference.Value.run (F := Bits) m' ρ')
  rw [(hargs c).1, (hargs c).2]
  exact (RowGather.indexed (RowGather.Xm (F := Bits) m c) (RowGather.Pm (F := Bits) m c) (hm c)).trans (RowGather.folded_gathered _ _).symm

theorem claim : Cert.Claim :=
  ⟨Cert.Kernel.Gen.facts, Cert.KernelIdeal.Gen.facts, Cert.ReferenceIdeal.Gen.facts, Cert.Reference.Gen.facts,
    Cert.Experts.Gen.facts, Cert.ExpertsIdeal.Gen.facts, Cert.ExpertsRefIdeal.Gen.facts,
    Cert.Inproj.Gen.facts, Cert.InprojIdeal.Gen.facts, Cert.InprojRefIdeal.Gen.facts,
    Cert.Outproj.Gen.facts, Cert.OutprojIdeal.Gen.facts, Cert.OutprojRefIdeal.Gen.facts,
    Cert.Swa.Gen.facts, Cert.SwaIdeal.Gen.facts, Cert.SwaRefIdeal.Gen.facts,
    Cert.Final.Gen.facts, Cert.FinalIdeal.Gen.facts, Cert.FinalRefIdeal.Gen.facts,
    Cert.Half.Gen.facts, Cert.HalfIdeal.Gen.facts, Cert.HalfRefIdeal.Gen.facts,
    Cert.Lead.Gen.facts, Cert.LeadIdeal.Gen.facts, Cert.LeadRefIdeal.Gen.facts, pre_facts, ExpertsClaims.blocks_facts, ExpertsClaims.assigned_facts, LeadClaims.mask_facts,
    frame_kernel, frame_ideal, frame_reference_ideal, frame_reference, ExpertsClaims.frame_kernel, ExpertsClaims.frame_ideal, ExpertsClaims.frame_reference,
    InprojClaims.frame_kernel, InprojClaims.frame_ideal, InprojClaims.frame_reference,
    OutprojClaims.frame_kernel, OutprojClaims.frame_ideal, OutprojClaims.frame_reference,
    SwaClaims.frame_kernel, SwaClaims.frame_ideal, SwaClaims.frame_reference,
    FinalClaims.frame_kernel, FinalClaims.frame_ideal, FinalClaims.frame_reference,
    HalfClaims.frame_kernel, HalfClaims.frame_ideal, HalfClaims.frame_reference,
    LeadClaims.frame_kernel, LeadClaims.frame_ideal, LeadClaims.frame_reference,
    trivial, algebraic, bitexact, trivial, ExpertsClaims.algebraic, trivial, InprojClaims.algebraic, trivial, OutprojClaims.algebraic, trivial, SwaClaims.algebraic, trivial, FinalClaims.algebraic, trivial, HalfClaims.algebraic, trivial, LeadClaims.algebraic⟩

end Cert.Proof

end
